-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentIdeal_padded_qk [hPre_padded_qk : Cert.Pre_padded_qk.Facts] (m : (ℓ : Loc Cert.LatentIdeal.nD Cert.LatentIdeal.τ Cert.LatentIdeal.sig) → Buf (Elt Ideal) ℓ) : Prop :=
  ∀ c : Dev Cert.LatentIdeal.nD,
    (Cert.Pre_padded_qk.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2))) = (fun _ => 1#1)

def Pre_LatentReferenceIdeal (m : (ℓ : Loc Cert.LatentReferenceIdeal.nD Cert.LatentReferenceIdeal.τ Cert.LatentReferenceIdeal.sig) → Buf (Elt Ideal) ℓ) : Prop :=
  True

def Pre_LatentReferenceIdeal_padded_qk [hPre_padded_qk : Cert.Pre_padded_qk.Facts] (m : (ℓ : Loc Cert.LatentReferenceIdeal.nD Cert.LatentReferenceIdeal.τ Cert.LatentReferenceIdeal.sig) → Buf (Elt Ideal) ℓ) : Prop :=
  ∀ c : Dev Cert.LatentReferenceIdeal.nD,
    (Cert.Pre_padded_qk.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2))) = (fun _ => 1#1)

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite_qkb [hPre_finite_qkb : Cert.Pre_finite_qkb.Facts] (m : (ℓ : Loc Cert.DiffIdeal.nD Cert.DiffIdeal.τ Cert.DiffIdeal.sig) → Buf (Elt Ideal) ℓ) : Prop :=
  ∀ c : Dev Cert.DiffIdeal.nD,
    (Cert.Pre_finite_qkb.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5))) = (fun _ => 1#1)

def Pre_DiffReferenceIdeal (m : (ℓ : Loc Cert.DiffReferenceIdeal.nD Cert.DiffReferenceIdeal.τ Cert.DiffReferenceIdeal.sig) → Buf (Elt Ideal) ℓ) : Prop :=
  True

def Pre_DiffReferenceIdeal_finite_qkb [hPre_finite_qkb : Cert.Pre_finite_qkb.Facts] (m : (ℓ : Loc Cert.DiffReferenceIdeal.nD Cert.DiffReferenceIdeal.τ Cert.DiffReferenceIdeal.sig) → Buf (Elt Ideal) ℓ) : Prop :=
  ∀ c : Dev Cert.DiffReferenceIdeal.nD,
    (Cert.Pre_finite_qkb.fn (F := Ideal) (m ((c.tc : Thread Cert.DiffReferenceIdeal.nD Cert.DiffReferenceIdeal.τ).loc Cert.DiffReferenceIdeal.main_arg0)) (m ((c.tc : Thread Cert.DiffReferenceIdeal.nD Cert.DiffReferenceIdeal.τ).loc Cert.DiffReferenceIdeal.main_arg1)) (m ((c.tc : Thread Cert.DiffReferenceIdeal.nD Cert.DiffReferenceIdeal.τ).loc Cert.DiffReferenceIdeal.main_arg2)) (m ((c.tc : Thread Cert.DiffReferenceIdeal.nD Cert.DiffReferenceIdeal.τ).loc Cert.DiffReferenceIdeal.main_arg3)) (m ((c.tc : Thread Cert.DiffReferenceIdeal.nD Cert.DiffReferenceIdeal.τ).loc Cert.DiffReferenceIdeal.main_arg4)) (m ((c.tc : Thread Cert.DiffReferenceIdeal.nD Cert.DiffReferenceIdeal.τ).loc Cert.DiffReferenceIdeal.main_arg5))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Key (m : (ℓ : Loc Cert.Key.nD Cert.Key.τ Cert.Key.sig) → Buf (Elt Bits) ℓ) : Prop :=
  True

def Pre_KeyIdeal (m : (ℓ : Loc Cert.KeyIdeal.nD Cert.KeyIdeal.τ Cert.KeyIdeal.sig) → Buf (Elt Ideal) ℓ) : Prop :=
  True

def Pre_KeyReferenceIdeal (m : (ℓ : Loc Cert.KeyReferenceIdeal.nD Cert.KeyReferenceIdeal.τ Cert.KeyReferenceIdeal.sig) → Buf (Elt Ideal) ℓ) : Prop :=
  True

def Pre_LaterOut (m : (ℓ : Loc Cert.LaterOut.nD Cert.LaterOut.τ Cert.LaterOut.sig) → Buf (Elt Bits) ℓ) : Prop :=
  True

def Pre_LaterOutIdeal (m : (ℓ : Loc Cert.LaterOutIdeal.nD Cert.LaterOutIdeal.τ Cert.LaterOutIdeal.sig) → Buf (Elt Ideal) ℓ) : Prop :=
  True

def Pre_LaterOutReferenceIdeal (m : (ℓ : Loc Cert.LaterOutReferenceIdeal.nD Cert.LaterOutReferenceIdeal.τ Cert.LaterOutReferenceIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_LastSample (m : (ℓ : Loc Cert.LastSample.nD Cert.LastSample.τ Cert.LastSample.sig) → Buf (Elt Bits) ℓ) : Prop :=
  True

def Pre_LastSampleIdeal (m : (ℓ : Loc Cert.LastSampleIdeal.nD Cert.LastSampleIdeal.τ Cert.LastSampleIdeal.sig) → Buf (Elt Ideal) ℓ) : Prop :=
  True

def Pre_LastSampleReferenceIdeal (m : (ℓ : Loc Cert.LastSampleReferenceIdeal.nD Cert.LastSampleReferenceIdeal.τ Cert.LastSampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4)
      ∧ r.2.mem ((c.tc : Thread Cert.PleReferenceIdeal.nD Cert.PleReferenceIdeal.τ).loc Cert.PleReferenceIdeal.main_arg5) = m ((c.tc : Thread Cert.PleReferenceIdeal.nD Cert.PleReferenceIdeal.τ).loc Cert.PleReferenceIdeal.main_arg5)
      ∧ r.2.mem ((c.tc : Thread Cert.PleReferenceIdeal.nD Cert.PleReferenceIdeal.τ).loc Cert.PleReferenceIdeal.main_arg6) = m ((c.tc : Thread Cert.PleReferenceIdeal.nD Cert.PleReferenceIdeal.τ).loc Cert.PleReferenceIdeal.main_arg6))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2))
      ∧ r.2.sem = fun _ => 0)

def quiescent_LatentIdeal_pre_padded_qk [hLatentIdeal : Cert.LatentIdeal.Facts] [hPre_padded_qk : Cert.Pre_padded_qk.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal_padded_qk m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2))
      ∧ r.2.sem = fun _ => 0)

def quiescent_LatentReferenceIdeal [hLatentReferenceIdeal : Cert.LatentReferenceIdeal.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2))
      ∧ r.2.sem = fun _ => 0)

def quiescent_LatentReferenceIdeal_pre_padded_qk [hLatentReferenceIdeal : Cert.LatentReferenceIdeal.Facts] [hPre_padded_qk : Cert.Pre_padded_qk.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal_padded_qk m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ r.2.sem = fun _ => 0)

def quiescent_DiffIdeal_pre_finite_qkb [hDiffIdeal : Cert.DiffIdeal.Facts] [hPre_finite_qkb : Cert.Pre_finite_qkb.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite_qkb m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ r.2.sem = fun _ => 0)

def quiescent_DiffReferenceIdeal [hDiffReferenceIdeal : Cert.DiffReferenceIdeal.Facts] : Prop :=
  ∀ (m : (ℓ : Loc Cert.DiffReferenceIdeal.nD Cert.DiffReferenceIdeal.τ Cert.DiffReferenceIdeal.sig) → Buf (Elt Ideal) ℓ) (g : Dev Cert.DiffReferenceIdeal.nD → PrngReg), Pre_DiffReferenceIdeal m →
    θ_run (Cert.DiffReferenceIdeal.defs (F := Ideal)) (onTc (τ := Cert.DiffReferenceIdeal.τ) (Cert.DiffReferenceIdeal.main (F := Ideal))) ⟨m, fun _ => 0, g⟩ (fun r => (∀ c : Dev Cert.DiffReferenceIdeal.nD,
      r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2)
      ∧ r.2.mem ((c.tc : Thread Cert.DiffReferenceIdeal.nD Cert.DiffReferenceIdeal.τ).loc Cert.DiffReferenceIdeal.main_arg3) = m ((c.tc : Thread Cert.DiffReferenceIdeal.nD Cert.DiffReferenceIdeal.τ).loc Cert.DiffReferenceIdeal.main_arg3)
      ∧ r.2.mem ((c.tc : Thread Cert.DiffReferenceIdeal.nD Cert.DiffReferenceIdeal.τ).loc Cert.DiffReferenceIdeal.main_arg4) = m ((c.tc : Thread Cert.DiffReferenceIdeal.nD Cert.DiffReferenceIdeal.τ).loc Cert.DiffReferenceIdeal.main_arg4)
      ∧ r.2.mem ((c.tc : Thread Cert.DiffReferenceIdeal.nD Cert.DiffReferenceIdeal.τ).loc Cert.DiffReferenceIdeal.main_arg5) = m ((c.tc : Thread Cert.DiffReferenceIdeal.nD Cert.DiffReferenceIdeal.τ).loc Cert.DiffReferenceIdeal.main_arg5))
      ∧ r.2.sem = fun _ => 0)

def quiescent_DiffReferenceIdeal_pre_finite_qkb [hDiffReferenceIdeal : Cert.DiffReferenceIdeal.Facts] [hPre_finite_qkb : Cert.Pre_finite_qkb.Facts] : Prop :=
  ∀ (m : (ℓ : Loc Cert.DiffReferenceIdeal.nD Cert.DiffReferenceIdeal.τ Cert.DiffReferenceIdeal.sig) → Buf (Elt Ideal) ℓ) (g : Dev Cert.DiffReferenceIdeal.nD → PrngReg), Pre_DiffReferenceIdeal_finite_qkb m →
    θ_run (Cert.DiffReferenceIdeal.defs (F := Ideal)) (onTc (τ := Cert.DiffReferenceIdeal.τ) (Cert.DiffReferenceIdeal.main (F := Ideal))) ⟨m, fun _ => 0, g⟩ (fun r => (∀ c : Dev Cert.DiffReferenceIdeal.nD,
      r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2)
      ∧ r.2.mem ((c.tc : Thread Cert.DiffReferenceIdeal.nD Cert.DiffReferenceIdeal.τ).loc Cert.DiffReferenceIdeal.main_arg3) = m ((c.tc : Thread Cert.DiffReferenceIdeal.nD Cert.DiffReferenceIdeal.τ).loc Cert.DiffReferenceIdeal.main_arg3)
      ∧ r.2.mem ((c.tc : Thread Cert.DiffReferenceIdeal.nD Cert.DiffReferenceIdeal.τ).loc Cert.DiffReferenceIdeal.main_arg4) = m ((c.tc : Thread Cert.DiffReferenceIdeal.nD Cert.DiffReferenceIdeal.τ).loc Cert.DiffReferenceIdeal.main_arg4)
      ∧ r.2.mem ((c.tc : Thread Cert.DiffReferenceIdeal.nD Cert.DiffReferenceIdeal.τ).loc Cert.DiffReferenceIdeal.main_arg5) = m ((c.tc : Thread Cert.DiffReferenceIdeal.nD Cert.DiffReferenceIdeal.τ).loc Cert.DiffReferenceIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2))
      ∧ r.2.sem = fun _ => 0)

def quiescent_Key [hKey : Cert.Key.Facts] : Prop :=
  ∀ (m : (ℓ : Loc Cert.Key.nD Cert.Key.τ Cert.Key.sig) → Buf (Elt Bits) ℓ) (g : Dev Cert.Key.nD → PrngReg), Pre_Key m →
    θ_run (Cert.Key.defs (F := Bits)) (onTc (τ := Cert.Key.τ) (Cert.Key.main (F := Bits))) ⟨m, fun _ => 0, g⟩ (fun r => (∀ c : Dev Cert.Key.nD,
      r.2.mem ((c.tc : Thread Cert.Key.nD Cert.Key.τ).loc Cert.Key.main_arg0) = m ((c.tc : Thread Cert.Key.nD Cert.Key.τ).loc Cert.Key.main_arg0)
      ∧ r.2.mem ((c.tc : Thread Cert.Key.nD Cert.Key.τ).loc Cert.Key.main_arg1) = m ((c.tc : Thread Cert.Key.nD Cert.Key.τ).loc Cert.Key.main_arg1))
      ∧ r.2.sem = fun _ => 0)

def quiescent_KeyIdeal [hKeyIdeal : Cert.KeyIdeal.Facts] : Prop :=
  ∀ (m : (ℓ : Loc Cert.KeyIdeal.nD Cert.KeyIdeal.τ Cert.KeyIdeal.sig) → Buf (Elt Ideal) ℓ) (g : Dev Cert.KeyIdeal.nD → PrngReg), Pre_KeyIdeal m →
    θ_run (Cert.KeyIdeal.defs (F := Ideal)) (onTc (τ := Cert.KeyIdeal.τ) (Cert.KeyIdeal.main (F := Ideal))) ⟨m, fun _ => 0, g⟩ (fun r => (∀ c : Dev Cert.KeyIdeal.nD,
      r.2.mem ((c.tc : Thread Cert.KeyIdeal.nD Cert.KeyIdeal.τ).loc Cert.KeyIdeal.main_arg0) = m ((c.tc : Thread Cert.KeyIdeal.nD Cert.KeyIdeal.τ).loc Cert.KeyIdeal.main_arg0)
      ∧ r.2.mem ((c.tc : Thread Cert.KeyIdeal.nD Cert.KeyIdeal.τ).loc Cert.KeyIdeal.main_arg1) = m ((c.tc : Thread Cert.KeyIdeal.nD Cert.KeyIdeal.τ).loc Cert.KeyIdeal.main_arg1))
      ∧ r.2.sem = fun _ => 0)

def quiescent_KeyReferenceIdeal [hKeyReferenceIdeal : Cert.KeyReferenceIdeal.Facts] : Prop :=
  ∀ (m : (ℓ : Loc Cert.KeyReferenceIdeal.nD Cert.KeyReferenceIdeal.τ Cert.KeyReferenceIdeal.sig) → Buf (Elt Ideal) ℓ) (g : Dev Cert.KeyReferenceIdeal.nD → PrngReg), Pre_KeyReferenceIdeal m →
    θ_run (Cert.KeyReferenceIdeal.defs (F := Ideal)) (onTc (τ := Cert.KeyReferenceIdeal.τ) (Cert.KeyReferenceIdeal.main (F := Ideal))) ⟨m, fun _ => 0, g⟩ (fun r => (∀ c : Dev Cert.KeyReferenceIdeal.nD,
      r.2.mem ((c.tc : Thread Cert.KeyReferenceIdeal.nD Cert.KeyReferenceIdeal.τ).loc Cert.KeyReferenceIdeal.main_arg0) = m ((c.tc : Thread Cert.KeyReferenceIdeal.nD Cert.KeyReferenceIdeal.τ).loc Cert.KeyReferenceIdeal.main_arg0)
      ∧ r.2.mem ((c.tc : Thread Cert.KeyReferenceIdeal.nD Cert.KeyReferenceIdeal.τ).loc Cert.KeyReferenceIdeal.main_arg1) = m ((c.tc : Thread Cert.KeyReferenceIdeal.nD Cert.KeyReferenceIdeal.τ).loc Cert.KeyReferenceIdeal.main_arg1))
      ∧ r.2.sem = fun _ => 0)

def quiescent_LaterOut [hLaterOut : Cert.LaterOut.Facts] : Prop :=
  ∀ (m : (ℓ : Loc Cert.LaterOut.nD Cert.LaterOut.τ Cert.LaterOut.sig) → Buf (Elt Bits) ℓ) (g : Dev Cert.LaterOut.nD → PrngReg), Pre_LaterOut m →
    θ_run (Cert.LaterOut.defs (F := Bits)) (onTc (τ := Cert.LaterOut.τ) (Cert.LaterOut.main (F := Bits))) ⟨m, fun _ => 0, g⟩ (fun r => (∀ c : Dev Cert.LaterOut.nD,
      r.2.mem ((c.tc : Thread Cert.LaterOut.nD Cert.LaterOut.τ).loc Cert.LaterOut.main_arg0) = m ((c.tc : Thread Cert.LaterOut.nD Cert.LaterOut.τ).loc Cert.LaterOut.main_arg0)
      ∧ r.2.mem ((c.tc : Thread Cert.LaterOut.nD Cert.LaterOut.τ).loc Cert.LaterOut.main_arg1) = m ((c.tc : Thread Cert.LaterOut.nD Cert.LaterOut.τ).loc Cert.LaterOut.main_arg1)
      ∧ r.2.mem ((c.tc : Thread Cert.LaterOut.nD Cert.LaterOut.τ).loc Cert.LaterOut.main_arg2) = m ((c.tc : Thread Cert.LaterOut.nD Cert.LaterOut.τ).loc Cert.LaterOut.main_arg2)
      ∧ r.2.mem ((c.tc : Thread Cert.LaterOut.nD Cert.LaterOut.τ).loc Cert.LaterOut.main_arg3) = m ((c.tc : Thread Cert.LaterOut.nD Cert.LaterOut.τ).loc Cert.LaterOut.main_arg3))
      ∧ r.2.sem = fun _ => 0)

def quiescent_LaterOutIdeal [hLaterOutIdeal : Cert.LaterOutIdeal.Facts] : Prop :=
  ∀ (m : (ℓ : Loc Cert.LaterOutIdeal.nD Cert.LaterOutIdeal.τ Cert.LaterOutIdeal.sig) → Buf (Elt Ideal) ℓ) (g : Dev Cert.LaterOutIdeal.nD → PrngReg), Pre_LaterOutIdeal m →
    θ_run (Cert.LaterOutIdeal.defs (F := Ideal)) (onTc (τ := Cert.LaterOutIdeal.τ) (Cert.LaterOutIdeal.main (F := Ideal))) ⟨m, fun _ => 0, g⟩ (fun r => (∀ c : Dev Cert.LaterOutIdeal.nD,
      r.2.mem ((c.tc : Thread Cert.LaterOutIdeal.nD Cert.LaterOutIdeal.τ).loc Cert.LaterOutIdeal.main_arg0) = m ((c.tc : Thread Cert.LaterOutIdeal.nD Cert.LaterOutIdeal.τ).loc Cert.LaterOutIdeal.main_arg0)
      ∧ r.2.mem ((c.tc : Thread Cert.LaterOutIdeal.nD Cert.LaterOutIdeal.τ).loc Cert.LaterOutIdeal.main_arg1) = m ((c.tc : Thread Cert.LaterOutIdeal.nD Cert.LaterOutIdeal.τ).loc Cert.LaterOutIdeal.main_arg1)
      ∧ r.2.mem ((c.tc : Thread Cert.LaterOutIdeal.nD Cert.LaterOutIdeal.τ).loc Cert.LaterOutIdeal.main_arg2) = m ((c.tc : Thread Cert.LaterOutIdeal.nD Cert.LaterOutIdeal.τ).loc Cert.LaterOutIdeal.main_arg2)
      ∧ r.2.mem ((c.tc : Thread Cert.LaterOutIdeal.nD Cert.LaterOutIdeal.τ).loc Cert.LaterOutIdeal.main_arg3) = m ((c.tc : Thread Cert.LaterOutIdeal.nD Cert.LaterOutIdeal.τ).loc Cert.LaterOutIdeal.main_arg3))
      ∧ r.2.sem = fun _ => 0)

def quiescent_LaterOutReferenceIdeal [hLaterOutReferenceIdeal : Cert.LaterOutReferenceIdeal.Facts] : Prop :=
  ∀ (m : (ℓ : Loc Cert.LaterOutReferenceIdeal.nD Cert.LaterOutReferenceIdeal.τ Cert.LaterOutReferenceIdeal.sig) → Buf (Elt Ideal) ℓ) (g : Dev Cert.LaterOutReferenceIdeal.nD → PrngReg), Pre_LaterOutReferenceIdeal m →
    θ_run (Cert.LaterOutReferenceIdeal.defs (F := Ideal)) (onTc (τ := Cert.LaterOutReferenceIdeal.τ) (Cert.LaterOutReferenceIdeal.main (F := Ideal))) ⟨m, fun _ => 0, g⟩ (fun r => (∀ c : Dev Cert.LaterOutReferenceIdeal.nD,
      r.2.mem ((c.tc : Thread Cert.LaterOutReferenceIdeal.nD Cert.LaterOutReferenceIdeal.τ).loc Cert.LaterOutReferenceIdeal.main_arg0) = m ((c.tc : Thread Cert.LaterOutReferenceIdeal.nD Cert.LaterOutReferenceIdeal.τ).loc Cert.LaterOutReferenceIdeal.main_arg0)
      ∧ r.2.mem ((c.tc : Thread Cert.LaterOutReferenceIdeal.nD Cert.LaterOutReferenceIdeal.τ).loc Cert.LaterOutReferenceIdeal.main_arg1) = m ((c.tc : Thread Cert.LaterOutReferenceIdeal.nD Cert.LaterOutReferenceIdeal.τ).loc Cert.LaterOutReferenceIdeal.main_arg1)
      ∧ r.2.mem ((c.tc : Thread Cert.LaterOutReferenceIdeal.nD Cert.LaterOutReferenceIdeal.τ).loc Cert.LaterOutReferenceIdeal.main_arg2) = m ((c.tc : Thread Cert.LaterOutReferenceIdeal.nD Cert.LaterOutReferenceIdeal.τ).loc Cert.LaterOutReferenceIdeal.main_arg2)
      ∧ r.2.mem ((c.tc : Thread Cert.LaterOutReferenceIdeal.nD Cert.LaterOutReferenceIdeal.τ).loc Cert.LaterOutReferenceIdeal.main_arg3) = m ((c.tc : Thread Cert.LaterOutReferenceIdeal.nD Cert.LaterOutReferenceIdeal.τ).loc Cert.LaterOutReferenceIdeal.main_arg3))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4))
      ∧ r.2.sem = fun _ => 0)

def quiescent_LastSample [hLastSample : Cert.LastSample.Facts] : Prop :=
  ∀ (m : (ℓ : Loc Cert.LastSample.nD Cert.LastSample.τ Cert.LastSample.sig) → Buf (Elt Bits) ℓ) (g : Dev Cert.LastSample.nD → PrngReg), Pre_LastSample m →
    θ_run (Cert.LastSample.defs (F := Bits)) (onTc (τ := Cert.LastSample.τ) (Cert.LastSample.main (F := Bits))) ⟨m, fun _ => 0, g⟩ (fun r => (∀ c : Dev Cert.LastSample.nD,
      r.2.mem ((c.tc : Thread Cert.LastSample.nD Cert.LastSample.τ).loc Cert.LastSample.main_arg0) = m ((c.tc : Thread Cert.LastSample.nD Cert.LastSample.τ).loc Cert.LastSample.main_arg0)
      ∧ r.2.mem ((c.tc : Thread Cert.LastSample.nD Cert.LastSample.τ).loc Cert.LastSample.main_arg1) = m ((c.tc : Thread Cert.LastSample.nD Cert.LastSample.τ).loc Cert.LastSample.main_arg1)
      ∧ r.2.mem ((c.tc : Thread Cert.LastSample.nD Cert.LastSample.τ).loc Cert.LastSample.main_arg2) = m ((c.tc : Thread Cert.LastSample.nD Cert.LastSample.τ).loc Cert.LastSample.main_arg2)
      ∧ r.2.mem ((c.tc : Thread Cert.LastSample.nD Cert.LastSample.τ).loc Cert.LastSample.main_arg3) = m ((c.tc : Thread Cert.LastSample.nD Cert.LastSample.τ).loc Cert.LastSample.main_arg3)
      ∧ r.2.mem ((c.tc : Thread Cert.LastSample.nD Cert.LastSample.τ).loc Cert.LastSample.main_arg4) = m ((c.tc : Thread Cert.LastSample.nD Cert.LastSample.τ).loc Cert.LastSample.main_arg4))
      ∧ r.2.sem = fun _ => 0)

def quiescent_LastSampleIdeal [hLastSampleIdeal : Cert.LastSampleIdeal.Facts] : Prop :=
  ∀ (m : (ℓ : Loc Cert.LastSampleIdeal.nD Cert.LastSampleIdeal.τ Cert.LastSampleIdeal.sig) → Buf (Elt Ideal) ℓ) (g : Dev Cert.LastSampleIdeal.nD → PrngReg), Pre_LastSampleIdeal m →
    θ_run (Cert.LastSampleIdeal.defs (F := Ideal)) (onTc (τ := Cert.LastSampleIdeal.τ) (Cert.LastSampleIdeal.main (F := Ideal))) ⟨m, fun _ => 0, g⟩ (fun r => (∀ c : Dev Cert.LastSampleIdeal.nD,
      r.2.mem ((c.tc : Thread Cert.LastSampleIdeal.nD Cert.LastSampleIdeal.τ).loc Cert.LastSampleIdeal.main_arg0) = m ((c.tc : Thread Cert.LastSampleIdeal.nD Cert.LastSampleIdeal.τ).loc Cert.LastSampleIdeal.main_arg0)
      ∧ r.2.mem ((c.tc : Thread Cert.LastSampleIdeal.nD Cert.LastSampleIdeal.τ).loc Cert.LastSampleIdeal.main_arg1) = m ((c.tc : Thread Cert.LastSampleIdeal.nD Cert.LastSampleIdeal.τ).loc Cert.LastSampleIdeal.main_arg1)
      ∧ r.2.mem ((c.tc : Thread Cert.LastSampleIdeal.nD Cert.LastSampleIdeal.τ).loc Cert.LastSampleIdeal.main_arg2) = m ((c.tc : Thread Cert.LastSampleIdeal.nD Cert.LastSampleIdeal.τ).loc Cert.LastSampleIdeal.main_arg2)
      ∧ r.2.mem ((c.tc : Thread Cert.LastSampleIdeal.nD Cert.LastSampleIdeal.τ).loc Cert.LastSampleIdeal.main_arg3) = m ((c.tc : Thread Cert.LastSampleIdeal.nD Cert.LastSampleIdeal.τ).loc Cert.LastSampleIdeal.main_arg3)
      ∧ r.2.mem ((c.tc : Thread Cert.LastSampleIdeal.nD Cert.LastSampleIdeal.τ).loc Cert.LastSampleIdeal.main_arg4) = m ((c.tc : Thread Cert.LastSampleIdeal.nD Cert.LastSampleIdeal.τ).loc Cert.LastSampleIdeal.main_arg4))
      ∧ r.2.sem = fun _ => 0)

def quiescent_LastSampleReferenceIdeal [hLastSampleReferenceIdeal : Cert.LastSampleReferenceIdeal.Facts] : Prop :=
  ∀ (m : (ℓ : Loc Cert.LastSampleReferenceIdeal.nD Cert.LastSampleReferenceIdeal.τ Cert.LastSampleReferenceIdeal.sig) → Buf (Elt Ideal) ℓ) (g : Dev Cert.LastSampleReferenceIdeal.nD → PrngReg), Pre_LastSampleReferenceIdeal m →
    θ_run (Cert.LastSampleReferenceIdeal.defs (F := Ideal)) (onTc (τ := Cert.LastSampleReferenceIdeal.τ) (Cert.LastSampleReferenceIdeal.main (F := Ideal))) ⟨m, fun _ => 0, g⟩ (fun r => (∀ c : Dev Cert.LastSampleReferenceIdeal.nD,
      r.2.mem ((c.tc : Thread Cert.LastSampleReferenceIdeal.nD Cert.LastSampleReferenceIdeal.τ).loc Cert.LastSampleReferenceIdeal.main_arg0) = m ((c.tc : Thread Cert.LastSampleReferenceIdeal.nD Cert.LastSampleReferenceIdeal.τ).loc Cert.LastSampleReferenceIdeal.main_arg0)
      ∧ r.2.mem ((c.tc : Thread Cert.LastSampleReferenceIdeal.nD Cert.LastSampleReferenceIdeal.τ).loc Cert.LastSampleReferenceIdeal.main_arg1) = m ((c.tc : Thread Cert.LastSampleReferenceIdeal.nD Cert.LastSampleReferenceIdeal.τ).loc Cert.LastSampleReferenceIdeal.main_arg1)
      ∧ r.2.mem ((c.tc : Thread Cert.LastSampleReferenceIdeal.nD Cert.LastSampleReferenceIdeal.τ).loc Cert.LastSampleReferenceIdeal.main_arg2) = m ((c.tc : Thread Cert.LastSampleReferenceIdeal.nD Cert.LastSampleReferenceIdeal.τ).loc Cert.LastSampleReferenceIdeal.main_arg2)
      ∧ r.2.mem ((c.tc : Thread Cert.LastSampleReferenceIdeal.nD Cert.LastSampleReferenceIdeal.τ).loc Cert.LastSampleReferenceIdeal.main_arg3) = m ((c.tc : Thread Cert.LastSampleReferenceIdeal.nD Cert.LastSampleReferenceIdeal.τ).loc Cert.LastSampleReferenceIdeal.main_arg3)
      ∧ r.2.mem ((c.tc : Thread Cert.LastSampleReferenceIdeal.nD Cert.LastSampleReferenceIdeal.τ).loc Cert.LastSampleReferenceIdeal.main_arg4) = m ((c.tc : Thread Cert.LastSampleReferenceIdeal.nD Cert.LastSampleReferenceIdeal.τ).loc Cert.LastSampleReferenceIdeal.main_arg4))
      ∧ r.2.sem = fun _ => 0)

def preserves_Kernel_KernelIdeal : Prop :=
  IdealRules.named_const.Statement Cert.KernelIdeal.κ "scale_c" .f32 0x3E0293EE#32 (((Real.sqrt 128)⁻¹ * (Real.log 2)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v66) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v2) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v5) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v3) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v1_0)) (v1 : (c : Dev Cert.OutIdeal.nD) → Buf (Elt Ideal) ((c.tc : Thread Cert.OutIdeal.nD Cert.OutIdeal.τ).loc Cert.OutIdeal.main_v1_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1_0) = v0 c
          ∧ r.2.mem ((c.tc : Thread Cert.OutIdeal.nD Cert.OutIdeal.τ).loc Cert.OutIdeal.main_v1_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v4) = v0 c
          ∧ r.2.mem ((c.tc : Thread Cert.OutReferenceIdeal.nD Cert.OutReferenceIdeal.τ).loc Cert.OutReferenceIdeal.main_v18) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def preserves_Ple_PleIdeal : Prop :=
  True

def algebraic_PleIdeal_PleReferenceIdeal [hPleIdeal : Cert.PleIdeal.Facts] [hPleReferenceIdeal : Cert.PleReferenceIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleIdeal m →
    (∀ c : Dev Cert.PleIdeal.nD,
      m' ((c.tc : Thread Cert.PleReferenceIdeal.nD Cert.PleReferenceIdeal.τ).loc Cert.PleReferenceIdeal.main_arg0) = m ((c.tc : Thread Cert.PleIdeal.nD Cert.PleIdeal.τ).loc Cert.PleIdeal.main_arg0)
      ∧ m' ((c.tc : Thread Cert.PleReferenceIdeal.nD Cert.PleReferenceIdeal.τ).loc Cert.PleReferenceIdeal.main_arg1) = m ((c.tc : Thread Cert.PleIdeal.nD Cert.PleIdeal.τ).loc Cert.PleIdeal.main_arg1)
      ∧ m' ((c.tc : Thread Cert.PleReferenceIdeal.nD Cert.PleReferenceIdeal.τ).loc Cert.PleReferenceIdeal.main_arg2) = m ((c.tc : Thread Cert.PleIdeal.nD Cert.PleIdeal.τ).loc Cert.PleIdeal.main_arg2)
      ∧ m' ((c.tc : Thread Cert.PleReferenceIdeal.nD Cert.PleReferenceIdeal.τ).loc Cert.PleReferenceIdeal.main_arg3) = m ((c.tc : Thread Cert.PleIdeal.nD Cert.PleIdeal.τ).loc Cert.PleIdeal.main_arg3)
      ∧ m' ((c.tc : Thread Cert.PleReferenceIdeal.nD Cert.PleReferenceIdeal.τ).loc Cert.PleReferenceIdeal.main_arg4) = m ((c.tc : Thread Cert.PleIdeal.nD Cert.PleIdeal.τ).loc Cert.PleIdeal.main_arg4)
      ∧ m' ((c.tc : Thread Cert.PleReferenceIdeal.nD Cert.PleReferenceIdeal.τ).loc Cert.PleReferenceIdeal.main_arg5) = m ((c.tc : Thread Cert.PleIdeal.nD Cert.PleIdeal.τ).loc Cert.PleIdeal.main_arg5)
      ∧ m' ((c.tc : Thread Cert.PleReferenceIdeal.nD Cert.PleReferenceIdeal.τ).loc Cert.PleReferenceIdeal.main_arg6) = m ((c.tc : Thread Cert.PleIdeal.nD Cert.PleIdeal.τ).loc Cert.PleIdeal.main_arg6)) →
    ∃ (v0 : (c : Dev Cert.PleIdeal.nD) → Buf (Elt Ideal) ((c.tc : Thread Cert.PleIdeal.nD Cert.PleIdeal.τ).loc Cert.PleIdeal.main_v2_0)) (v1 : (c : Dev Cert.PleIdeal.nD) → Buf (Elt Ideal) ((c.tc : Thread Cert.PleIdeal.nD Cert.PleIdeal.τ).loc Cert.PleIdeal.main_v2_1)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v2_0) = v0 c
          ∧ r.2.mem ((c.tc : Thread Cert.PleIdeal.nD Cert.PleIdeal.τ).loc Cert.PleIdeal.main_v2_1) = v1 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v31) = v0 c
          ∧ r.2.mem ((c.tc : Thread Cert.PleReferenceIdeal.nD Cert.PleReferenceIdeal.τ).loc Cert.PleReferenceIdeal.main_v45) = v1 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3)
          ∧ r.2.mem ((c.tc : Thread Cert.PleReferenceIdeal.nD Cert.PleReferenceIdeal.τ).loc Cert.PleReferenceIdeal.main_arg4) = m' ((c.tc : Thread Cert.PleReferenceIdeal.nD Cert.PleReferenceIdeal.τ).loc Cert.PleReferenceIdeal.main_arg4)
          ∧ r.2.mem ((c.tc : Thread Cert.PleReferenceIdeal.nD Cert.PleReferenceIdeal.τ).loc Cert.PleReferenceIdeal.main_arg5) = m' ((c.tc : Thread Cert.PleReferenceIdeal.nD Cert.PleReferenceIdeal.τ).loc Cert.PleReferenceIdeal.main_arg5)
          ∧ r.2.mem ((c.tc : Thread Cert.PleReferenceIdeal.nD Cert.PleReferenceIdeal.τ).loc Cert.PleReferenceIdeal.main_arg6) = m' ((c.tc : Thread Cert.PleReferenceIdeal.nD Cert.PleReferenceIdeal.τ).loc Cert.PleReferenceIdeal.main_arg6))

def preserves_Latent_LatentIdeal : Prop :=
  IdealRules.named_const.Statement Cert.LatentIdeal.κ "scale_b" .f32 0x3DD53B95#32 (((Real.sqrt 192)⁻¹ * (Real.log 2)⁻¹ : ℝ) : EReal)

def algebraic_LatentIdeal_LatentReferenceIdeal_pre_padded_qk [hLatentIdeal : Cert.LatentIdeal.Facts] [hLatentReferenceIdeal : Cert.LatentReferenceIdeal.Facts] [hPre_padded_qk : Cert.Pre_padded_qk.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentReferenceIdeal.nD Cert.LatentReferenceIdeal.τ Cert.LatentReferenceIdeal.sig) → Buf (Elt Ideal) ℓ) (g' : Dev Cert.LatentReferenceIdeal.nD → PrngReg), Pre_LatentIdeal_padded_qk m →
    (∀ c : Dev Cert.LatentIdeal.nD,
      m' ((c.tc : Thread Cert.LatentReferenceIdeal.nD Cert.LatentReferenceIdeal.τ).loc Cert.LatentReferenceIdeal.main_arg0) = m ((c.tc : Thread Cert.LatentIdeal.nD Cert.LatentIdeal.τ).loc Cert.LatentIdeal.main_arg0)
      ∧ m' ((c.tc : Thread Cert.LatentReferenceIdeal.nD Cert.LatentReferenceIdeal.τ).loc Cert.LatentReferenceIdeal.main_arg1) = m ((c.tc : Thread Cert.LatentIdeal.nD Cert.LatentIdeal.τ).loc Cert.LatentIdeal.main_arg1)
      ∧ m' ((c.tc : Thread Cert.LatentReferenceIdeal.nD Cert.LatentReferenceIdeal.τ).loc Cert.LatentReferenceIdeal.main_arg2) = m ((c.tc : Thread Cert.LatentIdeal.nD Cert.LatentIdeal.τ).loc Cert.LatentIdeal.main_arg2)) →
    ∃ (v0 : (c : Dev Cert.LatentIdeal.nD) → Buf (Elt Ideal) ((c.tc : Thread Cert.LatentIdeal.nD Cert.LatentIdeal.τ).loc Cert.LatentIdeal.main_v0)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v0) = v0 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2))
      ∧ θ_run (Cert.LatentReferenceIdeal.defs (F := Ideal)) (onTc (τ := Cert.LatentReferenceIdeal.τ) (Cert.LatentReferenceIdeal.main (F := Ideal))) ⟨m', fun _ => 0, g'⟩ (fun r => ∀ c : Dev Cert.LatentReferenceIdeal.nD,
          r.2.mem ((c.tc : Thread Cert.LatentReferenceIdeal.nD Cert.LatentReferenceIdeal.τ).loc Cert.LatentReferenceIdeal.main_v29) = v0 c
          ∧ r.2.mem ((c.tc : Thread Cert.LatentReferenceIdeal.nD Cert.LatentReferenceIdeal.τ).loc Cert.LatentReferenceIdeal.main_arg0) = m' ((c.tc : Thread Cert.LatentReferenceIdeal.nD Cert.LatentReferenceIdeal.τ).loc Cert.LatentReferenceIdeal.main_arg0)
          ∧ r.2.mem ((c.tc : Thread Cert.LatentReferenceIdeal.nD Cert.LatentReferenceIdeal.τ).loc Cert.LatentReferenceIdeal.main_arg1) = m' ((c.tc : Thread Cert.LatentReferenceIdeal.nD Cert.LatentReferenceIdeal.τ).loc Cert.LatentReferenceIdeal.main_arg1)
          ∧ r.2.mem ((c.tc : Thread Cert.LatentReferenceIdeal.nD Cert.LatentReferenceIdeal.τ).loc Cert.LatentReferenceIdeal.main_arg2) = m' ((c.tc : Thread Cert.LatentReferenceIdeal.nD Cert.LatentReferenceIdeal.τ).loc Cert.LatentReferenceIdeal.main_arg2))

def preserves_Diff_DiffIdeal : Prop :=
  IdealRules.named_const.Statement Cert.DiffIdeal.κ "scale_a" .f32 0x3E38AA3B#32 (((Real.sqrt 64)⁻¹ * (Real.log 2)⁻¹ : ℝ) : EReal)
  ∧ IdealRules.named_const.Statement Cert.DiffIdeal.κ "log2e" .f32 0x3FB8AA3B#32 (((Real.log 2)⁻¹ : ℝ) : EReal)

def algebraic_DiffIdeal_DiffReferenceIdeal_pre_finite_qkb [hDiffIdeal : Cert.DiffIdeal.Facts] [hDiffReferenceIdeal : Cert.DiffReferenceIdeal.Facts] [hPre_finite_qkb : Cert.Pre_finite_qkb.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffReferenceIdeal.nD Cert.DiffReferenceIdeal.τ Cert.DiffReferenceIdeal.sig) → Buf (Elt Ideal) ℓ) (g' : Dev Cert.DiffReferenceIdeal.nD → PrngReg), Pre_DiffIdeal_finite_qkb m →
    (∀ c : Dev Cert.DiffIdeal.nD,
      m' ((c.tc : Thread Cert.DiffReferenceIdeal.nD Cert.DiffReferenceIdeal.τ).loc Cert.DiffReferenceIdeal.main_arg0) = m ((c.tc : Thread Cert.DiffIdeal.nD Cert.DiffIdeal.τ).loc Cert.DiffIdeal.main_arg0)
      ∧ m' ((c.tc : Thread Cert.DiffReferenceIdeal.nD Cert.DiffReferenceIdeal.τ).loc Cert.DiffReferenceIdeal.main_arg1) = m ((c.tc : Thread Cert.DiffIdeal.nD Cert.DiffIdeal.τ).loc Cert.DiffIdeal.main_arg1)
      ∧ m' ((c.tc : Thread Cert.DiffReferenceIdeal.nD Cert.DiffReferenceIdeal.τ).loc Cert.DiffReferenceIdeal.main_arg2) = m ((c.tc : Thread Cert.DiffIdeal.nD Cert.DiffIdeal.τ).loc Cert.DiffIdeal.main_arg2)
      ∧ m' ((c.tc : Thread Cert.DiffReferenceIdeal.nD Cert.DiffReferenceIdeal.τ).loc Cert.DiffReferenceIdeal.main_arg3) = m ((c.tc : Thread Cert.DiffIdeal.nD Cert.DiffIdeal.τ).loc Cert.DiffIdeal.main_arg3)
      ∧ m' ((c.tc : Thread Cert.DiffReferenceIdeal.nD Cert.DiffReferenceIdeal.τ).loc Cert.DiffReferenceIdeal.main_arg4) = m ((c.tc : Thread Cert.DiffIdeal.nD Cert.DiffIdeal.τ).loc Cert.DiffIdeal.main_arg4)
      ∧ m' ((c.tc : Thread Cert.DiffReferenceIdeal.nD Cert.DiffReferenceIdeal.τ).loc Cert.DiffReferenceIdeal.main_arg5) = m ((c.tc : Thread Cert.DiffIdeal.nD Cert.DiffIdeal.τ).loc Cert.DiffIdeal.main_arg5)) →
    ∃ (v0 : (c : Dev Cert.DiffIdeal.nD) → Buf (Elt Ideal) ((c.tc : Thread Cert.DiffIdeal.nD Cert.DiffIdeal.τ).loc Cert.DiffIdeal.main_v43)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v43) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
          ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ θ_run (Cert.DiffReferenceIdeal.defs (F := Ideal)) (onTc (τ := Cert.DiffReferenceIdeal.τ) (Cert.DiffReferenceIdeal.main (F := Ideal))) ⟨m', fun _ => 0, g'⟩ (fun r => ∀ c : Dev Cert.DiffReferenceIdeal.nD,
          r.2.mem ((c.tc : Thread Cert.DiffReferenceIdeal.nD Cert.DiffReferenceIdeal.τ).loc Cert.DiffReferenceIdeal.main_v111) = v0 c
          ∧ r.2.mem ((c.tc : Thread Cert.DiffReferenceIdeal.nD Cert.DiffReferenceIdeal.τ).loc Cert.DiffReferenceIdeal.main_arg0) = m' ((c.tc : Thread Cert.DiffReferenceIdeal.nD Cert.DiffReferenceIdeal.τ).loc Cert.DiffReferenceIdeal.main_arg0)
          ∧ r.2.mem ((c.tc : Thread Cert.DiffReferenceIdeal.nD Cert.DiffReferenceIdeal.τ).loc Cert.DiffReferenceIdeal.main_arg1) = m' ((c.tc : Thread Cert.DiffReferenceIdeal.nD Cert.DiffReferenceIdeal.τ).loc Cert.DiffReferenceIdeal.main_arg1)
          ∧ r.2.mem ((c.tc : Thread Cert.DiffReferenceIdeal.nD Cert.DiffReferenceIdeal.τ).loc Cert.DiffReferenceIdeal.main_arg2) = m' ((c.tc : Thread Cert.DiffReferenceIdeal.nD Cert.DiffReferenceIdeal.τ).loc Cert.DiffReferenceIdeal.main_arg2)
          ∧ r.2.mem ((c.tc : Thread Cert.DiffReferenceIdeal.nD Cert.DiffReferenceIdeal.τ).loc Cert.DiffReferenceIdeal.main_arg3) = m' ((c.tc : Thread Cert.DiffReferenceIdeal.nD Cert.DiffReferenceIdeal.τ).loc Cert.DiffReferenceIdeal.main_arg3)
          ∧ r.2.mem ((c.tc : Thread Cert.DiffReferenceIdeal.nD Cert.DiffReferenceIdeal.τ).loc Cert.DiffReferenceIdeal.main_arg4) = m' ((c.tc : Thread Cert.DiffReferenceIdeal.nD Cert.DiffReferenceIdeal.τ).loc Cert.DiffReferenceIdeal.main_arg4)
          ∧ r.2.mem ((c.tc : Thread Cert.DiffReferenceIdeal.nD Cert.DiffReferenceIdeal.τ).loc Cert.DiffReferenceIdeal.main_arg5) = m' ((c.tc : Thread Cert.DiffReferenceIdeal.nD Cert.DiffReferenceIdeal.τ).loc Cert.DiffReferenceIdeal.main_arg5))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v14) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2))

def preserves_Key_KeyIdeal : Prop :=
  True

def algebraic_KeyIdeal_KeyReferenceIdeal [hKeyIdeal : Cert.KeyIdeal.Facts] [hKeyReferenceIdeal : Cert.KeyReferenceIdeal.Facts] : Prop :=
  ∀ (m : (ℓ : Loc Cert.KeyIdeal.nD Cert.KeyIdeal.τ Cert.KeyIdeal.sig) → Buf (Elt Ideal) ℓ) (g : Dev Cert.KeyIdeal.nD → PrngReg)
    (m' : (ℓ : Loc Cert.KeyReferenceIdeal.nD Cert.KeyReferenceIdeal.τ Cert.KeyReferenceIdeal.sig) → Buf (Elt Ideal) ℓ) (g' : Dev Cert.KeyReferenceIdeal.nD → PrngReg), Pre_KeyIdeal m →
    (∀ c : Dev Cert.KeyIdeal.nD,
      m' ((c.tc : Thread Cert.KeyReferenceIdeal.nD Cert.KeyReferenceIdeal.τ).loc Cert.KeyReferenceIdeal.main_arg0) = m ((c.tc : Thread Cert.KeyIdeal.nD Cert.KeyIdeal.τ).loc Cert.KeyIdeal.main_arg0)
      ∧ m' ((c.tc : Thread Cert.KeyReferenceIdeal.nD Cert.KeyReferenceIdeal.τ).loc Cert.KeyReferenceIdeal.main_arg1) = m ((c.tc : Thread Cert.KeyIdeal.nD Cert.KeyIdeal.τ).loc Cert.KeyIdeal.main_arg1)) →
    ∃ (v0 : (c : Dev Cert.KeyIdeal.nD) → Buf (Elt Ideal) ((c.tc : Thread Cert.KeyIdeal.nD Cert.KeyIdeal.τ).loc Cert.KeyIdeal.main_v0)),
      θ_run (Cert.KeyIdeal.defs (F := Ideal)) (onTc (τ := Cert.KeyIdeal.τ) (Cert.KeyIdeal.main (F := Ideal))) ⟨m, fun _ => 0, g⟩ (fun r => ∀ c : Dev Cert.KeyIdeal.nD,
          r.2.mem ((c.tc : Thread Cert.KeyIdeal.nD Cert.KeyIdeal.τ).loc Cert.KeyIdeal.main_v0) = v0 c
          ∧ r.2.mem ((c.tc : Thread Cert.KeyIdeal.nD Cert.KeyIdeal.τ).loc Cert.KeyIdeal.main_arg0) = m ((c.tc : Thread Cert.KeyIdeal.nD Cert.KeyIdeal.τ).loc Cert.KeyIdeal.main_arg0)
          ∧ r.2.mem ((c.tc : Thread Cert.KeyIdeal.nD Cert.KeyIdeal.τ).loc Cert.KeyIdeal.main_arg1) = m ((c.tc : Thread Cert.KeyIdeal.nD Cert.KeyIdeal.τ).loc Cert.KeyIdeal.main_arg1))
      ∧ θ_run (Cert.KeyReferenceIdeal.defs (F := Ideal)) (onTc (τ := Cert.KeyReferenceIdeal.τ) (Cert.KeyReferenceIdeal.main (F := Ideal))) ⟨m', fun _ => 0, g'⟩ (fun r => ∀ c : Dev Cert.KeyReferenceIdeal.nD,
          r.2.mem ((c.tc : Thread Cert.KeyReferenceIdeal.nD Cert.KeyReferenceIdeal.τ).loc Cert.KeyReferenceIdeal.main_v2) = v0 c
          ∧ r.2.mem ((c.tc : Thread Cert.KeyReferenceIdeal.nD Cert.KeyReferenceIdeal.τ).loc Cert.KeyReferenceIdeal.main_arg0) = m' ((c.tc : Thread Cert.KeyReferenceIdeal.nD Cert.KeyReferenceIdeal.τ).loc Cert.KeyReferenceIdeal.main_arg0)
          ∧ r.2.mem ((c.tc : Thread Cert.KeyReferenceIdeal.nD Cert.KeyReferenceIdeal.τ).loc Cert.KeyReferenceIdeal.main_arg1) = m' ((c.tc : Thread Cert.KeyReferenceIdeal.nD Cert.KeyReferenceIdeal.τ).loc Cert.KeyReferenceIdeal.main_arg1))

def preserves_LaterOut_LaterOutIdeal : Prop :=
  True

def algebraic_LaterOutIdeal_LaterOutReferenceIdeal [hLaterOutIdeal : Cert.LaterOutIdeal.Facts] [hLaterOutReferenceIdeal : Cert.LaterOutReferenceIdeal.Facts] : Prop :=
  ∀ (m : (ℓ : Loc Cert.LaterOutIdeal.nD Cert.LaterOutIdeal.τ Cert.LaterOutIdeal.sig) → Buf (Elt Ideal) ℓ) (g : Dev Cert.LaterOutIdeal.nD → PrngReg)
    (m' : (ℓ : Loc Cert.LaterOutReferenceIdeal.nD Cert.LaterOutReferenceIdeal.τ Cert.LaterOutReferenceIdeal.sig) → Buf (Elt Ideal) ℓ) (g' : Dev Cert.LaterOutReferenceIdeal.nD → PrngReg), Pre_LaterOutIdeal m →
    (∀ c : Dev Cert.LaterOutIdeal.nD,
      m' ((c.tc : Thread Cert.LaterOutReferenceIdeal.nD Cert.LaterOutReferenceIdeal.τ).loc Cert.LaterOutReferenceIdeal.main_arg0) = m ((c.tc : Thread Cert.LaterOutIdeal.nD Cert.LaterOutIdeal.τ).loc Cert.LaterOutIdeal.main_arg0)
      ∧ m' ((c.tc : Thread Cert.LaterOutReferenceIdeal.nD Cert.LaterOutReferenceIdeal.τ).loc Cert.LaterOutReferenceIdeal.main_arg1) = m ((c.tc : Thread Cert.LaterOutIdeal.nD Cert.LaterOutIdeal.τ).loc Cert.LaterOutIdeal.main_arg1)
      ∧ m' ((c.tc : Thread Cert.LaterOutReferenceIdeal.nD Cert.LaterOutReferenceIdeal.τ).loc Cert.LaterOutReferenceIdeal.main_arg2) = m ((c.tc : Thread Cert.LaterOutIdeal.nD Cert.LaterOutIdeal.τ).loc Cert.LaterOutIdeal.main_arg2)
      ∧ m' ((c.tc : Thread Cert.LaterOutReferenceIdeal.nD Cert.LaterOutReferenceIdeal.τ).loc Cert.LaterOutReferenceIdeal.main_arg3) = m ((c.tc : Thread Cert.LaterOutIdeal.nD Cert.LaterOutIdeal.τ).loc Cert.LaterOutIdeal.main_arg3)) →
    ∃ (v0 : (c : Dev Cert.LaterOutIdeal.nD) → Buf (Elt Ideal) ((c.tc : Thread Cert.LaterOutIdeal.nD Cert.LaterOutIdeal.τ).loc Cert.LaterOutIdeal.main_v1_0)) (v1 : (c : Dev Cert.LaterOutIdeal.nD) → Buf (Elt Ideal) ((c.tc : Thread Cert.LaterOutIdeal.nD Cert.LaterOutIdeal.τ).loc Cert.LaterOutIdeal.main_v1_1)),
      θ_run (Cert.LaterOutIdeal.defs (F := Ideal)) (onTc (τ := Cert.LaterOutIdeal.τ) (Cert.LaterOutIdeal.main (F := Ideal))) ⟨m, fun _ => 0, g⟩ (fun r => ∀ c : Dev Cert.LaterOutIdeal.nD,
          r.2.mem ((c.tc : Thread Cert.LaterOutIdeal.nD Cert.LaterOutIdeal.τ).loc Cert.LaterOutIdeal.main_v1_0) = v0 c
          ∧ r.2.mem ((c.tc : Thread Cert.LaterOutIdeal.nD Cert.LaterOutIdeal.τ).loc Cert.LaterOutIdeal.main_v1_1) = v1 c
          ∧ r.2.mem ((c.tc : Thread Cert.LaterOutIdeal.nD Cert.LaterOutIdeal.τ).loc Cert.LaterOutIdeal.main_arg0) = m ((c.tc : Thread Cert.LaterOutIdeal.nD Cert.LaterOutIdeal.τ).loc Cert.LaterOutIdeal.main_arg0)
          ∧ r.2.mem ((c.tc : Thread Cert.LaterOutIdeal.nD Cert.LaterOutIdeal.τ).loc Cert.LaterOutIdeal.main_arg1) = m ((c.tc : Thread Cert.LaterOutIdeal.nD Cert.LaterOutIdeal.τ).loc Cert.LaterOutIdeal.main_arg1)
          ∧ r.2.mem ((c.tc : Thread Cert.LaterOutIdeal.nD Cert.LaterOutIdeal.τ).loc Cert.LaterOutIdeal.main_arg2) = m ((c.tc : Thread Cert.LaterOutIdeal.nD Cert.LaterOutIdeal.τ).loc Cert.LaterOutIdeal.main_arg2)
          ∧ r.2.mem ((c.tc : Thread Cert.LaterOutIdeal.nD Cert.LaterOutIdeal.τ).loc Cert.LaterOutIdeal.main_arg3) = m ((c.tc : Thread Cert.LaterOutIdeal.nD Cert.LaterOutIdeal.τ).loc Cert.LaterOutIdeal.main_arg3))
      ∧ θ_run (Cert.LaterOutReferenceIdeal.defs (F := Ideal)) (onTc (τ := Cert.LaterOutReferenceIdeal.τ) (Cert.LaterOutReferenceIdeal.main (F := Ideal))) ⟨m', fun _ => 0, g'⟩ (fun r => ∀ c : Dev Cert.LaterOutReferenceIdeal.nD,
          r.2.mem ((c.tc : Thread Cert.LaterOutReferenceIdeal.nD Cert.LaterOutReferenceIdeal.τ).loc Cert.LaterOutReferenceIdeal.main_v3) = v0 c
          ∧ r.2.mem ((c.tc : Thread Cert.LaterOutReferenceIdeal.nD Cert.LaterOutReferenceIdeal.τ).loc Cert.LaterOutReferenceIdeal.main_v17) = v1 c
          ∧ r.2.mem ((c.tc : Thread Cert.LaterOutReferenceIdeal.nD Cert.LaterOutReferenceIdeal.τ).loc Cert.LaterOutReferenceIdeal.main_arg0) = m' ((c.tc : Thread Cert.LaterOutReferenceIdeal.nD Cert.LaterOutReferenceIdeal.τ).loc Cert.LaterOutReferenceIdeal.main_arg0)
          ∧ r.2.mem ((c.tc : Thread Cert.LaterOutReferenceIdeal.nD Cert.LaterOutReferenceIdeal.τ).loc Cert.LaterOutReferenceIdeal.main_arg1) = m' ((c.tc : Thread Cert.LaterOutReferenceIdeal.nD Cert.LaterOutReferenceIdeal.τ).loc Cert.LaterOutReferenceIdeal.main_arg1)
          ∧ r.2.mem ((c.tc : Thread Cert.LaterOutReferenceIdeal.nD Cert.LaterOutReferenceIdeal.τ).loc Cert.LaterOutReferenceIdeal.main_arg2) = m' ((c.tc : Thread Cert.LaterOutReferenceIdeal.nD Cert.LaterOutReferenceIdeal.τ).loc Cert.LaterOutReferenceIdeal.main_arg2)
          ∧ r.2.mem ((c.tc : Thread Cert.LaterOutReferenceIdeal.nD Cert.LaterOutReferenceIdeal.τ).loc Cert.LaterOutReferenceIdeal.main_arg3) = m' ((c.tc : Thread Cert.LaterOutReferenceIdeal.nD Cert.LaterOutReferenceIdeal.τ).loc Cert.LaterOutReferenceIdeal.main_arg3))

def preserves_Last_LastIdeal : Prop :=
  True

def algebraic_LastIdeal_LastReferenceIdeal [hLastIdeal : Cert.LastIdeal.Facts] [hLastReferenceIdeal : Cert.LastReferenceIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)
      ∧ m' ((c.tc : Thread Cert.LastReferenceIdeal.nD Cert.LastReferenceIdeal.τ).loc Cert.LastReferenceIdeal.main_arg3) = m ((c.tc : Thread Cert.LastIdeal.nD Cert.LastIdeal.τ).loc Cert.LastIdeal.main_arg3)
      ∧ m' ((c.tc : Thread Cert.LastReferenceIdeal.nD Cert.LastReferenceIdeal.τ).loc Cert.LastReferenceIdeal.main_arg4) = m ((c.tc : Thread Cert.LastIdeal.nD Cert.LastIdeal.τ).loc Cert.LastIdeal.main_arg4)) →
    ∃ (v0 : (c : Dev Cert.LastIdeal.nD) → Buf (Elt Ideal) ((c.tc : Thread Cert.LastIdeal.nD Cert.LastIdeal.τ).loc Cert.LastIdeal.main_v1)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v1) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v31) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4))

def preserves_LastSample_LastSampleIdeal : Prop :=
  True

def algebraic_LastSampleIdeal_LastSampleReferenceIdeal [hLastSampleIdeal : Cert.LastSampleIdeal.Facts] [hLastSampleReferenceIdeal : Cert.LastSampleReferenceIdeal.Facts] : Prop :=
  ∀ (m : (ℓ : Loc Cert.LastSampleIdeal.nD Cert.LastSampleIdeal.τ Cert.LastSampleIdeal.sig) → Buf (Elt Ideal) ℓ) (g : Dev Cert.LastSampleIdeal.nD → PrngReg)
    (m' : (ℓ : Loc Cert.LastSampleReferenceIdeal.nD Cert.LastSampleReferenceIdeal.τ Cert.LastSampleReferenceIdeal.sig) → Buf (Elt Ideal) ℓ) (g' : Dev Cert.LastSampleReferenceIdeal.nD → PrngReg), Pre_LastSampleIdeal m →
    (∀ c : Dev Cert.LastSampleIdeal.nD,
      m' ((c.tc : Thread Cert.LastSampleReferenceIdeal.nD Cert.LastSampleReferenceIdeal.τ).loc Cert.LastSampleReferenceIdeal.main_arg0) = m ((c.tc : Thread Cert.LastSampleIdeal.nD Cert.LastSampleIdeal.τ).loc Cert.LastSampleIdeal.main_arg0)
      ∧ m' ((c.tc : Thread Cert.LastSampleReferenceIdeal.nD Cert.LastSampleReferenceIdeal.τ).loc Cert.LastSampleReferenceIdeal.main_arg1) = m ((c.tc : Thread Cert.LastSampleIdeal.nD Cert.LastSampleIdeal.τ).loc Cert.LastSampleIdeal.main_arg1)
      ∧ m' ((c.tc : Thread Cert.LastSampleReferenceIdeal.nD Cert.LastSampleReferenceIdeal.τ).loc Cert.LastSampleReferenceIdeal.main_arg2) = m ((c.tc : Thread Cert.LastSampleIdeal.nD Cert.LastSampleIdeal.τ).loc Cert.LastSampleIdeal.main_arg2)
      ∧ m' ((c.tc : Thread Cert.LastSampleReferenceIdeal.nD Cert.LastSampleReferenceIdeal.τ).loc Cert.LastSampleReferenceIdeal.main_arg3) = m ((c.tc : Thread Cert.LastSampleIdeal.nD Cert.LastSampleIdeal.τ).loc Cert.LastSampleIdeal.main_arg3)
      ∧ m' ((c.tc : Thread Cert.LastSampleReferenceIdeal.nD Cert.LastSampleReferenceIdeal.τ).loc Cert.LastSampleReferenceIdeal.main_arg4) = m ((c.tc : Thread Cert.LastSampleIdeal.nD Cert.LastSampleIdeal.τ).loc Cert.LastSampleIdeal.main_arg4)) →
    ∃ (v0 : (c : Dev Cert.LastSampleIdeal.nD) → Buf (Elt Ideal) ((c.tc : Thread Cert.LastSampleIdeal.nD Cert.LastSampleIdeal.τ).loc Cert.LastSampleIdeal.main_v1)),
      θ_run (Cert.LastSampleIdeal.defs (F := Ideal)) (onTc (τ := Cert.LastSampleIdeal.τ) (Cert.LastSampleIdeal.main (F := Ideal))) ⟨m, fun _ => 0, g⟩ (fun r => ∀ c : Dev Cert.LastSampleIdeal.nD,
          r.2.mem ((c.tc : Thread Cert.LastSampleIdeal.nD Cert.LastSampleIdeal.τ).loc Cert.LastSampleIdeal.main_v1) = v0 c
          ∧ r.2.mem ((c.tc : Thread Cert.LastSampleIdeal.nD Cert.LastSampleIdeal.τ).loc Cert.LastSampleIdeal.main_arg0) = m ((c.tc : Thread Cert.LastSampleIdeal.nD Cert.LastSampleIdeal.τ).loc Cert.LastSampleIdeal.main_arg0)
          ∧ r.2.mem ((c.tc : Thread Cert.LastSampleIdeal.nD Cert.LastSampleIdeal.τ).loc Cert.LastSampleIdeal.main_arg1) = m ((c.tc : Thread Cert.LastSampleIdeal.nD Cert.LastSampleIdeal.τ).loc Cert.LastSampleIdeal.main_arg1)
          ∧ r.2.mem ((c.tc : Thread Cert.LastSampleIdeal.nD Cert.LastSampleIdeal.τ).loc Cert.LastSampleIdeal.main_arg2) = m ((c.tc : Thread Cert.LastSampleIdeal.nD Cert.LastSampleIdeal.τ).loc Cert.LastSampleIdeal.main_arg2)
          ∧ r.2.mem ((c.tc : Thread Cert.LastSampleIdeal.nD Cert.LastSampleIdeal.τ).loc Cert.LastSampleIdeal.main_arg3) = m ((c.tc : Thread Cert.LastSampleIdeal.nD Cert.LastSampleIdeal.τ).loc Cert.LastSampleIdeal.main_arg3)
          ∧ r.2.mem ((c.tc : Thread Cert.LastSampleIdeal.nD Cert.LastSampleIdeal.τ).loc Cert.LastSampleIdeal.main_arg4) = m ((c.tc : Thread Cert.LastSampleIdeal.nD Cert.LastSampleIdeal.τ).loc Cert.LastSampleIdeal.main_arg4))
      ∧ θ_run (Cert.LastSampleReferenceIdeal.defs (F := Ideal)) (onTc (τ := Cert.LastSampleReferenceIdeal.τ) (Cert.LastSampleReferenceIdeal.main (F := Ideal))) ⟨m', fun _ => 0, g'⟩ (fun r => ∀ c : Dev Cert.LastSampleReferenceIdeal.nD,
          r.2.mem ((c.tc : Thread Cert.LastSampleReferenceIdeal.nD Cert.LastSampleReferenceIdeal.τ).loc Cert.LastSampleReferenceIdeal.main_v31) = v0 c
          ∧ r.2.mem ((c.tc : Thread Cert.LastSampleReferenceIdeal.nD Cert.LastSampleReferenceIdeal.τ).loc Cert.LastSampleReferenceIdeal.main_arg0) = m' ((c.tc : Thread Cert.LastSampleReferenceIdeal.nD Cert.LastSampleReferenceIdeal.τ).loc Cert.LastSampleReferenceIdeal.main_arg0)
          ∧ r.2.mem ((c.tc : Thread Cert.LastSampleReferenceIdeal.nD Cert.LastSampleReferenceIdeal.τ).loc Cert.LastSampleReferenceIdeal.main_arg1) = m' ((c.tc : Thread Cert.LastSampleReferenceIdeal.nD Cert.LastSampleReferenceIdeal.τ).loc Cert.LastSampleReferenceIdeal.main_arg1)
          ∧ r.2.mem ((c.tc : Thread Cert.LastSampleReferenceIdeal.nD Cert.LastSampleReferenceIdeal.τ).loc Cert.LastSampleReferenceIdeal.main_arg2) = m' ((c.tc : Thread Cert.LastSampleReferenceIdeal.nD Cert.LastSampleReferenceIdeal.τ).loc Cert.LastSampleReferenceIdeal.main_arg2)
          ∧ r.2.mem ((c.tc : Thread Cert.LastSampleReferenceIdeal.nD Cert.LastSampleReferenceIdeal.τ).loc Cert.LastSampleReferenceIdeal.main_arg3) = m' ((c.tc : Thread Cert.LastSampleReferenceIdeal.nD Cert.LastSampleReferenceIdeal.τ).loc Cert.LastSampleReferenceIdeal.main_arg3)
          ∧ r.2.mem ((c.tc : Thread Cert.LastSampleReferenceIdeal.nD Cert.LastSampleReferenceIdeal.τ).loc Cert.LastSampleReferenceIdeal.main_arg4) = m' ((c.tc : Thread Cert.LastSampleReferenceIdeal.nD Cert.LastSampleReferenceIdeal.τ).loc Cert.LastSampleReferenceIdeal.main_arg4))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hInProj : Cert.InProj.Facts) (hInProjIdeal : Cert.InProjIdeal.Facts) (hInProjReferenceIdeal : Cert.InProjReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hOut : Cert.Out.Facts) (hOutIdeal : Cert.OutIdeal.Facts) (hOutReferenceIdeal : Cert.OutReferenceIdeal.Facts) (hPle : Cert.Ple.Facts) (hPleIdeal : Cert.PleIdeal.Facts) (hPleReferenceIdeal : Cert.PleReferenceIdeal.Facts) (hLatent : Cert.Latent.Facts) (hLatentIdeal : Cert.LatentIdeal.Facts) (hLatentReferenceIdeal : Cert.LatentReferenceIdeal.Facts) (hDiff : Cert.Diff.Facts) (hDiffIdeal : Cert.DiffIdeal.Facts) (hDiffReferenceIdeal : Cert.DiffReferenceIdeal.Facts) (hNorm : Cert.Norm.Facts) (hNormIdeal : Cert.NormIdeal.Facts) (hNormReferenceIdeal : Cert.NormReferenceIdeal.Facts) (hKey : Cert.Key.Facts) (hKeyIdeal : Cert.KeyIdeal.Facts) (hKeyReferenceIdeal : Cert.KeyReferenceIdeal.Facts) (hLaterOut : Cert.LaterOut.Facts) (hLaterOutIdeal : Cert.LaterOutIdeal.Facts) (hLaterOutReferenceIdeal : Cert.LaterOutReferenceIdeal.Facts) (hLast : Cert.Last.Facts) (hLastIdeal : Cert.LastIdeal.Facts) (hLastReferenceIdeal : Cert.LastReferenceIdeal.Facts) (hLastSample : Cert.LastSample.Facts) (hLastSampleIdeal : Cert.LastSampleIdeal.Facts) (hLastSampleReferenceIdeal : Cert.LastSampleReferenceIdeal.Facts) (hPre_finite_qk : Cert.Pre_finite_qk.Facts) (hPre_padded_qk : Cert.Pre_padded_qk.Facts) (hPre_finite_qkb : Cert.Pre_finite_qkb.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Merge (hMerge := hMerge)
    ∧ quiescent_MergeIdeal (hMergeIdeal := hMergeIdeal)
    ∧ quiescent_MergeReferenceIdeal (hMergeReferenceIdeal := hMergeReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_Out (hOut := hOut)
    ∧ quiescent_OutIdeal (hOutIdeal := hOutIdeal)
    ∧ quiescent_OutReferenceIdeal (hOutReferenceIdeal := hOutReferenceIdeal)
    ∧ quiescent_Ple (hPle := hPle)
    ∧ quiescent_PleIdeal (hPleIdeal := hPleIdeal)
    ∧ quiescent_PleReferenceIdeal (hPleReferenceIdeal := hPleReferenceIdeal)
    ∧ quiescent_Latent (hLatent := hLatent)
    ∧ quiescent_LatentIdeal (hLatentIdeal := hLatentIdeal)
    ∧ quiescent_LatentIdeal_pre_padded_qk (hLatentIdeal := hLatentIdeal) (hPre_padded_qk := hPre_padded_qk)
    ∧ quiescent_LatentReferenceIdeal (hLatentReferenceIdeal := hLatentReferenceIdeal)
    ∧ quiescent_LatentReferenceIdeal_pre_padded_qk (hLatentReferenceIdeal := hLatentReferenceIdeal) (hPre_padded_qk := hPre_padded_qk)
    ∧ quiescent_Diff (hDiff := hDiff)
    ∧ quiescent_DiffIdeal (hDiffIdeal := hDiffIdeal)
    ∧ quiescent_DiffIdeal_pre_finite_qkb (hDiffIdeal := hDiffIdeal) (hPre_finite_qkb := hPre_finite_qkb)
    ∧ quiescent_DiffReferenceIdeal (hDiffReferenceIdeal := hDiffReferenceIdeal)
    ∧ quiescent_DiffReferenceIdeal_pre_finite_qkb (hDiffReferenceIdeal := hDiffReferenceIdeal) (hPre_finite_qkb := hPre_finite_qkb)
    ∧ quiescent_Norm (hNorm := hNorm)
    ∧ quiescent_NormIdeal (hNormIdeal := hNormIdeal)
    ∧ quiescent_NormReferenceIdeal (hNormReferenceIdeal := hNormReferenceIdeal)
    ∧ quiescent_Key (hKey := hKey)
    ∧ quiescent_KeyIdeal (hKeyIdeal := hKeyIdeal)
    ∧ quiescent_KeyReferenceIdeal (hKeyReferenceIdeal := hKeyReferenceIdeal)
    ∧ quiescent_LaterOut (hLaterOut := hLaterOut)
    ∧ quiescent_LaterOutIdeal (hLaterOutIdeal := hLaterOutIdeal)
    ∧ quiescent_LaterOutReferenceIdeal (hLaterOutReferenceIdeal := hLaterOutReferenceIdeal)
    ∧ quiescent_Last (hLast := hLast)
    ∧ quiescent_LastIdeal (hLastIdeal := hLastIdeal)
    ∧ quiescent_LastReferenceIdeal (hLastReferenceIdeal := hLastReferenceIdeal)
    ∧ quiescent_LastSample (hLastSample := hLastSample)
    ∧ quiescent_LastSampleIdeal (hLastSampleIdeal := hLastSampleIdeal)
    ∧ quiescent_LastSampleReferenceIdeal (hLastSampleReferenceIdeal := hLastSampleReferenceIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Merge_MergeIdeal
    ∧ algebraic_MergeIdeal_MergeReferenceIdeal (hMergeIdeal := hMergeIdeal) (hMergeReferenceIdeal := hMergeReferenceIdeal)
    ∧ preserves_InProj_InProjIdeal
    ∧ algebraic_InProjIdeal_InProjReferenceIdeal (hInProjIdeal := hInProjIdeal) (hInProjReferenceIdeal := hInProjReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_Out_OutIdeal
    ∧ algebraic_OutIdeal_OutReferenceIdeal (hOutIdeal := hOutIdeal) (hOutReferenceIdeal := hOutReferenceIdeal)
    ∧ preserves_Ple_PleIdeal
    ∧ algebraic_PleIdeal_PleReferenceIdeal (hPleIdeal := hPleIdeal) (hPleReferenceIdeal := hPleReferenceIdeal)
    ∧ preserves_Latent_LatentIdeal
    ∧ algebraic_LatentIdeal_LatentReferenceIdeal_pre_padded_qk (hLatentIdeal := hLatentIdeal) (hLatentReferenceIdeal := hLatentReferenceIdeal) (hPre_padded_qk := hPre_padded_qk)
    ∧ preserves_Diff_DiffIdeal
    ∧ algebraic_DiffIdeal_DiffReferenceIdeal_pre_finite_qkb (hDiffIdeal := hDiffIdeal) (hDiffReferenceIdeal := hDiffReferenceIdeal) (hPre_finite_qkb := hPre_finite_qkb)
    ∧ preserves_Norm_NormIdeal
    ∧ algebraic_NormIdeal_NormReferenceIdeal (hNormIdeal := hNormIdeal) (hNormReferenceIdeal := hNormReferenceIdeal)
    ∧ preserves_Key_KeyIdeal
    ∧ algebraic_KeyIdeal_KeyReferenceIdeal (hKeyIdeal := hKeyIdeal) (hKeyReferenceIdeal := hKeyReferenceIdeal)
    ∧ preserves_LaterOut_LaterOutIdeal
    ∧ algebraic_LaterOutIdeal_LaterOutReferenceIdeal (hLaterOutIdeal := hLaterOutIdeal) (hLaterOutReferenceIdeal := hLaterOutReferenceIdeal)
    ∧ preserves_Last_LastIdeal
    ∧ algebraic_LastIdeal_LastReferenceIdeal (hLastIdeal := hLastIdeal) (hLastReferenceIdeal := hLastReferenceIdeal)
    ∧ preserves_LastSample_LastSampleIdeal
    ∧ algebraic_LastSampleIdeal_LastSampleReferenceIdeal (hLastSampleIdeal := hLastSampleIdeal) (hLastSampleReferenceIdeal := hLastSampleReferenceIdeal)
-- ==== Pre_finite_qk.lean ====
abbrev S40960x512 : Shape := ⟨2, ![40960, 512]⟩
abbrev S40960x256 : Shape := ⟨2, ![40960, 256]⟩
abbrev S8192x512 : Shape := ⟨2, ![8192, 512]⟩
abbrev S_ : Shape := ⟨0, ![]⟩
abbrev S8192x256 : Shape := ⟨2, ![8192, 256]⟩

class Facts : Prop where
  slices_S40960x512_S8192x512_0_0 : S40960x512.Slices ![0, 0] S8192x512
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_
  h_S_ : 0 < S_.numel
  slices_S40960x256_S8192x256_0_0 : S40960x256.Slices ![0, 0] S8192x256
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S40960x512 .bf16) (main_arg1 : FVec F S40960x256 .bf16) (main_arg2 : FVec F S40960x256 .bf16) : IVec S_ 1 :=
  let main_v0 : FVec F S8192x512 .bf16 := (extractStridedSlice S8192x512 ![0, 0] · slices_S40960x512_S8192x512_0_0) main_arg0
  let main_v1 : FVec F S8192x512 .f32 := (extf .f32 · bitsLt_bf16_f32) main_v0
  let main_v2 : FVec F S8192x512 .f32 := Host.absf main_v1
  let main_cst : FVec F S_ .f32 := constant S_ .f32 0x7F800000#32
  let main_v3 : FVec F S8192x512 .f32 := broadcastInDim S8192x512 ![] bcast_S_S8192x512 main_cst
  let main_v4 : IVec S8192x512 1 := cmpf .olt main_v2 main_v3
  let main_c : IVec S_ 1 := constantI S_ 1 1#1
  let main_v5 : IVec S_ 1 := (fun x v => Host.reduce IntOp.andi x v reducesTo_S8192x512_S_d0_1 h_S_) main_v4 main_c
  let main_v6 : FVec F S8192x256 .bf16 := (extractStridedSlice S8192x256 ![0, 0] · slices_S40960x256_S8192x256_0_0) main_arg1
  let main_v7 : FVec F S8192x256 .f32 := (extf .f32 · bitsLt_bf16_f32) main_v6
  let main_v8 : FVec F S8192x256 .f32 := Host.absf main_v7
  let main_cst_0 : FVec F S_ .f32 := constant S_ .f32 0x7F800000#32
  let main_v9 : FVec F S8192x256 .f32 := broadcastInDim S8192x256 ![] bcast_S_S8192x256 main_cst_0
  let main_v10 : IVec S8192x256 1 := cmpf .olt main_v8 main_v9
  let main_c_1 : IVec S_ 1 := constantI S_ 1 1#1
  let main_v11 : IVec S_ 1 := (fun x v => Host.reduce IntOp.andi x v reducesTo_S8192x256_S_d0_1 h_S_) main_v10 main_c_1
  let main_v12 : IVec S_ 1 := andi main_v5 main_v11
  main_v12
-- ==== Pre_finite_qkb.lean ====
abbrev S40960x512 : Shape := ⟨2, ![40960, 512]⟩
abbrev S32x4 : Shape := ⟨2, ![32, 4]⟩
abbrev S1 : Shape := ⟨1, ![1]⟩
abbrev S128 : Shape := ⟨1, ![128]⟩
abbrev S8192x512 : Shape := ⟨2, ![8192, 512]⟩
abbrev S_ : Shape := ⟨0, ![]⟩

class Facts : Prop where
  slices_S40960x512_S8192x512_0_0 : S40960x512.Slices ![0, 0] S8192x512
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_
  h_S_ : 0 < S_.numel
  bcast_S_S32x4 : S_.BroadcastsInDim S32x4 (![] : Fin 0 → Fin S32x4.rank)
  reducesTo_S32x4_S_d0_1 : S32x4.ReducesTo [0, 1] S_

variable [Facts]

def fn {F : FTy → Type} [FloatOps F] (main_arg0 : FVec F S40960x512 .bf16) (main_arg1 : FVec F S40960x512 .bf16) (main_arg2 : FVec F S40960x512 .bf16) (main_arg3 : FVec F S32x4 .f32) (main_arg4 : FVec F S1 .f32) (main_arg5 : FVec F S128 .f32) : IVec S_ 1 :=
  let main_v0 : FVec F S8192x512 .bf16 := (extractStridedSlice S8192x512 ![0, 0] · slices_S40960x512_S8192x512_0_0) main_arg0
  let main_v1 : FVec F S8192x512 .f32 := (extf .f32 · bitsLt_bf16_f32) main_v0
  let main_v2 : FVec F S8192x512 .f32 := Host.absf main_v1
  let main_v3 : FVec F S8192x512 .bf16 := (extractStridedSlice S8192x512 ![0, 0] · slices_S40960x512_S8192x512_0_0) main_arg1
  let main_v4 : FVec F S8192x512 .f32 := (extf .f32 · bitsLt_bf16_f32) main_v3
  let main_v5 : FVec F S8192x512 .f32 := Host.absf main_v4
  let main_cst : FVec F S_ .f32 := constant S_ .f32 0x7F800000#32
  let main_v6 : FVec F S8192x512 .f32 := broadcastInDim S8192x512 ![] bcast_S_S8192x512 main_cst
  let main_v7 : IVec S8192x512 1 := cmpf .olt main_v2 main_v6
  let main_c : IVec S_ 1 := constantI S_ 1 1#1
  let main_v8 : IVec S_ 1 := (fun x v => Host.reduce IntOp.andi x v reducesTo_S8192x512_S_d0_1 h_S_) main_v7 main_c
  let main_cst_0 : FVec F S_ .f32 := constant S_ .f32 0x7F800000#32
  let main_v9 : FVec F S8192x512 .f32 := broadcastInDim S8192x512 ![] bcast_S_S8192x512 main_cst_0
  let main_v10 : IVec S8192x512 1 := cmpf .olt main_v5 main_v9
  let main_c_1 : IVec S_ 1 := constantI S_ 1 1#1
  let main_v11 : IVec S_ 1 := (fun x v => Host.reduce IntOp.andi x v reducesTo_S8192x512_S_d0_1 h_S_) main_v10 main_c_1
  let main_v12 : IVec S_ 1 := andi main_v8 main_v11
  let main_v13 : FVec F S32x4 .f32 := Host.absf main_arg3
  let main_cst_2 : FVec F S_ .f32 := constant S_ .f32 0x7F800000#32
  let main_v14 : FVec F S32x4 .f32 := broadcastInDim S32x4 ![] bcast_S_S32x4 main_cst_2
  let main_v15 : IVec S32x4 1 := cmpf .olt main_v13 main_v14
  let main_c_3 : IVec S_ 1 := constantI S_ 1 1#1
  let main_v16 : IVec S_ 1 := (fun x v => Host.reduce IntOp.andi x v reducesTo_S32x4_S_d0_1 h_S_) main_v15 main_c_3
  let main_v17 : IVec S_ 1 := andi main_v12 main_v16
  main_v17
-- ==== Pre_padded_qk.lean ====
abbrev S40960x1024 : Shape := ⟨2, ![40960, 1024]⟩
abbrev S40960x512 : Shape := ⟨2, ![40960, 512]⟩
abbrev S8192x1024 : Shape := ⟨2, ![8192, 1024]⟩
abbrev S8192x4x256 : Shape := ⟨3, ![8192, 4, 256]⟩
abbrev S8192x4x64 : Shape := ⟨3, ![8192, 4, 64]⟩
abbrev S_ : Shape := ⟨0, ![]⟩

class Facts : Prop where
  slices_S40960x1024_S8192x1024_0_0 : S40960x1024.Slices ![0, 0] S8192x1024
  bitsLt_bf16_f32 : FTy.bits .bf16 < FTy.bits .f32
  shapeCasts_S8192x1024_S8192x4x256 : S8192x1024.ShapeCasts S8192x4x256
  slices_S8192x4x256_S8192x4x64_0_0_192 : S8192x4x256.Slices ![0, 0, 192] S8192x4x64
  bcast_S_S8192x4x64 : S_.BroadcastsInDim S8192x4x64 (![] : Fin 0 → Fin S8192x4x64.rank)
  bcast_S_S8192x1024 : S_.BroadcastsInDim S8192x1024 (![] : Fin 0 → Fin S8192x1024.rank)
  reducesTo_S8192x1024_S_d0_1 : S8192x1024.ReducesTo [0, 1] S_
  h_S_ : 0 < S_.numel
  reducesTo_S8192x4x64_S_d0_1_2 : S8192x4x64.ReducesTo [0, 1, 2] S_

variable [Facts]

def fn_part1 {F : FTy → Type} [FloatOps F] (main_v16 : IVec S_ 1) (main_v17 : IVec S_ 1) : IVec S_ 1 :=
  let main_v18 : IVec S_ 1 := andi main_v16 main_v17
  main_v18

def fn {F : FTy → Type} [FloatOps F] (main_arg0 : FVec F S40960x1024 .bf16) (main_arg1 : FVec F S40960x1024 .bf16) (main_arg2 : FVec F S40960x512 .bf16) : IVec S_ 1 :=
  let main_v0 : FVec F S8192x1024 .bf16 := (extractStridedSlice S8192x1024 ![0, 0] · slices_S40960x1024_S8192x1024_0_0) main_arg0
  let main_v1 : FVec F S8192x1024 .f32 := (extf .f32 · bitsLt_bf16_f32) main_v0
  let main_v2 : FVec F S8192x1024 .bf16 := (extractStridedSlice S8192x1024 ![0, 0] · slices_S40960x1024_S8192x1024_0_0) main_arg1
  let main_v3 : FVec F S8192x1024 .f32 := (extf .f32 · bitsLt_bf16_f32) main_v2
  let main_v4 : FVec F S8192x4x256 .f32 := shapeCast S8192x4x256 main_v1 shapeCasts_S8192x1024_S8192x4x256
  let main_v5 : FVec F S8192x4x64 .f32 := (extractStridedSlice S8192x4x64 ![0, 0, 192] · slices_S8192x4x256_S8192x4x64_0_0_192) main_v4
  let main_cst : FVec F S_ .f32 := constant S_ .f32 0x00000000#32
  let main_v6 : FVec F S8192x4x64 .f32 := broadcastInDim S8192x4x64 ![] bcast_S_S8192x4x64 main_cst
  let main_v7 : IVec S8192x4x64 1 := cmpf .oeq main_v5 main_v6
  let main_v8 : FVec F S8192x1024 .f32 := Host.absf main_v1
  let main_cst_0 : FVec F S_ .f32 := constant S_ .f32 0x7F800000#32
  let main_v9 : FVec F S8192x1024 .f32 := broadcastInDim S8192x1024 ![] bcast_S_S8192x1024 main_cst_0
  let main_v10 : IVec S8192x1024 1 := cmpf .olt main_v8 main_v9
  let main_c : IVec S_ 1 := constantI S_ 1 1#1
  let main_v11 : IVec S_ 1 := (fun x v => Host.reduce IntOp.andi x v reducesTo_S8192x1024_S_d0_1 h_S_) main_v10 main_c
  let main_v12 : FVec F S8192x1024 .f32 := Host.absf main_v3
  let main_cst_1 : FVec F S_ .f32 := constant S_ .f32 0x7F800000#32
  let main_v13 : FVec F S8192x1024 .f32 := broadcastInDim S8192x1024 ![] bcast_S_S8192x1024 main_cst_1
  let main_v14 : IVec S8192x1024 1 := cmpf .olt main_v12 main_v13
  let main_c_2 : IVec S_ 1 := constantI S_ 1 1#1
  let main_v15 : IVec S_ 1 := (fun x v => Host.reduce IntOp.andi x v reducesTo_S8192x1024_S_d0_1 h_S_) main_v14 main_c_2
  let main_v16 : IVec S_ 1 := andi main_v11 main_v15
  let main_c_3 : IVec S_ 1 := constantI S_ 1 1#1
  let main_v17 : IVec S_ 1 := (fun x v => Host.reduce IntOp.andi x v reducesTo_S8192x4x64_S_d0_1_2 h_S_) main_v7 main_c_3
  fn_part1 (F := F) main_v16 main_v17
-- ==== Kernel.lean ====
abbrev S40960x512 : Shape := ⟨2, ![40960, 512]⟩
abbrev S40960x256 : Shape := ⟨2, ![40960, 256]⟩
abbrev S8192x512 : Shape := ⟨2, ![8192, 512]⟩
abbrev S2048x128 : Shape := ⟨2, ![2048, 128]⟩
abbrev S8192x128 : Shape := ⟨2, ![8192, 128]⟩
abbrev S1x2048 : Shape := ⟨2, ![1, 2048]⟩
abbrev S128x2048 : Shape := ⟨2, ![128, 2048]⟩
abbrev S1024x128 : Shape := ⟨2, ![1024, 128]⟩
abbrev S1024x2048 : Shape := ⟨2, ![1024, 2048]⟩
abbrev S2048 : Shape := ⟨1, ![2048]⟩

abbrev nBuf : Space → Nat
  | .hbm => 4
  | .vmem => 11
  | .smem => 0
  | _ => 0

abbrev bufTy : (tb : Table) → Fin (tcTables nBuf tb) → BufTy
  | .hbm, ⟨0, _⟩ => ⟨S40960x512, .bf16⟩
  | .hbm, ⟨1, _⟩ => ⟨S40960x256, .bf16⟩
  | .hbm, ⟨2, _⟩ => ⟨S40960x256, .bf16⟩
  | .hbm, ⟨3, _⟩ => ⟨S8192x512, .bf16⟩
  | .local _ .vmem, ⟨0, _⟩ => ⟨S2048x128, .bf16⟩
  | .local _ .vmem, ⟨1, _⟩ => ⟨S2048x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S2048x128, .bf16⟩
  | .local _ .vmem, ⟨7, _⟩ => ⟨S2048x128, .bf16⟩
  | .local _ .vmem, ⟨8, _⟩ => ⟨S1x2048, .f32⟩
  | .local _ .vmem, ⟨9, _⟩ => ⟨S1x2048, .f32⟩
  | .local _ .vmem, ⟨10, _⟩ => ⟨S128x2048, .f32⟩
  | _, _ => ⟨S40960x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

@[reducible] def k0_t1_loop : Scf.Loop 32 :=
  let c0_i32 : BitVec 32 := 0#32
  let c8_i32 : BitVec 32 := 8#32
  let v17 : BitVec 32 := Scalar.addi c0_i32 c8_i32
  let c1_i32 : BitVec 32 := 1#32
  ⟨c0_i32, v17, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32 : BitVec 32 := 1024#32
  let v25 : BitVec 32 := Scalar.muli arg10 c1024_i32
  v25
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c1024_i32 : BitVec 32 := 1024#32
  let v25 : BitVec 32 := Scalar.muli arg10 c1024_i32
  let v26 : BitVec 32 := v25
  let v27 : Index := Scalar.indexCast v26
  let c0_17 : Index := 0#32
  ![v27.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c2_i32 : BitVec 32 := 2#32
  let v1 : BitVec 32 := Scalar.divsi arg1 c2_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c2_i32 c0_i32_2
  let v8 : BitVec 32 := Scalar.extui v7
  let c0_i32_3 : BitVec 32 := 0#32
  let v9 : BitVec 1 := Scalar.cmpi .slt c2_i32 c0_i32_3
  let v10 : BitVec 32 := Scalar.extui v9
  let v11 : BitVec 32 := Scalar.subi v8 v10
  let v12 : BitVec 1 := Scalar.cmpi .ne v6 v11
  let v13 : BitVec 32 := Scalar.remsi arg1 c2_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  ![v0.toNat, v17.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c2_i32 : BitVec 32 := 2#32
  let v1 : BitVec 32 := Scalar.divsi arg1 c2_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c2_i32 c0_i32_2
  let v8 : BitVec 32 := Scalar.extui v7
  let c0_i32_3 : BitVec 32 := 0#32
  let v9 : BitVec 1 := Scalar.cmpi .slt c2_i32 c0_i32_3
  let v10 : BitVec 32 := Scalar.extui v9
  let v11 : BitVec 32 := Scalar.subi v8 v10
  let v12 : BitVec 1 := Scalar.cmpi .ne v6 v11
  let v13 : BitVec 32 := Scalar.remsi arg1 c2_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  ![v0.toNat, v17.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "scale_c" => some (((Real.sqrt 128)⁻¹ * (Real.log 2)⁻¹ : ℝ) : EReal)
  | _ => none
-- ==== ReferenceIdeal.lean ====
abbrev S40960x512 : Shape := ⟨2, ![40960, 512]⟩
abbrev S40960x256 : Shape := ⟨2, ![40960, 256]⟩
abbrev S8192x512 : Shape := ⟨2, ![8192, 512]⟩
abbrev S8192x2x2x128 : Shape := ⟨4, ![8192, 2, 2, 128]⟩
abbrev S8192x256 : Shape := ⟨2, ![8192, 256]⟩
abbrev S8192x2x128 : Shape := ⟨3, ![8192, 2, 128]⟩
abbrev S2x8192x8192x2 : Shape := ⟨4, ![2, 8192, 8192, 2]⟩
abbrev S2x2x8192x8192 : Shape := ⟨4, ![2, 2, 8192, 8192]⟩
abbrev S_ : Shape := ⟨0, ![]⟩
abbrev S2x2x8192 : Shape := ⟨3, ![2, 2, 8192]⟩
abbrev S2x2x8192x1 : Shape := ⟨4, ![2, 2, 8192, 1]⟩
abbrev S2x128x2x8192 : Shape := ⟨4, ![2, 128, 2, 8192]⟩

abbrev nBuf : Space → Nat
  | .hbm => 36
  | .vmem => 0
  | .smem => 0
  | _ => 0

abbrev bufTy : (tb : Table) → Fin (tcTables nBuf tb) → BufTy
  | .hbm, ⟨0, _⟩ => ⟨S40960x512, .bf16⟩
  | .hbm, ⟨1, _⟩ => ⟨S40960x256, .bf16⟩
  | .hbm, ⟨2, _⟩ => ⟨S40960x256, .bf16⟩
  | .hbm, ⟨3, _⟩ => ⟨S8192x512, .bf16⟩
  | .hbm, ⟨4, _⟩ => ⟨S8192x512, .f32⟩
  | .hbm, ⟨5, _⟩ => ⟨S8192x2x2x128, .f32⟩
  | .hbm, ⟨6, _⟩ => ⟨S8192x256, .bf16⟩
  | .hbm, ⟨7, _⟩ => ⟨S8192x256, .f32⟩
  | .hbm, ⟨8, _⟩ => ⟨S8192x2x128, .f32⟩
  | .hbm, ⟨9, _⟩ => ⟨S8192x256, .bf16⟩
  | .hbm, ⟨10, _⟩ => ⟨S8192x256, .f32⟩
  | .hbm, ⟨11, _⟩ => ⟨S8192x2x128, .f32⟩
  | .hbm, ⟨12, _⟩ => ⟨S2x8192x8192x2, .f32⟩
  | .hbm, ⟨13, _⟩ => ⟨S2x2x8192x8192, .f32⟩
  | .hbm, ⟨14, _⟩ => ⟨S_, .f32⟩
  | .hbm, ⟨15, _⟩ => ⟨S_, .f32⟩
  | .hbm, ⟨16, _⟩ => ⟨S2x2x8192x8192, .f32⟩
  | .hbm, ⟨17, _⟩ => ⟨S2x2x8192x8192, .f32⟩
  | .hbm, ⟨18, _⟩ => ⟨S_, .f32⟩
  | .hbm, ⟨19, _⟩ => ⟨S2x2x8192, .f32⟩
  | .hbm, ⟨20, _⟩ => ⟨S_, .f32⟩
  | .hbm, ⟨21, _⟩ => ⟨S2x2x8192, .f32⟩
  | .hbm, ⟨22, _⟩ => ⟨S2x2x8192, .f32⟩
  | .hbm, ⟨23, _⟩ => ⟨S2x2x8192x1, .f32⟩
  | .hbm, ⟨24, _⟩ => ⟨S2x2x8192x8192, .f32⟩
  | .hbm, ⟨25, _⟩ => ⟨S2x2x8192x8192, .f32⟩
  | .hbm, ⟨26, _⟩ => ⟨S2x2x8192x8192, .f32⟩
  | .hbm, ⟨27, _⟩ => ⟨S_, .f32⟩
  | .hbm, ⟨28, _⟩ => ⟨S2x2x8192, .f32⟩
  | .hbm, ⟨29, _⟩ => ⟨S2x2x8192x1, .f32⟩
  | .hbm, ⟨30, _⟩ => ⟨S2x2x8192x8192, .f32⟩
  | .hbm, ⟨31, _⟩ => ⟨S2x2x8192x8192, .f32⟩
  | .hbm, ⟨32, _⟩ => ⟨S2x128x2x8192, .f32⟩
  | .hbm, ⟨33, _⟩ => ⟨S8192x2x2x128, .f32⟩
  | .hbm, ⟨34, _⟩ => ⟨S8192x512, .f32⟩
  | .hbm, ⟨35, _⟩ => ⟨S8192x512, .bf16⟩
  | _, _ => ⟨S40960x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Merge.lean ====
abbrev S40960x2048 : Shape := ⟨2, ![40960, 2048]⟩
abbrev S4x2048x2048 : Shape := ⟨3, ![4, 2048, 2048]⟩
abbrev S4x512x2048 : Shape := ⟨3, ![4, 512, 2048]⟩
abbrev S8192x512 : Shape := ⟨2, ![8192, 512]⟩
abbrev S32768x512 : Shape := ⟨2, ![32768, 512]⟩
abbrev S1024x2048 : Shape := ⟨2, ![1024, 2048]⟩
abbrev S4x2048x256 : Shape := ⟨3, ![4, 2048, 256]⟩
abbrev S4x512x256 : Shape := ⟨3, ![4, 512, 256]⟩
abbrev S1024x512 : Shape := ⟨2, ![1024, 512]⟩
abbrev S1024x256 : Shape := ⟨2, ![1024, 256]⟩
abbrev S1x2048x256 : Shape := ⟨3, ![1, 2048, 256]⟩
abbrev S2048x256 : Shape := ⟨2, ![2048, 256]⟩
abbrev S1x512x256 : Shape := ⟨3, ![1, 512, 256]⟩
abbrev S512x256 : Shape := ⟨2, ![512, 256]⟩

abbrev nBuf : Space → Nat
  | .hbm => 12
  | .vmem => 24
  | .smem => 0
  | _ => 0

abbrev bufTy : (tb : Table) → Fin (tcTables nBuf tb) → BufTy
  | .hbm, ⟨0, _⟩ => ⟨S40960x2048, .bf16⟩
  | .hbm, ⟨1, _⟩ => ⟨S4x2048x2048, .bf16⟩
  | .hbm, ⟨2, _⟩ => ⟨S4x512x2048, .bf16⟩
  | .hbm, ⟨3, _⟩ => ⟨S8192x512, .bf16⟩
  | .hbm, ⟨4, _⟩ => ⟨S32768x512, .bf16⟩
  | .hbm, ⟨5, _⟩ => ⟨S8192x512, .bf16⟩
  | .hbm, ⟨6, _⟩ => ⟨S32768x512, .bf16⟩
  | .hbm, ⟨7, _⟩ => ⟨S8192x512, .bf16⟩
  | .hbm, ⟨8, _⟩ => ⟨S32768x512, .bf16⟩
  | .hbm, ⟨9, _⟩ => ⟨S8192x512, .bf16⟩
  | .hbm, ⟨10, _⟩ => ⟨S32768x512, .bf16⟩
  | .hbm, ⟨11, _⟩ => ⟨S40960x2048, .bf16⟩
  | .local _ .vmem, ⟨0, _⟩ => ⟨S1024x2048, .bf16⟩
  | .local _ .vmem, ⟨1, _⟩ => ⟨S1024x2048, .bf16⟩
  | .local _ .vmem, ⟨2, _⟩ => ⟨S4x2048x256, .bf16⟩
  | .local _ .vmem, ⟨3, _⟩ => ⟨S4x2048x256, .bf16⟩
  | .local _ .vmem, ⟨4, _⟩ => ⟨S4x512x256, .bf16⟩
  | .local _ .vmem, ⟨5, _⟩ => ⟨S4x512x256, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x256, .bf16⟩
  | .local _ .vmem, ⟨23, _⟩ => ⟨S1024x256, .bf16⟩
  | _, _ => ⟨S40960x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![40, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MergeReferenceIdeal.lean ====
abbrev S40960x2048 : Shape := ⟨2, ![40960, 2048]⟩
abbrev S4x2048x2048 : Shape := ⟨3, ![4, 2048, 2048]⟩
abbrev S4x512x2048 : Shape := ⟨3, ![4, 512, 2048]⟩
abbrev S8192x512 : Shape := ⟨2, ![8192, 512]⟩
abbrev S32768x512 : Shape := ⟨2, ![32768, 512]⟩
abbrev S40960x512 : Shape := ⟨2, ![40960, 512]⟩
abbrev S1x2048x2048 : Shape := ⟨3, ![1, 2048, 2048]⟩
abbrev S2048x2048 : Shape := ⟨2, ![2048, 2048]⟩
abbrev S_ : Shape := ⟨0, ![]⟩
abbrev S1x512x2048 : Shape := ⟨3, ![1, 512, 2048]⟩
abbrev S512x2048 : Shape := ⟨2, ![512, 2048]⟩

abbrev nBuf : Space → Nat
  | .hbm => 86
  | .vmem => 0
  | .smem => 0
  | _ => 0

abbrev bufTy : (tb : Table) → Fin (tcTables nBuf tb) → BufTy
  | .hbm, ⟨0, _⟩ => ⟨S40960x2048, .bf16⟩
  | .hbm, ⟨1, _⟩ => ⟨S4x2048x2048, .bf16⟩
  | .hbm, ⟨2, _⟩ => ⟨S4x512x2048, .bf16⟩
  | .hbm, ⟨3, _⟩ => ⟨S8192x512, .bf16⟩
  | .hbm, ⟨4, _⟩ => ⟨S32768x512, .bf16⟩
  | .hbm, ⟨5, _⟩ => ⟨S8192x512, .bf16⟩
  | .hbm, ⟨6, _⟩ => ⟨S32768x512, .bf16⟩
  | .hbm, ⟨7, _⟩ => ⟨S8192x512, .bf16⟩
  | .hbm, ⟨8, _⟩ => ⟨S32768x512, .bf16⟩
  | .hbm, ⟨9, _⟩ => ⟨S8192x512, .bf16⟩
  | .hbm, ⟨10, _⟩ => ⟨S32768x512, .bf16⟩
  | .hbm, ⟨11, _⟩ => ⟨S40960x2048, .f32⟩
  | .hbm, ⟨12, _⟩ => ⟨S4x2048x2048, .f32⟩
  | .hbm, ⟨13, _⟩ => ⟨S4x512x2048, .f32⟩
  | .hbm, ⟨14, _⟩ => ⟨S40960x512, .bf16⟩
  | .hbm, ⟨15, _⟩ => ⟨S40960x512, .f32⟩
  | .hbm, ⟨16, _⟩ => ⟨S40960x512, .bf16⟩
  | .hbm, ⟨17, _⟩ => ⟨S40960x512, .f32⟩
  | .hbm, ⟨18, _⟩ => ⟨S40960x512, .bf16⟩
  | .hbm, ⟨19, _⟩ => ⟨S40960x512, .f32⟩
  | .hbm, ⟨20, _⟩ => ⟨S40960x512, .bf16⟩
  | .hbm, ⟨21, _⟩ => ⟨S40960x512, .f32⟩
  | .hbm, ⟨22, _⟩ => ⟨S1x2048x2048, .f32⟩
  | .hbm, ⟨23, _⟩ => ⟨S2048x2048, .f32⟩
  | .hbm, ⟨24, _⟩ => ⟨S40960x2048, .f32⟩
  | .hbm, ⟨25, _⟩ => ⟨S40960x2048, .f32⟩
  | .hbm, ⟨26, _⟩ => ⟨S40960x2048, .f32⟩
  | .hbm, ⟨27, _⟩ => ⟨S_, .f32⟩
  | .hbm, ⟨28, _⟩ => ⟨S40960x2048, .f32⟩
  | .hbm, ⟨29, _⟩ => ⟨S40960x2048, .f32⟩
  | .hbm, ⟨30, _⟩ => ⟨S_, .f32⟩
  | .hbm, ⟨31, _⟩ => ⟨S40960x2048, .f32⟩
  | .hbm, ⟨32, _⟩ => ⟨S40960x2048, .f32⟩
  | .hbm, ⟨33, _⟩ => ⟨S1x512x2048, .f32⟩
  | .hbm, ⟨34, _⟩ => ⟨S512x2048, .f32⟩
  | .hbm, ⟨35, _⟩ => ⟨S40960x2048, .f32⟩
  | .hbm, ⟨36, _⟩ => ⟨S40960x2048, .f32⟩
  | .hbm, ⟨37, _⟩ => ⟨S1x2048x2048, .f32⟩
  | .hbm, ⟨38, _⟩ => ⟨S2048x2048, .f32⟩
  | .hbm, ⟨39, _⟩ => ⟨S40960x2048, .f32⟩
  | .hbm, ⟨40, _⟩ => ⟨S40960x2048, .f32⟩
  | .hbm, ⟨41, _⟩ => ⟨S40960x2048, .f32⟩
  | .hbm, ⟨42, _⟩ => ⟨S_, .f32⟩
  | .hbm, ⟨43, _⟩ => ⟨S40960x2048, .f32⟩
  | .hbm, ⟨44, _⟩ => ⟨S40960x2048, .f32⟩
  | .hbm, ⟨45, _⟩ => ⟨S_, .f32⟩
  | .hbm, ⟨46, _⟩ => ⟨S40960x2048, .f32⟩
  | .hbm, ⟨47, _⟩ => ⟨S40960x2048, .f32⟩
  | .hbm, ⟨48, _⟩ => ⟨S1x512x2048, .f32⟩
  | .hbm, ⟨49, _⟩ => ⟨S512x2048, .f32⟩
  | .hbm, ⟨50, _⟩ => ⟨S40960x2048, .f32⟩
  | .hbm, ⟨51, _⟩ => ⟨S40960x2048, .f32⟩
  | .hbm, ⟨52, _⟩ => ⟨S40960x2048, .f32⟩
  | .hbm, ⟨53, _⟩ => ⟨S1x2048x2048, .f32⟩
  | .hbm, ⟨54, _⟩ => ⟨S2048x2048, .f32⟩
  | .hbm, ⟨55, _⟩ => ⟨S40960x2048, .f32⟩
  | .hbm, ⟨56, _⟩ => ⟨S40960x2048, .f32⟩
  | .hbm, ⟨57, _⟩ => ⟨S40960x2048, .f32⟩
  | .hbm, ⟨58, _⟩ => ⟨S_, .f32⟩
  | .hbm, ⟨59, _⟩ => ⟨S40960x2048, .f32⟩
  | .hbm, ⟨60, _⟩ => ⟨S40960x2048, .f32⟩
  | .hbm, ⟨61, _⟩ => ⟨S_, .f32⟩
  | .hbm, ⟨62, _⟩ => ⟨S40960x2048, .f32⟩
  | .hbm, ⟨63, _⟩ => ⟨S40960x2048, .f32⟩
  | .hbm, ⟨64, _⟩ => ⟨S1x512x2048, .f32⟩
  | .hbm, ⟨65, _⟩ => ⟨S512x2048, .f32⟩
  | .hbm, ⟨66, _⟩ => ⟨S40960x2048, .f32⟩
  | .hbm, ⟨67, _⟩ => ⟨S40960x2048, .f32⟩
  | .hbm, ⟨68, _⟩ => ⟨S40960x2048, .f32⟩
  | .hbm, ⟨69, _⟩ => ⟨S1x2048x2048, .f32⟩
  | .hbm, ⟨70, _⟩ => ⟨S2048x2048, .f32⟩
  | .hbm, ⟨71, _⟩ => ⟨S40960x2048, .f32⟩
  | .hbm, ⟨72, _⟩ => ⟨S40960x2048, .f32⟩
  | .hbm, ⟨73, _⟩ => ⟨S40960x2048, .f32⟩
  | .hbm, ⟨74, _⟩ => ⟨S_, .f32⟩
  | .hbm, ⟨75, _⟩ => ⟨S40960x2048, .f32⟩
  | .hbm, ⟨76, _⟩ => ⟨S40960x2048, .f32⟩
  | .hbm, ⟨77, _⟩ => ⟨S_, .f32⟩
  | .hbm, ⟨78, _⟩ => ⟨S40960x2048, .f32⟩
  | .hbm, ⟨79, _⟩ => ⟨S40960x2048, .f32⟩
  | .hbm, ⟨80, _⟩ => ⟨S1x512x2048, .f32⟩
  | .hbm, ⟨81, _⟩ => ⟨S512x2048, .f32⟩
  | .hbm, ⟨82, _⟩ => ⟨S40960x2048, .f32⟩
  | .hbm, ⟨83, _⟩ => ⟨S40960x2048, .f32⟩
  | .hbm, ⟨84, _⟩ => ⟨S40960x2048, .f32⟩
  | .hbm, ⟨85, _⟩ => ⟨S40960x2048, .bf16⟩
  | _, _ => ⟨S40960x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_1 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_3 : Ref sig .tc := ⟨.hbm, 58, rfl⟩
abbrev main_v43 : Ref sig .tc := ⟨.hbm, 59, rfl⟩
abbrev main_v44 : Ref sig .tc := ⟨.hbm, 60, rfl⟩
abbrev main_cst_4 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_5 : Ref sig .tc := ⟨.hbm, 74, rfl⟩
abbrev main_v57 : Ref sig .tc := ⟨.hbm, 75, rfl⟩
abbrev main_v58 : Ref sig .tc := ⟨.hbm, 76, rfl⟩
abbrev main_cst_6 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩

abbrev nD : Nat := 1
abbrev τ : Topo := Topo.v7x

variable {F : FTy → Type} [FloatOps F]
-- ==== InProj.lean ====
abbrev S40960x2048 : Shape := ⟨2, ![40960, 2048]⟩
abbrev S2048x6144 : Shape := ⟨2, ![2048, 6144]⟩
abbrev S40960x6144 : Shape := ⟨2, ![40960, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S40960x2048, .bf16⟩
  | .hbm, ⟨1, _⟩ => ⟨S2048x6144, .bf16⟩
  | .hbm, ⟨2, _⟩ => ⟨S40960x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S40960x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![40, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjReferenceIdeal.lean ====
abbrev S40960x2048 : Shape := ⟨2, ![40960, 2048]⟩
abbrev S2048x6144 : Shape := ⟨2, ![2048, 6144]⟩
abbrev S40960x6144 : Shape := ⟨2, ![40960, 6144]⟩

abbrev nBuf : Space → Nat
  | .hbm => 5
  | .vmem => 0
  | .smem => 0
  | _ => 0

abbrev bufTy : (tb : Table) → Fin (tcTables nBuf tb) → BufTy
  | .hbm, ⟨0, _⟩ => ⟨S40960x2048, .bf16⟩
  | .hbm, ⟨1, _⟩ => ⟨S2048x6144, .bf16⟩
  | .hbm, ⟨2, _⟩ => ⟨S40960x2048, .f32⟩
  | .hbm, ⟨3, _⟩ => ⟨S2048x6144, .f32⟩
  | .hbm, ⟨4, _⟩ => ⟨S40960x6144, .f32⟩
  | _, _ => ⟨S40960x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Up.lean ====
abbrev S40960x2048 : Shape := ⟨2, ![40960, 2048]⟩
abbrev S2048x8192 : Shape := ⟨2, ![2048, 8192]⟩
abbrev S40960x8192 : Shape := ⟨2, ![40960, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S40960x2048, .bf16⟩
  | .hbm, ⟨1, _⟩ => ⟨S2048x8192, .bf16⟩
  | .hbm, ⟨2, _⟩ => ⟨S40960x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S40960x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![40, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S40960x2048 : Shape := ⟨2, ![40960, 2048]⟩
abbrev S2048x8192 : Shape := ⟨2, ![2048, 8192]⟩
abbrev S40960x8192 : Shape := ⟨2, ![40960, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S40960x2048, .bf16⟩
  | .hbm, ⟨1, _⟩ => ⟨S2048x8192, .bf16⟩
  | .hbm, ⟨2, _⟩ => ⟨S40960x2048, .f32⟩
  | .hbm, ⟨3, _⟩ => ⟨S2048x8192, .f32⟩
  | .hbm, ⟨4, _⟩ => ⟨S40960x8192, .f32⟩
  | .hbm, ⟨5, _⟩ => ⟨S_, .f32⟩
  | .hbm, ⟨6, _⟩ => ⟨S40960x8192, .f32⟩
  | .hbm, ⟨7, _⟩ => ⟨S40960x8192, .f32⟩
  | .hbm, ⟨8, _⟩ => ⟨S40960x8192, .f32⟩
  | .hbm, ⟨9, _⟩ => ⟨S40960x8192, .bf16⟩
  | _, _ => ⟨S40960x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Down.lean ====
abbrev S40960x8192 : Shape := ⟨2, ![40960, 8192]⟩
abbrev S8192x2048 : Shape := ⟨2, ![8192, 2048]⟩
abbrev S40960x2048 : Shape := ⟨2, ![40960, 2048]⟩
abbrev S1024x8192 : Shape := ⟨2, ![1024, 8192]⟩
abbrev S8192x256 : Shape := ⟨2, ![8192, 256]⟩
abbrev S1024x256 : Shape := ⟨2, ![1024, 256]⟩

abbrev nBuf : Space → Nat
  | .hbm => 4
  | .vmem => 8
  | .smem => 0
  | _ => 0

abbrev bufTy : (tb : Table) → Fin (tcTables nBuf tb) → BufTy
  | .hbm, ⟨0, _⟩ => ⟨S40960x8192, .bf16⟩
  | .hbm, ⟨1, _⟩ => ⟨S8192x2048, .bf16⟩
  | .hbm, ⟨2, _⟩ => ⟨S40960x2048, .f32⟩
  | .hbm, ⟨3, _⟩ => ⟨S40960x2048, .f32⟩
  | .local _ .vmem, ⟨0, _⟩ => ⟨S1024x8192, .bf16⟩
  | .local _ .vmem, ⟨1, _⟩ => ⟨S1024x8192, .bf16⟩
  | .local _ .vmem, ⟨2, _⟩ => ⟨S8192x256, .bf16⟩
  | .local _ .vmem, ⟨3, _⟩ => ⟨S8192x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S40960x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![40, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S40960x8192 : Shape := ⟨2, ![40960, 8192]⟩
abbrev S8192x2048 : Shape := ⟨2, ![8192, 2048]⟩
abbrev S40960x2048 : Shape := ⟨2, ![40960, 2048]⟩

abbrev nBuf : Space → Nat
  | .hbm => 7
  | .vmem => 0
  | .smem => 0
  | _ => 0

abbrev bufTy : (tb : Table) → Fin (tcTables nBuf tb) → BufTy
  | .hbm, ⟨0, _⟩ => ⟨S40960x8192, .bf16⟩
  | .hbm, ⟨1, _⟩ => ⟨S8192x2048, .bf16⟩
  | .hbm, ⟨2, _⟩ => ⟨S40960x2048, .f32⟩
  | .hbm, ⟨3, _⟩ => ⟨S40960x8192, .f32⟩
  | .hbm, ⟨4, _⟩ => ⟨S8192x2048, .f32⟩
  | .hbm, ⟨5, _⟩ => ⟨S40960x2048, .f32⟩
  | .hbm, ⟨6, _⟩ => ⟨S40960x2048, .f32⟩
  | _, _ => ⟨S40960x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Out.lean ====
abbrev S40960x2048 : Shape := ⟨2, ![40960, 2048]⟩
abbrev S2048x2048 : Shape := ⟨2, ![2048, 2048]⟩
abbrev S8192x2048 : Shape := ⟨2, ![8192, 2048]⟩
abbrev S32768x2048 : Shape := ⟨2, ![32768, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S40960x2048, .bf16⟩
  | .hbm, ⟨1, _⟩ => ⟨S2048x2048, .bf16⟩
  | .hbm, ⟨2, _⟩ => ⟨S8192x2048, .f32⟩
  | .hbm, ⟨3, _⟩ => ⟨S32768x2048, .f32⟩
  | .hbm, ⟨4, _⟩ => ⟨S2048, .f32⟩
  | .hbm, ⟨5, _⟩ => ⟨S1x2048, .f32⟩
  | .hbm, ⟨6, _⟩ => ⟨S40960x2048, .f32⟩
  | .hbm, ⟨7, _⟩ => ⟨S40960x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S40960x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![80, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.minsi arg0 c15_i32
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== OutReferenceIdeal.lean ====
abbrev S40960x2048 : Shape := ⟨2, ![40960, 2048]⟩
abbrev S2048x2048 : Shape := ⟨2, ![2048, 2048]⟩
abbrev S8192x2048 : Shape := ⟨2, ![8192, 2048]⟩
abbrev S32768x2048 : Shape := ⟨2, ![32768, 2048]⟩
abbrev S2048 : Shape := ⟨1, ![2048]⟩
abbrev S_ : Shape := ⟨0, ![]⟩
abbrev S40960 : Shape := ⟨1, ![40960]⟩
abbrev S40960x1 : Shape := ⟨2, ![40960, 1]⟩
abbrev S1x2048 : Shape := ⟨2, ![1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S40960x2048, .bf16⟩
  | .hbm, ⟨1, _⟩ => ⟨S2048x2048, .bf16⟩
  | .hbm, ⟨2, _⟩ => ⟨S8192x2048, .f32⟩
  | .hbm, ⟨3, _⟩ => ⟨S32768x2048, .f32⟩
  | .hbm, ⟨4, _⟩ => ⟨S2048, .f32⟩
  | .hbm, ⟨5, _⟩ => ⟨S40960x2048, .f32⟩
  | .hbm, ⟨6, _⟩ => ⟨S40960x2048, .f32⟩
  | .hbm, ⟨7, _⟩ => ⟨S2048x2048, .f32⟩
  | .hbm, ⟨8, _⟩ => ⟨S40960x2048, .f32⟩
  | .hbm, ⟨9, _⟩ => ⟨S40960x2048, .f32⟩
  | .hbm, ⟨10, _⟩ => ⟨S40960x2048, .f32⟩
  | .hbm, ⟨11, _⟩ => ⟨S_, .f32⟩
  | .hbm, ⟨12, _⟩ => ⟨S40960, .f32⟩
  | .hbm, ⟨13, _⟩ => ⟨S40960x1, .f32⟩
  | .hbm, ⟨14, _⟩ => ⟨S_, .f32⟩
  | .hbm, ⟨15, _⟩ => ⟨S40960x1, .f32⟩
  | .hbm, ⟨16, _⟩ => ⟨S40960x1, .f32⟩
  | .hbm, ⟨17, _⟩ => ⟨S_, .f32⟩
  | .hbm, ⟨18, _⟩ => ⟨S40960x1, .f32⟩
  | .hbm, ⟨19, _⟩ => ⟨S40960x1, .f32⟩
  | .hbm, ⟨20, _⟩ => ⟨S40960x1, .f32⟩
  | .hbm, ⟨21, _⟩ => ⟨S40960x2048, .f32⟩
  | .hbm, ⟨22, _⟩ => ⟨S40960x2048, .f32⟩
  | .hbm, ⟨23, _⟩ => ⟨S1x2048, .f32⟩
  | .hbm, ⟨24, _⟩ => ⟨S40960x2048, .f32⟩
  | .hbm, ⟨25, _⟩ => ⟨S40960x2048, .f32⟩
  | .hbm, ⟨26, _⟩ => ⟨S40960x2048, .bf16⟩
  | _, _ => ⟨S40960x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Ple.lean ====
abbrev S2048 : Shape := ⟨1, ![2048]⟩
abbrev S1x2048x2048 : Shape := ⟨3, ![1, 2048, 2048]⟩
abbrev S1x256x2048 : Shape := ⟨3, ![1, 256, 2048]⟩
abbrev S8192x256 : Shape := ⟨2, ![8192, 256]⟩
abbrev S32768x256 : Shape := ⟨2, ![32768, 256]⟩
abbrev S40960x2048 : Shape := ⟨2, ![40960, 2048]⟩
abbrev S1x2048 : Shape := ⟨2, ![1, 2048]⟩
abbrev S256x256 : Shape := ⟨2, ![256, 256]⟩
abbrev S256x2048 : Shape := ⟨2, ![256, 2048]⟩
abbrev S256 : Shape := ⟨1, ![256]⟩
abbrev S256x1 : Shape := ⟨2, ![256, 1]⟩
abbrev S2048x2048 : Shape := ⟨2, ![2048, 2048]⟩

abbrev nBuf : Space → Nat
  | .hbm => 11
  | .vmem => 14
  | .smem => 0
  | _ => 0

abbrev bufTy : (tb : Table) → Fin (tcTables nBuf tb) → BufTy
  | .hbm, ⟨0, _⟩ => ⟨S2048, .f32⟩
  | .hbm, ⟨1, _⟩ => ⟨S1x2048x2048, .bf16⟩
  | .hbm, ⟨2, _⟩ => ⟨S1x256x2048, .bf16⟩
  | .hbm, ⟨3, _⟩ => ⟨S8192x256, .f32⟩
  | .hbm, ⟨4, _⟩ => ⟨S32768x256, .f32⟩
  | .hbm, ⟨5, _⟩ => ⟨S40960x2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S40960x2048, .f32⟩
  | .hbm, ⟨10, _⟩ => ⟨S40960x2048, .bf16⟩
  | .local _ .vmem, ⟨0, _⟩ => ⟨S1x2048, .f32⟩
  | .local _ .vmem, ⟨1, _⟩ => ⟨S1x2048x2048, .bf16⟩
  | .local _ .vmem, ⟨2, _⟩ => ⟨S1x256x2048, .bf16⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![160, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== PleReferenceIdeal.lean ====
abbrev S2048 : Shape := ⟨1, ![2048]⟩
abbrev S1x2048x2048 : Shape := ⟨3, ![1, 2048, 2048]⟩
abbrev S1x256x2048 : Shape := ⟨3, ![1, 256, 2048]⟩
abbrev S8192x256 : Shape := ⟨2, ![8192, 256]⟩
abbrev S32768x256 : Shape := ⟨2, ![32768, 256]⟩
abbrev S40960x2048 : Shape := ⟨2, ![40960, 2048]⟩
abbrev S_ : Shape := ⟨0, ![]⟩
abbrev S40960 : Shape := ⟨1, ![40960]⟩
abbrev S40960x1 : Shape := ⟨2, ![40960, 1]⟩
abbrev S1x2048 : Shape := ⟨2, ![1, 2048]⟩
abbrev S40960x256 : Shape := ⟨2, ![40960, 256]⟩
abbrev S2048x2048 : Shape := ⟨2, ![2048, 2048]⟩
abbrev S256x2048 : Shape := ⟨2, ![256, 2048]⟩

abbrev nBuf : Space → Nat
  | .hbm => 61
  | .vmem => 0
  | .smem => 0
  | _ => 0

abbrev bufTy : (tb : Table) → Fin (tcTables nBuf tb) → BufTy
  | .hbm, ⟨0, _⟩ => ⟨S2048, .f32⟩
  | .hbm, ⟨1, _⟩ => ⟨S1x2048x2048, .bf16⟩
  | .hbm, ⟨2, _⟩ => ⟨S1x256x2048, .bf16⟩
  | .hbm, ⟨3, _⟩ => ⟨S8192x256, .f32⟩
  | .hbm, ⟨4, _⟩ => ⟨S32768x256, .f32⟩
  | .hbm, ⟨5, _⟩ => ⟨S40960x2048, .f32⟩
  | .hbm, ⟨6, _⟩ => ⟨S2048, .f32⟩
  | .hbm, ⟨7, _⟩ => ⟨S40960x2048, .f32⟩
  | .hbm, ⟨8, _⟩ => ⟨S_, .f32⟩
  | .hbm, ⟨9, _⟩ => ⟨S40960, .f32⟩
  | .hbm, ⟨10, _⟩ => ⟨S40960x1, .f32⟩
  | .hbm, ⟨11, _⟩ => ⟨S_, .f32⟩
  | .hbm, ⟨12, _⟩ => ⟨S40960x1, .f32⟩
  | .hbm, ⟨13, _⟩ => ⟨S40960x1, .f32⟩
  | .hbm, ⟨14, _⟩ => ⟨S_, .f32⟩
  | .hbm, ⟨15, _⟩ => ⟨S40960x1, .f32⟩
  | .hbm, ⟨16, _⟩ => ⟨S40960x1, .f32⟩
  | .hbm, ⟨17, _⟩ => ⟨S40960x1, .f32⟩
  | .hbm, ⟨18, _⟩ => ⟨S40960x2048, .f32⟩
  | .hbm, ⟨19, _⟩ => ⟨S40960x2048, .f32⟩
  | .hbm, ⟨20, _⟩ => ⟨S1x2048, .f32⟩
  | .hbm, ⟨21, _⟩ => ⟨S40960x2048, .f32⟩
  | .hbm, ⟨22, _⟩ => ⟨S40960x2048, .f32⟩
  | .hbm, ⟨23, _⟩ => ⟨S40960x2048, .bf16⟩
  | .hbm, ⟨24, _⟩ => ⟨S40960x2048, .f32⟩
  | .hbm, ⟨25, _⟩ => ⟨S40960x256, .f32⟩
  | .hbm, ⟨26, _⟩ => ⟨S40960x256, .bf16⟩
  | .hbm, ⟨27, _⟩ => ⟨S40960x256, .f32⟩
  | .hbm, ⟨28, _⟩ => ⟨S2048x2048, .bf16⟩
  | .hbm, ⟨29, _⟩ => ⟨S2048x2048, .f32⟩
  | .hbm, ⟨30, _⟩ => ⟨S40960x2048, .f32⟩
  | .hbm, ⟨31, _⟩ => ⟨S40960x2048, .f32⟩
  | .hbm, ⟨32, _⟩ => ⟨S40960x2048, .f32⟩
  | .hbm, ⟨33, _⟩ => ⟨S_, .f32⟩
  | .hbm, ⟨34, _⟩ => ⟨S40960x2048, .f32⟩
  | .hbm, ⟨35, _⟩ => ⟨S40960x2048, .f32⟩
  | .hbm, ⟨36, _⟩ => ⟨S_, .f32⟩
  | .hbm, ⟨37, _⟩ => ⟨S40960x2048, .f32⟩
  | .hbm, ⟨38, _⟩ => ⟨S40960x2048, .f32⟩
  | .hbm, ⟨39, _⟩ => ⟨S256x2048, .bf16⟩
  | .hbm, ⟨40, _⟩ => ⟨S256x2048, .f32⟩
  | .hbm, ⟨41, _⟩ => ⟨S40960x2048, .f32⟩
  | .hbm, ⟨42, _⟩ => ⟨S40960x2048, .f32⟩
  | .hbm, ⟨43, _⟩ => ⟨S40960x2048, .f32⟩
  | .hbm, ⟨44, _⟩ => ⟨S40960x2048, .f32⟩
  | .hbm, ⟨45, _⟩ => ⟨S_, .f32⟩
  | .hbm, ⟨46, _⟩ => ⟨S40960, .f32⟩
  | .hbm, ⟨47, _⟩ => ⟨S40960x1, .f32⟩
  | .hbm, ⟨48, _⟩ => ⟨S_, .f32⟩
  | .hbm, ⟨49, _⟩ => ⟨S40960x1, .f32⟩
  | .hbm, ⟨50, _⟩ => ⟨S40960x1, .f32⟩
  | .hbm, ⟨51, _⟩ => ⟨S_, .f32⟩
  | .hbm, ⟨52, _⟩ => ⟨S40960x1, .f32⟩
  | .hbm, ⟨53, _⟩ => ⟨S40960x1, .f32⟩
  | .hbm, ⟨54, _⟩ => ⟨S40960x1, .f32⟩
  | .hbm, ⟨55, _⟩ => ⟨S40960x2048, .f32⟩
  | .hbm, ⟨56, _⟩ => ⟨S40960x2048, .f32⟩
  | .hbm, ⟨57, _⟩ => ⟨S1x2048, .f32⟩
  | .hbm, ⟨58, _⟩ => ⟨S40960x2048, .f32⟩
  | .hbm, ⟨59, _⟩ => ⟨S40960x2048, .f32⟩
  | .hbm, ⟨60, _⟩ => ⟨S40960x2048, .bf16⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Latent.lean ====
abbrev S40960x1024 : Shape := ⟨2, ![40960, 1024]⟩
abbrev S40960x512 : Shape := ⟨2, ![40960, 512]⟩
abbrev S8192x512 : Shape := ⟨2, ![8192, 512]⟩
abbrev S2048x256 : Shape := ⟨2, ![2048, 256]⟩
abbrev S8192x256 : Shape := ⟨2, ![8192, 256]⟩
abbrev S8192x128 : Shape := ⟨2, ![8192, 128]⟩
abbrev S2048x128 : Shape := ⟨2, ![2048, 128]⟩
abbrev S1x2048 : Shape := ⟨2, ![1, 2048]⟩
abbrev S128x2048 : Shape := ⟨2, ![128, 2048]⟩
abbrev S1024x256 : Shape := ⟨2, ![1024, 256]⟩
abbrev S1024x128 : Shape := ⟨2, ![1024, 128]⟩
abbrev S1024x2048 : Shape := ⟨2, ![1024, 2048]⟩
abbrev S2048 : Shape := ⟨1, ![2048]⟩

abbrev nBuf : Space → Nat
  | .hbm => 4
  | .vmem => 11
  | .smem => 0
  | _ => 0

abbrev bufTy : (tb : Table) → Fin (tcTables nBuf tb) → BufTy
  | .hbm, ⟨0, _⟩ => ⟨S40960x1024, .bf16⟩
  | .hbm, ⟨1, _⟩ => ⟨S40960x1024, .bf16⟩
  | .hbm, ⟨2, _⟩ => ⟨S40960x512, .bf16⟩
  | .hbm, ⟨3, _⟩ => ⟨S8192x512, .bf16⟩
  | .local _ .vmem, ⟨0, _⟩ => ⟨S2048x256, .bf16⟩
  | .local _ .vmem, ⟨1, _⟩ => ⟨S2048x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S2048x128, .bf16⟩
  | .local _ .vmem, ⟨7, _⟩ => ⟨S2048x128, .bf16⟩
  | .local _ .vmem, ⟨8, _⟩ => ⟨S1x2048, .f32⟩
  | .local _ .vmem, ⟨9, _⟩ => ⟨S1x2048, .f32⟩
  | .local _ .vmem, ⟨10, _⟩ => ⟨S128x2048, .f32⟩
  | _, _ => ⟨S40960x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

@[reducible] def k0_t1_loop : Scf.Loop 32 :=
  let c0_i32 : BitVec 32 := 0#32
  let c8_i32 : BitVec 32 := 8#32
  let v17 : BitVec 32 := Scalar.addi c0_i32 c8_i32
  let c1_i32 : BitVec 32 := 1#32
  ⟨c0_i32, v17, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32 : BitVec 32 := 1024#32
  let v25 : BitVec 32 := Scalar.muli arg10 c1024_i32
  v25
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c1024_i32 : BitVec 32 := 1024#32
  let v25 : BitVec 32 := Scalar.muli arg10 c1024_i32
  let v26 : BitVec 32 := v25
  let v27 : Index := Scalar.indexCast v26
  let c0_17 : Index := 0#32
  ![v27.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c1024_i32 : BitVec 32 := 1024#32
  let v25 : BitVec 32 := Scalar.muli arg10 c1024_i32
  let v26 : BitVec 32 := v25
  let v29 : Index := Scalar.indexCast v26
  let c0_18 : Index := 0#32
  ![v29.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  ![v0.toNat, v17.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  ![v0.toNat, v17.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== LatentIdeal.lean ====
variable {F : FTy → Type} [FloatOps F] [Named F]
def κ : String → Option EReal := fun
  | "scale_b" => some (((Real.sqrt 192)⁻¹ * (Real.log 2)⁻¹ : ℝ) : EReal)
  | _ => none
-- ==== LatentReferenceIdeal.lean ====
abbrev S40960x1024 : Shape := ⟨2, ![40960, 1024]⟩
abbrev S40960x512 : Shape := ⟨2, ![40960, 512]⟩
abbrev S8192x1024 : Shape := ⟨2, ![8192, 1024]⟩
abbrev S8192x4x256 : Shape := ⟨3, ![8192, 4, 256]⟩
abbrev S8192x4x192 : Shape := ⟨3, ![8192, 4, 192]⟩
abbrev S8192x512 : Shape := ⟨2, ![8192, 512]⟩
abbrev S8192x4x128 : Shape := ⟨3, ![8192, 4, 128]⟩
abbrev S4x8192x8192 : Shape := ⟨3, ![4, 8192, 8192]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩

abbrev nBuf : Space → Nat
  | .hbm => 37
  | .vmem => 0
  | .smem => 0
  | _ => 0

abbrev bufTy : (tb : Table) → Fin (tcTables nBuf tb) → BufTy
  | .hbm, ⟨0, _⟩ => ⟨S40960x1024, .bf16⟩
  | .hbm, ⟨1, _⟩ => ⟨S40960x1024, .bf16⟩
  | .hbm, ⟨2, _⟩ => ⟨S40960x512, .bf16⟩
  | .hbm, ⟨3, _⟩ => ⟨S8192x1024, .bf16⟩
  | .hbm, ⟨4, _⟩ => ⟨S8192x1024, .f32⟩
  | .hbm, ⟨5, _⟩ => ⟨S8192x4x256, .f32⟩
  | .hbm, ⟨6, _⟩ => ⟨S8192x4x192, .f32⟩
  | .hbm, ⟨7, _⟩ => ⟨S8192x1024, .bf16⟩
  | .hbm, ⟨8, _⟩ => ⟨S8192x1024, .f32⟩
  | .hbm, ⟨9, _⟩ => ⟨S8192x4x256, .f32⟩
  | .hbm, ⟨10, _⟩ => ⟨S8192x4x192, .f32⟩
  | .hbm, ⟨11, _⟩ => ⟨S8192x512, .bf16⟩
  | .hbm, ⟨12, _⟩ => ⟨S8192x512, .f32⟩
  | .hbm, ⟨13, _⟩ => ⟨S8192x4x128, .f32⟩
  | .hbm, ⟨14, _⟩ => ⟨S4x8192x8192, .f32⟩
  | .hbm, ⟨15, _⟩ => ⟨S_, .f32⟩
  | .hbm, ⟨16, _⟩ => ⟨S_, .f32⟩
  | .hbm, ⟨17, _⟩ => ⟨S4x8192x8192, .f32⟩
  | .hbm, ⟨18, _⟩ => ⟨S4x8192x8192, .f32⟩
  | .hbm, ⟨19, _⟩ => ⟨S_, .f32⟩
  | .hbm, ⟨20, _⟩ => ⟨S4x8192, .f32⟩
  | .hbm, ⟨21, _⟩ => ⟨S_, .f32⟩
  | .hbm, ⟨22, _⟩ => ⟨S4x8192, .f32⟩
  | .hbm, ⟨23, _⟩ => ⟨S4x8192, .f32⟩
  | .hbm, ⟨24, _⟩ => ⟨S4x8192x1, .f32⟩
  | .hbm, ⟨25, _⟩ => ⟨S4x8192x8192, .f32⟩
  | .hbm, ⟨26, _⟩ => ⟨S4x8192x8192, .f32⟩
  | .hbm, ⟨27, _⟩ => ⟨S4x8192x8192, .f32⟩
  | .hbm, ⟨28, _⟩ => ⟨S_, .f32⟩
  | .hbm, ⟨29, _⟩ => ⟨S4x8192, .f32⟩
  | .hbm, ⟨30, _⟩ => ⟨S4x8192x1, .f32⟩
  | .hbm, ⟨31, _⟩ => ⟨S4x8192x8192, .f32⟩
  | .hbm, ⟨32, _⟩ => ⟨S4x8192x8192, .f32⟩
  | .hbm, ⟨33, _⟩ => ⟨S4x128x8192, .f32⟩
  | .hbm, ⟨34, _⟩ => ⟨S8192x4x128, .f32⟩
  | .hbm, ⟨35, _⟩ => ⟨S8192x512, .f32⟩
  | .hbm, ⟨36, _⟩ => ⟨S8192x512, .bf16⟩
  | _, _ => ⟨S40960x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Diff.lean ====
abbrev S40960x512 : Shape := ⟨2, ![40960, 512]⟩
abbrev S32x4 : Shape := ⟨2, ![32, 4]⟩
abbrev S1 : Shape := ⟨1, ![1]⟩
abbrev S128 : Shape := ⟨1, ![128]⟩
abbrev S4352 : Shape := ⟨1, ![4352]⟩
abbrev S_ : Shape := ⟨0, ![]⟩
abbrev S4352x1 : Shape := ⟨2, ![4352, 1]⟩
abbrev S4352x4 : Shape := ⟨2, ![4352, 4]⟩
abbrev S4x4352 : Shape := ⟨2, ![4, 4352]⟩
abbrev S1x4x1x4352 : Shape := ⟨4, ![1, 4, 1, 4352]⟩
abbrev S1x4x128x4352 : Shape := ⟨4, ![1, 4, 128, 4352]⟩
abbrev S4x557056 : Shape := ⟨2, ![4, 557056]⟩
abbrev S4x556928 : Shape := ⟨2, ![4, 556928]⟩
abbrev S4x128x4351 : Shape := ⟨3, ![4, 128, 4351]⟩
abbrev S4x128x4224 : Shape := ⟨3, ![4, 128, 4224]⟩
abbrev S4x4224x128 : Shape := ⟨3, ![4, 4224, 128]⟩
abbrev S128x1 : Shape := ⟨2, ![128, 1]⟩
abbrev S8192x512 : Shape := ⟨2, ![8192, 512]⟩
abbrev S2048x128 : Shape := ⟨2, ![2048, 128]⟩
abbrev S8192x128 : Shape := ⟨2, ![8192, 128]⟩
abbrev S1x4224x128 : Shape := ⟨3, ![1, 4224, 128]⟩
abbrev S1x2048 : Shape := ⟨2, ![1, 2048]⟩
abbrev S128x2048 : Shape := ⟨2, ![128, 2048]⟩
abbrev S1024x128 : Shape := ⟨2, ![1024, 128]⟩
abbrev S1x1024x128 : Shape := ⟨3, ![1, 1024, 128]⟩
abbrev S1024x2048 : Shape := ⟨2, ![1024, 2048]⟩
abbrev S2048 : Shape := ⟨1, ![2048]⟩

abbrev nBuf : Space → Nat
  | .hbm => 65
  | .vmem => 17
  | .smem => 1
  | _ => 0

abbrev bufTy : (tb : Table) → Fin (tcTables nBuf tb) → BufTy
  | .hbm, ⟨0, _⟩ => ⟨S40960x512, .bf16⟩
  | .hbm, ⟨1, _⟩ => ⟨S40960x512, .bf16⟩
  | .hbm, ⟨2, _⟩ => ⟨S40960x512, .bf16⟩
  | .hbm, ⟨3, _⟩ => ⟨S32x4, .f32⟩
  | .hbm, ⟨4, _⟩ => ⟨S1, .f32⟩
  | .hbm, ⟨5, _⟩ => ⟨S128, .f32⟩
  | .hbm, ⟨6, _⟩ => ⟨S4352, .i32⟩
  | .hbm, ⟨7, _⟩ => ⟨S_, .i32⟩
  | .hbm, ⟨8, _⟩ => ⟨S4352, .i32⟩
  | .hbm, ⟨9, _⟩ => ⟨S4352, .i32⟩
  | .hbm, ⟨10, _⟩ => ⟨S4352, .i32⟩
  | .hbm, ⟨11, _⟩ => ⟨S_, .i32⟩
  | .hbm, ⟨12, _⟩ => ⟨S4352, .i32⟩
  | .hbm, ⟨13, _⟩ => ⟨S4352, .i32⟩
  | .hbm, ⟨14, _⟩ => ⟨S4352, .f32⟩
  | .hbm, ⟨15, _⟩ => ⟨S_, .f32⟩
  | .hbm, ⟨16, _⟩ => ⟨S4352, .f32⟩
  | .hbm, ⟨17, _⟩ => ⟨S4352, .f32⟩
  | .hbm, ⟨18, _⟩ => ⟨S4352, .f32⟩
  | .hbm, ⟨19, _⟩ => ⟨S_, .f32⟩
  | .hbm, ⟨20, _⟩ => ⟨S4352, .f32⟩
  | .hbm, ⟨21, _⟩ => ⟨S4352, .f32⟩
  | .hbm, ⟨22, _⟩ => ⟨S_, .f32⟩
  | .hbm, ⟨23, _⟩ => ⟨S4352, .f32⟩
  | .hbm, ⟨24, _⟩ => ⟨S4352, .f32⟩
  | .hbm, ⟨25, _⟩ => ⟨S4352, .i32⟩
  | .hbm, ⟨26, _⟩ => ⟨S_, .i32⟩
  | .hbm, ⟨27, _⟩ => ⟨S4352, .i32⟩
  | .hbm, ⟨28, _⟩ => ⟨S4352, .i32⟩
  | .hbm, ⟨29, _⟩ => ⟨S_, .i32⟩
  | .hbm, ⟨30, _⟩ => ⟨S4352, .i32⟩
  | .hbm, ⟨31, _⟩ => ⟨S4352, .i32⟩
  | .hbm, ⟨32, _⟩ => ⟨S_, .i32⟩
  | .hbm, ⟨33, _⟩ => ⟨S4352, .i32⟩
  | .hbm, ⟨34, _⟩ => ⟨S4352, .i1⟩
  | .hbm, ⟨35, _⟩ => ⟨S_, .i32⟩
  | .hbm, ⟨36, _⟩ => ⟨S_, .i32⟩
  | .hbm, ⟨37, _⟩ => ⟨S4352, .i32⟩
  | .hbm, ⟨38, _⟩ => ⟨S4352, .i32⟩
  | .hbm, ⟨39, _⟩ => ⟨S4352, .i32⟩
  | .hbm, ⟨40, _⟩ => ⟨S_, .i32⟩
  | .hbm, ⟨41, _⟩ => ⟨S4352, .i32⟩
  | .hbm, ⟨42, _⟩ => ⟨S4352, .i1⟩
  | .hbm, ⟨43, _⟩ => ⟨S4352, .i32⟩
  | .hbm, ⟨44, _⟩ => ⟨S4352, .i32⟩
  | .hbm, ⟨45, _⟩ => ⟨S4352, .i32⟩
  | .hbm, ⟨46, _⟩ => ⟨S_, .i32⟩
  | .hbm, ⟨47, _⟩ => ⟨S4352, .i32⟩
  | .hbm, ⟨48, _⟩ => ⟨S4352, .i1⟩
  | .hbm, ⟨49, _⟩ => ⟨S_, .i32⟩
  | .hbm, ⟨50, _⟩ => ⟨S4352, .i32⟩
  | .hbm, ⟨51, _⟩ => ⟨S4352, .i32⟩
  | .hbm, ⟨52, _⟩ => ⟨S4352, .i32⟩
  | .hbm, ⟨53, _⟩ => ⟨S4352x1, .i32⟩
  | .hbm, ⟨54, _⟩ => ⟨S4352x4, .f32⟩
  | .hbm, ⟨55, _⟩ => ⟨S4x4352, .f32⟩
  | .hbm, ⟨56, _⟩ => ⟨S1x4x1x4352, .f32⟩
  | .hbm, ⟨57, _⟩ => ⟨S1x4x128x4352, .f32⟩
  | .hbm, ⟨58, _⟩ => ⟨S4x557056, .f32⟩
  | .hbm, ⟨59, _⟩ => ⟨S4x556928, .f32⟩
  | .hbm, ⟨60, _⟩ => ⟨S4x128x4351, .f32⟩
  | .hbm, ⟨61, _⟩ => ⟨S4x128x4224, .f32⟩
  | .hbm, ⟨62, _⟩ => ⟨S4x4224x128, .f32⟩
  | .hbm, ⟨63, _⟩ => ⟨S128x1, .f32⟩
  | .hbm, ⟨64, _⟩ => ⟨S8192x512, .bf16⟩
  | .local _ .vmem, ⟨0, _⟩ => ⟨S2048x128, .bf16⟩
  | .local _ .vmem, ⟨1, _⟩ => ⟨S2048x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1x4224x128, .f32⟩
  | .local _ .vmem, ⟨7, _⟩ => ⟨S1x4224x128, .f32⟩
  | .local _ .vmem, ⟨8, _⟩ => ⟨S128x1, .f32⟩
  | .local _ .vmem, ⟨9, _⟩ => ⟨S2048x128, .bf16⟩
  | .local _ .vmem, ⟨10, _⟩ => ⟨S2048x128, .bf16⟩
  | .local _ .vmem, ⟨11, _⟩ => ⟨S1x2048, .f32⟩
  | .local _ .vmem, ⟨12, _⟩ => ⟨S1x2048, .f32⟩
  | .local _ .vmem, ⟨13, _⟩ => ⟨S128x2048, .f32⟩
  | .local _ .vmem, ⟨14, _⟩ => ⟨S1x2048, .f32⟩
  | .local _ .vmem, ⟨15, _⟩ => ⟨S1x2048, .f32⟩
  | .local _ .vmem, ⟨16, _⟩ => ⟨S128x2048, .f32⟩
  | .local _ .smem, ⟨0, _⟩ => ⟨S1, .f32⟩
  | _, _ => ⟨S40960x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_c_7 : Ref sig .tc := ⟨.hbm, 36, rfl⟩
abbrev main_call0_v0 : Ref sig .tc := ⟨.hbm, 37, rfl⟩
abbrev main_call0_v1 : Ref sig .tc := ⟨.hbm, 38, rfl⟩
abbrev main_v21 : Ref sig .tc := ⟨.hbm, 39, rfl⟩
abbrev main_c_8 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_9 : Ref sig .tc := ⟨.hbm, 46, rfl⟩
abbrev main_v27 : Ref sig .tc := ⟨.hbm, 47, rfl⟩
abbrev main_v28 : Ref sig .tc := ⟨.hbm, 48, rfl⟩
abbrev main_c_10 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![1, 4, 4], ![false, false, false]⟩

@[reducible] def k0_t1_loop : Scf.Loop 32 :=
  let c0_i32 : BitVec 32 := 0#32
  let c8_i32 : BitVec 32 := 8#32
  let v38 : BitVec 32 := Scalar.addi c0_i32 c8_i32
  let c1_i32 : BitVec 32 := 1#32
  ⟨c0_i32, v38, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c1024_i32 : BitVec 32 := 1024#32
  let v70 : BitVec 32 := Scalar.muli arg16 c1024_i32
  v70
def k0_off1 (k0_t1 : Fin k0_t1_loop.trips) : Fin 2 → Nat :=
  let c0_i32 : BitVec 32 := 0#32
  let c1_i32 : BitVec 32 := 1#32
  let arg16 : BitVec 32 := Scf.iv c0_i32 c1_i32 k0_t1
  let c1024_i32 : BitVec 32 := 1024#32
  let v70 : BitVec 32 := Scalar.muli arg16 c1024_i32
  let v71 : BitVec 32 := v70
  let v72 : Index := Scalar.indexCast v71
  let c0_39 : Index := 0#32
  ![v72.toNat, 0]
def k0_mult2 (i : grid0.Coords) (k0_t1 : Fin k0_t1_loop.trips) : BitVec 32 :=
  let c1152_i32 : BitVec 32 := 1152#32
  let c_m2048_i32 : BitVec 32 := 4294965248#32
  let c0_i32 : BitVec 32 := 0#32
  let c1_i32 : BitVec 32 := 1#32
  let arg16 : BitVec 32 := Scf.iv c0_i32 c1_i32 k0_t1
  let c1024_i32 : BitVec 32 := 1024#32
  let v70 : BitVec 32 := Scalar.muli arg16 c1024_i32
  let v71 : BitVec 32 := v70
  let arg2 : BitVec 32 := BitVec.ofNat 32 (i 2).val
  let c2048_i32 : BitVec 32 := 2048#32
  let v37 : BitVec 32 := Scalar.muli arg2 c2048_i32
  let v76 : BitVec 32 := Scalar.subi v71 v37
  let c0_i32_41 : BitVec 32 := 0#32
  let v77 : BitVec 32 := Scalar.subi v76 c0_i32_41
  let v78 : BitVec 32 := Scalar.maxsi c_m2048_i32 v77
  let v79 : BitVec 32 := Scalar.minsi c1152_i32 v78
  let c_m2048_i32_42 : BitVec 32 := 4294965248#32
  let v80 : BitVec 32 := Scalar.subi v79 c_m2048_i32_42
  v80
def k0_off2 (i : grid0.Coords) (k0_t1 : Fin k0_t1_loop.trips) (c0_i32_41 : BitVec 32) : Fin 3 → Nat :=
  let c0_43 : Index := 0#32
  let c1152_i32 : BitVec 32 := 1152#32
  let c_m2048_i32 : BitVec 32 := 4294965248#32
  let c0_i32 : BitVec 32 := 0#32
  let c1_i32 : BitVec 32 := 1#32
  let arg16 : BitVec 32 := Scf.iv c0_i32 c1_i32 k0_t1
  let c1024_i32 : BitVec 32 := 1024#32
  let v70 : BitVec 32 := Scalar.muli arg16 c1024_i32
  let v71 : BitVec 32 := v70
  let arg2 : BitVec 32 := BitVec.ofNat 32 (i 2).val
  let c2048_i32 : BitVec 32 := 2048#32
  let v37 : BitVec 32 := Scalar.muli arg2 c2048_i32
  let v76 : BitVec 32 := Scalar.subi v71 v37
  let v77 : BitVec 32 := Scalar.subi v76 c0_i32_41
  let v78 : BitVec 32 := Scalar.maxsi c_m2048_i32 v77
  let v79 : BitVec 32 := Scalar.minsi c1152_i32 v78
  let c_m2048_i32_42 : BitVec 32 := 4294965248#32
  let v80 : BitVec 32 := Scalar.subi v79 c_m2048_i32_42
  let v81 : BitVec 32 := v80
  let v82 : Index := Scalar.indexCast v81
  let c0_44 : Index := 0#32
  ![0, v82.toNat, 0]
def k0_mult3 (i : grid0.Coords) (k0_t1 : Fin k0_t1_loop.trips) : BitVec 32 :=
  let c1152_i32_46 : BitVec 32 := 1152#32
  let c_m2048_i32_45 : BitVec 32 := 4294965248#32
  let c0_i32 : BitVec 32 := 0#32
  let c1_i32 : BitVec 32 := 1#32
  let arg16 : BitVec 32 := Scf.iv c0_i32 c1_i32 k0_t1
  let c1024_i32 : BitVec 32 := 1024#32
  let v70 : BitVec 32 := Scalar.muli arg16 c1024_i32
  let v71 : BitVec 32 := v70
  let arg2 : BitVec 32 := BitVec.ofNat 32 (i 2).val
  let c2048_i32 : BitVec 32 := 2048#32
  let v37 : BitVec 32 := Scalar.muli arg2 c2048_i32
  let v85 : BitVec 32 := Scalar.subi v71 v37
  let c128_i32 : BitVec 32 := 128#32
  let v86 : BitVec 32 := Scalar.subi v85 c128_i32
  let v87 : BitVec 32 := Scalar.maxsi c_m2048_i32_45 v86
  let v88 : BitVec 32 := Scalar.minsi c1152_i32_46 v87
  let c_m2048_i32_47 : BitVec 32 := 4294965248#32
  let v89 : BitVec 32 := Scalar.subi v88 c_m2048_i32_47
  v89
def k0_mult4 (i : grid0.Coords) (k0_t1 : Fin k0_t1_loop.trips) : BitVec 32 :=
  let c1152_i32_51 : BitVec 32 := 1152#32
  let c_m2048_i32_50 : BitVec 32 := 4294965248#32
  let c0_i32 : BitVec 32 := 0#32
  let c1_i32 : BitVec 32 := 1#32
  let arg16 : BitVec 32 := Scf.iv c0_i32 c1_i32 k0_t1
  let c1024_i32 : BitVec 32 := 1024#32
  let v70 : BitVec 32 := Scalar.muli arg16 c1024_i32
  let v71 : BitVec 32 := v70
  let arg2 : BitVec 32 := BitVec.ofNat 32 (i 2).val
  let c2048_i32 : BitVec 32 := 2048#32
  let v37 : BitVec 32 := Scalar.muli arg2 c2048_i32
  let v94 : BitVec 32 := Scalar.subi v71 v37
  let c256_i32 : BitVec 32 := 256#32
  let v95 : BitVec 32 := Scalar.subi v94 c256_i32
  let v96 : BitVec 32 := Scalar.maxsi c_m2048_i32_50 v95
  let v97 : BitVec 32 := Scalar.minsi c1152_i32_51 v96
  let c_m2048_i32_52 : BitVec 32 := 4294965248#32
  let v98 : BitVec 32 := Scalar.subi v97 c_m2048_i32_52
  v98
def k0_mult5 (i : grid0.Coords) (k0_t1 : Fin k0_t1_loop.trips) : BitVec 32 :=
  let c1152_i32_56 : BitVec 32 := 1152#32
  let c_m2048_i32_55 : BitVec 32 := 4294965248#32
  let c0_i32 : BitVec 32 := 0#32
  let c1_i32 : BitVec 32 := 1#32
  let arg16 : BitVec 32 := Scf.iv c0_i32 c1_i32 k0_t1
  let c1024_i32 : BitVec 32 := 1024#32
  let v70 : BitVec 32 := Scalar.muli arg16 c1024_i32
  let v71 : BitVec 32 := v70
  let arg2 : BitVec 32 := BitVec.ofNat 32 (i 2).val
  let c2048_i32 : BitVec 32 := 2048#32
  let v37 : BitVec 32 := Scalar.muli arg2 c2048_i32
  let v103 : BitVec 32 := Scalar.subi v71 v37
  let c384_i32 : BitVec 32 := 384#32
  let v104 : BitVec 32 := Scalar.subi v103 c384_i32
  let v105 : BitVec 32 := Scalar.maxsi c_m2048_i32_55 v104
  let v106 : BitVec 32 := Scalar.minsi c1152_i32_56 v105
  let c_m2048_i32_57 : BitVec 32 := 4294965248#32
  let v107 : BitVec 32 := Scalar.subi v106 c_m2048_i32_57
  v107
def k0_mult6 (i : grid0.Coords) (k0_t1 : Fin k0_t1_loop.trips) : BitVec 32 :=
  let c1152_i32_61 : BitVec 32 := 1152#32
  let c_m2048_i32_60 : BitVec 32 := 4294965248#32
  let c0_i32 : BitVec 32 := 0#32
  let c1_i32 : BitVec 32 := 1#32
  let arg16 : BitVec 32 := Scf.iv c0_i32 c1_i32 k0_t1
  let c1024_i32 : BitVec 32 := 1024#32
  let v70 : BitVec 32 := Scalar.muli arg16 c1024_i32
  let v71 : BitVec 32 := v70
  let arg2 : BitVec 32 := BitVec.ofNat 32 (i 2).val
  let c2048_i32 : BitVec 32 := 2048#32
  let v37 : BitVec 32 := Scalar.muli arg2 c2048_i32
  let v112 : BitVec 32 := Scalar.subi v71 v37
  let c512_i32 : BitVec 32 := 512#32
  let v113 : BitVec 32 := Scalar.subi v112 c512_i32
  let v114 : BitVec 32 := Scalar.maxsi c_m2048_i32_60 v113
  let v115 : BitVec 32 := Scalar.minsi c1152_i32_61 v114
  let c_m2048_i32_62 : BitVec 32 := 4294965248#32
  let v116 : BitVec 32 := Scalar.subi v115 c_m2048_i32_62
  v116
def k0_mult7 (i : grid0.Coords) (k0_t1 : Fin k0_t1_loop.trips) : BitVec 32 :=
  let c1152_i32_66 : BitVec 32 := 1152#32
  let c_m2048_i32_65 : BitVec 32 := 4294965248#32
  let c0_i32 : BitVec 32 := 0#32
  let c1_i32 : BitVec 32 := 1#32
  let arg16 : BitVec 32 := Scf.iv c0_i32 c1_i32 k0_t1
  let c1024_i32 : BitVec 32 := 1024#32
  let v70 : BitVec 32 := Scalar.muli arg16 c1024_i32
  let v71 : BitVec 32 := v70
  let arg2 : BitVec 32 := BitVec.ofNat 32 (i 2).val
  let c2048_i32 : BitVec 32 := 2048#32
  let v37 : BitVec 32 := Scalar.muli arg2 c2048_i32
  let v121 : BitVec 32 := Scalar.subi v71 v37
  let c640_i32 : BitVec 32 := 640#32
  let v122 : BitVec 32 := Scalar.subi v121 c640_i32
  let v123 : BitVec 32 := Scalar.maxsi c_m2048_i32_65 v122
  let v124 : BitVec 32 := Scalar.minsi c1152_i32_66 v123
  let c_m2048_i32_67 : BitVec 32 := 4294965248#32
  let v125 : BitVec 32 := Scalar.subi v124 c_m2048_i32_67
  v125
def k0_mult8 (i : grid0.Coords) (k0_t1 : Fin k0_t1_loop.trips) : BitVec 32 :=
  let c1152_i32_71 : BitVec 32 := 1152#32
  let c_m2048_i32_70 : BitVec 32 := 4294965248#32
  let c0_i32 : BitVec 32 := 0#32
  let c1_i32 : BitVec 32 := 1#32
  let arg16 : BitVec 32 := Scf.iv c0_i32 c1_i32 k0_t1
  let c1024_i32 : BitVec 32 := 1024#32
  let v70 : BitVec 32 := Scalar.muli arg16 c1024_i32
  let v71 : BitVec 32 := v70
  let arg2 : BitVec 32 := BitVec.ofNat 32 (i 2).val
  let c2048_i32 : BitVec 32 := 2048#32
  let v37 : BitVec 32 := Scalar.muli arg2 c2048_i32
  let v130 : BitVec 32 := Scalar.subi v71 v37
  let c768_i32 : BitVec 32 := 768#32
  let v131 : BitVec 32 := Scalar.subi v130 c768_i32
  let v132 : BitVec 32 := Scalar.maxsi c_m2048_i32_70 v131
  let v133 : BitVec 32 := Scalar.minsi c1152_i32_71 v132
  let c_m2048_i32_72 : BitVec 32 := 4294965248#32
  let v134 : BitVec 32 := Scalar.subi v133 c_m2048_i32_72
  v134
def k0_mult9 (i : grid0.Coords) (k0_t1 : Fin k0_t1_loop.trips) : BitVec 32 :=
  let c1152_i32_76 : BitVec 32 := 1152#32
  let c_m2048_i32_75 : BitVec 32 := 4294965248#32
  let c0_i32 : BitVec 32 := 0#32
  let c1_i32 : BitVec 32 := 1#32
  let arg16 : BitVec 32 := Scf.iv c0_i32 c1_i32 k0_t1
  let c1024_i32 : BitVec 32 := 1024#32
  let v70 : BitVec 32 := Scalar.muli arg16 c1024_i32
  let v71 : BitVec 32 := v70
  let arg2 : BitVec 32 := BitVec.ofNat 32 (i 2).val
  let c2048_i32 : BitVec 32 := 2048#32
  let v37 : BitVec 32 := Scalar.muli arg2 c2048_i32
  let v139 : BitVec 32 := Scalar.subi v71 v37
  let c896_i32 : BitVec 32 := 896#32
  let v140 : BitVec 32 := Scalar.subi v139 c896_i32
  let v141 : BitVec 32 := Scalar.maxsi c_m2048_i32_75 v140
  let v142 : BitVec 32 := Scalar.minsi c1152_i32_76 v141
  let c_m2048_i32_77 : BitVec 32 := 4294965248#32
  let v143 : BitVec 32 := Scalar.subi v142 c_m2048_i32_77
  v143
def k0_mult10 (i : grid0.Coords) (k0_t1 : Fin k0_t1_loop.trips) : BitVec 32 :=
  let c1152_i32_82 : BitVec 32 := 1152#32
  let c_m2048_i32_81 : BitVec 32 := 4294965248#32
  let c0_i32 : BitVec 32 := 0#32
  let c1_i32 : BitVec 32 := 1#32
  let arg16 : BitVec 32 := Scf.iv c0_i32 c1_i32 k0_t1
  let c1024_i32 : BitVec 32 := 1024#32
  let v70 : BitVec 32 := Scalar.muli arg16 c1024_i32
  let v71 : BitVec 32 := v70
  let arg2 : BitVec 32 := BitVec.ofNat 32 (i 2).val
  let c2048_i32 : BitVec 32 := 2048#32
  let v37 : BitVec 32 := Scalar.muli arg2 c2048_i32
  let v148 : BitVec 32 := Scalar.subi v71 v37
  let c1024_i32_80 : BitVec 32 := 1024#32
  let v149 : BitVec 32 := Scalar.subi v148 c1024_i32_80
  let v150 : BitVec 32 := Scalar.maxsi c_m2048_i32_81 v149
  let v151 : BitVec 32 := Scalar.minsi c1152_i32_82 v150
  let c_m2048_i32_83 : BitVec 32 := 4294965248#32
  let v152 : BitVec 32 := Scalar.subi v151 c_m2048_i32_83
  v152
def k0_mult11 (i : grid0.Coords) (k0_t1 : Fin k0_t1_loop.trips) : BitVec 32 :=
  let c1152_i32_88 : BitVec 32 := 1152#32
  let c_m2048_i32_87 : BitVec 32 := 4294965248#32
  let c0_i32 : BitVec 32 := 0#32
  let c1_i32 : BitVec 32 := 1#32
  let arg16 : BitVec 32 := Scf.iv c0_i32 c1_i32 k0_t1
  let c1024_i32 : BitVec 32 := 1024#32
  let v70 : BitVec 32 := Scalar.muli arg16 c1024_i32
  let v71 : BitVec 32 := v70
  let arg2 : BitVec 32 := BitVec.ofNat 32 (i 2).val
  let c2048_i32 : BitVec 32 := 2048#32
  let v37 : BitVec 32 := Scalar.muli arg2 c2048_i32
  let v157 : BitVec 32 := Scalar.subi v71 v37
  let c1152_i32_86 : BitVec 32 := 1152#32
  let v158 : BitVec 32 := Scalar.subi v157 c1152_i32_86
  let v159 : BitVec 32 := Scalar.maxsi c_m2048_i32_87 v158
  let v160 : BitVec 32 := Scalar.minsi c1152_i32_88 v159
  let c_m2048_i32_89 : BitVec 32 := 4294965248#32
  let v161 : BitVec 32 := Scalar.subi v160 c_m2048_i32_89
  v161
def k0_mult12 (i : grid0.Coords) (k0_t1 : Fin k0_t1_loop.trips) : BitVec 32 :=
  let c1152_i32_93 : BitVec 32 := 1152#32
  let c_m2048_i32_92 : BitVec 32 := 4294965248#32
  let c0_i32 : BitVec 32 := 0#32
  let c1_i32 : BitVec 32 := 1#32
  let arg16 : BitVec 32 := Scf.iv c0_i32 c1_i32 k0_t1
  let c1024_i32 : BitVec 32 := 1024#32
  let v70 : BitVec 32 := Scalar.muli arg16 c1024_i32
  let v71 : BitVec 32 := v70
  let arg2 : BitVec 32 := BitVec.ofNat 32 (i 2).val
  let c2048_i32 : BitVec 32 := 2048#32
  let v37 : BitVec 32 := Scalar.muli arg2 c2048_i32
  let v166 : BitVec 32 := Scalar.subi v71 v37
  let c1280_i32 : BitVec 32 := 1280#32
  let v167 : BitVec 32 := Scalar.subi v166 c1280_i32
  let v168 : BitVec 32 := Scalar.maxsi c_m2048_i32_92 v167
  let v169 : BitVec 32 := Scalar.minsi c1152_i32_93 v168
  let c_m2048_i32_94 : BitVec 32 := 4294965248#32
  let v170 : BitVec 32 := Scalar.subi v169 c_m2048_i32_94
  v170
def k0_mult13 (i : grid0.Coords) (k0_t1 : Fin k0_t1_loop.trips) : BitVec 32 :=
  let c1152_i32_98 : BitVec 32 := 1152#32
  let c_m2048_i32_97 : BitVec 32 := 4294965248#32
  let c0_i32 : BitVec 32 := 0#32
  let c1_i32 : BitVec 32 := 1#32
  let arg16 : BitVec 32 := Scf.iv c0_i32 c1_i32 k0_t1
  let c1024_i32 : BitVec 32 := 1024#32
  let v70 : BitVec 32 := Scalar.muli arg16 c1024_i32
  let v71 : BitVec 32 := v70
  let arg2 : BitVec 32 := BitVec.ofNat 32 (i 2).val
  let c2048_i32 : BitVec 32 := 2048#32
  let v37 : BitVec 32 := Scalar.muli arg2 c2048_i32
  let v175 : BitVec 32 := Scalar.subi v71 v37
  let c1408_i32 : BitVec 32 := 1408#32
  let v176 : BitVec 32 := Scalar.subi v175 c1408_i32
  let v177 : BitVec 32 := Scalar.maxsi c_m2048_i32_97 v176
  let v178 : BitVec 32 := Scalar.minsi c1152_i32_98 v177
  let c_m2048_i32_99 : BitVec 32 := 4294965248#32
  let v179 : BitVec 32 := Scalar.subi v178 c_m2048_i32_99
  v179
def k0_mult14 (i : grid0.Coords) (k0_t1 : Fin k0_t1_loop.trips) : BitVec 32 :=
  let c1152_i32_103 : BitVec 32 := 1152#32
  let c_m2048_i32_102 : BitVec 32 := 4294965248#32
  let c0_i32 : BitVec 32 := 0#32
  let c1_i32 : BitVec 32 := 1#32
  let arg16 : BitVec 32 := Scf.iv c0_i32 c1_i32 k0_t1
  let c1024_i32 : BitVec 32 := 1024#32
  let v70 : BitVec 32 := Scalar.muli arg16 c1024_i32
  let v71 : BitVec 32 := v70
  let arg2 : BitVec 32 := BitVec.ofNat 32 (i 2).val
  let c2048_i32 : BitVec 32 := 2048#32
  let v37 : BitVec 32 := Scalar.muli arg2 c2048_i32
  let v184 : BitVec 32 := Scalar.subi v71 v37
  let c1536_i32 : BitVec 32 := 1536#32
  let v185 : BitVec 32 := Scalar.subi v184 c1536_i32
  let v186 : BitVec 32 := Scalar.maxsi c_m2048_i32_102 v185
  let v187 : BitVec 32 := Scalar.minsi c1152_i32_103 v186
  let c_m2048_i32_104 : BitVec 32 := 4294965248#32
  let v188 : BitVec 32 := Scalar.subi v187 c_m2048_i32_104
  v188
def k0_mult15 (i : grid0.Coords) (k0_t1 : Fin k0_t1_loop.trips) : BitVec 32 :=
  let c1152_i32_108 : BitVec 32 := 1152#32
  let c_m2048_i32_107 : BitVec 32 := 4294965248#32
  let c0_i32 : BitVec 32 := 0#32
  let c1_i32 : BitVec 32 := 1#32
  let arg16 : BitVec 32 := Scf.iv c0_i32 c1_i32 k0_t1
  let c1024_i32 : BitVec 32 := 1024#32
  let v70 : BitVec 32 := Scalar.muli arg16 c1024_i32
  let v71 : BitVec 32 := v70
  let arg2 : BitVec 32 := BitVec.ofNat 32 (i 2).val
  let c2048_i32 : BitVec 32 := 2048#32
  let v37 : BitVec 32 := Scalar.muli arg2 c2048_i32
  let v193 : BitVec 32 := Scalar.subi v71 v37
  let c1664_i32 : BitVec 32 := 1664#32
  let v194 : BitVec 32 := Scalar.subi v193 c1664_i32
  let v195 : BitVec 32 := Scalar.maxsi c_m2048_i32_107 v194
  let v196 : BitVec 32 := Scalar.minsi c1152_i32_108 v195
  let c_m2048_i32_109 : BitVec 32 := 4294965248#32
  let v197 : BitVec 32 := Scalar.subi v196 c_m2048_i32_109
  v197
def k0_mult16 (i : grid0.Coords) (k0_t1 : Fin k0_t1_loop.trips) : BitVec 32 :=
  let c1152_i32_113 : BitVec 32 := 1152#32
  let c_m2048_i32_112 : BitVec 32 := 4294965248#32
  let c0_i32 : BitVec 32 := 0#32
  let c1_i32 : BitVec 32 := 1#32
  let arg16 : BitVec 32 := Scf.iv c0_i32 c1_i32 k0_t1
  let c1024_i32 : BitVec 32 := 1024#32
  let v70 : BitVec 32 := Scalar.muli arg16 c1024_i32
  let v71 : BitVec 32 := v70
  let arg2 : BitVec 32 := BitVec.ofNat 32 (i 2).val
  let c2048_i32 : BitVec 32 := 2048#32
  let v37 : BitVec 32 := Scalar.muli arg2 c2048_i32
  let v202 : BitVec 32 := Scalar.subi v71 v37
  let c1792_i32 : BitVec 32 := 1792#32
  let v203 : BitVec 32 := Scalar.subi v202 c1792_i32
  let v204 : BitVec 32 := Scalar.maxsi c_m2048_i32_112 v203
  let v205 : BitVec 32 := Scalar.minsi c1152_i32_113 v204
  let c_m2048_i32_114 : BitVec 32 := 4294965248#32
  let v206 : BitVec 32 := Scalar.subi v205 c_m2048_i32_114
  v206
def k0_mult17 (i : grid0.Coords) (k0_t1 : Fin k0_t1_loop.trips) : BitVec 32 :=
  let c1152_i32_118 : BitVec 32 := 1152#32
  let c_m2048_i32_117 : BitVec 32 := 4294965248#32
  let c0_i32 : BitVec 32 := 0#32
  let c1_i32 : BitVec 32 := 1#32
  let arg16 : BitVec 32 := Scf.iv c0_i32 c1_i32 k0_t1
  let c1024_i32 : BitVec 32 := 1024#32
  let v70 : BitVec 32 := Scalar.muli arg16 c1024_i32
  let v71 : BitVec 32 := v70
  let arg2 : BitVec 32 := BitVec.ofNat 32 (i 2).val
  let c2048_i32 : BitVec 32 := 2048#32
  let v37 : BitVec 32 := Scalar.muli arg2 c2048_i32
  let v211 : BitVec 32 := Scalar.subi v71 v37
  let c1920_i32 : BitVec 32 := 1920#32
  let v212 : BitVec 32 := Scalar.subi v211 c1920_i32
  let v213 : BitVec 32 := Scalar.maxsi c_m2048_i32_117 v212
  let v214 : BitVec 32 := Scalar.minsi c1152_i32_118 v213
  let c_m2048_i32_119 : BitVec 32 := 4294965248#32
  let v215 : BitVec 32 := Scalar.subi v214 c_m2048_i32_119
  v215
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4224x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== DiffIdeal.lean ====
variable {F : FTy → Type} [FloatOps F] [Named F]
def κ : String → Option EReal := fun
  | "log2e" => some (((Real.log 2)⁻¹ : ℝ) : EReal)
  | "scale_a" => some (((Real.sqrt 64)⁻¹ * (Real.log 2)⁻¹ : ℝ) : EReal)
  | _ => none
-- ==== DiffReferenceIdeal.lean ====
abbrev S40960x512 : Shape := ⟨2, ![40960, 512]⟩
abbrev S32x4 : Shape := ⟨2, ![32, 4]⟩
abbrev S1 : Shape := ⟨1, ![1]⟩
abbrev S128 : Shape := ⟨1, ![128]⟩
abbrev S8192x512 : Shape := ⟨2, ![8192, 512]⟩
abbrev S8192x4x2x64 : Shape := ⟨4, ![8192, 4, 2, 64]⟩
abbrev S8192x4x128 : Shape := ⟨3, ![8192, 4, 128]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S8192x8192x1 : Shape := ⟨3, ![8192, 8192, 1]⟩
abbrev S8192x8192x4 : Shape := ⟨3, ![8192, 8192, 4]⟩
abbrev S4x8192x8192 : Shape := ⟨3, ![4, 8192, 8192]⟩
abbrev S8192x4x1x64 : Shape := ⟨4, ![8192, 4, 1, 64]⟩
abbrev S8192x4x64 : Shape := ⟨3, ![8192, 4, 64]⟩
abbrev S4x8192 : Shape := ⟨2, ![4, 8192]⟩
abbrev S4x8192x1 : Shape := ⟨3, ![4, 8192, 1]⟩
abbrev S4x128x8192 : Shape := ⟨3, ![4, 128, 8192]⟩
abbrev S1x1x1 : Shape := ⟨3, ![1, 1, 1]⟩
abbrev S8192x4 : Shape := ⟨2, ![8192, 4]⟩
abbrev S8192x4x1 : Shape := ⟨3, ![8192, 4, 1]⟩
abbrev S1x1x128 : Shape := ⟨3, ![1, 1, 128]⟩

abbrev nBuf : Space → Nat
  | .hbm => 144
  | .vmem => 0
  | .smem => 0
  | _ => 0

abbrev hbmTy0_0 (i : Nat) : BufTy := match i % 128 with
  | 0 => ⟨S40960x512, .bf16⟩
  | 1 => ⟨S40960x512, .bf16⟩
  | 2 => ⟨S40960x512, .bf16⟩
  | 3 => ⟨S32x4, .f32⟩
  | 4 => ⟨S1, .f32⟩
  | 5 => ⟨S128, .f32⟩
  | 6 => ⟨S8192x512, .bf16⟩
  | 7 => ⟨S8192x512, .f32⟩
  | 8 => ⟨S8192x4x2x64, .f32⟩
  | 9 => ⟨S8192x512, .bf16⟩
  | 10 => ⟨S8192x512, .f32⟩
  | 11 => ⟨S8192x4x2x64, .f32⟩
  | 12 => ⟨S8192x512, .bf16⟩
  | 13 => ⟨S8192x512, .f32⟩
  | 14 => ⟨S8192x4x128, .f32⟩
  | 15 => ⟨S8192, .i32⟩
  | 16 => ⟨S1x8192, .i32⟩
  | 17 => ⟨S8192x1, .i32⟩
  | 18 => ⟨S8192x8192, .i32⟩
  | 19 => ⟨S8192x8192, .i32⟩
  | 20 => ⟨S8192x8192, .i32⟩
  | 21 => ⟨S8192x8192, .i32⟩
  | 22 => ⟨S_, .i32⟩
  | 23 => ⟨S8192x8192, .i32⟩
  | 24 => ⟨S8192x8192, .i32⟩
  | 25 => ⟨S8192x8192, .f32⟩
  | 26 => ⟨S_, .f32⟩
  | 27 => ⟨S8192x8192, .f32⟩
  | 28 => ⟨S8192x8192, .f32⟩
  | 29 => ⟨S8192x8192, .f32⟩
  | 30 => ⟨S_, .f32⟩
  | 31 => ⟨S8192x8192, .f32⟩
  | 32 => ⟨S8192x8192, .f32⟩
  | 33 => ⟨S_, .f32⟩
  | 34 => ⟨S8192x8192, .f32⟩
  | 35 => ⟨S8192x8192, .f32⟩
  | 36 => ⟨S8192x8192, .i32⟩
  | 37 => ⟨S_, .i32⟩
  | 38 => ⟨S8192x8192, .i32⟩
  | 39 => ⟨S8192x8192, .i32⟩
  | 40 => ⟨S_, .i32⟩
  | 41 => ⟨S8192x8192, .i32⟩
  | 42 => ⟨S8192x8192, .i32⟩
  | 43 => ⟨S_, .i32⟩
  | 44 => ⟨S8192x8192, .i32⟩
  | 45 => ⟨S8192x8192, .i1⟩
  | 46 => ⟨S_, .i32⟩
  | 47 => ⟨S_, .i32⟩
  | 48 => ⟨S8192x8192, .i32⟩
  | 49 => ⟨S8192x8192, .i32⟩
  | 50 => ⟨S8192x8192, .i32⟩
  | 51 => ⟨S_, .i32⟩
  | 52 => ⟨S8192x8192, .i32⟩
  | 53 => ⟨S8192x8192, .i1⟩
  | 54 => ⟨S8192x8192, .i32⟩
  | 55 => ⟨S8192x8192, .i32⟩
  | 56 => ⟨S8192x8192, .i32⟩
  | 57 => ⟨S_, .i32⟩
  | 58 => ⟨S8192x8192, .i32⟩
  | 59 => ⟨S8192x8192, .i1⟩
  | 60 => ⟨S_, .i32⟩
  | 61 => ⟨S8192x8192, .i32⟩
  | 62 => ⟨S8192x8192, .i32⟩
  | 63 => ⟨S8192x8192, .i32⟩
  | 64 => ⟨S8192x8192x1, .i32⟩
  | 65 => ⟨S8192x8192x4, .f32⟩
  | 66 => ⟨S4x8192x8192, .f32⟩
  | 67 => ⟨S8192x4x1x64, .f32⟩
  | 68 => ⟨S8192x4x64, .f32⟩
  | 69 => ⟨S8192x4x1x64, .f32⟩
  | 70 => ⟨S8192x4x64, .f32⟩
  | 71 => ⟨S4x8192x8192, .f32⟩
  | 72 => ⟨S_, .f32⟩
  | 73 => ⟨S_, .f32⟩
  | 74 => ⟨S4x8192x8192, .f32⟩
  | 75 => ⟨S4x8192x8192, .f32⟩
  | 76 => ⟨S4x8192x8192, .f32⟩
  | 77 => ⟨S_, .f32⟩
  | 78 => ⟨S4x8192, .f32⟩
  | 79 => ⟨S_, .f32⟩
  | 80 => ⟨S4x8192, .f32⟩
  | 81 => ⟨S4x8192, .f32⟩
  | 82 => ⟨S4x8192x1, .f32⟩
  | 83 => ⟨S4x8192x8192, .f32⟩
  | 84 => ⟨S4x8192x8192, .f32⟩
  | 85 => ⟨S4x8192x8192, .f32⟩
  | 86 => ⟨S_, .f32⟩
  | 87 => ⟨S4x8192, .f32⟩
  | 88 => ⟨S4x8192x1, .f32⟩
  | 89 => ⟨S4x8192x8192, .f32⟩
  | 90 => ⟨S4x8192x8192, .f32⟩
  | 91 => ⟨S4x128x8192, .f32⟩
  | 92 => ⟨S8192x4x128, .f32⟩
  | 93 => ⟨S8192x4x1x64, .f32⟩
  | 94 => ⟨S8192x4x64, .f32⟩
  | 95 => ⟨S8192x4x1x64, .f32⟩
  | 96 => ⟨S8192x4x64, .f32⟩
  | 97 => ⟨S4x8192x8192, .f32⟩
  | 98 => ⟨S_, .f32⟩
  | 99 => ⟨S_, .f32⟩
  | 100 => ⟨S4x8192x8192, .f32⟩
  | 101 => ⟨S4x8192x8192, .f32⟩
  | 102 => ⟨S4x8192x8192, .f32⟩
  | 103 => ⟨S_, .f32⟩
  | 104 => ⟨S4x8192, .f32⟩
  | 105 => ⟨S_, .f32⟩
  | 106 => ⟨S4x8192, .f32⟩
  | 107 => ⟨S4x8192, .f32⟩
  | 108 => ⟨S4x8192x1, .f32⟩
  | 109 => ⟨S4x8192x8192, .f32⟩
  | 110 => ⟨S4x8192x8192, .f32⟩
  | 111 => ⟨S4x8192x8192, .f32⟩
  | 112 => ⟨S_, .f32⟩
  | 113 => ⟨S4x8192, .f32⟩
  | 114 => ⟨S4x8192x1, .f32⟩
  | 115 => ⟨S4x8192x8192, .f32⟩
  | 116 => ⟨S4x8192x8192, .f32⟩
  | 117 => ⟨S4x128x8192, .f32⟩
  | 118 => ⟨S8192x4x128, .f32⟩
  | 119 => ⟨S1x1x1, .f32⟩
  | 120 => ⟨S8192x4x128, .f32⟩
  | 121 => ⟨S8192x4x128, .f32⟩
  | 122 => ⟨S8192x4x128, .f32⟩
  | 123 => ⟨S8192x4x128, .f32⟩
  | 124 => ⟨S_, .f32⟩
  | 125 => ⟨S8192x4, .f32⟩
  | 126 => ⟨S8192x4x1, .f32⟩
  | 127 => ⟨S_, .f32⟩
  | _ => ⟨S40960x512, .bf16⟩

abbrev hbmTy0_1 (i : Nat) : BufTy := match i % 128 with
  | 0 => ⟨S8192x4x1, .f32⟩
  | 1 => ⟨S8192x4x1, .f32⟩
  | 2 => ⟨S_, .f32⟩
  | 3 => ⟨S8192x4x1, .f32⟩
  | 4 => ⟨S8192x4x1, .f32⟩
  | 5 => ⟨S8192x4x1, .f32⟩
  | 6 => ⟨S8192x4x128, .f32⟩
  | 7 => ⟨S8192x4x128, .f32⟩
  | 8 => ⟨S1x1x128, .f32⟩
  | 9 => ⟨S8192x4x128, .f32⟩
  | 10 => ⟨S8192x4x128, .f32⟩
  | 11 => ⟨S_, .f32⟩
  | 12 => ⟨S8192x4x128, .f32⟩
  | 13 => ⟨S8192x4x128, .f32⟩
  | 14 => ⟨S8192x512, .f32⟩
  | 15 => ⟨S8192x512, .bf16⟩
  | _ => ⟨S40960x512, .bf16⟩

abbrev hbmTy (i : Nat) : BufTy := match i / 128 with
  | 0 => hbmTy0_0 i
  | 1 => hbmTy0_1 i
  | _ => ⟨S40960x512, .bf16⟩

abbrev bufTy : (tb : Table) → Fin (tcTables nBuf tb) → BufTy
  | .hbm, ⟨i, _⟩ => hbmTy i
  | _, _ => ⟨S40960x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_2 : Ref sig .tc := ⟨.hbm, 37, rfl⟩
abbrev main_v27 : Ref sig .tc := ⟨.hbm, 38, rfl⟩
abbrev main_v28 : Ref sig .tc := ⟨.hbm, 39, rfl⟩
abbrev main_c_3 : Ref sig .tc := ⟨.hbm, 40, rfl⟩
abbrev main_v29 : Ref sig .tc := ⟨.hbm, 41, rfl⟩
abbrev main_v30 : Ref sig .tc := ⟨.hbm, 42, rfl⟩
abbrev main_c_4 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_c_6 : Ref sig .tc := ⟨.hbm, 47, rfl⟩
abbrev main_call0_v0 : Ref sig .tc := ⟨.hbm, 48, rfl⟩
abbrev main_call0_v1 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_8 : Ref sig .tc := ⟨.hbm, 57, rfl⟩
abbrev main_v39 : Ref sig .tc := ⟨.hbm, 58, rfl⟩
abbrev main_v40 : Ref sig .tc := ⟨.hbm, 59, rfl⟩
abbrev main_c_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_14 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_15 : Ref sig .tc := ⟨.hbm, 103, rfl⟩
abbrev main_v78 : Ref sig .tc := ⟨.hbm, 104, rfl⟩
abbrev main_cst_16 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_17 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_18 : Ref sig .tc := ⟨.hbm, 124, rfl⟩
abbrev main_v96 : Ref sig .tc := ⟨.hbm, 125, rfl⟩
abbrev main_v97 : Ref sig .tc := ⟨.hbm, 126, rfl⟩
abbrev main_cst_19 : Ref sig .tc := ⟨.hbm, 127, rfl⟩
abbrev main_v98 : Ref sig .tc := ⟨.hbm, 128, rfl⟩
abbrev main_v99 : Ref sig .tc := ⟨.hbm, 129, rfl⟩
abbrev main_cst_20 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_21 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩

abbrev nD : Nat := 1
abbrev τ : Topo := Topo.v7x

variable {F : FTy → Type} [FloatOps F]
-- ==== Norm.lean ====
abbrev S8192x2048 : Shape := ⟨2, ![8192, 2048]⟩
abbrev S32768x2048 : Shape := ⟨2, ![32768, 2048]⟩
abbrev S2048 : Shape := ⟨1, ![2048]⟩
abbrev S1x2048 : Shape := ⟨2, ![1, 2048]⟩
abbrev S40960x2048 : Shape := ⟨2, ![40960, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S32768x2048, .f32⟩
  | .hbm, ⟨2, _⟩ => ⟨S2048, .f32⟩
  | .hbm, ⟨3, _⟩ => ⟨S1x2048, .f32⟩
  | .hbm, ⟨4, _⟩ => ⟨S40960x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormReferenceIdeal.lean ====
abbrev S8192x2048 : Shape := ⟨2, ![8192, 2048]⟩
abbrev S32768x2048 : Shape := ⟨2, ![32768, 2048]⟩
abbrev S2048 : Shape := ⟨1, ![2048]⟩
abbrev S40960x2048 : Shape := ⟨2, ![40960, 2048]⟩
abbrev S_ : Shape := ⟨0, ![]⟩
abbrev S40960 : Shape := ⟨1, ![40960]⟩
abbrev S40960x1 : Shape := ⟨2, ![40960, 1]⟩
abbrev S1x2048 : Shape := ⟨2, ![1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S32768x2048, .f32⟩
  | .hbm, ⟨2, _⟩ => ⟨S2048, .f32⟩
  | .hbm, ⟨3, _⟩ => ⟨S40960x2048, .f32⟩
  | .hbm, ⟨4, _⟩ => ⟨S40960x2048, .f32⟩
  | .hbm, ⟨5, _⟩ => ⟨S_, .f32⟩
  | .hbm, ⟨6, _⟩ => ⟨S40960, .f32⟩
  | .hbm, ⟨7, _⟩ => ⟨S40960x1, .f32⟩
  | .hbm, ⟨8, _⟩ => ⟨S_, .f32⟩
  | .hbm, ⟨9, _⟩ => ⟨S40960x1, .f32⟩
  | .hbm, ⟨10, _⟩ => ⟨S40960x1, .f32⟩
  | .hbm, ⟨11, _⟩ => ⟨S_, .f32⟩
  | .hbm, ⟨12, _⟩ => ⟨S40960x1, .f32⟩
  | .hbm, ⟨13, _⟩ => ⟨S40960x1, .f32⟩
  | .hbm, ⟨14, _⟩ => ⟨S40960x1, .f32⟩
  | .hbm, ⟨15, _⟩ => ⟨S40960x2048, .f32⟩
  | .hbm, ⟨16, _⟩ => ⟨S40960x2048, .f32⟩
  | .hbm, ⟨17, _⟩ => ⟨S1x2048, .f32⟩
  | .hbm, ⟨18, _⟩ => ⟨S40960x2048, .f32⟩
  | .hbm, ⟨19, _⟩ => ⟨S40960x2048, .f32⟩
  | .hbm, ⟨20, _⟩ => ⟨S40960x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Key.lean ====
abbrev S40960x2048 : Shape := ⟨2, ![40960, 2048]⟩
abbrev S2048x128 : Shape := ⟨2, ![2048, 128]⟩
abbrev S40960x128 : Shape := ⟨2, ![40960, 128]⟩
abbrev S1024x2048 : Shape := ⟨2, ![1024, 2048]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S40960x2048, .bf16⟩
  | .hbm, ⟨1, _⟩ => ⟨S2048x128, .bf16⟩
  | .hbm, ⟨2, _⟩ => ⟨S40960x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S40960x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![40, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KeyReferenceIdeal.lean ====
abbrev S40960x2048 : Shape := ⟨2, ![40960, 2048]⟩
abbrev S2048x128 : Shape := ⟨2, ![2048, 128]⟩
abbrev S40960x128 : Shape := ⟨2, ![40960, 128]⟩

abbrev nBuf : Space → Nat
  | .hbm => 5
  | .vmem => 0
  | .smem => 0
  | _ => 0

abbrev bufTy : (tb : Table) → Fin (tcTables nBuf tb) → BufTy
  | .hbm, ⟨0, _⟩ => ⟨S40960x2048, .bf16⟩
  | .hbm, ⟨1, _⟩ => ⟨S2048x128, .bf16⟩
  | .hbm, ⟨2, _⟩ => ⟨S40960x2048, .f32⟩
  | .hbm, ⟨3, _⟩ => ⟨S2048x128, .f32⟩
  | .hbm, ⟨4, _⟩ => ⟨S40960x128, .f32⟩
  | _, _ => ⟨S40960x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== LaterOut.lean ====
abbrev S40960x2048 : Shape := ⟨2, ![40960, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S40960x2048, .bf16⟩
  | .hbm, ⟨1, _⟩ => ⟨S2048x2048, .bf16⟩
  | .hbm, ⟨2, _⟩ => ⟨S40960x2048, .f32⟩
  | .hbm, ⟨3, _⟩ => ⟨S2048, .f32⟩
  | .hbm, ⟨4, _⟩ => ⟨S1x2048, .f32⟩
  | .hbm, ⟨5, _⟩ => ⟨S40960x2048, .f32⟩
  | .hbm, ⟨6, _⟩ => ⟨S40960x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S40960x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![80, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== LaterOutReferenceIdeal.lean ====
abbrev S40960x2048 : Shape := ⟨2, ![40960, 2048]⟩
abbrev S2048x2048 : Shape := ⟨2, ![2048, 2048]⟩
abbrev S2048 : Shape := ⟨1, ![2048]⟩
abbrev S_ : Shape := ⟨0, ![]⟩
abbrev S40960 : Shape := ⟨1, ![40960]⟩
abbrev S40960x1 : Shape := ⟨2, ![40960, 1]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S40960x2048, .bf16⟩
  | .hbm, ⟨1, _⟩ => ⟨S2048x2048, .bf16⟩
  | .hbm, ⟨2, _⟩ => ⟨S40960x2048, .f32⟩
  | .hbm, ⟨3, _⟩ => ⟨S2048, .f32⟩
  | .hbm, ⟨4, _⟩ => ⟨S40960x2048, .f32⟩
  | .hbm, ⟨5, _⟩ => ⟨S2048x2048, .f32⟩
  | .hbm, ⟨6, _⟩ => ⟨S40960x2048, .f32⟩
  | .hbm, ⟨7, _⟩ => ⟨S40960x2048, .f32⟩
  | .hbm, ⟨8, _⟩ => ⟨S40960x2048, .f32⟩
  | .hbm, ⟨9, _⟩ => ⟨S_, .f32⟩
  | .hbm, ⟨10, _⟩ => ⟨S40960, .f32⟩
  | .hbm, ⟨11, _⟩ => ⟨S40960x1, .f32⟩
  | .hbm, ⟨12, _⟩ => ⟨S_, .f32⟩
  | .hbm, ⟨13, _⟩ => ⟨S40960x1, .f32⟩
  | .hbm, ⟨14, _⟩ => ⟨S40960x1, .f32⟩
  | .hbm, ⟨15, _⟩ => ⟨S_, .f32⟩
  | .hbm, ⟨16, _⟩ => ⟨S40960x1, .f32⟩
  | .hbm, ⟨17, _⟩ => ⟨S40960x1, .f32⟩
  | .hbm, ⟨18, _⟩ => ⟨S40960x1, .f32⟩
  | .hbm, ⟨19, _⟩ => ⟨S40960x2048, .f32⟩
  | .hbm, ⟨20, _⟩ => ⟨S40960x2048, .f32⟩
  | .hbm, ⟨21, _⟩ => ⟨S1x2048, .f32⟩
  | .hbm, ⟨22, _⟩ => ⟨S40960x2048, .f32⟩
  | .hbm, ⟨23, _⟩ => ⟨S40960x2048, .f32⟩
  | .hbm, ⟨24, _⟩ => ⟨S40960x2048, .bf16⟩
  | _, _ => ⟨S40960x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Last.lean ====
abbrev S2048 : Shape := ⟨1, ![2048]⟩
abbrev S1x2048x2048 : Shape := ⟨3, ![1, 2048, 2048]⟩
abbrev S1x256x2048 : Shape := ⟨3, ![1, 256, 2048]⟩
abbrev S8192x256 : Shape := ⟨2, ![8192, 256]⟩
abbrev S40960x2048 : Shape := ⟨2, ![40960, 2048]⟩
abbrev S1x2048 : Shape := ⟨2, ![1, 2048]⟩
abbrev S8192x2048 : Shape := ⟨2, ![8192, 2048]⟩
abbrev S256x256 : Shape := ⟨2, ![256, 256]⟩
abbrev S256x2048 : Shape := ⟨2, ![256, 2048]⟩
abbrev S256 : Shape := ⟨1, ![256]⟩
abbrev S256x1 : Shape := ⟨2, ![256, 1]⟩
abbrev S2048x2048 : Shape := ⟨2, ![2048, 2048]⟩

abbrev nBuf : Space → Nat
  | .hbm => 7
  | .vmem => 9
  | .smem => 0
  | _ => 0

abbrev bufTy : (tb : Table) → Fin (tcTables nBuf tb) → BufTy
  | .hbm, ⟨0, _⟩ => ⟨S2048, .f32⟩
  | .hbm, ⟨1, _⟩ => ⟨S1x2048x2048, .bf16⟩
  | .hbm, ⟨2, _⟩ => ⟨S1x256x2048, .bf16⟩
  | .hbm, ⟨3, _⟩ => ⟨S8192x256, .f32⟩
  | .hbm, ⟨4, _⟩ => ⟨S40960x2048, .f32⟩
  | .hbm, ⟨5, _⟩ => ⟨S1x2048, .f32⟩
  | .hbm, ⟨6, _⟩ => ⟨S8192x2048, .f32⟩
  | .local _ .vmem, ⟨0, _⟩ => ⟨S1x2048, .f32⟩
  | .local _ .vmem, ⟨1, _⟩ => ⟨S1x2048x2048, .bf16⟩
  | .local _ .vmem, ⟨2, _⟩ => ⟨S1x256x2048, .bf16⟩
  | .local _ .vmem, ⟨3, _⟩ => ⟨S256x256, .f32⟩
  | .local _ .vmem, ⟨4, _⟩ => ⟨S256x256, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== LastReferenceIdeal.lean ====
abbrev S2048 : Shape := ⟨1, ![2048]⟩
abbrev S1x2048x2048 : Shape := ⟨3, ![1, 2048, 2048]⟩
abbrev S1x256x2048 : Shape := ⟨3, ![1, 256, 2048]⟩
abbrev S8192x256 : Shape := ⟨2, ![8192, 256]⟩
abbrev S40960x2048 : Shape := ⟨2, ![40960, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048x2048 : Shape := ⟨2, ![2048, 2048]⟩
abbrev S256x2048 : Shape := ⟨2, ![256, 2048]⟩

abbrev nBuf : Space → Nat
  | .hbm => 42
  | .vmem => 0
  | .smem => 0
  | _ => 0

abbrev bufTy : (tb : Table) → Fin (tcTables nBuf tb) → BufTy
  | .hbm, ⟨0, _⟩ => ⟨S2048, .f32⟩
  | .hbm, ⟨1, _⟩ => ⟨S1x2048x2048, .bf16⟩
  | .hbm, ⟨2, _⟩ => ⟨S1x256x2048, .bf16⟩
  | .hbm, ⟨3, _⟩ => ⟨S8192x256, .f32⟩
  | .hbm, ⟨4, _⟩ => ⟨S40960x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .bf16⟩
  | .hbm, ⟨23, _⟩ => ⟨S8192x2048, .f32⟩
  | .hbm, ⟨24, _⟩ => ⟨S2048x2048, .bf16⟩
  | .hbm, ⟨25, _⟩ => ⟨S2048x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x256, .bf16⟩
  | .hbm, ⟨36, _⟩ => ⟨S8192x256, .f32⟩
  | .hbm, ⟨37, _⟩ => ⟨S256x2048, .bf16⟩
  | .hbm, ⟨38, _⟩ => ⟨S256x2048, .f32⟩
  | .hbm, ⟨39, _⟩ => ⟨S8192x2048, .f32⟩
  | .hbm, ⟨40, _⟩ => ⟨S8192x2048, .f32⟩
  | .hbm, ⟨41, _⟩ => ⟨S8192x2048, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== LastSample.lean ====
abbrev S2048 : Shape := ⟨1, ![2048]⟩
abbrev S1x2048x2048 : Shape := ⟨3, ![1, 2048, 2048]⟩
abbrev S1x256x2048 : Shape := ⟨3, ![1, 256, 2048]⟩
abbrev S32768x256 : Shape := ⟨2, ![32768, 256]⟩
abbrev S40960x2048 : Shape := ⟨2, ![40960, 2048]⟩
abbrev S1x2048 : Shape := ⟨2, ![1, 2048]⟩
abbrev S32768x2048 : Shape := ⟨2, ![32768, 2048]⟩
abbrev S256x256 : Shape := ⟨2, ![256, 256]⟩
abbrev S256x2048 : Shape := ⟨2, ![256, 2048]⟩
abbrev S256 : Shape := ⟨1, ![256]⟩
abbrev S256x1 : Shape := ⟨2, ![256, 1]⟩
abbrev S2048x2048 : Shape := ⟨2, ![2048, 2048]⟩

abbrev nBuf : Space → Nat
  | .hbm => 7
  | .vmem => 9
  | .smem => 0
  | _ => 0

abbrev bufTy : (tb : Table) → Fin (tcTables nBuf tb) → BufTy
  | .hbm, ⟨0, _⟩ => ⟨S2048, .f32⟩
  | .hbm, ⟨1, _⟩ => ⟨S1x2048x2048, .bf16⟩
  | .hbm, ⟨2, _⟩ => ⟨S1x256x2048, .bf16⟩
  | .hbm, ⟨3, _⟩ => ⟨S32768x256, .f32⟩
  | .hbm, ⟨4, _⟩ => ⟨S40960x2048, .f32⟩
  | .hbm, ⟨5, _⟩ => ⟨S1x2048, .f32⟩
  | .hbm, ⟨6, _⟩ => ⟨S32768x2048, .f32⟩
  | .local _ .vmem, ⟨0, _⟩ => ⟨S1x2048, .f32⟩
  | .local _ .vmem, ⟨1, _⟩ => ⟨S1x2048x2048, .bf16⟩
  | .local _ .vmem, ⟨2, _⟩ => ⟨S1x256x2048, .bf16⟩
  | .local _ .vmem, ⟨3, _⟩ => ⟨S256x256, .f32⟩
  | .local _ .vmem, ⟨4, _⟩ => ⟨S256x256, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![128, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== LastSampleReferenceIdeal.lean ====
abbrev S2048 : Shape := ⟨1, ![2048]⟩
abbrev S1x2048x2048 : Shape := ⟨3, ![1, 2048, 2048]⟩
abbrev S1x256x2048 : Shape := ⟨3, ![1, 256, 2048]⟩
abbrev S32768x256 : Shape := ⟨2, ![32768, 256]⟩
abbrev S40960x2048 : Shape := ⟨2, ![40960, 2048]⟩
abbrev S32768x2048 : Shape := ⟨2, ![32768, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S2048x2048 : Shape := ⟨2, ![2048, 2048]⟩
abbrev S256x2048 : Shape := ⟨2, ![256, 2048]⟩

abbrev nBuf : Space → Nat
  | .hbm => 42
  | .vmem => 0
  | .smem => 0
  | _ => 0

abbrev bufTy : (tb : Table) → Fin (tcTables nBuf tb) → BufTy
  | .hbm, ⟨0, _⟩ => ⟨S2048, .f32⟩
  | .hbm, ⟨1, _⟩ => ⟨S1x2048x2048, .bf16⟩
  | .hbm, ⟨2, _⟩ => ⟨S1x256x2048, .bf16⟩
  | .hbm, ⟨3, _⟩ => ⟨S32768x256, .f32⟩
  | .hbm, ⟨4, _⟩ => ⟨S40960x2048, .f32⟩
  | .hbm, ⟨5, _⟩ => ⟨S32768x2048, .f32⟩
  | .hbm, ⟨6, _⟩ => ⟨S32768x2048, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S1x2048, .f32⟩
  | .hbm, ⟨20, _⟩ => ⟨S32768x2048, .f32⟩
  | .hbm, ⟨21, _⟩ => ⟨S32768x2048, .f32⟩
  | .hbm, ⟨22, _⟩ => ⟨S32768x2048, .bf16⟩
  | .hbm, ⟨23, _⟩ => ⟨S32768x2048, .f32⟩
  | .hbm, ⟨24, _⟩ => ⟨S2048x2048, .bf16⟩
  | .hbm, ⟨25, _⟩ => ⟨S2048x2048, .f32⟩
  | .hbm, ⟨26, _⟩ => ⟨S32768x2048, .f32⟩
  | .hbm, ⟨27, _⟩ => ⟨S32768x2048, .f32⟩
  | .hbm, ⟨28, _⟩ => ⟨S32768x2048, .f32⟩
  | .hbm, ⟨29, _⟩ => ⟨S_, .f32⟩
  | .hbm, ⟨30, _⟩ => ⟨S32768x2048, .f32⟩
  | .hbm, ⟨31, _⟩ => ⟨S32768x2048, .f32⟩
  | .hbm, ⟨32, _⟩ => ⟨S_, .f32⟩
  | .hbm, ⟨33, _⟩ => ⟨S32768x2048, .f32⟩
  | .hbm, ⟨34, _⟩ => ⟨S32768x2048, .f32⟩
  | .hbm, ⟨35, _⟩ => ⟨S32768x256, .bf16⟩
  | .hbm, ⟨36, _⟩ => ⟨S32768x256, .f32⟩
  | .hbm, ⟨37, _⟩ => ⟨S256x2048, .bf16⟩
  | .hbm, ⟨38, _⟩ => ⟨S256x2048, .f32⟩
  | .hbm, ⟨39, _⟩ => ⟨S32768x2048, .f32⟩
  | .hbm, ⟨40, _⟩ => ⟨S32768x2048, .f32⟩
  | .hbm, ⟨41, _⟩ => ⟨S32768x2048, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Proof.Merge.lean ====
module

public import proofs.«01_k».proof.Proof.Gen.MergeIdeal.Value
public import proofs.«01_k».proof.Proof.Gen.MergeReferenceIdeal.Run
public import proofs.«01_k».proof.Proof.Gen.Merge.Frame
public import proofs.«01_k».proof.Proof.Gen.MergeIdeal.Frame
public import proofs.«01_k».proof.Defs
public import Idealize.ShloMosaic.Lib.Pointwise
public import Idealize.ShloMosaic.Lib.Pipeline.ValueKit

/-! The mixer's merge at `Ideal`: every block the kernel writes holds the four branches' projections weighed by their gates,
  and so does the reference's array. -/

@[expose] public section

set_option maxRecDepth 16384

noncomputable section

namespace Cert.Proof.Merge

open Idealize.ShloMosaic Idealize.ShloMosaic.TcCoe Idealize.SL.Sem

/-- One branch at a position: the gate of `s` times the projection `p`. -/
def gated (s p : EReal) : EReal := Ideal.logistic s * p

/-- Row `i` of a branch held in two pieces, the first of 8192 rows. -/
def row (p : FVec Ideal Cert.MergeIdeal.S8192x512 .bf16) (s : FVec Ideal Cert.MergeIdeal.S32768x512 .bf16) (i : Fin 40960) (d : Fin 512) : EReal :=
  if h : i.val < 8192 then p (ix2 ⟨i.val, h⟩ d) else s (ix2 ⟨i.val - 8192, by omega⟩ d)

/-- One branch's contribution to row `i`, column `j`. -/
def branch (h : FVec Ideal Cert.MergeIdeal.S40960x2048 .bf16) (wg : FVec Ideal Cert.MergeIdeal.S4x2048x2048 .bf16) (wb : FVec Ideal Cert.MergeIdeal.S4x512x2048 .bf16)
    (k : Fin 4) (p : FVec Ideal Cert.MergeIdeal.S8192x512 .bf16) (s : FVec Ideal Cert.MergeIdeal.S32768x512 .bf16) (i : Fin 40960) (j : Fin 2048) : EReal :=
  gated (∑ d : Fin 2048, h (ix2 i d) * wg (ix3 k d j)) (∑ d : Fin 512, row p s i d * wb (ix3 k d j))

/-- The merge of the four branches at row `i`, column `j`. -/
def merged (h : FVec Ideal Cert.MergeIdeal.S40960x2048 .bf16) (wg : FVec Ideal Cert.MergeIdeal.S4x2048x2048 .bf16) (wb : FVec Ideal Cert.MergeIdeal.S4x512x2048 .bf16)
    (a0 : FVec Ideal Cert.MergeIdeal.S8192x512 .bf16) (a1 : FVec Ideal Cert.MergeIdeal.S32768x512 .bf16) (b0 : FVec Ideal Cert.MergeIdeal.S8192x512 .bf16) (b1 : FVec Ideal Cert.MergeIdeal.S32768x512 .bf16)
    (c0 : FVec Ideal Cert.MergeIdeal.S8192x512 .bf16) (c1 : FVec Ideal Cert.MergeIdeal.S32768x512 .bf16) (d0 : FVec Ideal Cert.MergeIdeal.S8192x512 .bf16) (d1 : FVec Ideal Cert.MergeIdeal.S32768x512 .bf16)
    (i : Fin 40960) (j : Fin 2048) : EReal :=
  branch h wg wb 0 a0 a1 i j + branch h wg wb 1 b0 b1 i j + branch h wg wb 2 c0 c1 i j + branch h wg wb 3 d0 d1 i j

section

open Cert.MergeIdeal Cert.MergeIdeal.Gen

theorem zero₂ : (![0, 0] : Fin 2 → Nat) = fun _ => 0 := funext fun a => by fin_cases a <;> rfl

/-- One branch's contribution inside a block, its rows picked from the two pieces by `b`. -/
def part (x0 : Vec Ideal S1024x2048 .bf16) (x1 : Vec Ideal S4x2048x256 .bf16) (x2 : Vec Ideal S4x512x256 .bf16) (k : Fin 4) (b : BitVec 1)
    (u v : Vec Ideal S1024x512 .bf16) (r : Fin 1024) (c : Fin 256) : EReal :=
  gated (∑ d : Fin 2048, x0 (ix2 r d) * x1 (ix3 k d c)) (∑ d : Fin 512, (Scalar.select b (u (ix2 r d)) (v (ix2 r d)) : EReal) * x2 (ix3 k d c))

/-- A point's block at an index. -/
theorem out_at (i : grid0.Coords) (x0 : Vec Ideal S1024x2048 .bf16) (x1 : Vec Ideal S4x2048x256 .bf16) (x2 : Vec Ideal S4x512x256 .bf16)
    (x3 x4 x5 x6 x7 x8 x9 x10 : Vec Ideal S1024x512 .bf16) (r : Fin 1024) (c : Fin 256) :
    (out0_11 i x0 x1 x2 x3 x4 x5 x6 x7 x8 x9 x10 : S1024x256.Idx → EReal) (ix2 r c)
      = part x0 x1 x2 0 (Scalar.cmpi .slt (BitVec.ofNat 32 (i 0).val) 8#32) x3 x4 r c + part x0 x1 x2 1 (Scalar.cmpi .slt (BitVec.ofNat 32 (i 0).val) 8#32) x5 x6 r c
        + part x0 x1 x2 2 (Scalar.cmpi .slt (BitVec.ofNat 32 (i 0).val) 8#32) x7 x8 r c + part x0 x1 x2 3 (Scalar.cmpi .slt (BitVec.ofNat 32 (i 0).val) 8#32) x9 x10 r c := by
  unfold out0_11
  rw [View.canon_unit_zero zero₂, View.ld_unit_zero (S := S1024x2048) zero₂]
  simp only [View.ld_unit_zero (S := S1024x512) zero₂]
  pointwise [k0_pay1, k0_pay2, part, gated]

end

section

open Cert.MergeReferenceIdeal Cert.MergeReferenceIdeal.Gen

/-- The reference's array at an index. -/
theorem ref_at (m : (ℓ : Loc nD τ sig) → Buf (Elt Ideal) ℓ) (c : Dev nD) (i : Fin 40960) (j : Fin 2048) :
    (Value.res_main_v66 (F := Ideal) m c : S40960x2048.Idx → EReal) (ix2 i j)
      = merged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) i j := by
  unfold Value.res_main_v66
  pointwise [merged, branch, gated, row, Ideal.logistic]

end

section

open Cert.MergeIdeal Cert.MergeIdeal.Gen

variable (m : (ℓ : Loc nD τ sig) → Buf (Elt Ideal) ℓ) (c : Dev nD)

theorem index0 : ∀ t : Fin cfg0.N, win0_0.index t = ![t.val / 8, 0] :=
  (by decide +kernel : ∀ t : Fin grid0.N, win0_0.index t = ![t.val / 8, 0])
theorem index1 : ∀ t : Fin cfg0.N, win0_1.index t = ![0, 0, t.val % 8] :=
  (by decide +kernel : ∀ t : Fin grid0.N, win0_1.index t = ![0, 0, t.val % 8])
theorem index2 : ∀ t : Fin cfg0.N, win0_2.index t = ![0, 0, t.val % 8] :=
  (by decide +kernel : ∀ t : Fin grid0.N, win0_2.index t = ![0, 0, t.val % 8])
theorem index3 : ∀ t : Fin cfg0.N, win0_3.index t = ![min (t.val / 8) 7, 0] :=
  (by decide +kernel : ∀ t : Fin grid0.N, win0_3.index t = ![min (t.val / 8) 7, 0])
theorem index4 : ∀ t : Fin cfg0.N, win0_4.index t = ![t.val / 8 - 8, 0] :=
  (by decide +kernel : ∀ t : Fin grid0.N, win0_4.index t = ![t.val / 8 - 8, 0])
theorem index5 : ∀ t : Fin cfg0.N, win0_5.index t = ![min (t.val / 8) 7, 0] :=
  (by decide +kernel : ∀ t : Fin grid0.N, win0_5.index t = ![min (t.val / 8) 7, 0])
theorem index6 : ∀ t : Fin cfg0.N, win0_6.index t = ![t.val / 8 - 8, 0] :=
  (by decide +kernel : ∀ t : Fin grid0.N, win0_6.index t = ![t.val / 8 - 8, 0])
theorem index7 : ∀ t : Fin cfg0.N, win0_7.index t = ![min (t.val / 8) 7, 0] :=
  (by decide +kernel : ∀ t : Fin grid0.N, win0_7.index t = ![min (t.val / 8) 7, 0])
theorem index8 : ∀ t : Fin cfg0.N, win0_8.index t = ![t.val / 8 - 8, 0] :=
  (by decide +kernel : ∀ t : Fin grid0.N, win0_8.index t = ![t.val / 8 - 8, 0])
theorem index9 : ∀ t : Fin cfg0.N, win0_9.index t = ![min (t.val / 8) 7, 0] :=
  (by decide +kernel : ∀ t : Fin grid0.N, win0_9.index t = ![min (t.val / 8) 7, 0])
theorem index10 : ∀ t : Fin cfg0.N, win0_10.index t = ![t.val / 8 - 8, 0] :=
  (by decide +kernel : ∀ t : Fin grid0.N, win0_10.index t = ![t.val / 8 - 8, 0])
theorem index11 : ∀ t : Fin cfg0.N, win0_11.index t = ![t.val / 8, t.val % 8] :=
  (by decide +kernel : ∀ t : Fin grid0.N, win0_11.index t = ![t.val / 8, t.val % 8])

theorem lt320 (t : Fin cfg0.N) : t.val < 320 := t.isLt

/-- Whether a point's rows lie in the first piece, as the body computes it. -/
theorem first_at : ∀ t : Fin cfg0.N, Scalar.cmpi .slt (BitVec.ofNat 32 ((grid0.coords t) 0).val) 8#32 = if t.val / 8 < 8 then 1#1 else 0#1 :=
  (by decide +kernel : ∀ t : Fin grid0.N, Scalar.cmpi .slt (BitVec.ofNat 32 ((grid0.coords t) 0).val) 8#32 = if t.val / 8 < 8 then 1#1 else 0#1)

/-- The hidden rows of a point. -/
theorem iblk0_at (t : Fin cfg0.N) (r : Fin 1024) (d : Fin 2048) :
    (iblk m c 0 t : S1024x2048.Idx → EReal) (ix2 r d)
      = (m ((c : Thread nD τ).loc main_arg0) : S40960x2048.Idx → EReal) (ix2 ⟨1024 * (t.val / 8) + r.val, by have := lt320 t; omega⟩ d) := by
  blk_ext [iblk, V, index0 t]

/-- The gates' columns of a point. -/
theorem iblk1_at (t : Fin cfg0.N) (k : Fin 4) (d : Fin 2048) (r : Fin 256) :
    (iblk m c 1 t : S4x2048x256.Idx → EReal) (ix3 k d r)
      = (m ((c : Thread nD τ).loc main_arg1) : S4x2048x2048.Idx → EReal) (ix3 k d ⟨256 * (t.val % 8) + r.val, by omega⟩) := by
  blk_ext [iblk, V, index1 t]

/-- The projections' columns of a point. -/
theorem iblk2_at (t : Fin cfg0.N) (k : Fin 4) (d : Fin 512) (r : Fin 256) :
    (iblk m c 2 t : S4x512x256.Idx → EReal) (ix3 k d r)
      = (m ((c : Thread nD τ).loc main_arg2) : S4x512x2048.Idx → EReal) (ix3 k d ⟨256 * (t.val % 8) + r.val, by omega⟩) := by
  blk_ext [iblk, V, index2 t]

/-! The branches' rows of a point, from the first piece and from the second. -/

theorem iblk3_at (t : Fin cfg0.N) (r : Fin 1024) (d : Fin 512) :
    (iblk m c 3 t : S1024x512.Idx → EReal) (ix2 r d)
      = (m ((c : Thread nD τ).loc main_arg3) : S8192x512.Idx → EReal) (ix2 ⟨1024 * min (t.val / 8) 7 + r.val, by have := lt320 t; omega⟩ d) := by
  blk_ext [iblk, V, index3 t]
theorem iblk4_at (t : Fin cfg0.N) (r : Fin 1024) (d : Fin 512) :
    (iblk m c 4 t : S1024x512.Idx → EReal) (ix2 r d)
      = (m ((c : Thread nD τ).loc main_arg4) : S32768x512.Idx → EReal) (ix2 ⟨1024 * (t.val / 8 - 8) + r.val, by have := lt320 t; omega⟩ d) := by
  blk_ext [iblk, V, index4 t]
theorem iblk5_at (t : Fin cfg0.N) (r : Fin 1024) (d : Fin 512) :
    (iblk m c 5 t : S1024x512.Idx → EReal) (ix2 r d)
      = (m ((c : Thread nD τ).loc main_arg5) : S8192x512.Idx → EReal) (ix2 ⟨1024 * min (t.val / 8) 7 + r.val, by have := lt320 t; omega⟩ d) := by
  blk_ext [iblk, V, index5 t]
theorem iblk6_at (t : Fin cfg0.N) (r : Fin 1024) (d : Fin 512) :
    (iblk m c 6 t : S1024x512.Idx → EReal) (ix2 r d)
      = (m ((c : Thread nD τ).loc main_arg6) : S32768x512.Idx → EReal) (ix2 ⟨1024 * (t.val / 8 - 8) + r.val, by have := lt320 t; omega⟩ d) := by
  blk_ext [iblk, V, index6 t]
theorem iblk7_at (t : Fin cfg0.N) (r : Fin 1024) (d : Fin 512) :
    (iblk m c 7 t : S1024x512.Idx → EReal) (ix2 r d)
      = (m ((c : Thread nD τ).loc main_arg7) : S8192x512.Idx → EReal) (ix2 ⟨1024 * min (t.val / 8) 7 + r.val, by have := lt320 t; omega⟩ d) := by
  blk_ext [iblk, V, index7 t]
theorem iblk8_at (t : Fin cfg0.N) (r : Fin 1024) (d : Fin 512) :
    (iblk m c 8 t : S1024x512.Idx → EReal) (ix2 r d)
      = (m ((c : Thread nD τ).loc main_arg8) : S32768x512.Idx → EReal) (ix2 ⟨1024 * (t.val / 8 - 8) + r.val, by have := lt320 t; omega⟩ d) := by
  blk_ext [iblk, V, index8 t]
theorem iblk9_at (t : Fin cfg0.N) (r : Fin 1024) (d : Fin 512) :
    (iblk m c 9 t : S1024x512.Idx → EReal) (ix2 r d)
      = (m ((c : Thread nD τ).loc main_arg9) : S8192x512.Idx → EReal) (ix2 ⟨1024 * min (t.val / 8) 7 + r.val, by have := lt320 t; omega⟩ d) := by
  blk_ext [iblk, V, index9 t]
theorem iblk10_at (t : Fin cfg0.N) (r : Fin 1024) (d : Fin 512) :
    (iblk m c 10 t : S1024x512.Idx → EReal) (ix2 r d)
      = (m ((c : Thread nD τ).loc main_arg10) : S32768x512.Idx → EReal) (ix2 ⟨1024 * (t.val / 8 - 8) + r.val, by have := lt320 t; omega⟩ d) := by
  blk_ext [iblk, V, index10 t]

/-- Two pieces' blocks, the right one picked, are the rows of the branch. -/
theorem pick_at (t : Fin cfg0.N) (u : FVec Ideal S8192x512 .bf16) (v : FVec Ideal S32768x512 .bf16) (r : Fin 1024) (d : Fin 512) :
    (Scalar.select (if t.val / 8 < 8 then 1#1 else 0#1) (u (ix2 ⟨1024 * min (t.val / 8) 7 + r.val, by have := lt320 t; omega⟩ d) : EReal)
        (v (ix2 ⟨1024 * (t.val / 8 - 8) + r.val, by have := lt320 t; omega⟩ d)))
      = row u v ⟨1024 * (t.val / 8) + r.val, by have := lt320 t; omega⟩ d := by
  have hr := r.isLt
  unfold row
  by_cases h : t.val / 8 < 8
  · rw [if_pos h, dif_pos (by show 1024 * (t.val / 8) + r.val < 8192; omega)]
    have e : min (t.val / 8) 7 = t.val / 8 := by omega
    simp only [Scalar.select, e]
    exact if_pos rfl
  · rw [if_neg h, dif_neg (by show ¬ 1024 * (t.val / 8) + r.val < 8192; omega)]
    have e : 1024 * (t.val / 8 - 8) + r.val = 1024 * (t.val / 8) + r.val - 8192 := by omega
    simp only [Scalar.select, e]
    rfl

/-- One branch inside a point's block is that branch at the point's rows and columns. -/
theorem part_at (t : Fin cfg0.N) (k : Fin 4) (u v : Vec Ideal S1024x512 .bf16) (p : FVec Ideal S8192x512 .bf16) (s : FVec Ideal S32768x512 .bf16)
    (hu : ∀ (r : Fin 1024) (d : Fin 512), (u : S1024x512.Idx → EReal) (ix2 r d) = p (ix2 ⟨1024 * min (t.val / 8) 7 + r.val, by have := lt320 t; omega⟩ d))
    (hv : ∀ (r : Fin 1024) (d : Fin 512), (v : S1024x512.Idx → EReal) (ix2 r d) = s (ix2 ⟨1024 * (t.val / 8 - 8) + r.val, by have := lt320 t; omega⟩ d))
    (r : Fin 1024) (j : Fin 256) :
    part (iblk m c 0 t) (iblk m c 1 t) (iblk m c 2 t) k (Scalar.cmpi .slt (BitVec.ofNat 32 ((grid0.coords t) 0).val) 8#32) u v r j
      = branch (m ((c : Thread nD τ).loc main_arg0)) (m ((c : Thread nD τ).loc main_arg1)) (m ((c : Thread nD τ).loc main_arg2)) k p s
          ⟨1024 * (t.val / 8) + r.val, by have := lt320 t; omega⟩ ⟨256 * (t.val % 8) + j.val, by omega⟩ := by
  rw [first_at t]
  unfold part branch
  refine congrArg₂ gated (Finset.sum_congr rfl fun d _ => ?_) (Finset.sum_congr rfl fun d _ => ?_)
  · rw [iblk0_at, iblk1_at]
  · rw [hu, hv, iblk2_at, pick_at]

/-- A point's block at an index is the merge at the point's rows and columns. -/
theorem block_at (t : Fin cfg0.N) (r : Fin 1024) (j : Fin 256) :
    (out0_11 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) : S1024x256.Idx → EReal) (ix2 r j)
      = merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) ⟨1024 * (t.val / 8) + r.val, by have := lt320 t; omega⟩ ⟨256 * (t.val % 8) + j.val, by omega⟩ := by
  rw [out_at, part_at m c t 0 _ _ _ _ (iblk3_at m c t) (iblk4_at m c t), part_at m c t 1 _ _ _ _ (iblk5_at m c t) (iblk6_at m c t),
    part_at m c t 2 _ _ _ _ (iblk7_at m c t) (iblk8_at m c t), part_at m c t 3 _ _ _ _ (iblk9_at m c t) (iblk10_at m c t)]
  rfl

/-- The whole array after the run. -/
theorem array : ((dats m 0 c).arrAt 11 cfg0.N : S40960x2048.Idx → EReal)
    = fun i => merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 0) (i 1) := by
  refine (dats m 0 c).arrAt_eq_of_covers 11 _ (by decide +kernel) fun t hf y => ?_
  blk_simp
  rw [after0_11]
  have h0 : (y 0).val < 1024 := (y 0).isLt
  have h1 : (y 1).val < 256 := (y 1).isLt
  have ht := lt320 t
  have hy : y = (ix2 (⟨(y 0).val, h0⟩ : Fin 1024) (⟨(y 1).val, h1⟩ : Fin 256) : S1024x256.Idx) := by
    funext a; fin_cases a <;> rfl
  have e0 := congrFun (index11 t) 0
  have e1 := congrFun (index11 t) 1
  simp only [Matrix.cons_val_zero, Matrix.cons_val_one] at e0 e1
  refine (congrArg _ hy).trans ((block_at m c t _ _).trans ?_)
  refine congrArg₂ (merged _ _ _ _ _ _ _ _ _ _ _) (Fin.ext ?_) (Fin.ext ?_)
  · show 1024 * (t.val / 8) + (y 0).val = _
    blk_simp
    rw [e0]; omega
  · show 256 * (t.val % 8) + (y 1).val = _
    blk_simp
    rw [e1]; omega

end

/-- The reference runs, keeps its arguments, and ends with no counter raised. -/
theorem frame_ref : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

/-- From equal arguments the kernel's result is the reference's. -/
theorem algebraic : Cert.algebraic_MergeIdeal_MergeReferenceIdeal := by
  intro m ρ m' ρ' _ hagree
  refine ⟨fun c => (Cert.MergeIdeal.Gen.dats m 0 c).arrAt 11 Cert.MergeIdeal.cfg0.N, Cert.MergeIdeal.Value.run_blocks (F := Ideal) m ρ, ?_⟩
  refine (θ_run Cert.MergeReferenceIdeal.defs _ _).mono (fun _ h c => ⟨(h c).1.trans ?_, (h c).2⟩)
    (Cert.MergeReferenceIdeal.Value.run (F := Ideal) m' ρ')
  refine Eq.trans ?_ (array m c).symm
  obtain ⟨e0, e1, e2, e3, e4, e5, e6, e7, e8, e9, e10⟩ := hagree c
  rw [← e0, ← e1, ← e2, ← e3, ← e4, ← e5, ← e6, ← e7, ← e8, ← e9, ← e10]
  funext i
  have hi : i = ix2 (i 0) (i 1) := by funext a; fin_cases a <;> rfl
  exact (congrArg _ hi).trans (ref_at _ _ _ _)

end Cert.Proof.Merge
-- ==== Proof.InProj.lean ====
/-
  The input projection at `Ideal`: every block the kernel writes holds rows of the input against columns of the weight, and
  so does the reference's array.
-/
module

public import proofs.«01_k».proof.Proof.Gen.InProjIdeal.Value
public import proofs.«01_k».proof.Proof.Gen.InProjReferenceIdeal.Run
public import proofs.«01_k».proof.Proof.Gen.InProj.Frame
public import proofs.«01_k».proof.Proof.Gen.InProjIdeal.Frame
public import proofs.«01_k».proof.Defs
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pointwise

namespace Cert.Proof.InProj

/-- Row `i` of `h` against column `j` of `w`. -/
def val (h : FVec Ideal Cert.InProjIdeal.S40960x2048 .bf16) (w : FVec Ideal Cert.InProjIdeal.S2048x6144 .bf16) (i : Fin 40960) (j : Fin 6144) : EReal :=
  ∑ d : Fin 2048, h (ix2 i d) * w (ix2 d j)

section

open Cert.InProjIdeal Cert.InProjIdeal.Gen

theorem zero₂ : (![0, 0] : Fin 2 → Nat) = fun _ => 0 := funext fun a => by fin_cases a <;> rfl

/-- A point's block at an index. -/
theorem out_at (x0 : Vec Ideal S1024x2048 .bf16) (x1 : Vec Ideal S2048x1024 .bf16) (r c : Fin 1024) :
    (out0_2 x0 x1 : S1024x1024.Idx → EReal) (ix2 r c)
      = ∑ d : Fin 2048, x0 (ix2 r d) * x1 (ix2 d c) := by
  unfold out0_2
  rw [View.canon_unit_zero zero₂, View.ld_unit_zero (S := S1024x2048) zero₂, View.ld_unit_zero (S := S2048x1024) zero₂]
  pointwise [k0_pay1]

end

section

open Cert.InProjReferenceIdeal Cert.InProjReferenceIdeal.Gen

/-- The reference's array at an index. -/
theorem ref_at (h : FVec Ideal S40960x2048 .bf16) (w : FVec Ideal S2048x6144 .bf16) (i : Fin 40960) (j : Fin 6144) :
    (Host.dotGeneral dot_S40960x2048_S2048x6144_S40960x6144_1_0_0_1_n_n none (extf .f32 h bitsLt_bf16_f32 : FVec Ideal S40960x2048 .f32) (extf .f32 w bitsLt_bf16_f32 : FVec Ideal S2048x6144 .f32) : FVec Ideal S40960x6144 .f32) (ix2 i j) = val h w i j := by
  pointwise [val]

end

section

open Cert.InProjIdeal Cert.InProjIdeal.Gen

variable (m : (ℓ : Loc nD τ sig) → Buf (Elt Ideal) ℓ) (c : Dev nD)

theorem index0 : ∀ t : Fin cfg0.N, win0_0.index t = ![t.val / 6, 0] :=
  (by decide +kernel : ∀ t : Fin grid0.N, win0_0.index t = ![t.val / 6, 0])
theorem index1 : ∀ t : Fin cfg0.N, win0_1.index t = ![0, t.val % 6] :=
  (by decide +kernel : ∀ t : Fin grid0.N, win0_1.index t = ![0, t.val % 6])
theorem index2 : ∀ t : Fin cfg0.N, win0_2.index t = ![t.val / 6, t.val % 6] :=
  (by decide +kernel : ∀ t : Fin grid0.N, win0_2.index t = ![t.val / 6, t.val % 6])

theorem lt240 (t : Fin cfg0.N) : t.val < 240 := t.isLt

/-- The rows of a point. -/
theorem iblk0_at (t : Fin cfg0.N) (r : Fin 1024) (d : Fin 2048) :
    (iblk m c 0 t : S1024x2048.Idx → EReal) (ix2 r d)
      = (m ((c : Thread nD τ).loc main_arg0) : S40960x2048.Idx → EReal) (ix2 ⟨1024 * (t.val / 6) + r.val, by have := lt240 t; omega⟩ d) := by
  blk_ext [iblk, V, index0 t]

/-- The weight's columns of a point. -/
theorem iblk1_at (t : Fin cfg0.N) (d : Fin 2048) (r : Fin 1024) :
    (iblk m c 1 t : S2048x1024.Idx → EReal) (ix2 d r)
      = (m ((c : Thread nD τ).loc main_arg1) : S2048x6144.Idx → EReal) (ix2 d ⟨1024 * (t.val % 6) + r.val, by omega⟩) := by
  blk_ext [iblk, V, index1 t]

/-- The whole array after the run. -/
theorem array : ((dats m 0 c).arrAt 2 cfg0.N : S40960x6144.Idx → EReal)
    = fun i => val (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  have h0 : (y 0).val < 1024 := (y 0).isLt
  have h1 : (y 1).val < 1024 := (y 1).isLt
  have ht := lt240 t
  have hy : y = (ix2 (⟨(y 0).val, h0⟩ : Fin 1024) (⟨(y 1).val, h1⟩ : Fin 1024) : S1024x1024.Idx) := by
    funext a; fin_cases a <;> rfl
  have e0 := congrFun (index2 t) 0
  have e1 := congrFun (index2 t) 1
  simp only [Matrix.cons_val_zero, Matrix.cons_val_one] at e0 e1
  refine (congrArg _ hy).trans ((out_at _ _ _ _).trans ?_)
  simp only [iblk0_at, iblk1_at]
  refine congrArg₂ (val _ _) (Fin.ext ?_) (Fin.ext ?_)
  · show 1024 * (t.val / 6) + (y 0).val = _
    blk_simp
    rw [e0]; omega
  · show 1024 * (t.val % 6) + (y 1).val = _
    blk_simp
    rw [e1]; omega

end

/-- The reference runs, keeps its arguments, and declares no semaphore. -/
theorem frame_ref : Cert.quiescent_InProjReferenceIdeal := fun m ρ _ =>
  (θ_run Cert.InProjReferenceIdeal.defs _ _).mono (fun r h => ⟨fun c => (h c).2, sem_eq_zero_of_no_sems (by decide) r.2⟩)
    (Cert.InProjReferenceIdeal.Value.run (F := Ideal) m ρ)

/-- The kernel's array is the reference's. -/
theorem algebraic : Cert.algebraic_InProjIdeal_InProjReferenceIdeal := by
  intro m ρ m' ρ' _ hagree
  refine ⟨fun c => (Cert.InProjIdeal.Gen.dats m 0 c).arrAt 2 Cert.InProjIdeal.cfg0.N, Cert.InProjIdeal.Value.run_blocks (F := Ideal) m ρ, ?_⟩
  refine (θ_run Cert.InProjReferenceIdeal.defs _ _).mono (fun _ h c => ⟨(h c).1.trans ?_, (h c).2⟩) (Cert.InProjReferenceIdeal.Value.run (F := Ideal) m' ρ')
  refine Eq.trans ?_ (array m c).symm
  have e0 := (hagree c).1
  have e1 := (hagree c).2
  rw [e0, e1]
  funext i
  have hi : i = ix2 (i 0) (i 1) := by funext a; fin_cases a <;> rfl
  exact (congrArg _ hi).trans (ref_at _ _ _ _)

end Cert.Proof.InProj

end
-- ==== Proof.Up.lean ====
/-
  The MLP's first layer at `Ideal`: every block the kernel writes holds the squared positive part of a row of the input
  against a column of the weight, and so does the reference's array.
-/
module

public import proofs.«01_k».proof.Proof.Gen.UpIdeal.Value
public import proofs.«01_k».proof.Proof.Gen.UpReferenceIdeal.Run
public import proofs.«01_k».proof.Proof.Gen.Up.Frame
public import proofs.«01_k».proof.Proof.Gen.UpIdeal.Frame
public import proofs.«01_k».proof.Defs
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pointwise

namespace Cert.Proof.Up

/-- The squared positive part of row `i` of `h` against column `j` of `w`. -/
def val (h : FVec Ideal Cert.UpIdeal.S40960x2048 .bf16) (w : FVec Ideal Cert.UpIdeal.S2048x8192 .bf16) (i : Fin 40960) (j : Fin 8192) : EReal :=
  max (∑ d : Fin 2048, h (ix2 i d) * w (ix2 d j)) 0 * max (∑ d : Fin 2048, h (ix2 i d) * w (ix2 d j)) 0

section

open Cert.UpIdeal Cert.UpIdeal.Gen

theorem zero₂ : (![0, 0] : Fin 2 → Nat) = fun _ => 0 := funext fun a => by fin_cases a <;> rfl

/-- A point's block at an index. -/
theorem out_at (x0 : Vec Ideal S1024x2048 .bf16) (x1 : Vec Ideal S2048x1024 .bf16) (r c : Fin 1024) :
    (out0_2 x0 x1 : S1024x1024.Idx → EReal) (ix2 r c)
      = max (∑ d : Fin 2048, x0 (ix2 r d) * x1 (ix2 d c)) 0 * max (∑ d : Fin 2048, x0 (ix2 r d) * x1 (ix2 d c)) 0 := by
  unfold out0_2
  rw [View.canon_unit_zero zero₂, View.ld_unit_zero (S := S1024x2048) zero₂, View.ld_unit_zero (S := S2048x1024) zero₂]
  pointwise [k0_pay1]

end

section

open Cert.UpReferenceIdeal Cert.UpReferenceIdeal.Gen

/-- The reference's product and its positive part. -/
def pos (h : FVec Ideal S40960x2048 .bf16) (w : FVec Ideal S2048x8192 .bf16) : FVec Ideal S40960x8192 .f32 :=
  maximumf (Host.dotGeneral dot_S40960x2048_S2048x8192_S40960x8192_1_0_0_1_n_n none (extf .f32 h bitsLt_bf16_f32) (extf .f32 w bitsLt_bf16_f32))
    (broadcastInDim S40960x8192 ![] bcast_S_S40960x8192 (constant S_ .f32 0x00000000#32))

/-- The reference's array at an index. -/
theorem ref_at (h : FVec Ideal S40960x2048 .bf16) (w : FVec Ideal S2048x8192 .bf16) (i : Fin 40960) (j : Fin 8192) :
    (truncf .bf16 (mulf (pos h w) (pos h w) : FVec Ideal S40960x8192 .f32) bitsLt_bf16_f32 : FVec Ideal S40960x8192 .bf16) (ix2 i j) = val h w i j := by
  pointwise [val, pos]

end

section

open Cert.UpIdeal Cert.UpIdeal.Gen

variable (m : (ℓ : Loc nD τ sig) → Buf (Elt Ideal) ℓ) (c : Dev nD)

theorem index0 : ∀ t : Fin cfg0.N, win0_0.index t = ![t.val / 8, 0] :=
  (by decide +kernel : ∀ t : Fin grid0.N, win0_0.index t = ![t.val / 8, 0])
theorem index1 : ∀ t : Fin cfg0.N, win0_1.index t = ![0, t.val % 8] :=
  (by decide +kernel : ∀ t : Fin grid0.N, win0_1.index t = ![0, t.val % 8])
theorem index2 : ∀ t : Fin cfg0.N, win0_2.index t = ![t.val / 8, t.val % 8] :=
  (by decide +kernel : ∀ t : Fin grid0.N, win0_2.index t = ![t.val / 8, t.val % 8])

theorem lt320 (t : Fin cfg0.N) : t.val < 320 := t.isLt

/-- The rows of a point. -/
theorem iblk0_at (t : Fin cfg0.N) (r : Fin 1024) (d : Fin 2048) :
    (iblk m c 0 t : S1024x2048.Idx → EReal) (ix2 r d)
      = (m ((c : Thread nD τ).loc main_arg0) : S40960x2048.Idx → EReal) (ix2 ⟨1024 * (t.val / 8) + r.val, by have := lt320 t; omega⟩ d) := by
  blk_ext [iblk, V, index0 t]

/-- The weight's columns of a point. -/
theorem iblk1_at (t : Fin cfg0.N) (d : Fin 2048) (r : Fin 1024) :
    (iblk m c 1 t : S2048x1024.Idx → EReal) (ix2 d r)
      = (m ((c : Thread nD τ).loc main_arg1) : S2048x8192.Idx → EReal) (ix2 d ⟨1024 * (t.val % 8) + r.val, by omega⟩) := by
  blk_ext [iblk, V, index1 t]

/-- The whole array after the run. -/
theorem array : ((dats m 0 c).arrAt 2 cfg0.N : S40960x8192.Idx → EReal)
    = fun i => val (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  have h0 : (y 0).val < 1024 := (y 0).isLt
  have h1 : (y 1).val < 1024 := (y 1).isLt
  have ht := lt320 t
  have hy : y = (ix2 (⟨(y 0).val, h0⟩ : Fin 1024) (⟨(y 1).val, h1⟩ : Fin 1024) : S1024x1024.Idx) := by
    funext a; fin_cases a <;> rfl
  have e0 := congrFun (index2 t) 0
  have e1 := congrFun (index2 t) 1
  simp only [Matrix.cons_val_zero, Matrix.cons_val_one] at e0 e1
  refine (congrArg _ hy).trans ((out_at _ _ _ _).trans ?_)
  simp only [iblk0_at, iblk1_at]
  refine congrArg₂ (val _ _) (Fin.ext ?_) (Fin.ext ?_)
  · show 1024 * (t.val / 8) + (y 0).val = _
    blk_simp
    rw [e0]; omega
  · show 1024 * (t.val % 8) + (y 1).val = _
    blk_simp
    rw [e1]; omega

end

/-- The reference runs, keeps its arguments, and declares no semaphore. -/
theorem frame_ref : Cert.quiescent_UpReferenceIdeal := fun m ρ _ =>
  (θ_run Cert.UpReferenceIdeal.defs _ _).mono (fun r h => ⟨fun c => (h c).2, sem_eq_zero_of_no_sems (by decide) r.2⟩)
    (Cert.UpReferenceIdeal.Value.run (F := Ideal) m ρ)

/-- The kernel's array is the reference's. -/
theorem algebraic : Cert.algebraic_UpIdeal_UpReferenceIdeal := by
  intro m ρ m' ρ' _ hagree
  refine ⟨fun c => (Cert.UpIdeal.Gen.dats m 0 c).arrAt 2 Cert.UpIdeal.cfg0.N, Cert.UpIdeal.Value.run_blocks (F := Ideal) m ρ, ?_⟩
  refine (θ_run Cert.UpReferenceIdeal.defs _ _).mono (fun _ h c => ⟨(h c).1.trans ?_, (h c).2⟩) (Cert.UpReferenceIdeal.Value.run (F := Ideal) m' ρ')
  refine Eq.trans ?_ (array m c).symm
  have e0 := (hagree c).1
  have e1 := (hagree c).2
  rw [e0, e1]
  funext i
  have hi : i = ix2 (i 0) (i 1) := by funext a; fin_cases a <;> rfl
  exact (congrArg _ hi).trans (ref_at _ _ _ _)

end Cert.Proof.Up

end
-- ==== Proof.Down.lean ====
/-
  The MLP's second layer at `Ideal`: every block the kernel writes holds the layer's input plus a row of the hidden values
  against a column of the weight, and so does the reference's array.
-/
module

public import proofs.«01_k».proof.Proof.Gen.DownIdeal.Value
public import proofs.«01_k».proof.Proof.Gen.DownReferenceIdeal.Run
public import proofs.«01_k».proof.Proof.Gen.Down.Frame
public import proofs.«01_k».proof.Proof.Gen.DownIdeal.Frame
public import proofs.«01_k».proof.Defs
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pointwise

namespace Cert.Proof.Down

/-- The layer's input plus row `i` of `u` against column `j` of `w`. -/
def val (u : FVec Ideal Cert.DownIdeal.S40960x8192 .bf16) (w : FVec Ideal Cert.DownIdeal.S8192x2048 .bf16) (x : FVec Ideal Cert.DownIdeal.S40960x2048 .f32)
    (i : Fin 40960) (j : Fin 2048) : EReal :=
  x (ix2 i j) + ∑ d : Fin 8192, u (ix2 i d) * w (ix2 d j)

section

open Cert.DownIdeal Cert.DownIdeal.Gen

theorem zero₂ : (![0, 0] : Fin 2 → Nat) = fun _ => 0 := funext fun a => by fin_cases a <;> rfl

/-- A point's block at an index. -/
theorem out_at (x0 : Vec Ideal S1024x8192 .bf16) (x1 : Vec Ideal S8192x256 .bf16) (x2 : Vec Ideal S1024x256 .f32) (r : Fin 1024) (c : Fin 256) :
    (out0_3 x0 x1 x2 : S1024x256.Idx → EReal) (ix2 r c) = x2 (ix2 r c) + ∑ d : Fin 8192, x0 (ix2 r d) * x1 (ix2 d c) := by
  unfold out0_3
  rw [View.canon_unit_zero zero₂, View.ld_unit_zero (S := S1024x8192) zero₂, View.ld_unit_zero (S := S8192x256) zero₂, View.ld_unit_zero (S := S1024x256) zero₂]
  pointwise [k0_pay1]

end

section

open Cert.DownReferenceIdeal Cert.DownReferenceIdeal.Gen

/-- The reference's array at an index. -/
theorem ref_at (u : FVec Ideal S40960x8192 .bf16) (w : FVec Ideal S8192x2048 .bf16) (x : FVec Ideal S40960x2048 .f32) (i : Fin 40960) (j : Fin 2048) :
    (addf x (Host.dotGeneral dot_S40960x8192_S8192x2048_S40960x2048_1_0_0_1_n_n none (extf .f32 u bitsLt_bf16_f32 : FVec Ideal S40960x8192 .f32) (extf .f32 w bitsLt_bf16_f32 : FVec Ideal S8192x2048 .f32)) : FVec Ideal S40960x2048 .f32) (ix2 i j)
      = val u w x i j := by
  pointwise [val]

end

section

open Cert.DownIdeal Cert.DownIdeal.Gen

variable (m : (ℓ : Loc nD τ sig) → Buf (Elt Ideal) ℓ) (c : Dev nD)

theorem index0 : ∀ t : Fin cfg0.N, win0_0.index t = ![t.val / 8, 0] :=
  (by decide +kernel : ∀ t : Fin grid0.N, win0_0.index t = ![t.val / 8, 0])
theorem index1 : ∀ t : Fin cfg0.N, win0_1.index t = ![0, t.val % 8] :=
  (by decide +kernel : ∀ t : Fin grid0.N, win0_1.index t = ![0, t.val % 8])
theorem index2 : ∀ t : Fin cfg0.N, win0_2.index t = ![t.val / 8, t.val % 8] :=
  (by decide +kernel : ∀ t : Fin grid0.N, win0_2.index t = ![t.val / 8, t.val % 8])
theorem index3 : ∀ t : Fin cfg0.N, win0_3.index t = ![t.val / 8, t.val % 8] :=
  (by decide +kernel : ∀ t : Fin grid0.N, win0_3.index t = ![t.val / 8, t.val % 8])

theorem lt320 (t : Fin cfg0.N) : t.val < 320 := t.isLt

/-- The hidden rows of a point. -/
theorem iblk0_at (t : Fin cfg0.N) (r : Fin 1024) (d : Fin 8192) :
    (iblk m c 0 t : S1024x8192.Idx → EReal) (ix2 r d)
      = (m ((c : Thread nD τ).loc main_arg0) : S40960x8192.Idx → EReal) (ix2 ⟨1024 * (t.val / 8) + r.val, by have := lt320 t; omega⟩ d) := by
  blk_ext [iblk, V, index0 t]

/-- The weight's columns of a point. -/
theorem iblk1_at (t : Fin cfg0.N) (d : Fin 8192) (r : Fin 256) :
    (iblk m c 1 t : S8192x256.Idx → EReal) (ix2 d r)
      = (m ((c : Thread nD τ).loc main_arg1) : S8192x2048.Idx → EReal) (ix2 d ⟨256 * (t.val % 8) + r.val, by omega⟩) := by
  blk_ext [iblk, V, index1 t]

/-- The layer's input at a point. -/
theorem iblk2_at (t : Fin cfg0.N) (r : Fin 1024) (d : Fin 256) :
    (iblk m c 2 t : S1024x256.Idx → EReal) (ix2 r d)
      = (m ((c : Thread nD τ).loc main_arg2) : S40960x2048.Idx → EReal) (ix2 ⟨1024 * (t.val / 8) + r.val, by have := lt320 t; omega⟩ ⟨256 * (t.val % 8) + d.val, by omega⟩) := by
  blk_ext [iblk, V, index2 t]

/-- The whole array after the run. -/
theorem array : ((dats m 0 c).arrAt 3 cfg0.N : S40960x2048.Idx → EReal)
    = fun i => val (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  blk_simp
  rw [after0_3]
  have h0 : (y 0).val < 1024 := (y 0).isLt
  have h1 : (y 1).val < 256 := (y 1).isLt
  have ht := lt320 t
  have hy : y = (ix2 (⟨(y 0).val, h0⟩ : Fin 1024) (⟨(y 1).val, h1⟩ : Fin 256) : S1024x256.Idx) := by
    funext a; fin_cases a <;> rfl
  have e0 := congrFun (index3 t) 0
  have e1 := congrFun (index3 t) 1
  simp only [Matrix.cons_val_zero, Matrix.cons_val_one] at e0 e1
  refine (congrArg _ hy).trans ((out_at _ _ _ _ _).trans ?_)
  simp only [iblk0_at, iblk1_at, iblk2_at]
  refine congrArg₂ (val _ _ _) (Fin.ext ?_) (Fin.ext ?_)
  · show 1024 * (t.val / 8) + (y 0).val = _
    blk_simp
    rw [e0]; omega
  · show 256 * (t.val % 8) + (y 1).val = _
    blk_simp
    rw [e1]; omega

end

/-- The reference runs, keeps its arguments, and declares no semaphore. -/
theorem frame_ref : Cert.quiescent_DownReferenceIdeal := fun m ρ _ =>
  (θ_run Cert.DownReferenceIdeal.defs _ _).mono (fun r h => ⟨fun c => (h c).2, sem_eq_zero_of_no_sems (by decide) r.2⟩)
    (Cert.DownReferenceIdeal.Value.run (F := Ideal) m ρ)

/-- The kernel's array is the reference's. -/
theorem algebraic : Cert.algebraic_DownIdeal_DownReferenceIdeal := by
  intro m ρ m' ρ' _ hagree
  refine ⟨fun c => (Cert.DownIdeal.Gen.dats m 0 c).arrAt 3 Cert.DownIdeal.cfg0.N, Cert.DownIdeal.Value.run_blocks (F := Ideal) m ρ, ?_⟩
  refine (θ_run Cert.DownReferenceIdeal.defs _ _).mono (fun _ h c => ⟨(h c).1.trans ?_, (h c).2⟩) (Cert.DownReferenceIdeal.Value.run (F := Ideal) m' ρ')
  refine Eq.trans ?_ (array m c).symm
  have e0 := (hagree c).1
  have e1 := (hagree c).2.1
  have e2 := (hagree c).2.2
  rw [e0, e1, e2]
  funext i
  have hi : i = ix2 (i 0) (i 1) := by funext a; fin_cases a <;> rfl
  exact (congrArg _ hi).trans (ref_at _ _ _ _ _)

end Cert.Proof.Down

end
-- ==== Proof.Out.lean ====
module

public import proofs.«01_k».proof.Proof.Gen.OutIdeal.Value
public import proofs.«01_k».proof.Proof.Gen.OutReferenceIdeal.Run
public import proofs.«01_k».proof.Proof.Gen.Out.Frame
public import proofs.«01_k».proof.Proof.Gen.OutIdeal.Frame
public import proofs.«01_k».proof.Defs
public import Idealize.ShloMosaic.Lib.Pointwise
public import Idealize.ShloMosaic.Lib.Pipeline.ValueKit

/-! The output projection at `Ideal`: every block the kernel writes holds the layer's input plus rows of the merged mixers
  against columns of the weight, and that row's norm; so do the reference's arrays. -/

@[expose] public section

set_option maxRecDepth 16384

noncomputable section

open Idealize.ShloMosaic Idealize.ShloMosaic.TcCoe Idealize.SL.Sem
open Idealize.ShloMosaic.Pointwise

namespace Cert.Proof.Out

/-- A row over the root of its mean square, weighed by a gain. -/
def normed (f : Fin 2048 → EReal) (g : EReal) (j : Fin 2048) : EReal :=
  f j * Ideal.rsqrt (Ideal.div (∑ d : Fin 2048, f d * f d) (Ideal.ofBits .f32 0x45000000#32) + Ideal.ofBits .f32 0x358637BD#32) * g

/-- Row `i` of the layer's input, held in two pieces, the first of 8192 rows. -/
def row (p : FVec Ideal Cert.OutIdeal.S8192x2048 .f32) (s : FVec Ideal Cert.OutIdeal.S32768x2048 .f32) (i : Fin 40960) (d : Fin 2048) : EReal :=
  if h : i.val < 8192 then p (ix2 ⟨i.val, h⟩ d) else s (ix2 ⟨i.val - 8192, by omega⟩ d)

/-- Row `i` of the layer's input plus row `i` of `u` against the columns of `w`. -/
def val (u : FVec Ideal Cert.OutIdeal.S40960x2048 .bf16) (w : FVec Ideal Cert.OutIdeal.S2048x2048 .bf16)
    (p : FVec Ideal Cert.OutIdeal.S8192x2048 .f32) (s : FVec Ideal Cert.OutIdeal.S32768x2048 .f32) (i : Fin 40960) (j : Fin 2048) : EReal :=
  row p s i j + ∑ d : Fin 2048, u (ix2 i d) * w (ix2 d j)

/-- The norm of that row. -/
def nval (u : FVec Ideal Cert.OutIdeal.S40960x2048 .bf16) (w : FVec Ideal Cert.OutIdeal.S2048x2048 .bf16)
    (p : FVec Ideal Cert.OutIdeal.S8192x2048 .f32) (s : FVec Ideal Cert.OutIdeal.S32768x2048 .f32) (g : FVec Ideal Cert.OutIdeal.S2048 .f32) (i : Fin 40960) (j : Fin 2048) : EReal :=
  normed (val u w p s i) (g (ix1 j)) j

section

open Cert.OutIdeal Cert.OutIdeal.Gen

theorem zero₂ : (![0, 0] : Fin 2 → Nat) = fun _ => 0 := funext fun a => by fin_cases a <;> rfl

/-- A row inside a block, the layer's input picked from the two pieces by `b`. -/
def part (x0 : Vec Ideal S512x2048 .bf16) (x1 : Vec Ideal S2048x2048 .bf16) (b : BitVec 1) (x2 x3 : Vec Ideal S512x2048 .f32) (r : Fin 512) (j : Fin 2048) : EReal :=
  (Scalar.select b (x2 (ix2 r j)) (x3 (ix2 r j)) : EReal) + ∑ d : Fin 2048, x0 (ix2 r d) * x1 (ix2 d j)

/-- The sums the body forms, at an index. -/
theorem pay1_at (i : grid0.Coords) (x0 : Vec Ideal S512x2048 .bf16) (x1 : Vec Ideal S2048x2048 .bf16) (x2 x3 : Vec Ideal S512x2048 .f32) (r : Fin 512) (j : Fin 2048) :
    (k0_pay1 i x0 x1 x2 x3 : S512x2048.Idx → EReal) (ix2 r j) = part x0 x1 (Scalar.cmpi .slt (BitVec.ofNat 32 (i 0).val) 16#32) x2 x3 r j := by
  pointwise [k0_pay1, part]

/-- A block of the first result at an index. -/
theorem out5_at (i : grid0.Coords) (x0 : Vec Ideal S512x2048 .bf16) (x1 : Vec Ideal S2048x2048 .bf16) (x2 x3 : Vec Ideal S512x2048 .f32) (x4 : Vec Ideal S1x2048 .f32)
    (r : Fin 512) (j : Fin 2048) :
    (out0_5 i x0 x1 x2 x3 x4 : S512x2048.Idx → EReal) (ix2 r j) = part x0 x1 (Scalar.cmpi .slt (BitVec.ofNat 32 (i 0).val) 16#32) x2 x3 r j := by
  unfold out0_5
  rw [View.canon_unit_zero zero₂, View.ld_unit_zero (S := S2048x2048) zero₂]
  simp only [View.ld_unit_zero (S := S512x2048) zero₂]
  exact pay1_at _ _ _ _ _ _ _

/-- A block of the second result at an index. -/
theorem out6_at (i : grid0.Coords) (x0 : Vec Ideal S512x2048 .bf16) (x1 : Vec Ideal S2048x2048 .bf16) (x2 x3 : Vec Ideal S512x2048 .f32) (x4 : Vec Ideal S1x2048 .f32)
    (r : Fin 512) (j : Fin 2048) :
    (out0_6 i x0 x1 x2 x3 x4 : S512x2048.Idx → EReal) (ix2 r j)
      = normed (part x0 x1 (Scalar.cmpi .slt (BitVec.ofNat 32 (i 0).val) 16#32) x2 x3 r) (x4 (ix2 0 j)) j := by
  unfold out0_6
  rw [View.canon_unit_zero zero₂, View.ld_unit_zero (S := S2048x2048) zero₂, View.ld_unit_zero (S := S1x2048) zero₂]
  simp only [View.ld_unit_zero (S := S512x2048) zero₂]
  pointwise [k0_pay2, pay1_at, normed]

end

section

open Cert.OutReferenceIdeal Cert.OutReferenceIdeal.Gen

/-- The reference's sum. -/
def sum (u : FVec Ideal S40960x2048 .bf16) (w : FVec Ideal S2048x2048 .bf16) (p : FVec Ideal S8192x2048 .f32) (s : FVec Ideal S32768x2048 .f32) : FVec Ideal S40960x2048 .f32 :=
  addf (concatenate S40960x2048 0 [⟨S8192x2048, p⟩, ⟨S32768x2048, s⟩] concatenates_S8192x2048_S32768x2048_S40960x2048_d0)
    (Host.dotGeneral dot_S40960x2048_S2048x2048_S40960x2048_1_0_0_1_n_n none (extf .f32 u bitsLt_bf16_f32) (extf .f32 w bitsLt_bf16_f32))

theorem sum_at (u : FVec Ideal S40960x2048 .bf16) (w : FVec Ideal S2048x2048 .bf16) (p : FVec Ideal S8192x2048 .f32) (s : FVec Ideal S32768x2048 .f32) (i : Fin 40960) (j : Fin 2048) :
    (sum u w p s : S40960x2048.Idx → EReal) (ix2 i j) = val u w p s i j := by
  pointwise [sum, val, row]

/-- The reference's norm of an array's rows. -/
def norm (x : FVec Ideal S40960x2048 .f32) (g : FVec Ideal S2048 .f32) : FVec Ideal S40960x2048 .bf16 :=
  truncf .bf16 (mulf (mulf x (broadcastInDim S40960x2048 ![0, 1] bcast_S40960x1_S40960x2048_0_1 (Host.rsqrt (addf (Host.divf (broadcastInDim S40960x1 ![0] bcast_S40960_S40960x1_0 (Host.reduceAdd (mulf x x) (constant S_ .f32 0x00000000#32) reducesTo_S40960x2048_S40960_d1 h_S_)) (broadcastInDim S40960x1 ![] bcast_S_S40960x1 (constant S_ .f32 0x45000000#32))) (broadcastInDim S40960x1 ![] bcast_S_S40960x1 (constant S_ .f32 0x358637BD#32)))))) (broadcastInDim S40960x2048 ![0, 1] bcast_S1x2048_S40960x2048_0_1 (broadcastInDim S1x2048 ![1] bcast_S2048_S1x2048_1 g))) bitsLt_bf16_f32

theorem norm_at (x : FVec Ideal S40960x2048 .f32) (g : FVec Ideal S2048 .f32) (i : Fin 40960) (j : Fin 2048) :
    (norm x g : S40960x2048.Idx → EReal) (ix2 i j) = normed (fun d => x (ix2 i d)) (g (ix1 j)) j := by
  pointwise [norm, normed]

theorem norm_sum_at (u : FVec Ideal S40960x2048 .bf16) (w : FVec Ideal S2048x2048 .bf16) (p : FVec Ideal S8192x2048 .f32) (s : FVec Ideal S32768x2048 .f32)
    (g : FVec Ideal S2048 .f32) (i : Fin 40960) (j : Fin 2048) :
    (norm (sum u w p s) g : S40960x2048.Idx → EReal) (ix2 i j) = nval u w p s g i j := by
  rw [norm_at]
  exact congrArg (fun f => normed f (g (ix1 j)) j) (funext fun d => sum_at u w p s i d)

end

section

open Cert.OutIdeal Cert.OutIdeal.Gen

variable (m : (ℓ : Loc nD τ sig) → Buf (Elt Ideal) ℓ) (c : Dev nD)

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![min t.val 15, 0] :=
  (by decide +kernel : ∀ t : Fin grid0.N, win0_2.index t = ![min t.val 15, 0])
theorem index3 : ∀ t : Fin cfg0.N, win0_3.index t = ![t.val - 16, 0] :=
  (by decide +kernel : ∀ t : Fin grid0.N, win0_3.index t = ![t.val - 16, 0])
theorem index4 : ∀ t : Fin cfg0.N, win0_4.index t = ![0, 0] :=
  (by decide +kernel : ∀ t : Fin grid0.N, win0_4.index t = ![0, 0])
theorem index5 : ∀ t : Fin cfg0.N, win0_5.index t = ![t.val, 0] :=
  (by decide +kernel : ∀ t : Fin grid0.N, win0_5.index t = ![t.val, 0])
theorem index6 : ∀ t : Fin cfg0.N, win0_6.index t = ![t.val, 0] :=
  (by decide +kernel : ∀ t : Fin grid0.N, win0_6.index t = ![t.val, 0])

theorem lt80 (t : Fin cfg0.N) : t.val < 80 := t.isLt

/-- Whether a point's rows lie in the first piece, as the body computes it. -/
theorem first_at : ∀ t : Fin cfg0.N, Scalar.cmpi .slt (BitVec.ofNat 32 ((grid0.coords t) 0).val) 16#32 = if t.val < 16 then 1#1 else 0#1 :=
  (by decide +kernel : ∀ t : Fin grid0.N, Scalar.cmpi .slt (BitVec.ofNat 32 ((grid0.coords t) 0).val) 16#32 = if t.val < 16 then 1#1 else 0#1)

/-- The merged rows of a point. -/
theorem iblk0_at (t : Fin cfg0.N) (r : Fin 512) (d : Fin 2048) :
    (iblk m c 0 t : S512x2048.Idx → EReal) (ix2 r d)
      = (m ((c : Thread nD τ).loc main_arg0) : S40960x2048.Idx → EReal) (ix2 ⟨512 * t.val + r.val, by have := lt80 t; omega⟩ d) := by
  blk_ext [iblk, V, index0 t]

/-- The weight at a point. -/
theorem iblk1_at (t : Fin cfg0.N) (d r : Fin 2048) :
    (iblk m c 1 t : S2048x2048.Idx → EReal) (ix2 d r) = (m ((c : Thread nD τ).loc main_arg1) : S2048x2048.Idx → EReal) (ix2 d r) := by
  blk_ext [iblk, V, index1 t]

/-- The layer's input at a point, from the first piece. -/
theorem iblk2_at (t : Fin cfg0.N) (r : Fin 512) (d : Fin 2048) :
    (iblk m c 2 t : S512x2048.Idx → EReal) (ix2 r d)
      = (m ((c : Thread nD τ).loc main_arg2) : S8192x2048.Idx → EReal) (ix2 ⟨512 * min t.val 15 + r.val, by have := lt80 t; omega⟩ d) := by
  blk_ext [iblk, V, index2 t]

/-- The layer's input at a point, from the second piece. -/
theorem iblk3_at (t : Fin cfg0.N) (r : Fin 512) (d : Fin 2048) :
    (iblk m c 3 t : S512x2048.Idx → EReal) (ix2 r d)
      = (m ((c : Thread nD τ).loc main_arg3) : S32768x2048.Idx → EReal) (ix2 ⟨512 * (t.val - 16) + r.val, by have := lt80 t; omega⟩ d) := by
  blk_ext [iblk, V, index3 t]

/-- The norm's gain at a point. -/
theorem iblk4_at (t : Fin cfg0.N) (d : Fin 2048) :
    (iblk m c 4 t : S1x2048.Idx → EReal) (ix2 0 d) = (m ((c : Thread nD τ).loc main_arg4) : S2048.Idx → EReal) (ix1 d) := by
  have e : (V m c main_v0 : S1x2048.Idx → EReal) = shapeCast S1x2048 (m ((c : Thread nD τ).loc main_arg4) : FVec Ideal S2048 .f32) shapeCasts_S2048_S1x2048 := by
    unfold_abbrev_sides
    after_results
    rfl
  have e' : (iblk m c 4 t : S1x2048.Idx → EReal) (ix2 0 d) = (V m c main_v0 : S1x2048.Idx → EReal) (ix2 0 d) := by
    blk_ext [iblk, index4 t]
  rw [e', e]
  pointwise

/-- Two pieces' blocks, the right one picked, are the rows of the layer's input. -/
theorem pick_at (t : Fin cfg0.N) (u : FVec Ideal S8192x2048 .f32) (v : FVec Ideal S32768x2048 .f32) (r : Fin 512) (d : Fin 2048) :
    (Scalar.select (if t.val < 16 then 1#1 else 0#1) (u (ix2 ⟨512 * min t.val 15 + r.val, by have := lt80 t; omega⟩ d) : EReal)
        (v (ix2 ⟨512 * (t.val - 16) + r.val, by have := lt80 t; omega⟩ d)))
      = row u v ⟨512 * t.val + r.val, by have := lt80 t; omega⟩ d := by
  have hr := r.isLt
  unfold row
  by_cases h : t.val < 16
  · rw [if_pos h, dif_pos (by show 512 * t.val + r.val < 8192; omega)]
    have e : min t.val 15 = t.val := by omega
    simp only [Scalar.select, e]
    exact if_pos rfl
  · rw [if_neg h, dif_neg (by show ¬ 512 * t.val + r.val < 8192; omega)]
    have e : 512 * (t.val - 16) + r.val = 512 * t.val + r.val - 8192 := by omega
    simp only [Scalar.select, e]
    rfl

/-- A row inside a point's block is that row of the whole. -/
theorem part_at (t : Fin cfg0.N) (r : Fin 512) (j : Fin 2048) :
    part (iblk m c 0 t) (iblk m c 1 t) (Scalar.cmpi .slt (BitVec.ofNat 32 ((grid0.coords t) 0).val) 16#32) (iblk m c 2 t) (iblk m c 3 t) r j
      = val (m ((c : Thread nD τ).loc main_arg0)) (m ((c : Thread nD τ).loc main_arg1)) (m ((c : Thread nD τ).loc main_arg2)) (m ((c : Thread nD τ).loc main_arg3)) ⟨512 * t.val + r.val, by have := lt80 t; omega⟩ j := by
  rw [first_at t]
  unfold part val
  refine congrArg₂ (fun x y : EReal => x + y) ?_ (Finset.sum_congr rfl fun d _ => ?_)
  · rw [iblk2_at, iblk3_at, pick_at]
  · rw [iblk0_at, iblk1_at]

/-- The first array after the run. -/
theorem array5 : ((dats m 0 c).arrAt 5 cfg0.N : S40960x2048.Idx → EReal) = fun i => val (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 5 _ (by decide +kernel) fun t hf y => ?_
  blk_simp
  rw [after0_5]
  have h0 : (y 0).val < 512 := (y 0).isLt
  have h1 : (y 1).val < 2048 := (y 1).isLt
  have ht := lt80 t
  have hy : y = (ix2 (⟨(y 0).val, h0⟩ : Fin 512) (⟨(y 1).val, h1⟩ : Fin 2048) : S512x2048.Idx) := by
    funext a; fin_cases a <;> rfl
  have e0 := congrFun (index5 t) 0
  have e1 := congrFun (index5 t) 1
  simp only [Matrix.cons_val_zero, Matrix.cons_val_one] at e0 e1
  refine (congrArg _ hy).trans ((out5_at _ _ _ _ _ _ _ _).trans ((part_at m c t _ _).trans ?_))
  refine congrArg₂ (val _ _ _ _) (Fin.ext ?_) (Fin.ext ?_)
  · show 512 * t.val + (y 0).val = _
    blk_simp
    rw [e0]; omega
  · show (y 1).val = _
    blk_simp
    rw [e1]; omega

/-- The second array after the run. -/
theorem array6 : ((dats m 0 c).arrAt 6 cfg0.N : S40960x2048.Idx → EReal) = fun i => nval (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 6 _ (by decide +kernel) fun t hf y => ?_
  blk_simp
  rw [after0_6]
  have h0 : (y 0).val < 512 := (y 0).isLt
  have h1 : (y 1).val < 2048 := (y 1).isLt
  have ht := lt80 t
  have hy : y = (ix2 (⟨(y 0).val, h0⟩ : Fin 512) (⟨(y 1).val, h1⟩ : Fin 2048) : S512x2048.Idx) := by
    funext a; fin_cases a <;> rfl
  have e0 := congrFun (index6 t) 0
  have e1 := congrFun (index6 t) 1
  simp only [Matrix.cons_val_zero, Matrix.cons_val_one] at e0 e1
  have hp := funext fun d => part_at m c t ⟨(y 0).val, h0⟩ d
  refine (congrArg _ hy).trans ((out6_at _ _ _ _ _ _ _ _).trans ?_)
  rw [hp, iblk4_at]
  refine congrArg₂ (nval _ _ _ _ _) (Fin.ext ?_) (Fin.ext ?_)
  · show 512 * t.val + (y 0).val = _
    blk_simp
    rw [e0]; omega
  · show (y 1).val = _
    blk_simp
    rw [e1]; omega

end

/-- The reference runs, keeps its arguments, and ends with no counter raised. -/
theorem frame_ref : Cert.quiescent_OutReferenceIdeal := fun m ρ _ =>
  (θ_run Cert.OutReferenceIdeal.defs _ _).mono (fun r h => ⟨fun c => (h c).2.2, sem_eq_zero_of_no_sems (by decide) r.2⟩)
    (Cert.OutReferenceIdeal.Value.run (F := Ideal) m ρ)

/-- The kernel's arrays are the reference's. -/
theorem algebraic : Cert.algebraic_OutIdeal_OutReferenceIdeal := by
  intro m ρ m' ρ' _ hagree
  refine ⟨fun c => (Cert.OutIdeal.Gen.dats m 0 c).arrAt 5 Cert.OutIdeal.cfg0.N, fun c => (Cert.OutIdeal.Gen.dats m 0 c).arrAt 6 Cert.OutIdeal.cfg0.N,
    Cert.OutIdeal.Value.run_blocks (F := Ideal) m ρ, ?_⟩
  refine (θ_run Cert.OutReferenceIdeal.defs _ _).mono (fun _ h c => ⟨(h c).1.trans ?_, (h c).2.1.trans ?_, (h c).2.2⟩)
    (Cert.OutReferenceIdeal.Value.run (F := Ideal) m' ρ')
  · refine Eq.trans ?_ (array5 m c).symm
    obtain ⟨e0, e1, e2, e3, -⟩ := hagree c
    rw [e0, e1, e2, e3]
    funext i
    have hi : i = ix2 (i 0) (i 1) := by funext a; fin_cases a <;> rfl
    exact (congrArg _ hi).trans (sum_at _ _ _ _ _ _)
  · refine Eq.trans ?_ (array6 m c).symm
    obtain ⟨e0, e1, e2, e3, e4⟩ := hagree c
    rw [e0, e1, e2, e3, e4]
    funext i
    have hi : i = ix2 (i 0) (i 1) := by funext a; fin_cases a <;> rfl
    exact (congrArg _ hi).trans (norm_sum_at _ _ _ _ _ _ _)

end Cert.Proof.Out

end
-- ==== Proof.Ple.lean ====
module

public import proofs.«01_k».proof.Proof.Gen.PleIdeal.Value
public import proofs.«01_k».proof.Proof.Gen.PleReferenceIdeal.Run
public import proofs.«01_k».proof.Proof.Gen.Ple.Frame
public import proofs.«01_k».proof.Proof.Gen.PleIdeal.Frame
public import proofs.«01_k».proof.Defs
public import Idealize.ShloMosaic.Lib.Pointwise
public import Idealize.ShloMosaic.Lib.Pipeline.ValueKit

/-! The embedding's gated merge at `Ideal`: every block the kernel writes holds the layer's input plus the embedding's
  projection weighed by its gate, and that row's norm; so do the reference's arrays. -/

@[expose] public section

set_option maxRecDepth 16384

noncomputable section

open Idealize.ShloMosaic Idealize.ShloMosaic.TcCoe Idealize.SL.Sem
open Idealize.ShloMosaic.Pointwise

namespace Cert.Proof.Ple

/-- A row over the root of its mean square, weighed by a gain. -/
def normed (f : Fin 2048 → EReal) (g : EReal) (j : Fin 2048) : EReal :=
  f j * Ideal.rsqrt (Ideal.div (∑ d : Fin 2048, f d * f d) (Ideal.ofBits .f32 0x45000000#32) + Ideal.ofBits .f32 0x358637BD#32) * g

/-- Row `i` of the embedding, held in two pieces, the first of 8192 rows. -/
def row (p : FVec Ideal Cert.PleIdeal.S8192x256 .f32) (s : FVec Ideal Cert.PleIdeal.S32768x256 .f32) (i : Fin 40960) (d : Fin 256) : EReal :=
  if h : i.val < 8192 then p (ix2 ⟨i.val, h⟩ d) else s (ix2 ⟨i.val - 8192, by omega⟩ d)

/-- Row `i` of the layer's input plus the embedding's projection weighed by its gate. -/
def val (g : FVec Ideal Cert.PleIdeal.S2048 .f32) (wg : FVec Ideal Cert.PleIdeal.S1x2048x2048 .bf16) (wp : FVec Ideal Cert.PleIdeal.S1x256x2048 .bf16)
    (p : FVec Ideal Cert.PleIdeal.S8192x256 .f32) (s : FVec Ideal Cert.PleIdeal.S32768x256 .f32) (x : FVec Ideal Cert.PleIdeal.S40960x2048 .f32) (i : Fin 40960) (j : Fin 2048) : EReal :=
  x (ix2 i j) + Ideal.logistic (∑ d : Fin 2048, normed (fun e => x (ix2 i e)) (g (ix1 d)) d * wg (ix3 0 d j)) * ∑ e : Fin 256, row p s i e * wp (ix3 0 e j)

/-- The norm of that row. -/
def nval (g : FVec Ideal Cert.PleIdeal.S2048 .f32) (wg : FVec Ideal Cert.PleIdeal.S1x2048x2048 .bf16) (wp : FVec Ideal Cert.PleIdeal.S1x256x2048 .bf16)
    (p : FVec Ideal Cert.PleIdeal.S8192x256 .f32) (s : FVec Ideal Cert.PleIdeal.S32768x256 .f32) (x : FVec Ideal Cert.PleIdeal.S40960x2048 .f32) (g' : FVec Ideal Cert.PleIdeal.S2048 .f32)
    (i : Fin 40960) (j : Fin 2048) : EReal :=
  normed (val g wg wp p s x i) (g' (ix1 j)) j

section

open Cert.PleIdeal Cert.PleIdeal.Gen

theorem zero₂ : (![0, 0] : Fin 2 → Nat) = fun _ => 0 := funext fun a => by fin_cases a <;> rfl
theorem zero₃ : (![0, 0, 0] : Fin 3 → Nat) = fun _ => 0 := funext fun a => by fin_cases a <;> rfl

/-- A row inside a block, the embedding's rows picked from the two pieces by `b`. -/
def part (b : BitVec 1) (x0 : Vec Ideal S1x2048 .f32) (x1 : Vec Ideal S1x2048x2048 .bf16) (x2 : Vec Ideal S1x256x2048 .bf16) (x3 x4 : Vec Ideal S256x256 .f32) (x5 : Vec Ideal S256x2048 .f32)
    (r : Fin 256) (j : Fin 2048) : EReal :=
  x5 (ix2 r j) + Ideal.logistic (∑ d : Fin 2048, normed (fun e => x5 (ix2 r e)) (x0 (ix2 0 d)) d * x1 (ix3 0 d j))
    * ∑ e : Fin 256, (Scalar.select b (x3 (ix2 r e)) (x4 (ix2 r e)) : EReal) * x2 (ix3 0 e j)

/-- The sums the body forms, at an index. -/
theorem pay2_at (i : grid0.Coords) (x0 : Vec Ideal S1x2048 .f32) (x1 : Vec Ideal S1x2048x2048 .bf16) (x2 : Vec Ideal S1x256x2048 .bf16) (x3 x4 : Vec Ideal S256x256 .f32) (x5 : Vec Ideal S256x2048 .f32)
    (r : Fin 256) (j : Fin 2048) :
    (k0_pay2 i x5 x0 x3 x4 x1 x2 x5 : S256x2048.Idx → EReal) (ix2 r j) = part (Scalar.cmpi .slt (BitVec.ofNat 32 (i 0).val) 32#32) x0 x1 x2 x3 x4 x5 r j := by
  pointwise [k0_pay2, part, normed]

/-- The body's norm of a block, at an index. -/
theorem pay1_at (y : FVec Ideal S256x2048 .f32) (x6 : Vec Ideal S1x2048 .f32) (r : Fin 256) (j : Fin 2048) :
    (k0_pay1 y (mulf y y) x6 : S256x2048.Idx → EReal) (ix2 r j) = normed (fun d => y (ix2 r d)) (x6 (ix2 0 j)) j := by
  pointwise [k0_pay1, normed]

/-- A block of the first result at an index. -/
theorem out7_at (i : grid0.Coords) (x0 : Vec Ideal S1x2048 .f32) (x1 : Vec Ideal S1x2048x2048 .bf16) (x2 : Vec Ideal S1x256x2048 .bf16) (x3 x4 : Vec Ideal S256x256 .f32) (x5 : Vec Ideal S256x2048 .f32)
    (x6 : Vec Ideal S1x2048 .f32) (r : Fin 256) (j : Fin 2048) :
    (out0_7 i x0 x1 x2 x3 x4 x5 x6 : S256x2048.Idx → EReal) (ix2 r j) = part (Scalar.cmpi .slt (BitVec.ofNat 32 (i 0).val) 32#32) x0 x1 x2 x3 x4 x5 r j := by
  unfold out0_7
  rw [View.canon_unit_zero zero₂, View.ld_unit_zero (S := S1x2048) zero₂, View.ld_unit_zero (S := S1x2048x2048) zero₃, View.ld_unit_zero (S := S1x256x2048) zero₃]
  simp only [View.ld_unit_zero (S := S256x2048) zero₂, View.ld_unit_zero (S := S256x256) zero₂]
  exact pay2_at _ _ _ _ _ _ _ _ _

/-- A block of the second result at an index. -/
theorem out8_at (i : grid0.Coords) (x0 : Vec Ideal S1x2048 .f32) (x1 : Vec Ideal S1x2048x2048 .bf16) (x2 : Vec Ideal S1x256x2048 .bf16) (x3 x4 : Vec Ideal S256x256 .f32) (x5 : Vec Ideal S256x2048 .f32)
    (x6 : Vec Ideal S1x2048 .f32) (r : Fin 256) (j : Fin 2048) :
    (out0_8 i x0 x1 x2 x3 x4 x5 x6 : S256x2048.Idx → EReal) (ix2 r j)
      = normed (part (Scalar.cmpi .slt (BitVec.ofNat 32 (i 0).val) 32#32) x0 x1 x2 x3 x4 x5 r) (x6 (ix2 0 j)) j := by
  unfold out0_8
  rw [View.canon_unit_zero zero₂, View.ld_unit_zero (S := S1x2048x2048) zero₃, View.ld_unit_zero (S := S1x256x2048) zero₃]
  simp only [View.ld_unit_zero (S := S1x2048) zero₂, View.ld_unit_zero (S := S256x2048) zero₂, View.ld_unit_zero (S := S256x256) zero₂]
  refine (pay1_at _ _ _ _).trans ?_
  exact congrArg (fun f => normed f (x6 (ix2 0 j)) j) (funext fun d => pay2_at _ _ _ _ _ _ _ _ _)

end

section

open Cert.PleReferenceIdeal Cert.PleReferenceIdeal.Gen

/-- The reference's norm of an array's rows. -/
def norm (x : FVec Ideal S40960x2048 .f32) (g : FVec Ideal S2048 .f32) : FVec Ideal S40960x2048 .bf16 :=
  truncf .bf16 (mulf (mulf x (broadcastInDim S40960x2048 ![0, 1] bcast_S40960x1_S40960x2048_0_1 (Host.rsqrt (addf (Host.divf (broadcastInDim S40960x1 ![0] bcast_S40960_S40960x1_0 (Host.reduceAdd (mulf x x) (constant S_ .f32 0x00000000#32) reducesTo_S40960x2048_S40960_d1 h_S_)) (broadcastInDim S40960x1 ![] bcast_S_S40960x1 (constant S_ .f32 0x45000000#32))) (broadcastInDim S40960x1 ![] bcast_S_S40960x1 (constant S_ .f32 0x358637BD#32)))))) (broadcastInDim S40960x2048 ![0, 1] bcast_S1x2048_S40960x2048_0_1 (broadcastInDim S1x2048 ![1] bcast_S2048_S1x2048_1 g))) bitsLt_bf16_f32

theorem norm_at (x : FVec Ideal S40960x2048 .f32) (g : FVec Ideal S2048 .f32) (i : Fin 40960) (j : Fin 2048) :
    (norm x g : S40960x2048.Idx → EReal) (ix2 i j) = normed (fun d => x (ix2 i d)) (g (ix1 j)) j := by
  pointwise [norm, normed]

/-- The reference's gate: one over one plus the exponential of the negative. -/
def gate (s : FVec Ideal S40960x2048 .f32) : FVec Ideal S40960x2048 .f32 :=
  Host.divf (broadcastInDim S40960x2048 ![] bcast_S_S40960x2048 (constant S_ .f32 0x3F800000#32)) (addf (broadcastInDim S40960x2048 ![] bcast_S_S40960x2048 (constant S_ .f32 0x3F800000#32)) (Host.exp (Host.negf s)))

/-- The reference's sum. -/
def sum (g : FVec Ideal S2048 .f32) (wg : FVec Ideal S1x2048x2048 .bf16) (wp : FVec Ideal S1x256x2048 .bf16) (p : FVec Ideal S8192x256 .f32) (s : FVec Ideal S32768x256 .f32)
    (x : FVec Ideal S40960x2048 .f32) : FVec Ideal S40960x2048 .f32 :=
  addf x (mulf (gate (Host.dotGeneral dot_S40960x2048_S2048x2048_S40960x2048_1_0_0_1_n_n none (extf .f32 (norm x g) bitsLt_bf16_f32) (extf .f32 (shapeCast _ wg shapeCasts_S1x2048x2048_S2048x2048) bitsLt_bf16_f32)))
    (Host.dotGeneral dot_S40960x256_S256x2048_S40960x2048_1_0_0_1_n_n none (extf .f32 (truncf .bf16 (concatenate S40960x256 0 [⟨S8192x256, p⟩, ⟨S32768x256, s⟩] concatenates_S8192x256_S32768x256_S40960x256_d0) bitsLt_bf16_f32) bitsLt_bf16_f32) (extf .f32 (shapeCast _ wp shapeCasts_S1x256x2048_S256x2048) bitsLt_bf16_f32)))

theorem sum_at (g : FVec Ideal S2048 .f32) (wg : FVec Ideal S1x2048x2048 .bf16) (wp : FVec Ideal S1x256x2048 .bf16) (p : FVec Ideal S8192x256 .f32) (s : FVec Ideal S32768x256 .f32)
    (x : FVec Ideal S40960x2048 .f32) (i : Fin 40960) (j : Fin 2048) :
    (sum g wg wp p s x : S40960x2048.Idx → EReal) (ix2 i j) = val g wg wp p s x i j := by
  pointwise [sum, gate, norm_at, val, row, Ideal.logistic]

theorem norm_sum_at (g : FVec Ideal S2048 .f32) (wg : FVec Ideal S1x2048x2048 .bf16) (wp : FVec Ideal S1x256x2048 .bf16) (p : FVec Ideal S8192x256 .f32) (s : FVec Ideal S32768x256 .f32)
    (x : FVec Ideal S40960x2048 .f32) (g' : FVec Ideal S2048 .f32) (i : Fin 40960) (j : Fin 2048) :
    (norm (sum g wg wp p s x) g' : S40960x2048.Idx → EReal) (ix2 i j) = nval g wg wp p s x g' i j := by
  rw [norm_at]
  exact congrArg (fun f => normed f (g' (ix1 j)) j) (funext fun d => sum_at g wg wp p s x i d)

/-- The reference's second array is its sum's norm. -/
theorem res_eq (m : (ℓ : Loc nD τ sig) → Buf (Elt Ideal) ℓ) (c : Dev nD) :
    Value.res_main_v45 m c = norm (sum (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6)) := rfl

end

section

open Cert.PleIdeal Cert.PleIdeal.Gen

variable (m : (ℓ : Loc nD τ sig) → Buf (Elt Ideal) ℓ) (c : Dev nD)

theorem index0 : ∀ t : Fin cfg0.N, win0_0.index t = ![0, 0] :=
  (by decide +kernel : ∀ t : Fin grid0.N, win0_0.index t = ![0, 0])
theorem index1 : ∀ t : Fin cfg0.N, win0_1.index t = ![0, 0, 0] :=
  (by decide +kernel : ∀ t : Fin grid0.N, win0_1.index t = ![0, 0, 0])
theorem index2 : ∀ t : Fin cfg0.N, win0_2.index t = ![0, 0, 0] :=
  (by decide +kernel : ∀ t : Fin grid0.N, win0_2.index t = ![0, 0, 0])
theorem index3 : ∀ t : Fin cfg0.N, win0_3.index t = ![min t.val 31, 0] :=
  (by decide +kernel : ∀ t : Fin grid0.N, win0_3.index t = ![min t.val 31, 0])
theorem index4 : ∀ t : Fin cfg0.N, win0_4.index t = ![t.val - 32, 0] :=
  (by decide +kernel : ∀ t : Fin grid0.N, win0_4.index t = ![t.val - 32, 0])
theorem index5 : ∀ t : Fin cfg0.N, win0_5.index t = ![t.val, 0] :=
  (by decide +kernel : ∀ t : Fin grid0.N, win0_5.index t = ![t.val, 0])
theorem index6 : ∀ t : Fin cfg0.N, win0_6.index t = ![0, 0] :=
  (by decide +kernel : ∀ t : Fin grid0.N, win0_6.index t = ![0, 0])
theorem index7 : ∀ t : Fin cfg0.N, win0_7.index t = ![t.val, 0] :=
  (by decide +kernel : ∀ t : Fin grid0.N, win0_7.index t = ![t.val, 0])
theorem index8 : ∀ t : Fin cfg0.N, win0_8.index t = ![t.val, 0] :=
  (by decide +kernel : ∀ t : Fin grid0.N, win0_8.index t = ![t.val, 0])

theorem lt160 (t : Fin cfg0.N) : t.val < 160 := t.isLt

/-- Whether a point's rows lie in the first piece, as the body computes it. -/
theorem first_at : ∀ t : Fin cfg0.N, Scalar.cmpi .slt (BitVec.ofNat 32 ((grid0.coords t) 0).val) 32#32 = if t.val < 32 then 1#1 else 0#1 :=
  (by decide +kernel : ∀ t : Fin grid0.N, Scalar.cmpi .slt (BitVec.ofNat 32 ((grid0.coords t) 0).val) 32#32 = if t.val < 32 then 1#1 else 0#1)

/-- The gate's norm's gain at a point. -/
theorem iblk0_at (t : Fin cfg0.N) (d : Fin 2048) :
    (iblk m c 0 t : S1x2048.Idx → EReal) (ix2 0 d) = (m ((c : Thread nD τ).loc main_arg0) : S2048.Idx → EReal) (ix1 d) := by
  have e : (V m c main_v0 : S1x2048.Idx → EReal) = shapeCast S1x2048 (m ((c : Thread nD τ).loc main_arg0) : FVec Ideal S2048 .f32) shapeCasts_S2048_S1x2048 := by
    unfold_abbrev_sides
    after_results
    rfl
  have e' : (iblk m c 0 t : S1x2048.Idx → EReal) (ix2 0 d) = (V m c main_v0 : S1x2048.Idx → EReal) (ix2 0 d) := by
    blk_ext [iblk, index0 t]
  rw [e', e]
  pointwise

/-- The next norm's gain at a point. -/
theorem iblk6_at (t : Fin cfg0.N) (d : Fin 2048) :
    (iblk m c 6 t : S1x2048.Idx → EReal) (ix2 0 d) = (m ((c : Thread nD τ).loc main_arg6) : S2048.Idx → EReal) (ix1 d) := by
  have e : (V m c main_v1 : S1x2048.Idx → EReal) = shapeCast S1x2048 (m ((c : Thread nD τ).loc main_arg6) : FVec Ideal S2048 .f32) shapeCasts_S2048_S1x2048 := by
    unfold_abbrev_sides
    after_results
    rfl
  have e' : (iblk m c 6 t : S1x2048.Idx → EReal) (ix2 0 d) = (V m c main_v1 : S1x2048.Idx → EReal) (ix2 0 d) := by
    blk_ext [iblk, index6 t]
  rw [e', e]
  pointwise

/-- The gate's weight at a point. -/
theorem iblk1_at (t : Fin cfg0.N) (d r : Fin 2048) :
    (iblk m c 1 t : S1x2048x2048.Idx → EReal) (ix3 0 d r) = (m ((c : Thread nD τ).loc main_arg1) : S1x2048x2048.Idx → EReal) (ix3 0 d r) := by
  rw [← V_main_arg1 m c]
  blk_ext [iblk, index1 t]

/-- The projection's weight at a point. -/
theorem iblk2_at (t : Fin cfg0.N) (d : Fin 256) (r : Fin 2048) :
    (iblk m c 2 t : S1x256x2048.Idx → EReal) (ix3 0 d r) = (m ((c : Thread nD τ).loc main_arg2) : S1x256x2048.Idx → EReal) (ix3 0 d r) := by
  rw [← V_main_arg2 m c]
  blk_ext [iblk, index2 t]

/-- The embedding's rows of a point, from the first piece. -/
theorem iblk3_at (t : Fin cfg0.N) (r d : Fin 256) :
    (iblk m c 3 t : S256x256.Idx → EReal) (ix2 r d)
      = (m ((c : Thread nD τ).loc main_arg3) : S8192x256.Idx → EReal) (ix2 ⟨256 * min t.val 31 + r.val, by have := lt160 t; omega⟩ d) := by
  rw [← V_main_arg3 m c]
  blk_ext [iblk, index3 t]

/-- The embedding's rows of a point, from the second piece. -/
theorem iblk4_at (t : Fin cfg0.N) (r d : Fin 256) :
    (iblk m c 4 t : S256x256.Idx → EReal) (ix2 r d)
      = (m ((c : Thread nD τ).loc main_arg4) : S32768x256.Idx → EReal) (ix2 ⟨256 * (t.val - 32) + r.val, by have := lt160 t; omega⟩ d) := by
  rw [← V_main_arg4 m c]
  blk_ext [iblk, index4 t]

/-- The layer's input at a point. -/
theorem iblk5_at (t : Fin cfg0.N) (r : Fin 256) (d : Fin 2048) :
    (iblk m c 5 t : S256x2048.Idx → EReal) (ix2 r d)
      = (m ((c : Thread nD τ).loc main_arg5) : S40960x2048.Idx → EReal) (ix2 ⟨256 * t.val + r.val, by have := lt160 t; omega⟩ d) := by
  rw [← V_main_arg5 m c]
  blk_ext [iblk, index5 t]

/-- Two pieces' blocks, the right one picked, are the rows of the embedding. -/
theorem pick_at (t : Fin cfg0.N) (u : FVec Ideal S8192x256 .f32) (v : FVec Ideal S32768x256 .f32) (r d : Fin 256) :
    (Scalar.select (if t.val < 32 then 1#1 else 0#1) (u (ix2 ⟨256 * min t.val 31 + r.val, by have := lt160 t; omega⟩ d) : EReal)
        (v (ix2 ⟨256 * (t.val - 32) + r.val, by have := lt160 t; omega⟩ d)))
      = row u v ⟨256 * t.val + r.val, by have := lt160 t; omega⟩ d := by
  have hr := r.isLt
  unfold row
  by_cases h : t.val < 32
  · rw [if_pos h, dif_pos (by show 256 * t.val + r.val < 8192; omega)]
    have e : min t.val 31 = t.val := by omega
    simp only [Scalar.select, e]
    exact if_pos rfl
  · rw [if_neg h, dif_neg (by show ¬ 256 * t.val + r.val < 8192; omega)]
    have e : 256 * (t.val - 32) + r.val = 256 * t.val + r.val - 8192 := by omega
    simp only [Scalar.select, e]
    rfl

/-- A row inside a point's block is that row of the whole. -/
theorem part_at (t : Fin cfg0.N) (r : Fin 256) (j : Fin 2048) :
    part (Scalar.cmpi .slt (BitVec.ofNat 32 ((grid0.coords t) 0).val) 32#32) (iblk m c 0 t) (iblk m c 1 t) (iblk m c 2 t) (iblk m c 3 t) (iblk m c 4 t) (iblk m c 5 t) r j
      = val (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨256 * t.val + r.val, by have := lt160 t; omega⟩ j := by
  rw [first_at t]
  have hx := funext fun e => iblk5_at m c t r e
  unfold part val
  rw [hx]
  refine congrArg₂ (fun x y : EReal => x + y) (iblk5_at m c t r j) (congrArg₂ (fun x y : EReal => Ideal.logistic x * y)
    (Finset.sum_congr rfl fun d _ => ?_) (Finset.sum_congr rfl fun d _ => ?_))
  · rw [iblk0_at, iblk1_at]
  · rw [iblk3_at, iblk4_at, iblk2_at, pick_at]

/-- The first array after the run. -/
theorem array7 : ((dats m 0 c).arrAt 7 cfg0.N : S40960x2048.Idx → EReal) = fun i => val (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) := by
  refine (dats m 0 c).arrAt_eq_of_covers 7 _ (by decide +kernel) fun t hf y => ?_
  blk_simp
  rw [after0_7]
  have h0 : (y 0).val < 256 := (y 0).isLt
  have h1 : (y 1).val < 2048 := (y 1).isLt
  have ht := lt160 t
  have hy : y = (ix2 (⟨(y 0).val, h0⟩ : Fin 256) (⟨(y 1).val, h1⟩ : Fin 2048) : S256x2048.Idx) := by
    funext a; fin_cases a <;> rfl
  have e0 := congrFun (index7 t) 0
  have e1 := congrFun (index7 t) 1
  simp only [Matrix.cons_val_zero, Matrix.cons_val_one] at e0 e1
  refine (congrArg _ hy).trans ((out7_at _ _ _ _ _ _ _ _ _ _).trans ((part_at m c t _ _).trans ?_))
  refine congrArg₂ (val _ _ _ _ _ _) (Fin.ext ?_) (Fin.ext ?_)
  · show 256 * t.val + (y 0).val = _
    blk_simp
    rw [e0]; omega
  · show (y 1).val = _
    blk_simp
    rw [e1]; omega

/-- The second array after the run. -/
theorem array8 : ((dats m 0 c).arrAt 8 cfg0.N : S40960x2048.Idx → EReal) = fun i => nval (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) := by
  refine (dats m 0 c).arrAt_eq_of_covers 8 _ (by decide +kernel) fun t hf y => ?_
  blk_simp
  rw [after0_8]
  have h0 : (y 0).val < 256 := (y 0).isLt
  have h1 : (y 1).val < 2048 := (y 1).isLt
  have ht := lt160 t
  have hy : y = (ix2 (⟨(y 0).val, h0⟩ : Fin 256) (⟨(y 1).val, h1⟩ : Fin 2048) : S256x2048.Idx) := by
    funext a; fin_cases a <;> rfl
  have e0 := congrFun (index8 t) 0
  have e1 := congrFun (index8 t) 1
  simp only [Matrix.cons_val_zero, Matrix.cons_val_one] at e0 e1
  have hp := funext fun d => part_at m c t ⟨(y 0).val, h0⟩ d
  refine (congrArg _ hy).trans ((out8_at _ _ _ _ _ _ _ _ _ _).trans ?_)
  rw [hp, iblk6_at]
  refine congrArg₂ (nval _ _ _ _ _ _ _) (Fin.ext ?_) (Fin.ext ?_)
  · show 256 * t.val + (y 0).val = _
    blk_simp
    rw [e0]; omega
  · show (y 1).val = _
    blk_simp
    rw [e1]; omega

end

/-- The reference runs, keeps its arguments, and ends with no counter raised. -/
theorem frame_ref : Cert.quiescent_PleReferenceIdeal := fun m ρ _ =>
  (θ_run Cert.PleReferenceIdeal.defs _ _).mono (fun r h => ⟨fun c => (h c).2.2, sem_eq_zero_of_no_sems (by decide) r.2⟩)
    (Cert.PleReferenceIdeal.Value.run (F := Ideal) m ρ)

/-- The kernel's arrays are the reference's. -/
theorem algebraic : Cert.algebraic_PleIdeal_PleReferenceIdeal := by
  intro m ρ m' ρ' _ hagree
  refine ⟨fun c => (Cert.PleIdeal.Gen.dats m 0 c).arrAt 7 Cert.PleIdeal.cfg0.N, fun c => (Cert.PleIdeal.Gen.dats m 0 c).arrAt 8 Cert.PleIdeal.cfg0.N,
    Cert.PleIdeal.Value.run_blocks (F := Ideal) m ρ, ?_⟩
  refine (θ_run Cert.PleReferenceIdeal.defs _ _).mono (fun _ h c => ⟨(h c).1.trans ?_, (h c).2.1.trans ?_, (h c).2.2⟩)
    (Cert.PleReferenceIdeal.Value.run (F := Ideal) m' ρ')
  · refine Eq.trans ?_ (array7 m c).symm
    obtain ⟨e0, e1, e2, e3, e4, e5, -⟩ := hagree c
    rw [e0, e1, e2, e3, e4, e5]
    funext i
    have hi : i = ix2 (i 0) (i 1) := by funext a; fin_cases a <;> rfl
    exact (congrArg _ hi).trans (sum_at _ _ _ _ _ _ _ _)
  · refine (res_eq m' c).trans (Eq.trans ?_ (array8 m c).symm)
    obtain ⟨e0, e1, e2, e3, e4, e5, e6⟩ := hagree c
    rw [e0, e1, e2, e3, e4, e5, e6]
    funext i
    have hi : i = ix2 (i 0) (i 1) := by funext a; fin_cases a <;> rfl
    exact (congrArg _ hi).trans (norm_sum_at _ _ _ _ _ _ _ _ _)

end Cert.Proof.Ple

end
-- ==== Proof.LatentLoop.lean ====
/-
  What one grid point of the latent attention's kernel leaves in its output block: the loop over the key blocks is a
  recursion on three vectors, as in `AttnLoop.lean`, with keys of 256 lanes and values of 128.
-/
module

public import proofs.«01_k».proof.Proof.Gen.LatentIdeal.Value
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem
open Cert.LatentIdeal Cert.LatentIdeal.Gen

namespace Cert.Proof.Latent

variable {F : FTy → Type} [FloatOps F] [Named F]

/-- Trip `k`'s block of key rows. -/
abbrev keys (k : Fin k0_t1_loop.trips) (x : Vec F S8192x256 .bf16) : Vec F S1024x256 .bf16 :=
  View.ld x (Rect.unit (s := S8192x256) (k0_off1 k) S1024x256.size (k0_off1_inb k))

/-- Trip `k`'s block of value rows. -/
abbrev vals (k : Fin k0_t1_loop.trips) (x : Vec F S8192x128 .bf16) : Vec F S1024x128 .bf16 :=
  View.ld x (Rect.unit (s := S8192x128) (k0_off2 k) S1024x128.size (k0_off2_inb k))

/-- The three running vectors before trip `n`. -/
def state (q : Vec F S2048x256 .bf16) (x1 : Vec F S8192x256 .bf16) (x2 : Vec F S8192x128 .bf16) :
    ℕ → Vec F S1x2048 .f32 × Vec F S1x2048 .f32 × Vec F S128x2048 .f32
  | 0 => (k0_pay1, k0_pay2, k0_pay3)
  | n + 1 =>
    if h : n < k0_t1_loop.trips then
      (k0_pay10 q (keys ⟨n, h⟩ x1) (state q x1 x2 n).1,
        k0_pay8 q (keys ⟨n, h⟩ x1) (state q x1 x2 n).1 (state q x1 x2 n).2.1,
        k0_pay9 q (keys ⟨n, h⟩ x1) (vals ⟨n, h⟩ x2) (state q x1 x2 n).1 (state q x1 x2 n).2.2)
    else state q x1 x2 n

section

variable (𝒱 : Variants) (c : Dev nD) (bd : Option 𝒱.V) (i : grid0.Coords)
    (a3 : Memref sig .tc .vmem S2048x256 .bf16) (h3 : a3.IsWhole) (a4 : Memref sig .tc .vmem S8192x256 .bf16) (h4 : a4.IsWhole)
    (a5 : Memref sig .tc .vmem S8192x128 .bf16) (h5 : a5.IsWhole) (a6 : Memref sig .tc .vmem S2048x128 .bf16) (h6 : a6.IsWhole)
    (a7 : Memref sig .tc .vmem S1x2048 .f32) (h7 : a7.IsWhole) (a8 : Memref sig .tc .vmem S1x2048 .f32) (h8 : a8.IsWhole)
    (a9 : Memref sig .tc .vmem S128x2048 .f32) (h9 : a9.IsWhole) (q : Vec F S2048x256 .bf16)
    (x1 : Vec F S8192x256 .bf16) (x2 : Vec F S8192x128 .bf16)

/-- One trip, read back from the three buffers it writes. -/
theorem trip_read (k : Fin k0_t1_loop.trips) (f7 : BufTy.Contents (Elt F) a7.view.ty) (f8 : BufTy.Contents (Elt F) a8.view.ty)
    (f9 : BufTy.Contents (Elt F) a9.view.ty) :
    a7.view.read (Elt F) (a7.view.writes (Elt F) f7 (tripL_k0_t1 (F := F) 𝒱 c bd i a3 h3 a4 h4 a5 h5 a6 h6 a7 h7 a8 h8 a9 h9 q (h4.unread x1) (h5.unread x2) k f7 f8 f9).1)
      = k0_pay10 q (keys k x1) (a7.view.read (Elt F) f7)
    ∧ a8.view.read (Elt F) (a8.view.writes (Elt F) f8 (tripL_k0_t1 (F := F) 𝒱 c bd i a3 h3 a4 h4 a5 h5 a6 h6 a7 h7 a8 h8 a9 h9 q (h4.unread x1) (h5.unread x2) k f7 f8 f9).2.1)
      = k0_pay8 q (keys k x1) (a7.view.read (Elt F) f7) (a8.view.read (Elt F) f8)
    ∧ a9.view.read (Elt F) (a9.view.writes (Elt F) f9 (tripL_k0_t1 (F := F) 𝒱 c bd i a3 h3 a4 h4 a5 h5 a6 h6 a7 h7 a8 h8 a9 h9 q (h4.unread x1) (h5.unread x2) k f7 f8 f9).2.2)
      = k0_pay9 q (keys k x1) (vals k x2) (a7.view.read (Elt F) f7) (a9.view.read (Elt F) f9) := by
  unfold tripL_k0_t1 trip_k0_t1
  dsimp only
  have e7 := View.readAt_full a7.view f7 (off := ![0, 0]) inb_S1x2048_S1x2048_0_0
  have e8 := View.readAt_full a8.view f8 (off := ![0, 0]) inb_S1x2048_S1x2048_0_0
  have e9 := View.readAt_full a9.view f9 (off := ![0, 0]) inb_S128x2048_S128x2048_0_0
  have r1 : View.readAt (Elt F) a4.view (Rect.unit (s := S8192x256) (k0_off1 k) S1024x256.size (k0_off1_inb k)).toLoadRect (h4.unread x1) = keys k x1 := by
    rw [View.readAt_eq_ld, h4.read_unread]
  have r2 : View.readAt (Elt F) a5.view (Rect.unit (s := S8192x128) (k0_off2 k) S1024x128.size (k0_off2_inb k)).toLoadRect (h5.unread x2) = vals k x2 := by
    rw [View.readAt_eq_ld, h5.read_unread]
  refine ⟨(View.read_writes_full ..).trans ?_, (View.read_writes_full ..).trans ?_, (View.read_writes_full ..).trans ?_⟩
  · exact congr (congrArg (k0_pay10 q) r1) e7
  · exact congr (congr (congrArg (k0_pay8 q) r1) e7) e8
  · exact congr (congr (congr (congrArg (k0_pay9 q) r1) r2) e7) e9

/-- The loop, read back before trip `n`, from buffers that hold the initial vectors. -/
theorem loop_read (G7 : BufTy.Contents (Elt F) a7.view.ty) (G8 : BufTy.Contents (Elt F) a8.view.ty)
    (G9 : BufTy.Contents (Elt F) a9.view.ty) (e7 : a7.view.read (Elt F) G7 = k0_pay1) (e8 : a8.view.read (Elt F) G8 = k0_pay2)
    (e9 : a9.view.read (Elt F) G9 = k0_pay3) : ∀ n : ℕ, n ≤ k0_t1_loop.trips →
    a7.view.read (Elt F) (a7.view.writes (Elt F) G7 (pb_k0_t1 (F := F) 𝒱 c bd i a3 h3 a4 h4 a5 h5 a6 h6 a7 h7 a8 h8 a9 h9 q (h4.unread x1) (h5.unread x2) G7 G8 G9 n).1)
      = (state q x1 x2 n).1
    ∧ a8.view.read (Elt F) (a8.view.writes (Elt F) G8 (pb_k0_t1 (F := F) 𝒱 c bd i a3 h3 a4 h4 a5 h5 a6 h6 a7 h7 a8 h8 a9 h9 q (h4.unread x1) (h5.unread x2) G7 G8 G9 n).2.1)
      = (state q x1 x2 n).2.1
    ∧ a9.view.read (Elt F) (a9.view.writes (Elt F) G9 (pb_k0_t1 (F := F) 𝒱 c bd i a3 h3 a4 h4 a5 h5 a6 h6 a7 h7 a8 h8 a9 h9 q (h4.unread x1) (h5.unread x2) G7 G8 G9 n).2.2)
      = (state q x1 x2 n).2.2
  | 0, _ => ⟨e7, e8, e9⟩
  | n + 1, hn => by
    have ih := loop_read G7 G8 G9 e7 e8 e9 n (by omega)
    have hs := pb_k0_t1_succ (F := F) 𝒱 c bd i a3 h3 a4 h4 a5 h5 a6 h6 a7 h7 a8 h8 a9 h9 q (h4.unread x1) (h5.unread x2) G7 G8 G9 ⟨n, hn⟩
    have ht := trip_read 𝒱 c bd i a3 h3 a4 h4 a5 h5 a6 h6 a7 h7 a8 h8 a9 h9 q x1 x2 ⟨n, hn⟩
      (a7.view.writes (Elt F) G7 (pb_k0_t1 (F := F) 𝒱 c bd i a3 h3 a4 h4 a5 h5 a6 h6 a7 h7 a8 h8 a9 h9 q (h4.unread x1) (h5.unread x2) G7 G8 G9 n).1)
      (a8.view.writes (Elt F) G8 (pb_k0_t1 (F := F) 𝒱 c bd i a3 h3 a4 h4 a5 h5 a6 h6 a7 h7 a8 h8 a9 h9 q (h4.unread x1) (h5.unread x2) G7 G8 G9 n).2.1)
      (a9.view.writes (Elt F) G9 (pb_k0_t1 (F := F) 𝒱 c bd i a3 h3 a4 h4 a5 h5 a6 h6 a7 h7 a8 h8 a9 h9 q (h4.unread x1) (h5.unread x2) G7 G8 G9 n).2.2)
    rw [ih.1, ih.2.1, ih.2.2] at ht
    have hst : state q x1 x2 (n + 1) = (k0_pay10 q (keys ⟨n, hn⟩ x1) (state q x1 x2 n).1,
        k0_pay8 q (keys ⟨n, hn⟩ x1) (state q x1 x2 n).1 (state q x1 x2 n).2.1,
        k0_pay9 q (keys ⟨n, hn⟩ x1) (vals ⟨n, hn⟩ x2) (state q x1 x2 n).1 (state q x1 x2 n).2.2) := by
      rw [state, dif_pos (show n < k0_t1_loop.trips from hn)]
    rw [hst]
    refine ⟨?_, ?_, ?_⟩
    · rw [hs]; rw [View.writes_append]; exact ht.1
    · rw [hs]; rw [View.writes_append]; exact ht.2.1
    · rw [hs]; rw [View.writes_append]; exact ht.2.2

end

/-- The block a grid point writes: the weighted sum over the sum of weights, transposed. -/
theorem out_eq (c : Dev nD) (i : grid0.Coords)
    (a3 : Memref sig .tc .vmem S2048x256 .bf16) (h3 : a3.IsWhole) (a4 : Memref sig .tc .vmem S8192x256 .bf16) (h4 : a4.IsWhole)
    (a5 : Memref sig .tc .vmem S8192x128 .bf16) (h5 : a5.IsWhole) (a6 : Memref sig .tc .vmem S2048x128 .bf16) (h6 : a6.IsWhole)
    (a7 : Memref sig .tc .vmem S1x2048 .f32) (h7 : a7.IsWhole) (a8 : Memref sig .tc .vmem S1x2048 .f32) (h8 : a8.IsWhole)
    (a9 : Memref sig .tc .vmem S128x2048 .f32) (h9 : a9.IsWhole) (q : Vec F S2048x256 .bf16)
    (x1 : Vec F S8192x256 .bf16) (x2 : Vec F S8192x128 .bf16) :
    out0_A_3 c i a3 h3 a4 h4 a5 h5 a6 h6 a7 h7 a8 h8 a9 h9 q x1 x2
      = k0_pay11 (state q x1 x2 k0_t1_loop.trips).2.2 (state q x1 x2 k0_t1_loop.trips).2.1 := by
  unfold out0_A_3 kernelRun0_A
  dsimp only
  sl_unfold_words
  have eq0 : View.readAt (Elt F) a3.view (Rect.unit ![0, 0] S2048x256.size inb_S2048x256_S2048x256_0_0).toLoadRect (h3.unread q) = q := by
    rw [View.readAt_full, h3.read_unread]
  rw [eq0]
  have hl := loop_read Variants.none c none i a3 h3 a4 h4 a5 h5 a6 h6 a7 h7 a8 h8 a9 h9 q x1 x2
    (a7.view.writes (Elt F) a7.view.junk [⟨Rect.unit ![0, 0] S1x2048.size inb_S1x2048_S1x2048_0_0, k0_pay1⟩])
    (a8.view.writes (Elt F) a8.view.junk [⟨Rect.unit ![0, 0] S1x2048.size inb_S1x2048_S1x2048_0_0, k0_pay2⟩])
    (a9.view.writes (Elt F) a9.view.junk [⟨Rect.unit ![0, 0] S128x2048.size inb_S128x2048_S128x2048_0_0, k0_pay3⟩])
    (View.read_writes_full ..) (View.read_writes_full ..) (View.read_writes_full ..) _ le_rfl
  refine (View.read_writes_full ..).trans (congr (congrArg k0_pay11 ?_) ?_)
  · refine (View.readAt_full ..).trans ?_
    rw [View.writes_append]
    exact hl.2.2
  · refine (View.readAt_full ..).trans ?_
    rw [View.writes_append]
    exact hl.2.1

end Cert.Proof.Latent

end
-- ==== Proof.AttnLoop.lean ====
/-
  What one grid point of the attention kernel leaves in its output block, as a function of the three blocks it reads:
  the counted loop over the key blocks is a recursion on three vectors (running maximum, running sum of weights,
  running weighted sum of values), and the block stored at the end is the quotient, transposed.
-/
module

public import proofs.«01_k».proof.Proof.Gen.KernelIdeal.Value
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem
open Cert.KernelIdeal Cert.KernelIdeal.Gen

namespace Cert.Proof.Attn

variable {F : FTy → Type} [FloatOps F] [Named F]

/-- Trip `k`'s block of rows of a window that holds a whole sequence. -/
abbrev rows (k : Fin k0_t1_loop.trips) (x : Vec F S8192x128 .bf16) : Vec F S1024x128 .bf16 :=
  View.ld x (Rect.unit (s := S8192x128) (k0_off1 k) S1024x128.size (k0_off1_inb k))

/-- The three running vectors before trip `n`. -/
def state (q : Vec F S2048x128 .bf16) (x1 x2 : Vec F S8192x128 .bf16) :
    ℕ → Vec F S1x2048 .f32 × Vec F S1x2048 .f32 × Vec F S128x2048 .f32
  | 0 => (k0_pay1, k0_pay2, k0_pay3)
  | n + 1 =>
    if h : n < k0_t1_loop.trips then
      (k0_pay10 q (rows ⟨n, h⟩ x1) (state q x1 x2 n).1,
        k0_pay8 q (rows ⟨n, h⟩ x1) (state q x1 x2 n).1 (state q x1 x2 n).2.1,
        k0_pay9 q (rows ⟨n, h⟩ x1) (rows ⟨n, h⟩ x2) (state q x1 x2 n).1 (state q x1 x2 n).2.2)
    else state q x1 x2 n

section

variable (𝒱 : Variants) (c : Dev nD) (bd : Option 𝒱.V) (i : grid0.Coords)
    (a3 : Memref sig .tc .vmem S2048x128 .bf16) (h3 : a3.IsWhole) (a4 : Memref sig .tc .vmem S8192x128 .bf16) (h4 : a4.IsWhole)
    (a5 : Memref sig .tc .vmem S8192x128 .bf16) (h5 : a5.IsWhole) (a6 : Memref sig .tc .vmem S2048x128 .bf16) (h6 : a6.IsWhole)
    (a7 : Memref sig .tc .vmem S1x2048 .f32) (h7 : a7.IsWhole) (a8 : Memref sig .tc .vmem S1x2048 .f32) (h8 : a8.IsWhole)
    (a9 : Memref sig .tc .vmem S128x2048 .f32) (h9 : a9.IsWhole) (q : Vec F S2048x128 .bf16)
    (x1 x2 : Vec F S8192x128 .bf16)

/-- One trip, read back from the three buffers it writes. -/
theorem trip_read (k : Fin k0_t1_loop.trips) (f7 : BufTy.Contents (Elt F) a7.view.ty) (f8 : BufTy.Contents (Elt F) a8.view.ty)
    (f9 : BufTy.Contents (Elt F) a9.view.ty) :
    a7.view.read (Elt F) (a7.view.writes (Elt F) f7 (tripL_k0_t1 (F := F) 𝒱 c bd i a3 h3 a4 h4 a5 h5 a6 h6 a7 h7 a8 h8 a9 h9 q (h4.unread x1) (h5.unread x2) k f7 f8 f9).1)
      = k0_pay10 q (rows k x1) (a7.view.read (Elt F) f7)
    ∧ a8.view.read (Elt F) (a8.view.writes (Elt F) f8 (tripL_k0_t1 (F := F) 𝒱 c bd i a3 h3 a4 h4 a5 h5 a6 h6 a7 h7 a8 h8 a9 h9 q (h4.unread x1) (h5.unread x2) k f7 f8 f9).2.1)
      = k0_pay8 q (rows k x1) (a7.view.read (Elt F) f7) (a8.view.read (Elt F) f8)
    ∧ a9.view.read (Elt F) (a9.view.writes (Elt F) f9 (tripL_k0_t1 (F := F) 𝒱 c bd i a3 h3 a4 h4 a5 h5 a6 h6 a7 h7 a8 h8 a9 h9 q (h4.unread x1) (h5.unread x2) k f7 f8 f9).2.2)
      = k0_pay9 q (rows k x1) (rows k x2) (a7.view.read (Elt F) f7) (a9.view.read (Elt F) f9) := by
  unfold tripL_k0_t1 trip_k0_t1
  dsimp only
  have e7 := View.readAt_full a7.view f7 (off := ![0, 0]) inb_S1x2048_S1x2048_0_0
  have e8 := View.readAt_full a8.view f8 (off := ![0, 0]) inb_S1x2048_S1x2048_0_0
  have e9 := View.readAt_full a9.view f9 (off := ![0, 0]) inb_S128x2048_S128x2048_0_0
  have r1 : View.readAt (Elt F) a4.view (Rect.unit (s := S8192x128) (k0_off1 k) S1024x128.size (k0_off1_inb k)).toLoadRect (h4.unread x1) = rows k x1 := by
    rw [View.readAt_eq_ld, h4.read_unread]
  have r2 : View.readAt (Elt F) a5.view (Rect.unit (s := S8192x128) (k0_off1 k) S1024x128.size (k0_off1_inb k)).toLoadRect (h5.unread x2) = rows k x2 := by
    rw [View.readAt_eq_ld, h5.read_unread]
  refine ⟨(View.read_writes_full ..).trans ?_, (View.read_writes_full ..).trans ?_, (View.read_writes_full ..).trans ?_⟩
  · exact congr (congrArg (k0_pay10 q) r1) e7
  · exact congr (congr (congrArg (k0_pay8 q) r1) e7) e8
  · exact congr (congr (congr (congrArg (k0_pay9 q) r1) r2) e7) e9

/-- The loop, read back before trip `n`, from buffers that hold the initial vectors. -/
theorem loop_read (G7 : BufTy.Contents (Elt F) a7.view.ty) (G8 : BufTy.Contents (Elt F) a8.view.ty)
    (G9 : BufTy.Contents (Elt F) a9.view.ty) (e7 : a7.view.read (Elt F) G7 = k0_pay1) (e8 : a8.view.read (Elt F) G8 = k0_pay2)
    (e9 : a9.view.read (Elt F) G9 = k0_pay3) : ∀ n : ℕ, n ≤ k0_t1_loop.trips →
    a7.view.read (Elt F) (a7.view.writes (Elt F) G7 (pb_k0_t1 (F := F) 𝒱 c bd i a3 h3 a4 h4 a5 h5 a6 h6 a7 h7 a8 h8 a9 h9 q (h4.unread x1) (h5.unread x2) G7 G8 G9 n).1)
      = (state q x1 x2 n).1
    ∧ a8.view.read (Elt F) (a8.view.writes (Elt F) G8 (pb_k0_t1 (F := F) 𝒱 c bd i a3 h3 a4 h4 a5 h5 a6 h6 a7 h7 a8 h8 a9 h9 q (h4.unread x1) (h5.unread x2) G7 G8 G9 n).2.1)
      = (state q x1 x2 n).2.1
    ∧ a9.view.read (Elt F) (a9.view.writes (Elt F) G9 (pb_k0_t1 (F := F) 𝒱 c bd i a3 h3 a4 h4 a5 h5 a6 h6 a7 h7 a8 h8 a9 h9 q (h4.unread x1) (h5.unread x2) G7 G8 G9 n).2.2)
      = (state q x1 x2 n).2.2
  | 0, _ => ⟨e7, e8, e9⟩
  | n + 1, hn => by
    have ih := loop_read G7 G8 G9 e7 e8 e9 n (by omega)
    have hs := pb_k0_t1_succ (F := F) 𝒱 c bd i a3 h3 a4 h4 a5 h5 a6 h6 a7 h7 a8 h8 a9 h9 q (h4.unread x1) (h5.unread x2) G7 G8 G9 ⟨n, hn⟩
    have ht := trip_read 𝒱 c bd i a3 h3 a4 h4 a5 h5 a6 h6 a7 h7 a8 h8 a9 h9 q x1 x2 ⟨n, hn⟩
      (a7.view.writes (Elt F) G7 (pb_k0_t1 (F := F) 𝒱 c bd i a3 h3 a4 h4 a5 h5 a6 h6 a7 h7 a8 h8 a9 h9 q (h4.unread x1) (h5.unread x2) G7 G8 G9 n).1)
      (a8.view.writes (Elt F) G8 (pb_k0_t1 (F := F) 𝒱 c bd i a3 h3 a4 h4 a5 h5 a6 h6 a7 h7 a8 h8 a9 h9 q (h4.unread x1) (h5.unread x2) G7 G8 G9 n).2.1)
      (a9.view.writes (Elt F) G9 (pb_k0_t1 (F := F) 𝒱 c bd i a3 h3 a4 h4 a5 h5 a6 h6 a7 h7 a8 h8 a9 h9 q (h4.unread x1) (h5.unread x2) G7 G8 G9 n).2.2)
    rw [ih.1, ih.2.1, ih.2.2] at ht
    have hst : state q x1 x2 (n + 1) = (k0_pay10 q (rows ⟨n, hn⟩ x1) (state q x1 x2 n).1,
        k0_pay8 q (rows ⟨n, hn⟩ x1) (state q x1 x2 n).1 (state q x1 x2 n).2.1,
        k0_pay9 q (rows ⟨n, hn⟩ x1) (rows ⟨n, hn⟩ x2) (state q x1 x2 n).1 (state q x1 x2 n).2.2) := by
      rw [state, dif_pos (show n < k0_t1_loop.trips from hn)]
    rw [hst]
    refine ⟨?_, ?_, ?_⟩
    · rw [hs]; rw [View.writes_append]; exact ht.1
    · rw [hs]; rw [View.writes_append]; exact ht.2.1
    · rw [hs]; rw [View.writes_append]; exact ht.2.2

end

/-- The block a grid point writes: the weighted sum over the sum of weights, transposed. -/
theorem out_eq (c : Dev nD) (i : grid0.Coords)
    (a3 : Memref sig .tc .vmem S2048x128 .bf16) (h3 : a3.IsWhole) (a4 : Memref sig .tc .vmem S8192x128 .bf16) (h4 : a4.IsWhole)
    (a5 : Memref sig .tc .vmem S8192x128 .bf16) (h5 : a5.IsWhole) (a6 : Memref sig .tc .vmem S2048x128 .bf16) (h6 : a6.IsWhole)
    (a7 : Memref sig .tc .vmem S1x2048 .f32) (h7 : a7.IsWhole) (a8 : Memref sig .tc .vmem S1x2048 .f32) (h8 : a8.IsWhole)
    (a9 : Memref sig .tc .vmem S128x2048 .f32) (h9 : a9.IsWhole) (q : Vec F S2048x128 .bf16)
    (x1 x2 : Vec F S8192x128 .bf16) :
    out0_A_3 c i a3 h3 a4 h4 a5 h5 a6 h6 a7 h7 a8 h8 a9 h9 q x1 x2
      = k0_pay11 (state q x1 x2 k0_t1_loop.trips).2.2 (state q x1 x2 k0_t1_loop.trips).2.1 := by
  unfold out0_A_3 kernelRun0_A
  dsimp only
  sl_unfold_words
  have eq0 : View.readAt (Elt F) a3.view (Rect.unit ![0, 0] S2048x128.size inb_S2048x128_S2048x128_0_0).toLoadRect (h3.unread q) = q := by
    rw [View.readAt_full, h3.read_unread]
  rw [eq0]
  have hl := loop_read Variants.none c none i a3 h3 a4 h4 a5 h5 a6 h6 a7 h7 a8 h8 a9 h9 q x1 x2
    (a7.view.writes (Elt F) a7.view.junk [⟨Rect.unit ![0, 0] S1x2048.size inb_S1x2048_S1x2048_0_0, k0_pay1⟩])
    (a8.view.writes (Elt F) a8.view.junk [⟨Rect.unit ![0, 0] S1x2048.size inb_S1x2048_S1x2048_0_0, k0_pay2⟩])
    (a9.view.writes (Elt F) a9.view.junk [⟨Rect.unit ![0, 0] S128x2048.size inb_S128x2048_S128x2048_0_0, k0_pay3⟩])
    (View.read_writes_full ..) (View.read_writes_full ..) (View.read_writes_full ..) _ le_rfl
  refine (View.read_writes_full ..).trans (congr (congrArg k0_pay11 ?_) ?_)
  · refine (View.readAt_full ..).trans ?_
    rw [View.writes_append]
    exact hl.2.2
  · refine (View.readAt_full ..).trans ?_
    rw [View.writes_append]
    exact hl.2.1

end Cert.Proof.Attn

end
-- ==== Proof.Softmax.lean ====
/-
  The mathematics of the running softmax over the extended reals, with no program in sight.

  A row of scores `s 0, s 1, …` (real numbers, to the base two) and a row of values `v 0, v 1, …` (any extended reals)
  are read block by block.  Three quantities are kept: the largest score so far, the sum of the weights `2^(s i - max)`
  and the sum of the values under those weights.  When a block moves the maximum, the old sums are multiplied by
  `2^(old max - new max)`.  The quotient at the end is the softmax average of the values, written to the base `e` and
  relative to whatever real number the other side subtracts.
-/
module

public import Idealize.ShloMosaic.PureOps.Ideal.Laws
public import Mathlib.Analysis.SpecialFunctions.Pow.Real

@[expose] public section

noncomputable section

open Idealize.ShloMosaic

namespace Cert.Proof.Softmax

/-- The largest of the first `n` scores; the bottom element when there is none. -/
def top (s : ℕ → ℝ) (n : ℕ) : EReal := (Finset.range n).sup fun i => (s i : EReal)

/-- The sum of the weights of the first `n` scores. -/
def den (s : ℕ → ℝ) (n : ℕ) : EReal := ∑ i ∈ Finset.range n, Ideal.exp2 ((s i : EReal) - top s n)

/-- The weighted sum of the first `n` values. -/
def num (s : ℕ → ℝ) (v : ℕ → EReal) (n : ℕ) : EReal :=
  ∑ i ∈ Finset.range n, v i * Ideal.exp2 ((s i : EReal) - top s n)

/-- With at least one score the maximum is a real number. -/
theorem top_real (s : ℕ → ℝ) (n : ℕ) (h : 0 < n) : ∃ M : ℝ, top s n = (M : EReal) := by
  obtain ⟨i, _, hi⟩ := Finset.exists_mem_eq_sup (Finset.range n) ⟨0, by simpa using h⟩ fun i => (s i : EReal)
  exact ⟨s i, hi⟩

/-- A power of two of a difference of two reals is real. -/
theorem exp2_sub (a b : ℝ) : Ideal.exp2 ((a : EReal) - (b : EReal)) = (((2 : ℝ) ^ (a - b) : ℝ) : EReal) := by
  rw [← EReal.coe_sub, Ideal.exp2_coe]; rfl

/-- The same to the base `e`. -/
theorem exp_sub (a b : ℝ) : Ideal.exp ((a : EReal) - (b : EReal)) = ((Real.exp (a - b) : ℝ) : EReal) := by
  rw [← EReal.coe_sub, Ideal.exp_coe]

/-- A nonnegative real factor distributes over a finite sum of extended reals. -/
theorem coe_mul_sum {ι : Type} (c : ℝ) (hc : 0 ≤ c) (t : Finset ι) (f : ι → EReal) :
    (c : EReal) * ∑ i ∈ t, f i = ∑ i ∈ t, (c : EReal) * f i := by
  classical
  induction t using Finset.induction_on with
  | empty => simp
  | insert a t ha ih =>
    rw [Finset.sum_insert ha, Finset.sum_insert ha,
      EReal.left_distrib_of_nonneg_of_ne_top (EReal.coe_nonneg.mpr hc) (EReal.coe_ne_top c), ih]

/-- A finite sum of reals, seen as an extended real. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- Nothing read: bottom, zero, zero. -/
theorem top_zero (s : ℕ → ℝ) : top s 0 = ⊥ := by simp [top]
theorem den_zero (s : ℕ → ℝ) : den s 0 = 0 := by simp [den]
theorem num_zero (s : ℕ → ℝ) (v : ℕ → EReal) : num s v 0 = 0 := by simp [num]

/-- One more block moves the maximum to the larger of the old one and the block's. -/
theorem top_add (s : ℕ → ℝ) (n b : ℕ) :
    top s (n + b) = max (top s n) ((Finset.range b).sup fun r => (s (n + r) : EReal)) := by
  apply le_antisymm
  · refine Finset.sup_le fun i hi => ?_
    rw [Finset.mem_range] at hi
    by_cases h : i < n
    · exact le_max_of_le_left (Finset.le_sup (f := fun i => (s i : EReal)) (Finset.mem_range.mpr h))
    · refine le_max_of_le_right ?_
      have := Finset.le_sup (f := fun r => (s (n + r) : EReal)) (Finset.mem_range.mpr (show i - n < b by omega))
      simpa [show n + (i - n) = i by omega] using this
  · refine max_le (Finset.sup_le fun i hi => ?_) (Finset.sup_le fun r hr => ?_)
    · rw [Finset.mem_range] at hi
      exact Finset.le_sup (f := fun i => (s i : EReal)) (Finset.mem_range.mpr (by omega))
    · rw [Finset.mem_range] at hr
      exact Finset.le_sup (f := fun i => (s i : EReal)) (Finset.mem_range.mpr (show n + r < n + b by omega))

/-- Moving the maximum: the old weighted sum times `2^(old max - new max)` is the weighted sum relative to the new. -/
theorem rescale (s : ℕ → ℝ) (v : ℕ → EReal) (n : ℕ) (M' : ℝ) :
    Ideal.exp2 (top s n - (M' : EReal)) * num s v n
      = ∑ i ∈ Finset.range n, v i * Ideal.exp2 ((s i : EReal) - (M' : EReal)) := by
  rcases Nat.eq_zero_or_pos n with rfl | hn
  · simp [num]
  · obtain ⟨M, hM⟩ := top_real s n hn
    rw [num, hM, exp2_sub, coe_mul_sum _ (by positivity)]
    refine Finset.sum_congr rfl fun i _ => ?_
    rw [exp2_sub, exp2_sub, mul_left_comm, ← EReal.coe_mul, ← Real.rpow_add (by norm_num)]
    congr 3; ring

/-- The denominators are the weighted sums of ones. -/
theorem den_eq_num (s : ℕ → ℝ) (n : ℕ) : den s n = num s (fun _ => 1) n := by simp [den, num]

/-- One block of the weighted sum. -/
theorem num_add (s : ℕ → ℝ) (v : ℕ → EReal) (n b : ℕ) (hb : 0 < b) :
    num s v (n + b) = Ideal.exp2 (top s n - top s (n + b)) * num s v n
      + ∑ r ∈ Finset.range b, v (n + r) * Ideal.exp2 ((s (n + r) : EReal) - top s (n + b)) := by
  obtain ⟨M', hM'⟩ := top_real s (n + b) (by omega)
  rw [hM', rescale, num, hM', Finset.sum_range_add]

/-- One block of the denominator. -/
theorem den_add (s : ℕ → ℝ) (n b : ℕ) (hb : 0 < b) :
    den s (n + b) = Ideal.exp2 (top s n - top s (n + b)) * den s n
      + ∑ r ∈ Finset.range b, Ideal.exp2 ((s (n + r) : EReal) - top s (n + b)) := by
  rw [den_eq_num, num_add _ _ _ _ hb, ← den_eq_num]; simp

/-- The quotient: the softmax average, to the base `e`, of scores `t i = s i * log 2`, relative to any real `M'`. -/
theorem num_div_den (s t : ℕ → ℝ) (v : ℕ → EReal) (n : ℕ) (hn : 0 < n) (hst : ∀ i < n, s i * Real.log 2 = t i)
    (M' : ℝ) :
    Ideal.div (num s v n) (den s n)
      = ∑ i ∈ Finset.range n, v i * Ideal.div (Ideal.exp ((t i : EReal) - (M' : EReal)))
          (∑ j ∈ Finset.range n, Ideal.exp ((t j : EReal) - (M' : EReal))) := by
  obtain ⟨M, hM⟩ := top_real s n hn
  have hpos : (0 : ℝ) < ∑ i ∈ Finset.range n, (2 : ℝ) ^ (s i - M) :=
    Finset.sum_pos (fun i _ => by positivity) ⟨0, by simpa using hn⟩
  have hpos' : (0 : ℝ) < ∑ i ∈ Finset.range n, Real.exp (t i - M') :=
    Finset.sum_pos (fun i _ => by positivity) ⟨0, by simpa using hn⟩
  have hden : den s n = ((∑ i ∈ Finset.range n, (2 : ℝ) ^ (s i - M) : ℝ) : EReal) := by
    rw [den, hM, coe_sum]; exact Finset.sum_congr rfl fun i _ => exp2_sub _ _
  have hden' : (∑ j ∈ Finset.range n, Ideal.exp ((t j : EReal) - (M' : EReal)))
      = ((∑ i ∈ Finset.range n, Real.exp (t i - M') : ℝ) : EReal) := by
    rw [coe_sum]; exact Finset.sum_congr rfl fun i _ => exp_sub _ _
  have hterm : ∀ i < n, (2 : ℝ) ^ (s i - M) = Real.exp (t i - M') * Real.exp (M' - M * Real.log 2) := by
    intro i hi
    rw [Real.rpow_def_of_pos (by norm_num), ← Real.exp_add, ← hst i hi]
    congr 1; ring
  have hsum : ∑ i ∈ Finset.range n, (2 : ℝ) ^ (s i - M)
      = (∑ i ∈ Finset.range n, Real.exp (t i - M')) * Real.exp (M' - M * Real.log 2) := by
    rw [Finset.sum_mul]; exact Finset.sum_congr rfl fun i hi => hterm i (Finset.mem_range.mp hi)
  rw [hden, Ideal.div_coe hpos.ne', num, hM, mul_comm, coe_mul_sum _ (by positivity)]
  refine Finset.sum_congr rfl fun i hi => ?_
  rw [hden', Ideal.div_coe hpos'.ne', exp_sub, exp2_sub, mul_left_comm, ← EReal.coe_mul, ← EReal.coe_mul]
  congr 2
  rw [hterm i (Finset.mem_range.mp hi), hsum]
  have := Real.exp_pos (M' - M * Real.log 2)
  field_simp

end Cert.Proof.Softmax

end
-- ==== Proof.AttnPay.lean ====
/-
  One step of the loop over the key blocks, read at an index at `Ideal`: the scores are sums of products, and each of
  the three running vectors takes the step of the running softmax of `Softmax.lean`.
-/
module

public import proofs.«01_k».proof.Proof.AttnLoop
public import proofs.«01_k».proof.Proof.Softmax
public import Idealize.ShloMosaic.Lib.Pointwise

@[expose] public section

set_option maxRecDepth 16384

noncomputable section

open Idealize.ShloMosaic Idealize.ShloMosaic.TcCoe Idealize.SL.Sem
open Idealize.ShloMosaic.Pointwise
open Cert.KernelIdeal Cert.KernelIdeal.Gen

namespace Cert.Proof.Attn

/-- The pattern of minus infinity. -/
theorem ofBits_neg_inf : Ideal.ofBits FTy.f32 0xFF800000#32 = ⊥ := by simp [Ideal.ofBits, Ideal.ieee]

/-- The named constant is the real number it names. -/
theorem scale_value : (Named.named (F := Ideal) (φ := FTy.f32) κ "scale_c" 0x3E0293EE#32)
    = (((Real.sqrt 128)⁻¹ * (Real.log 2)⁻¹ : ℝ) : EReal) :=
  IdealRules.named_const.ideal_named_scalar _ _ _ _ rfl

/-- A fold of the maximum over all positions is a supremum over the first naturals. -/
theorem fold_max_eq_sup (n : ℕ) (f : ℕ → EReal) :
    (Finset.univ : Finset (Fin n)).fold max ⊥ (fun x => f x.val) = (Finset.range n).sup f := by
  rw [← Nat.Iio_eq_range, ← Fin.map_valEmbedding_univ, Finset.sup_map]
  rfl

/-- The maximum down a column of scores. -/
theorem max_col (w : FVec Ideal S1024x2048 .f32) (h : S1024x2048.Reduces [0] S2048) (hφ : FKind.Formats .f32)
    (hacc : (0xFF800000#32 : BitVec 32) = FKind.maximumf.neutral .f32 hφ) (j : Fin 2048) :
    multiReduction .maximumf [0] S2048 w 0xFF800000#32 h hφ hacc (ix1 j)
      = (Finset.univ : Finset (Fin 1024)).fold max ⊥ (fun x => w (ix2 x j)) := by
  rw [← ofBits_neg_inf]
  exact (multiReduction_maximumf_eq_fold w _ h hφ hacc (ix1 j)).trans (h.fold_fiber_r2_a0 (ix1 j) max _ w)

/-- The sum down a column of weights. -/
theorem sum_col (w : FVec Ideal S1024x2048 .f32) (h : S1024x2048.Reduces [0] S2048) (hφ : FKind.Formats .f32)
    (hacc : (0x00000000#32 : BitVec 32) = FKind.add.neutral .f32 hφ) (j : Fin 2048) :
    multiReduction .add [0] S2048 w 0x00000000#32 h hφ hacc (ix1 j) = ∑ x : Fin 1024, w (ix2 x j) := by
  pointwise

/-- A vector of columns as one row. -/
theorem as_row (w : FVec Ideal S2048 .f32) (h : S2048.ShapeCasts S1x2048) (j : Fin 2048) :
    shapeCast S1x2048 w h (ix2 0 j) = w (ix1 j) := by
  pointwise

/-- A score: the key row times the scaled query row. -/
theorem pay4_at (q : Vec Ideal S2048x128 .bf16) (kb : Vec Ideal S1024x128 .bf16) (r : Fin 1024) (j : Fin 2048) :
    (k0_pay4 q kb : Vec Ideal S1024x2048 .f32) (ix2 r j)
      = ∑ d : Fin 128, kb (ix2 r d) * (q (ix2 j d) * (((Real.sqrt 128)⁻¹ * (Real.log 2)⁻¹ : ℝ) : EReal)) := by
  pointwise [k0_pay4]
  rw [scale_value]

/-- The new maximum. -/
theorem pay5_at (q : Vec Ideal S2048x128 .bf16) (kb : Vec Ideal S1024x128 .bf16) (m : Vec Ideal S1x2048 .f32) (j : Fin 2048) :
    (k0_pay5 q kb m : Vec Ideal S1x2048 .f32) (ix2 0 j)
      = max (m (ix2 0 j)) ((Finset.univ : Finset (Fin 1024)).fold max ⊥ fun x => (k0_pay4 q kb : Vec Ideal S1024x2048 .f32) (ix2 x j)) := by
  unfold k0_pay5
  exact congrArg (max (m (ix2 0 j))) ((as_row _ _ j).trans (max_col (k0_pay4 q kb) _ _ _ j))

/-- The stored maximum is the new maximum. -/
theorem pay10_at (q : Vec Ideal S2048x128 .bf16) (kb : Vec Ideal S1024x128 .bf16) (m : Vec Ideal S1x2048 .f32) (j : Fin 2048) :
    (k0_pay10 q kb m : Vec Ideal S1x2048 .f32) (ix2 0 j) = (k0_pay5 q kb m : Vec Ideal S1x2048 .f32) (ix2 0 j) := by
  pointwise [k0_pay10]

/-- The new sum of weights. -/
theorem pay8_at (q : Vec Ideal S2048x128 .bf16) (kb : Vec Ideal S1024x128 .bf16) (m l : Vec Ideal S1x2048 .f32) (j : Fin 2048) :
    (k0_pay8 q kb m l : Vec Ideal S1x2048 .f32) (ix2 0 j)
      = Ideal.exp2 (m (ix2 0 j) - (k0_pay5 q kb m : Vec Ideal S1x2048 .f32) (ix2 0 j)) * l (ix2 0 j)
        + ∑ x : Fin 1024, Ideal.exp2 ((k0_pay4 q kb : Vec Ideal S1024x2048 .f32) (ix2 x j) - (k0_pay5 q kb m : Vec Ideal S1x2048 .f32) (ix2 0 j)) := by
  pointwise [k0_pay8, k0_pay6, k0_pay7]
  rfl

/-- The new weighted sum of values. -/
theorem pay9_at (q : Vec Ideal S2048x128 .bf16) (kb vb : Vec Ideal S1024x128 .bf16) (m : Vec Ideal S1x2048 .f32)
    (a : Vec Ideal S128x2048 .f32) (d : Fin 128) (j : Fin 2048) :
    (k0_pay9 q kb vb m a : Vec Ideal S128x2048 .f32) (ix2 d j)
      = Ideal.exp2 (m (ix2 0 j) - (k0_pay5 q kb m : Vec Ideal S1x2048 .f32) (ix2 0 j)) * a (ix2 d j)
        + ∑ x : Fin 1024, vb (ix2 x d) * Ideal.exp2 ((k0_pay4 q kb : Vec Ideal S1024x2048 .f32) (ix2 x j) - (k0_pay5 q kb m : Vec Ideal S1x2048 .f32) (ix2 0 j)) := by
  pointwise [k0_pay9, k0_pay6, k0_pay7]
  rfl

/-- The stored quotient. -/
theorem pay11_at (a : Vec Ideal S128x2048 .f32) (l : Vec Ideal S1x2048 .f32) (d : Fin 128) (j : Fin 2048) :
    (k0_pay11 a l : Vec Ideal S2048x128 .bf16) (ix2 j d) = Ideal.div (a (ix2 d j)) (l (ix2 0 j)) := by
  pointwise [k0_pay11]

/-- The initial maximum. -/
theorem pay1_at (j : Fin 2048) : (k0_pay1 (F := Ideal) : Vec Ideal S1x2048 .f32) (ix2 0 j) = ⊥ := by
  pointwise [k0_pay1]
  exact ofBits_neg_inf

/-- The initial sum of weights. -/
theorem pay2_at (j : Fin 2048) : (k0_pay2 (F := Ideal) : Vec Ideal S1x2048 .f32) (ix2 0 j) = 0 := by
  pointwise [k0_pay2]

/-- The initial weighted sum. -/
theorem pay3_at (d : Fin 128) (j : Fin 2048) : (k0_pay3 (F := Ideal) : Vec Ideal S128x2048 .f32) (ix2 d j) = 0 := by
  pointwise [k0_pay3]

/-- Row `r` of trip `k`'s block is row `1024 k + r` of the sequence. -/
theorem rows_at (k : Fin k0_t1_loop.trips) (x : Vec Ideal S8192x128 .bf16) (r : Fin 1024) (d : Fin 128)
    (h : 1024 * k.val + r.val < 8192) : rows k x (ix2 r d) = x (ix2 ⟨1024 * k.val + r.val, h⟩ d) := by
  have e : k0_off1 k = ![1024 * k.val, 0] := by
    clear h
    revert k; decide +kernel
  refine congrArg x ?_
  funext a; apply Fin.ext
  fin_cases a
  · show k0_off1 k 0 + 1 * r.val = 1024 * k.val + r.val
    rw [e]; simp
  · show k0_off1 k 1 + 1 * d.val = d.val
    rw [e]; simp

/-- One trip of the loop is one block of the running softmax. -/
theorem state_at (q : Vec Ideal S2048x128 .bf16) (x1 x2 : Vec Ideal S8192x128 .bf16) (s : Fin 2048 → ℕ → ℝ) (v : Fin 128 → ℕ → EReal)
    (hs : ∀ (j : Fin 2048) (i : Fin 8192),
      ∑ d : Fin 128, x1 (ix2 i d) * (q (ix2 j d) * (((Real.sqrt 128)⁻¹ * (Real.log 2)⁻¹ : ℝ) : EReal)) = (s j i.val : EReal))
    (hv : ∀ (d : Fin 128) (i : Fin 8192), x2 (ix2 i d) = v d i.val) :
    ∀ n : ℕ, n ≤ 8 → ∀ j : Fin 2048,
      (state q x1 x2 n).1 (ix2 0 j) = Softmax.top (s j) (1024 * n)
      ∧ (state q x1 x2 n).2.1 (ix2 0 j) = Softmax.den (s j) (1024 * n)
      ∧ ∀ d : Fin 128, (state q x1 x2 n).2.2 (ix2 d j) = Softmax.num (s j) (v d) (1024 * n)
  | 0, _, j => by
    refine ⟨(pay1_at j).trans (Softmax.top_zero _).symm, (pay2_at j).trans (Softmax.den_zero _).symm,
      fun d => (pay3_at d j).trans (Softmax.num_zero _ _).symm⟩
  | n + 1, hn, j => by
    have ht : k0_t1_loop.trips = 8 := by decide
    have hk : n < k0_t1_loop.trips := by omega
    obtain ⟨i1, i2, i3⟩ := state_at q x1 x2 s v hs hv n (by omega) j
    have h4 : ∀ x : Fin 1024, (k0_pay4 q (rows ⟨n, hk⟩ x1) : Vec Ideal S1024x2048 .f32) (ix2 x j) = (s j (1024 * n + x.val) : EReal) := fun x => by
      rw [pay4_at, ← hs j ⟨1024 * n + x.val, by omega⟩]
      exact Finset.sum_congr rfl fun d _ => by rw [rows_at ⟨n, hk⟩ x1 x d (by show 1024 * n + x.val < 8192; omega)]
    have h5 : (k0_pay5 q (rows ⟨n, hk⟩ x1) (state q x1 x2 n).1 : Vec Ideal S1x2048 .f32) (ix2 0 j) = Softmax.top (s j) (1024 * n + 1024) := by
      rw [pay5_at, i1, Softmax.top_add]
      refine congrArg _ ?_
      simp only [h4]
      exact fold_max_eq_sup 1024 fun r => (s j (1024 * n + r) : EReal)
    rw [state, dif_pos hk, show 1024 * (n + 1) = 1024 * n + 1024 by ring]
    refine ⟨(pay10_at ..).trans h5, (pay8_at ..).trans ?_, fun d => (pay9_at ..).trans ?_⟩
    · rw [h5, i1, i2, Softmax.den_add _ _ _ (by norm_num)]
      simp only [h4]
      rw [Fin.sum_univ_eq_sum_range (fun x => Ideal.exp2 ((s j (1024 * n + x) : EReal) - Softmax.top (s j) (1024 * n + 1024)))]
    · rw [h5, i1, i3, Softmax.num_add _ _ _ _ (by norm_num)]
      simp only [h4]
      refine congrArg _ ((Finset.sum_congr rfl fun x _ => ?_).trans
        (Fin.sum_univ_eq_sum_range (fun x => v d (1024 * n + x) * Ideal.exp2 ((s j (1024 * n + x) : EReal) - Softmax.top (s j) (1024 * n + 1024))) 1024))
      rw [rows_at ⟨n, hk⟩ x2 x d (by show 1024 * n + x.val < 8192; omega), hv]

end Cert.Proof.Attn

end
-- ==== Proof.LatentPay.lean ====
/-
  One step of the latent attention's loop, read at an index at `Ideal`: the scores are sums over 256 lanes, and each of
  the three running vectors takes the step of the running softmax of `Softmax.lean`.
-/
module

public import proofs.«01_k».proof.Proof.LatentLoop
public import proofs.«01_k».proof.Proof.AttnPay
public import proofs.«01_k».proof.Proof.Softmax
public import Idealize.ShloMosaic.Lib.Pointwise

@[expose] public section

set_option maxRecDepth 16384

noncomputable section

open Idealize.ShloMosaic Idealize.ShloMosaic.TcCoe Idealize.SL.Sem
open Idealize.ShloMosaic.Pointwise
open Cert.LatentIdeal Cert.LatentIdeal.Gen

namespace Cert.Proof.Latent

/-- The named constant is the real number it names. -/
theorem scale_value : (Named.named (F := Ideal) (φ := FTy.f32) κ "scale_b" 0x3DD53B95#32)
    = (((Real.sqrt 192)⁻¹ * (Real.log 2)⁻¹ : ℝ) : EReal) :=
  IdealRules.named_const.ideal_named_scalar _ _ _ _ rfl

/-- The maximum down a column of scores. -/
theorem max_col (w : FVec Ideal S1024x2048 .f32) (h : S1024x2048.Reduces [0] S2048) (hφ : FKind.Formats .f32)
    (hacc : (0xFF800000#32 : BitVec 32) = FKind.maximumf.neutral .f32 hφ) (j : Fin 2048) :
    multiReduction .maximumf [0] S2048 w 0xFF800000#32 h hφ hacc (ix1 j)
      = (Finset.univ : Finset (Fin 1024)).fold max ⊥ (fun x => w (ix2 x j)) := by
  rw [← Attn.ofBits_neg_inf]
  exact (multiReduction_maximumf_eq_fold w _ h hφ hacc (ix1 j)).trans (h.fold_fiber_r2_a0 (ix1 j) max _ w)

/-- The sum down a column of weights. -/
theorem sum_col (w : FVec Ideal S1024x2048 .f32) (h : S1024x2048.Reduces [0] S2048) (hφ : FKind.Formats .f32)
    (hacc : (0x00000000#32 : BitVec 32) = FKind.add.neutral .f32 hφ) (j : Fin 2048) :
    multiReduction .add [0] S2048 w 0x00000000#32 h hφ hacc (ix1 j) = ∑ x : Fin 1024, w (ix2 x j) := by
  pointwise

/-- A vector of columns as one row. -/
theorem as_row (w : FVec Ideal S2048 .f32) (h : S2048.ShapeCasts S1x2048) (j : Fin 2048) :
    shapeCast S1x2048 w h (ix2 0 j) = w (ix1 j) := by
  pointwise

/-- A score: the key row times the scaled query row. -/
theorem pay4_at (q : Vec Ideal S2048x256 .bf16) (kb : Vec Ideal S1024x256 .bf16) (r : Fin 1024) (j : Fin 2048) :
    (k0_pay4 q kb : Vec Ideal S1024x2048 .f32) (ix2 r j)
      = ∑ d : Fin 256, kb (ix2 r d) * (q (ix2 j d) * (((Real.sqrt 192)⁻¹ * (Real.log 2)⁻¹ : ℝ) : EReal)) := by
  pointwise [k0_pay4]
  rw [scale_value]

/-- The new maximum. -/
theorem pay5_at (q : Vec Ideal S2048x256 .bf16) (kb : Vec Ideal S1024x256 .bf16) (m : Vec Ideal S1x2048 .f32) (j : Fin 2048) :
    (k0_pay5 q kb m : Vec Ideal S1x2048 .f32) (ix2 0 j)
      = max (m (ix2 0 j)) ((Finset.univ : Finset (Fin 1024)).fold max ⊥ fun x => (k0_pay4 q kb : Vec Ideal S1024x2048 .f32) (ix2 x j)) := by
  unfold k0_pay5
  exact congrArg (max (m (ix2 0 j))) ((as_row _ _ j).trans (max_col (k0_pay4 q kb) _ _ _ j))

/-- The stored maximum is the new maximum. -/
theorem pay10_at (q : Vec Ideal S2048x256 .bf16) (kb : Vec Ideal S1024x256 .bf16) (m : Vec Ideal S1x2048 .f32) (j : Fin 2048) :
    (k0_pay10 q kb m : Vec Ideal S1x2048 .f32) (ix2 0 j) = (k0_pay5 q kb m : Vec Ideal S1x2048 .f32) (ix2 0 j) := by
  pointwise [k0_pay10]

/-- The new sum of weights. -/
theorem pay8_at (q : Vec Ideal S2048x256 .bf16) (kb : Vec Ideal S1024x256 .bf16) (m l : Vec Ideal S1x2048 .f32) (j : Fin 2048) :
    (k0_pay8 q kb m l : Vec Ideal S1x2048 .f32) (ix2 0 j)
      = Ideal.exp2 (m (ix2 0 j) - (k0_pay5 q kb m : Vec Ideal S1x2048 .f32) (ix2 0 j)) * l (ix2 0 j)
        + ∑ x : Fin 1024, Ideal.exp2 ((k0_pay4 q kb : Vec Ideal S1024x2048 .f32) (ix2 x j) - (k0_pay5 q kb m : Vec Ideal S1x2048 .f32) (ix2 0 j)) := by
  pointwise [k0_pay8, k0_pay6, k0_pay7]
  rfl

/-- The new weighted sum of values. -/
theorem pay9_at (q : Vec Ideal S2048x256 .bf16) (kb : Vec Ideal S1024x256 .bf16) (vb : Vec Ideal S1024x128 .bf16) (m : Vec Ideal S1x2048 .f32)
    (a : Vec Ideal S128x2048 .f32) (d : Fin 128) (j : Fin 2048) :
    (k0_pay9 q kb vb m a : Vec Ideal S128x2048 .f32) (ix2 d j)
      = Ideal.exp2 (m (ix2 0 j) - (k0_pay5 q kb m : Vec Ideal S1x2048 .f32) (ix2 0 j)) * a (ix2 d j)
        + ∑ x : Fin 1024, vb (ix2 x d) * Ideal.exp2 ((k0_pay4 q kb : Vec Ideal S1024x2048 .f32) (ix2 x j) - (k0_pay5 q kb m : Vec Ideal S1x2048 .f32) (ix2 0 j)) := by
  pointwise [k0_pay9, k0_pay6, k0_pay7]
  rfl

/-- The stored quotient. -/
theorem pay11_at (a : Vec Ideal S128x2048 .f32) (l : Vec Ideal S1x2048 .f32) (d : Fin 128) (j : Fin 2048) :
    (k0_pay11 a l : Vec Ideal S2048x128 .bf16) (ix2 j d) = Ideal.div (a (ix2 d j)) (l (ix2 0 j)) := by
  pointwise [k0_pay11]

/-- The initial maximum. -/
theorem pay1_at (j : Fin 2048) : (k0_pay1 (F := Ideal) : Vec Ideal S1x2048 .f32) (ix2 0 j) = ⊥ := by
  pointwise [k0_pay1]
  exact Attn.ofBits_neg_inf

/-- The initial sum of weights. -/
theorem pay2_at (j : Fin 2048) : (k0_pay2 (F := Ideal) : Vec Ideal S1x2048 .f32) (ix2 0 j) = 0 := by
  pointwise [k0_pay2]

/-- The initial weighted sum. -/
theorem pay3_at (d : Fin 128) (j : Fin 2048) : (k0_pay3 (F := Ideal) : Vec Ideal S128x2048 .f32) (ix2 d j) = 0 := by
  pointwise [k0_pay3]

/-- Row `r` of trip `k`'s block of keys is row `1024 k + r` of the sequence. -/
theorem keys_at (k : Fin k0_t1_loop.trips) (x : Vec Ideal S8192x256 .bf16) (r : Fin 1024) (d : Fin 256)
    (h : 1024 * k.val + r.val < 8192) : keys k x (ix2 r d) = x (ix2 ⟨1024 * k.val + r.val, h⟩ d) := by
  have e : k0_off1 k = ![1024 * k.val, 0] := by
    clear h
    revert k; decide +kernel
  refine congrArg x ?_
  funext a; apply Fin.ext
  fin_cases a
  · show k0_off1 k 0 + 1 * r.val = 1024 * k.val + r.val
    rw [e]; simp
  · show k0_off1 k 1 + 1 * d.val = d.val
    rw [e]; simp

/-- Row `r` of trip `k`'s block of values is row `1024 k + r` of the sequence. -/
theorem vals_at (k : Fin k0_t1_loop.trips) (x : Vec Ideal S8192x128 .bf16) (r : Fin 1024) (d : Fin 128)
    (h : 1024 * k.val + r.val < 8192) : vals k x (ix2 r d) = x (ix2 ⟨1024 * k.val + r.val, h⟩ d) := by
  have e : k0_off2 k = ![1024 * k.val, 0] := by
    clear h
    revert k; decide +kernel
  refine congrArg x ?_
  funext a; apply Fin.ext
  fin_cases a
  · show k0_off2 k 0 + 1 * r.val = 1024 * k.val + r.val
    rw [e]; simp
  · show k0_off2 k 1 + 1 * d.val = d.val
    rw [e]; simp

/-- One trip of the loop is one block of the running softmax. -/
theorem state_at (q : Vec Ideal S2048x256 .bf16) (x1 : Vec Ideal S8192x256 .bf16) (x2 : Vec Ideal S8192x128 .bf16) (s : Fin 2048 → ℕ → ℝ) (v : Fin 128 → ℕ → EReal)
    (hs : ∀ (j : Fin 2048) (i : Fin 8192),
      ∑ d : Fin 256, x1 (ix2 i d) * (q (ix2 j d) * (((Real.sqrt 192)⁻¹ * (Real.log 2)⁻¹ : ℝ) : EReal)) = (s j i.val : EReal))
    (hv : ∀ (d : Fin 128) (i : Fin 8192), x2 (ix2 i d) = v d i.val) :
    ∀ n : ℕ, n ≤ 8 → ∀ j : Fin 2048,
      (state q x1 x2 n).1 (ix2 0 j) = Softmax.top (s j) (1024 * n)
      ∧ (state q x1 x2 n).2.1 (ix2 0 j) = Softmax.den (s j) (1024 * n)
      ∧ ∀ d : Fin 128, (state q x1 x2 n).2.2 (ix2 d j) = Softmax.num (s j) (v d) (1024 * n)
  | 0, _, j => by
    refine ⟨(pay1_at j).trans (Softmax.top_zero _).symm, (pay2_at j).trans (Softmax.den_zero _).symm,
      fun d => (pay3_at d j).trans (Softmax.num_zero _ _).symm⟩
  | n + 1, hn, j => by
    have ht : k0_t1_loop.trips = 8 := by decide
    have hk : n < k0_t1_loop.trips := by omega
    obtain ⟨i1, i2, i3⟩ := state_at q x1 x2 s v hs hv n (by omega) j
    have h4 : ∀ x : Fin 1024, (k0_pay4 q (keys ⟨n, hk⟩ x1) : Vec Ideal S1024x2048 .f32) (ix2 x j) = (s j (1024 * n + x.val) : EReal) := fun x => by
      rw [pay4_at, ← hs j ⟨1024 * n + x.val, by omega⟩]
      exact Finset.sum_congr rfl fun d _ => by rw [keys_at ⟨n, hk⟩ x1 x d (by show 1024 * n + x.val < 8192; omega)]
    have h5 : (k0_pay5 q (keys ⟨n, hk⟩ x1) (state q x1 x2 n).1 : Vec Ideal S1x2048 .f32) (ix2 0 j) = Softmax.top (s j) (1024 * n + 1024) := by
      rw [pay5_at, i1, Softmax.top_add]
      refine congrArg _ ?_
      simp only [h4]
      exact Attn.fold_max_eq_sup 1024 fun r => (s j (1024 * n + r) : EReal)
    rw [state, dif_pos hk, show 1024 * (n + 1) = 1024 * n + 1024 by ring]
    refine ⟨(pay10_at ..).trans h5, (pay8_at ..).trans ?_, fun d => (pay9_at ..).trans ?_⟩
    · rw [h5, i1, i2, Softmax.den_add _ _ _ (by norm_num)]
      simp only [h4]
      rw [Fin.sum_univ_eq_sum_range (fun x => Ideal.exp2 ((s j (1024 * n + x) : EReal) - Softmax.top (s j) (1024 * n + 1024)))]
    · rw [h5, i1, i3, Softmax.num_add _ _ _ _ (by norm_num)]
      simp only [h4]
      refine congrArg _ ((Finset.sum_congr rfl fun x _ => ?_).trans
        (Fin.sum_univ_eq_sum_range (fun x => v d (1024 * n + x) * Ideal.exp2 ((s j (1024 * n + x) : EReal) - Softmax.top (s j) (1024 * n + 1024))) 1024))
      rw [vals_at ⟨n, hk⟩ x2 x d (by show 1024 * n + x.val < 8192; omega), hv]

end Cert.Proof.Latent

end
-- ==== Proof.LatentArr.lean ====
/-
  The array the latent attention's kernel leaves: at query row `i`, head `h`, coordinate `d`, the quotient of the weighted
  sum of the values by the sum of the weights, over all 8192 key rows; a score runs over the head's 192 lanes.
-/
module

public import proofs.«01_k».proof.Proof.LatentPay
public import proofs.«01_k».proof.Proof.Gen.LatentIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pointwise
open Idealize.ShloMosaic.Pipeline (Dat)
open Cert.LatentIdeal Cert.LatentIdeal.Gen

namespace Cert.Proof.Latent

/-- The queries or keys, and the values. -/
abbrev Q := S40960x1024.Idx → EReal
abbrev W := S40960x512.Idx → EReal

/-- The base-2 scores of query row `i`, head `h`, against key row `n`, over a head's 192 lanes. -/
def score (q k : Q) (i : Fin 8192) (h : Fin 4) (n : ℕ) : ℝ :=
  if hn : n < 8192 then
    ∑ d : Fin 192, (k (ix2 ⟨n, by omega⟩ ⟨256 * h.val + d.val, by omega⟩)).toReal
      * ((q (ix2 ⟨i.val, by omega⟩ ⟨256 * h.val + d.val, by omega⟩)).toReal * ((Real.sqrt 192)⁻¹ * (Real.log 2)⁻¹))
  else 0

/-- Coordinate `d` of the value rows head `h` reads. -/
def val (v : W) (h : Fin 4) (d : Fin 128) (n : ℕ) : EReal :=
  if hn : n < 8192 then v (ix2 ⟨n, by omega⟩ ⟨128 * h.val + d.val, by omega⟩) else 0

/-- The layer's latent attention at a query row, head and coordinate. -/
def att (q k : Q) (v : W) (i : Fin 8192) (h : Fin 4) (d : Fin 128) : EReal :=
  Ideal.div (Softmax.num (score q k i h) (val v h d) 8192) (Softmax.den (score q k i h) 8192)

/-- Every entry of the queries and keys that are read is a real number, and a head's queries past its 192 lanes are zero. -/
structure Padded (q k : Q) : Prop where
  real_q : ∀ (i : Fin 8192) (e : Fin 1024), q (ix2 ⟨i.val, by omega⟩ e) = ((q (ix2 ⟨i.val, by omega⟩ e)).toReal : EReal)
  real_k : ∀ (i : Fin 8192) (e : Fin 1024), k (ix2 ⟨i.val, by omega⟩ e) = ((k (ix2 ⟨i.val, by omega⟩ e)).toReal : EReal)
  zero_q : ∀ (i : Fin 8192) (h : Fin 4) (d : Fin 64), q (ix2 ⟨i.val, by omega⟩ ⟨256 * h.val + (192 + d.val), by omega⟩) = 0

/-- The kernel's sum over 256 lanes is the score over 192: the rest of the query row is zero. -/
theorem score_at (q k : Q) (hR : Padded q k) (i n : Fin 8192) (h : Fin 4) :
    ∑ d : Fin 256, k (ix2 ⟨n.val, by omega⟩ ⟨256 * h.val + d.val, by omega⟩)
        * (q (ix2 ⟨i.val, by omega⟩ ⟨256 * h.val + d.val, by omega⟩) * (((Real.sqrt 192)⁻¹ * (Real.log 2)⁻¹ : ℝ) : EReal))
      = (score q k i h n.val : EReal) := by
  rw [score, dif_pos n.isLt, Softmax.coe_sum]
  refine (Fin.sum_univ_add (a := 192) (b := 64) _).trans ?_
  have hz : ∑ d : Fin 64, k (ix2 ⟨n.val, by omega⟩ ⟨256 * h.val + (192 + d.val), by omega⟩)
      * (q (ix2 ⟨i.val, by omega⟩ ⟨256 * h.val + (192 + d.val), by omega⟩) * (((Real.sqrt 192)⁻¹ * (Real.log 2)⁻¹ : ℝ) : EReal)) = 0 :=
    Finset.sum_eq_zero fun d _ => by rw [hR.zero_q i h d, zero_mul, mul_zero]
  refine (congrArg _ hz).trans ((add_zero _).trans (Finset.sum_congr rfl fun d _ => ?_))
  have ek := hR.real_k n ⟨256 * h.val + d.val, by omega⟩
  have eq := hR.real_q i ⟨256 * h.val + d.val, by omega⟩
  refine (congrArg₂ (fun x y : EReal => x * (y * (((Real.sqrt 192)⁻¹ * (Real.log 2)⁻¹ : ℝ) : EReal))) ek eq).trans ?_
  exact ((congrArg _ (EReal.coe_mul _ _).symm).trans (EReal.coe_mul _ _).symm)

variable (m : (ℓ : Loc nD τ sig) → Buf (Elt Ideal) ℓ) (c : Dev nD)

theorem index0 : ∀ t : Fin cfg0.N, win0_0.index t = ![t.val % 4, t.val / 4] :=
  (by decide +kernel : ∀ t : Fin grid0.N, win0_0.index t = ![t.val % 4, t.val / 4])
theorem index1 : ∀ t : Fin cfg0.N, win0_1.index t = ![0, t.val / 4] :=
  (by decide +kernel : ∀ t : Fin grid0.N, win0_1.index t = ![0, t.val / 4])
theorem index2 : ∀ t : Fin cfg0.N, win0_2.index t = ![0, t.val / 4] :=
  (by decide +kernel : ∀ t : Fin grid0.N, win0_2.index t = ![0, t.val / 4])
theorem index3 : ∀ t : Fin cfg0.N, win0_3.index t = ![t.val % 4, t.val / 4] :=
  (by decide +kernel : ∀ t : Fin grid0.N, win0_3.index t = ![t.val % 4, t.val / 4])

theorem lt16 (t : Fin cfg0.N) : t.val < 16 := t.isLt

/-- The query rows of a point. -/
theorem iblk0_at (t : Fin cfg0.N) (j : Fin 2048) (d : Fin 256) :
    (iblk m c 0 t : S2048x256.Idx → EReal) (ix2 j d)
      = (m ((c : Thread nD τ).loc main_arg0) : Q) (ix2 ⟨2048 * (t.val % 4) + j.val, by omega⟩ ⟨256 * (t.val / 4) + d.val, by have := lt16 t; omega⟩) := by
  blk_ext [iblk, V, index0 t]

/-- The key rows of a point. -/
theorem iblk1_at (t : Fin cfg0.N) (j : Fin 8192) (d : Fin 256) :
    (iblk m c 1 t : S8192x256.Idx → EReal) (ix2 j d)
      = (m ((c : Thread nD τ).loc main_arg1) : Q) (ix2 ⟨j.val, by omega⟩ ⟨256 * (t.val / 4) + d.val, by have := lt16 t; omega⟩) := by
  blk_ext [iblk, V, index1 t]

/-- The value rows of a point. -/
theorem iblk2_at (t : Fin cfg0.N) (j : Fin 8192) (d : Fin 128) :
    (iblk m c 2 t : S8192x128.Idx → EReal) (ix2 j d)
      = (m ((c : Thread nD τ).loc main_arg2) : W) (ix2 ⟨j.val, by omega⟩ ⟨128 * (t.val / 4) + d.val, by have := lt16 t; omega⟩) := by
  blk_ext [iblk, V, index2 t]

/-- What a point writes, at an index of its block. -/
theorem point_at (hR : Padded (m ((c : Thread nD τ).loc main_arg0)) (m ((c : Thread nD τ).loc main_arg1))) (t : Fin cfg0.N)
    (j : Fin 2048) (d : Fin 128) :
    (k0_pay11 (state (iblk m c 0 t) (iblk m c 1 t) (iblk m c 2 t) k0_t1_loop.trips).2.2
        (state (iblk m c 0 t) (iblk m c 1 t) (iblk m c 2 t) k0_t1_loop.trips).2.1 : Vec Ideal S2048x128 .bf16) (ix2 j d)
      = att (m ((c : Thread nD τ).loc main_arg0)) (m ((c : Thread nD τ).loc main_arg1)) (m ((c : Thread nD τ).loc main_arg2))
          ⟨2048 * (t.val % 4) + j.val, by omega⟩ ⟨t.val / 4, by have := lt16 t; omega⟩ d := by
  have h16 := lt16 t
  have ht : k0_t1_loop.trips = 8 := by decide
  obtain ⟨-, e2, e3⟩ := state_at (iblk m c 0 t) (iblk m c 1 t) (iblk m c 2 t)
    (fun j => score (m ((c : Thread nD τ).loc main_arg0)) (m ((c : Thread nD τ).loc main_arg1)) ⟨2048 * (t.val % 4) + j.val, by omega⟩ ⟨t.val / 4, by omega⟩)
    (val (m ((c : Thread nD τ).loc main_arg2)) ⟨t.val / 4, by omega⟩)
    (fun j i => (Finset.sum_congr rfl fun d _ => by rw [iblk0_at, iblk1_at]).trans
      (score_at _ _ hR ⟨2048 * (t.val % 4) + j.val, by omega⟩ i ⟨t.val / 4, by omega⟩))
    (fun d i => by
      rw [iblk2_at, val, dif_pos i.isLt]) 8 le_rfl j
  rw [pay11_at, ht, e2, e3 d]
  rfl

/-- The whole array after the run. -/
theorem array (hR : Padded (m ((c : Thread nD τ).loc main_arg0)) (m ((c : Thread nD τ).loc main_arg1))) :
    ((dats m 0 c).arrAt 3 cfg0.N : S8192x512.Idx → EReal)
      = fun i => att (m ((c : Thread nD τ).loc main_arg0)) (m ((c : Thread nD τ).loc main_arg1)) (m ((c : Thread nD τ).loc main_arg2))
          (i 0) ⟨(i 1).val / 128, by have : (i 1).val < 512 := (i 1).isLt; omega⟩ ⟨(i 1).val % 128, by omega⟩ := by
  refine (dats m 0 c).arrAt_eq_of_covers 3 _ (by decide +kernel) fun t hf y => ?_
  blk_simp
  rw [after0_3]
  simp only [outsAt0]
  rw [out_eq]
  have h16 := lt16 t
  have h0 : (y 0).val < 2048 := (y 0).isLt
  have h1 : (y 1).val < 128 := (y 1).isLt
  have hy : y = (ix2 (⟨(y 0).val, h0⟩ : Fin 2048) (⟨(y 1).val, h1⟩ : Fin 128) : S2048x128.Idx) := by
    funext a; fin_cases a <;> rfl
  refine (congrArg _ hy).trans ((point_at m c hR t _ _).trans ?_)
  have e0 := congrFun (index3 t) 0
  have e1 := congrFun (index3 t) 1
  simp only [Matrix.cons_val_zero, Matrix.cons_val_one] at e0 e1
  congr 1
  · apply Fin.ext
    show 2048 * (t.val % 4) + (y 0).val = _
    blk_simp
    rw [e0]; omega
  · apply Fin.ext
    show t.val / 4 = (win0_3.index t 1 * 128 + (y 1).val) / 128
    rw [e1]; omega
  · apply Fin.ext
    show (y 1).val = (win0_3.index t 1 * 128 + (y 1).val) % 128
    rw [e1]; omega

end Cert.Proof.Latent

end
-- ==== Proof.LatentRef.lean ====
/-
  The latent attention's reference, read at an index at `Ideal`: the scores over a head's 192 lanes, their softmax along
  the keys, and the average of the values; where the precondition holds it is the kernel's quotient.
-/
module

public import proofs.«01_k».proof.Proof.Softmax
public import proofs.«01_k».proof.Proof.LatentArr
public import proofs.«01_k».proof.Proof.Gen.LatentReferenceIdeal.Run
public import Idealize.ShloMosaic.Lib.Pointwise

@[expose] public section

set_option maxRecDepth 16384

noncomputable section

open Idealize.ShloMosaic Idealize.ShloMosaic.TcCoe Idealize.SL.Sem
open Idealize.ShloMosaic.Pointwise
open Cert.LatentReferenceIdeal Cert.LatentReferenceIdeal.Gen Cert.LatentReferenceIdeal.Value

namespace Cert.Proof.LatentRef

/-- A head's 192 lanes of the rows that are read. -/
def lanes (q : FVec Ideal S40960x1024 .bf16) : FVec Ideal S8192x4x192 .f32 :=
  extractStridedSlice S8192x4x192 ![0, 0, 0] (shapeCast S8192x4x256 (extf .f32 (extractStridedSlice S8192x1024 ![0, 0] q slices_S40960x1024_S8192x1024_0_0 : FVec Ideal S8192x1024 .bf16) bitsLt_bf16_f32 : FVec Ideal S8192x1024 .f32) shapeCasts_S8192x1024_S8192x4x256 : FVec Ideal S8192x4x256 .f32) slices_S8192x4x256_S8192x4x192_0_0_0

/-- The scaled scores. -/
def scores (q k : FVec Ideal S40960x1024 .bf16) : FVec Ideal S4x8192x8192 .f32 :=
  Host.divf (Host.dotGeneral dot_S8192x4x192_S8192x4x192_S4x8192x8192_2_2_0_0_1_1 none (lanes q) (lanes k))
    (broadcastInDim S4x8192x8192 ![] bcast_S_S4x8192x8192 (Host.sqrt (constant S_ .f32 0x43400000#32)))

/-- The weights before they are divided by their sum. -/
def weights (s : FVec Ideal S4x8192x8192 .f32) (M : FVec Ideal S4x8192 .f32) : FVec Ideal S4x8192x8192 .f32 :=
  Host.exp (subf s (broadcastInDim S4x8192x8192 ![0, 1, 2] bcast_S4x8192x1_S4x8192x8192_0_1_2
    (broadcastInDim S4x8192x1 ![0, 1] bcast_S4x8192_S4x8192x1_0_1 M)))

/-- The largest score of every row. -/
def tops (s : FVec Ideal S4x8192x8192 .f32) : FVec Ideal S4x8192 .f32 :=
  maximumf (broadcastInDim S4x8192 ![] bcast_S_S4x8192 (constant S_ .f32 0xFF800000#32))
    (Host.reduce FloatOps.maximumf s (constant S_ .f32 0xFF800000#32) reducesTo_S4x8192x8192_S4x8192_d2 h_S_)

/-- The weights divided by their sum. -/
def probs (w : FVec Ideal S4x8192x8192 .f32) : FVec Ideal S4x8192x8192 .f32 :=
  Host.divf w (broadcastInDim S4x8192x8192 ![0, 1, 2] bcast_S4x8192x1_S4x8192x8192_0_1_2
    (broadcastInDim S4x8192x1 ![0, 1] bcast_S4x8192_S4x8192x1_0_1
      (Host.reduceAdd w (constant S_ .f32 0x00000000#32) reducesTo_S4x8192x8192_S4x8192_d2 h_S_)))

/-- The average of the values. -/
def average (p : FVec Ideal S4x8192x8192 .f32) (v : FVec Ideal S40960x512 .bf16) : FVec Ideal S8192x512 .bf16 :=
  truncf .bf16 (shapeCast S8192x512 (transpose S8192x4x128 [2, 0, 1] (Host.dotGeneral dot_S8192x4x128_S4x8192x8192_S4x128x8192_0_2_2_1_1_0 none
    (shapeCast S8192x4x128 (extf .f32 (extractStridedSlice S8192x512 ![0, 0] v slices_S40960x512_S8192x512_0_0 : FVec Ideal S8192x512 .bf16) bitsLt_bf16_f32 : FVec Ideal S8192x512 .f32) shapeCasts_S8192x512_S8192x4x128) p)
    transposes_S4x128x8192_S8192x4x128_2_0_1) shapeCasts_S8192x4x128_S8192x512) bitsLt_bf16_f32

/-- The result is these stages composed. -/
theorem res_eq (m : (ℓ : Loc nD τ sig) → Buf (Elt Ideal) ℓ) (c : Dev nD) :
    res_main_v29 m c = average (probs (weights (scores (m ((c.tc : Thread nD τ).loc main_arg0)) (m ((c.tc : Thread nD τ).loc main_arg1)))
      (tops (scores (m ((c.tc : Thread nD τ).loc main_arg0)) (m ((c.tc : Thread nD τ).loc main_arg1)))))) (m ((c.tc : Thread nD τ).loc main_arg2)) := rfl

/-- The pattern of 192. -/
theorem ofBits_192 : Ideal.ofBits FTy.f32 0x43400000#32 = ((192 : ℝ) : EReal) := by
  simp [Ideal.ofBits, Ideal.ieee, -EReal.coe_mul]; norm_num

/-- A score of the reference: the query row times the key row, over the root of 192. -/
theorem scores_at (q k : FVec Ideal S40960x1024 .bf16) (a : Fin 4) (i n : Fin 8192) :
    scores q k (ix3 a i n)
      = Ideal.div (∑ x : Fin 192, q (ix2 ⟨i.val, by omega⟩ ⟨a.val * 256 + x.val, by omega⟩) * k (ix2 ⟨n.val, by omega⟩ ⟨a.val * 256 + x.val, by omega⟩))
          (Ideal.sqrt ((192 : ℝ) : EReal)) := by
  pointwise [scores, lanes]
  rw [← ofBits_192]

/-- A weight: the exponential of the score less the row's number. -/
theorem weights_at (s : FVec Ideal S4x8192x8192 .f32) (M : FVec Ideal S4x8192 .f32) (a : Fin 4) (i n : Fin 8192) :
    weights s M (ix3 a i n) = Ideal.exp (s (ix3 a i n) - M (ix2 a i)) := by
  pointwise [weights]

/-- The maximum along the keys is a fold of the maximum. -/
theorem max_row (s : FVec Ideal S4x8192x8192 .f32) (z : FVec Ideal S_ .f32) (h : S4x8192x8192.ReducesTo [2] S4x8192) (hS : 0 < S_.numel)
    (a : Fin 4) (i : Fin 8192) :
    Host.reduce (FloatOps.maximumf (F := Ideal) (φ := .f32)) s z h hS (ix2 a i)
      = (Finset.univ : Finset (Fin 8192)).fold max (z (Shape.Idx.first hS)) fun x => s (ix3 a i x) := by
  rw [Host.reduce_eq_fold, h.fold_fiber_r3_a2]
  rfl

/-- The larger of minus infinity and a maximum along the keys. -/
theorem max_both (z w : FVec Ideal S4x8192 .f32) (j : S4x8192.Idx) (f : EReal)
    (hz : z j = ⊥) (hw : w j = f) : (maximumf z w : FVec Ideal S4x8192 .f32) j = f := by
  show max (z j) (w j) = f
  rw [hz, hw]
  exact max_eq_right bot_le

/-- The largest score of a row. -/
theorem tops_at (s : FVec Ideal S4x8192x8192 .f32) (a : Fin 4) (i : Fin 8192) :
    tops s (ix2 a i) = (Finset.univ : Finset (Fin 8192)).fold max ⊥ fun x => s (ix3 a i x) := by
  unfold tops
  refine max_both _ _ _ _ ?_ ?_
  · pointwise
    exact Attn.ofBits_neg_inf
  · have hz : (constant S_ .f32 0xFF800000#32 : FVec Ideal S_ .f32) (Shape.Idx.first h_S_) = ⊥ := Attn.ofBits_neg_inf
    rw [max_row, hz]

/-- A weight over its row's sum. -/
theorem probs_at (w : FVec Ideal S4x8192x8192 .f32) (a : Fin 4) (i n : Fin 8192) :
    probs w (ix3 a i n) = Ideal.div (w (ix3 a i n)) (∑ x : Fin 8192, w (ix3 a i x)) := by
  pointwise [probs]

/-- An average of value rows. -/
theorem average_at (p : FVec Ideal S4x8192x8192 .f32) (v : FVec Ideal S40960x512 .bf16) (a : Fin 4) (i : Fin 8192) (d : Fin 128) :
    average p v (ix2 i ⟨a.val * 128 + d.val, by omega⟩)
      = ∑ x : Fin 8192, v (ix2 ⟨x.val, by omega⟩ ⟨a.val * 128 + d.val, by omega⟩) * p (ix3 a i x) := by
  pointwise [average]

/-- Where the precondition holds the reference's value is the kernel's. -/
theorem ref_at (q k : FVec Ideal S40960x1024 .bf16) (v : FVec Ideal S40960x512 .bf16) (hR : Latent.Padded q k) (a : Fin 4) (i : Fin 8192)
    (d : Fin 128) :
    average (probs (weights (scores q k) (tops (scores q k)))) v (ix2 i ⟨a.val * 128 + d.val, by omega⟩) = Latent.att q k v i a d := by
  have h192 : (0 : ℝ) < Real.sqrt 192 := Real.sqrt_pos.mpr (by norm_num)
  have hl2 : Real.log 2 ≠ 0 := (Real.log_pos (by norm_num)).ne'
  -- a score is real
  have hS : ∀ x : Fin 8192, scores q k (ix3 a i x) = ((Latent.score q k i a x.val * Real.log 2 : ℝ) : EReal) := fun x => by
    have e1 : ∀ y : Fin 192, (⟨a.val * 256 + y.val, by omega⟩ : Fin 1024) = ⟨256 * a.val + y.val, by omega⟩ := fun y =>
      Fin.ext (by show a.val * 256 + y.val = 256 * a.val + y.val; omega)
    rw [scores_at, Ideal.sqrt_coe, if_neg (by norm_num), Ideal.div_coe h192.ne', Latent.score, dif_pos x.isLt]
    have e3 : (∑ y : Fin 192, q (ix2 ⟨i.val, by omega⟩ ⟨a.val * 256 + y.val, by omega⟩) * k (ix2 ⟨x.val, by omega⟩ ⟨a.val * 256 + y.val, by omega⟩))
        = ((∑ y : Fin 192, (k (ix2 ⟨x.val, by omega⟩ ⟨256 * a.val + y.val, by omega⟩)).toReal
            * (q (ix2 ⟨i.val, by omega⟩ ⟨256 * a.val + y.val, by omega⟩)).toReal : ℝ) : EReal) := by
      rw [Softmax.coe_sum]
      refine Finset.sum_congr rfl fun y _ => ?_
      rw [e1 y, hR.real_q i, hR.real_k x, ← EReal.coe_mul, mul_comm]
      rfl
    rw [e3, ← EReal.coe_mul]
    congr 1
    rw [Finset.sum_mul, Finset.sum_mul]
    refine Finset.sum_congr rfl fun y _ => ?_
    field_simp
  -- so is the largest one
  obtain ⟨M, hM⟩ : ∃ M : ℝ, tops (scores q k) (ix2 a i) = (M : EReal) := by
    rw [tops_at]
    simp only [hS]
    rw [Attn.fold_max_eq_sup 8192 fun x => ((Latent.score q k i a x * Real.log 2 : ℝ) : EReal)]
    exact Softmax.top_real (fun x => Latent.score q k i a x * Real.log 2) 8192 (by norm_num)
  rw [average_at, Latent.att, Softmax.num_div_den _ (fun x => Latent.score q k i a x * Real.log 2) _ 8192 (by norm_num) (fun _ _ => rfl) M,
    Finset.sum_range, Finset.sum_range]
  refine Finset.sum_congr rfl fun x _ => ?_
  rw [probs_at]
  simp only [weights_at, hS, hM]
  have ev : Latent.val v a d x.val = v (ix2 ⟨x.val, by omega⟩ ⟨a.val * 128 + d.val, by omega⟩) := by
    rw [Latent.val, dif_pos x.isLt]
    have e4 : (⟨128 * a.val + d.val, by omega⟩ : Fin 512) = ⟨a.val * 128 + d.val, by omega⟩ := Fin.ext (by
      show 128 * a.val + d.val = a.val * 128 + d.val; omega)
    rw [e4]
  rw [ev]

/-- The reference's array, where the precondition holds. -/
theorem res_at (m : (ℓ : Loc nD τ sig) → Buf (Elt Ideal) ℓ) (c : Dev nD)
    (hR : Latent.Padded (m ((c.tc : Thread nD τ).loc main_arg0)) (m ((c.tc : Thread nD τ).loc main_arg1))) :
    (res_main_v29 m c : S8192x512.Idx → EReal)
      = fun i => Latent.att (m ((c.tc : Thread nD τ).loc main_arg0)) (m ((c.tc : Thread nD τ).loc main_arg1)) (m ((c.tc : Thread nD τ).loc main_arg2))
          (i 0) ⟨(i 1).val / 128, by have : (i 1).val < 512 := (i 1).isLt; omega⟩ ⟨(i 1).val % 128, by omega⟩ := by
  funext i
  have h1 : (i 1).val < 512 := (i 1).isLt
  have e := ref_at _ _ (m ((c.tc : Thread nD τ).loc main_arg2)) hR ⟨(i 1).val / 128, by omega⟩ (i 0) ⟨(i 1).val % 128, by omega⟩
  rw [res_eq]
  have hi : i = ix2 (i 0) ⟨(i 1).val / 128 * 128 + (i 1).val % 128, by omega⟩ := by
    funext x; fin_cases x
    · rfl
    · exact Fin.ext (by show (i 1).val = (i 1).val / 128 * 128 + (i 1).val % 128; omega)
  exact (congrArg _ hi).trans e

end Cert.Proof.LatentRef

end
-- ==== Proof.AttnArr.lean ====
/-
  The array the attention kernel leaves: at query row `i`, head `h`, coordinate `d`, the quotient of the weighted sum of
  the values by the sum of the weights, over all 8192 key rows of head `h / 2`.
-/
module

public import proofs.«01_k».proof.Proof.AttnPay
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pointwise
open Idealize.ShloMosaic.Pipeline (Dat)
open Cert.KernelIdeal Cert.KernelIdeal.Gen

namespace Cert.Proof.Attn

/-- The queries, and the keys or values. -/
abbrev Q := S40960x512.Idx → EReal
abbrev K := S40960x256.Idx → EReal

/-- The base-2 scores of query row `i`, head `h`, against key row `n`. -/
def score (q : Q) (k : K) (i : Fin 8192) (h : Fin 4) (n : ℕ) : ℝ :=
  if hn : n < 8192 then
    ∑ d : Fin 128, (k (ix2 ⟨n, by omega⟩ ⟨128 * (h.val / 2) + d.val, by omega⟩)).toReal
      * ((q (ix2 ⟨i.val, by omega⟩ ⟨128 * h.val + d.val, by omega⟩)).toReal * ((Real.sqrt 128)⁻¹ * (Real.log 2)⁻¹))
  else 0

/-- Coordinate `d` of the value rows head `h` reads. -/
def val (v : K) (h : Fin 4) (d : Fin 128) (n : ℕ) : EReal :=
  if hn : n < 8192 then v (ix2 ⟨n, by omega⟩ ⟨128 * (h.val / 2) + d.val, by omega⟩) else 0

/-- The layer's attention at a query row, head and coordinate. -/
def att (q : Q) (k v : K) (i : Fin 8192) (h : Fin 4) (d : Fin 128) : EReal :=
  Ideal.div (Softmax.num (score q k i h) (val v h d) 8192) (Softmax.den (score q k i h) 8192)

/-- Every entry of the queries and keys that are read is a real number. -/
structure Real₂ (q : Q) (k : K) : Prop where
  q : ∀ (i : Fin 8192) (e : Fin 512), q (ix2 ⟨i.val, by omega⟩ e) = ((q (ix2 ⟨i.val, by omega⟩ e)).toReal : EReal)
  k : ∀ (i : Fin 8192) (e : Fin 256), k (ix2 ⟨i.val, by omega⟩ e) = ((k (ix2 ⟨i.val, by omega⟩ e)).toReal : EReal)

variable (m : (ℓ : Loc nD τ sig) → Buf (Elt Ideal) ℓ) (c : Dev nD)

theorem index0 : ∀ t : Fin cfg0.N, win0_0.index t = ![t.val % 4, t.val / 4] :=
  (by decide +kernel : ∀ t : Fin grid0.N, win0_0.index t = ![t.val % 4, t.val / 4])
theorem index1 : ∀ t : Fin cfg0.N, win0_1.index t = ![0, t.val / 8] :=
  (by decide +kernel : ∀ t : Fin grid0.N, win0_1.index t = ![0, t.val / 8])
theorem index2 : ∀ t : Fin cfg0.N, win0_2.index t = ![0, t.val / 8] :=
  (by decide +kernel : ∀ t : Fin grid0.N, win0_2.index t = ![0, t.val / 8])
theorem index3 : ∀ t : Fin cfg0.N, win0_3.index t = ![t.val % 4, t.val / 4] :=
  (by decide +kernel : ∀ t : Fin grid0.N, win0_3.index t = ![t.val % 4, t.val / 4])

theorem lt16 (t : Fin cfg0.N) : t.val < 16 := t.isLt

/-- The query rows of a point. -/
theorem iblk0_at (t : Fin cfg0.N) (j : Fin 2048) (d : Fin 128) :
    (iblk m c 0 t : S2048x128.Idx → EReal) (ix2 j d)
      = (m ((c : Thread nD τ).loc main_arg0) : Q) (ix2 ⟨2048 * (t.val % 4) + j.val, by omega⟩ ⟨128 * (t.val / 4) + d.val, by have := lt16 t; omega⟩) := by
  blk_ext [iblk, V, index0 t]

theorem iblk1_at (t : Fin cfg0.N) (j : Fin 8192) (d : Fin 128) :
    (iblk m c 1 t : S8192x128.Idx → EReal) (ix2 j d)
      = (m ((c : Thread nD τ).loc main_arg1) : K) (ix2 ⟨j.val, by omega⟩ ⟨128 * (t.val / 4 / 2) + d.val, by have := lt16 t; omega⟩) := by
  blk_ext [iblk, V, index1 t]

theorem iblk2_at (t : Fin cfg0.N) (j : Fin 8192) (d : Fin 128) :
    (iblk m c 2 t : S8192x128.Idx → EReal) (ix2 j d)
      = (m ((c : Thread nD τ).loc main_arg2) : K) (ix2 ⟨j.val, by omega⟩ ⟨128 * (t.val / 4 / 2) + d.val, by have := lt16 t; omega⟩) := by
  blk_ext [iblk, V, index2 t]

/-- What a point writes, at an index of its block. -/
theorem point_at (hR : Real₂ (m ((c : Thread nD τ).loc main_arg0)) (m ((c : Thread nD τ).loc main_arg1))) (t : Fin cfg0.N)
    (j : Fin 2048) (d : Fin 128) :
    (k0_pay11 (state (iblk m c 0 t) (iblk m c 1 t) (iblk m c 2 t) k0_t1_loop.trips).2.2
        (state (iblk m c 0 t) (iblk m c 1 t) (iblk m c 2 t) k0_t1_loop.trips).2.1 : Vec Ideal S2048x128 .bf16) (ix2 j d)
      = att (m ((c : Thread nD τ).loc main_arg0)) (m ((c : Thread nD τ).loc main_arg1)) (m ((c : Thread nD τ).loc main_arg2))
          ⟨2048 * (t.val % 4) + j.val, by omega⟩ ⟨t.val / 4, by have := lt16 t; omega⟩ d := by
  have h16 := lt16 t
  have ht : k0_t1_loop.trips = 8 := by decide
  obtain ⟨-, e2, e3⟩ := state_at (iblk m c 0 t) (iblk m c 1 t) (iblk m c 2 t)
    (fun j => score (m ((c : Thread nD τ).loc main_arg0)) (m ((c : Thread nD τ).loc main_arg1)) ⟨2048 * (t.val % 4) + j.val, by omega⟩ ⟨t.val / 4, by omega⟩)
    (val (m ((c : Thread nD τ).loc main_arg2)) ⟨t.val / 4, by omega⟩)
    (fun j i => by
      rw [score, dif_pos i.isLt, Softmax.coe_sum]
      refine Finset.sum_congr rfl fun d _ => ?_
      rw [iblk0_at, iblk1_at, hR.q ⟨2048 * (t.val % 4) + j.val, by omega⟩, hR.k i, ← EReal.coe_mul, ← EReal.coe_mul]
      rfl)
    (fun d i => by
      rw [iblk2_at, val, dif_pos i.isLt]) 8 le_rfl j
  rw [pay11_at, ht, e2, e3 d]
  rfl

/-- The whole array after the run. -/
theorem array (hR : Real₂ (m ((c : Thread nD τ).loc main_arg0)) (m ((c : Thread nD τ).loc main_arg1))) :
    ((dats m 0 c).arrAt 3 cfg0.N : S8192x512.Idx → EReal)
      = fun i => att (m ((c : Thread nD τ).loc main_arg0)) (m ((c : Thread nD τ).loc main_arg1)) (m ((c : Thread nD τ).loc main_arg2))
          (i 0) ⟨(i 1).val / 128, by have : (i 1).val < 512 := (i 1).isLt; omega⟩ ⟨(i 1).val % 128, by omega⟩ := by
  refine (dats m 0 c).arrAt_eq_of_covers 3 _ (by decide +kernel) fun t hf y => ?_
  blk_simp
  rw [after0_3]
  simp only [outsAt0]
  rw [out_eq]
  have h16 := lt16 t
  have h0 : (y 0).val < 2048 := (y 0).isLt
  have h1 : (y 1).val < 128 := (y 1).isLt
  have hy : y = (ix2 (⟨(y 0).val, h0⟩ : Fin 2048) (⟨(y 1).val, h1⟩ : Fin 128) : S2048x128.Idx) := by
    funext a; fin_cases a <;> rfl
  refine (congrArg _ hy).trans ((point_at m c hR t _ _).trans ?_)
  have e0 := congrFun (index3 t) 0
  have e1 := congrFun (index3 t) 1
  simp only [Matrix.cons_val_zero, Matrix.cons_val_one] at e0 e1
  congr 1
  · apply Fin.ext
    show 2048 * (t.val % 4) + (y 0).val = _
    blk_simp
    rw [e0]; omega
  · apply Fin.ext
    show t.val / 4 = (win0_3.index t 1 * 128 + (y 1).val) / 128
    rw [e1]; omega
  · apply Fin.ext
    show (y 1).val = (win0_3.index t 1 * 128 + (y 1).val) % 128
    rw [e1]; omega

end Cert.Proof.Attn

end
-- ==== Proof.AttnPre.lean ====
/- What the attention's precondition says: every query and key entry that is read is a real number. -/
module

public import proofs.«01_k».proof.Proof.AttnArr
public import proofs.«01_k».proof.Pre_finite_qk
public import Idealize.ShloMosaic.Lib.ReduceAll
public import Idealize.ShloMosaic.Lib.Pointwise

@[expose] public section

noncomputable section

namespace Cert.Proof.AttnPre

open Idealize.ShloMosaic Idealize.ShloMosaic.Pointwise Cert.Pre_finite_qk

/-- The shape facts the precondition's operations take. -/
theorem facts : Cert.Pre_finite_qk.Facts where
  slices_S40960x512_S8192x512_0_0 := by decide
  bitsLt_bf16_f32 := by decide
  bcast_S_S8192x512 := by decide
  reducesTo_S8192x512_S_d0_1 := by decide
  h_S_ := by decide
  slices_S40960x256_S8192x256_0_0 := by decide
  bcast_S_S8192x256 := by decide
  reducesTo_S8192x256_S_d0_1 := by decide

/-- An extended real whose absolute value is below infinity is real. -/
theorem real_of_abs_lt (x : EReal) (h : FloatOps.cmpf (F := Ideal) (φ := .f32) .olt (FloatOps.absf (F := Ideal) (φ := .f32) x) (FloatOps.ofBits (F := Ideal) .f32 0x7F800000#32) = 1#1) :
    x = (x.toReal : EReal) := by
  have e : (FloatOps.ofBits (F := Ideal) .f32 0x7F800000#32 : EReal) = ⊤ := by
    show Ideal.ofBits .f32 _ = _
    simp [Ideal.ofBits, Ideal.ieee]
  rw [e, Ideal.cmpf_def, Ideal.absf_def] at h
  induction x with
  | bot => simp [Ideal.cmp] at h
  | top => simp [Ideal.cmp] at h
  | coe r => rfl

instance : Subsingleton S_.Idx := ⟨fun a b => funext fun i => i.elim0⟩

/-- An array all of whose entries pass the test has real entries. -/
theorem all_real {s : Shape} {axes : List (Fin s.rank)} (x : FVec Ideal s .f32) (hb : S_.BroadcastsInDim s (![] : Fin 0 → Fin s.rank)) (hr : s.ReducesTo axes S_) (hu : 0 < S_.numel)
    (j : S_.Idx)
    (e : Host.reduce IntOp.andi (cmpf .olt (Host.absf x) (broadcastInDim s ![] hb (constant S_ .f32 0x7F800000#32))) (constantI S_ 1 1#1) hr hu j = 1#1)
    (i : s.Idx) : (x i : EReal) = ((x i : EReal).toReal : EReal) :=
  real_of_abs_lt _ (Host.reduce_andi_all _ _ hr hu j e i)

/-- Where the precondition holds, the queries and keys that are read are real. -/
theorem real [Cert.Pre_finite_qk.Facts] (q : FVec Ideal S40960x512 .bf16) (k v : FVec Ideal S40960x256 .bf16) (h : fn (F := Ideal) q k v = fun _ => 1#1) :
    Attn.Real₂ q k := by
  have h0 := congrFun h (Shape.Idx.first Facts.h_S_)
  have h1 := IntOp.andi_eq_one.1 h0
  refine ⟨fun i e => ?_, fun i e => ?_⟩
  · have e1 : extractStridedSlice S8192x512 ![0, 0] q Facts.slices_S40960x512_S8192x512_0_0 (ix2 i e) = q (ix2 ⟨i.val, by omega⟩ e) := by pointwise
    exact e1 ▸ all_real _ _ _ _ _ h1.1 (ix2 i e)
  · have e1 : extractStridedSlice S8192x256 ![0, 0] k Facts.slices_S40960x256_S8192x256_0_0 (ix2 i e) = k (ix2 ⟨i.val, by omega⟩ e) := by pointwise
    exact e1 ▸ all_real _ _ _ _ _ h1.2 (ix2 i e)

end Cert.Proof.AttnPre

end
-- ==== Proof.LatentPre.lean ====
/- What the latent attention's precondition says: the queries and keys that are read are real, the queries' padding zero. -/
module

public import proofs.«01_k».proof.Proof.LatentArr
public import proofs.«01_k».proof.Pre_padded_qk
public import proofs.«01_k».proof.Proof.AttnPre
public import Idealize.ShloMosaic.Lib.ReduceAll
public import Idealize.ShloMosaic.Lib.Pointwise

@[expose] public section

noncomputable section

namespace Cert.Proof.LatentPre

open Idealize.ShloMosaic Idealize.ShloMosaic.Pointwise Cert.Pre_padded_qk

/-- The shape facts the precondition's operations take. -/
theorem facts : Cert.Pre_padded_qk.Facts where
  slices_S40960x1024_S8192x1024_0_0 := by decide
  bitsLt_bf16_f32 := by decide
  shapeCasts_S8192x1024_S8192x4x256 := by decide
  slices_S8192x4x256_S8192x4x64_0_0_192 := by decide
  bcast_S_S8192x4x64 := by decide
  bcast_S_S8192x1024 := by decide
  reducesTo_S8192x1024_S_d0_1 := by decide
  h_S_ := by decide
  reducesTo_S8192x4x64_S_d0_1_2 := by decide

instance : Subsingleton S_.Idx := ⟨fun a b => funext fun i => i.elim0⟩

/-- An array all of whose entries pass the test of being finite has real entries. -/
theorem all_real {s : Shape} {axes : List (Fin s.rank)} (x : FVec Ideal s .f32) (hb : S_.BroadcastsInDim s (![] : Fin 0 → Fin s.rank)) (hr : s.ReducesTo axes S_) (hu : 0 < S_.numel)
    (j : S_.Idx)
    (e : Host.reduce IntOp.andi (cmpf .olt (Host.absf x) (broadcastInDim s ![] hb (constant S_ .f32 0x7F800000#32))) (constantI S_ 1 1#1) hr hu j = 1#1)
    (i : s.Idx) : (x i : EReal) = ((x i : EReal).toReal : EReal) :=
  AttnPre.real_of_abs_lt _ (Host.reduce_andi_all _ _ hr hu j e i)

/-- An extended real that equals the zero pattern is zero. -/
theorem zero_of_eq (x : EReal) (h : FloatOps.cmpf (F := Ideal) (φ := .f32) .oeq x (FloatOps.ofBits (F := Ideal) .f32 0x00000000#32) = 1#1) : x = 0 := by
  have e : (FloatOps.ofBits (F := Ideal) .f32 0x00000000#32 : EReal) = 0 := by
    show Ideal.ofBits .f32 _ = _
    simp [Ideal.ofBits, Ideal.ieee]
  rw [e, Ideal.cmpf_def] at h
  by_contra hx
  simp [Ideal.cmp, hx] at h

/-- An array all of whose entries pass the test against zero is zero. -/
theorem all_zero {s : Shape} {axes : List (Fin s.rank)} (x : FVec Ideal s .f32) (hb : S_.BroadcastsInDim s (![] : Fin 0 → Fin s.rank)) (hr : s.ReducesTo axes S_) (hu : 0 < S_.numel)
    (j : S_.Idx)
    (e : Host.reduce IntOp.andi (cmpf .oeq x (broadcastInDim s ![] hb (constant S_ .f32 0x00000000#32))) (constantI S_ 1 1#1) hr hu j = 1#1)
    (i : s.Idx) : (x i : EReal) = 0 :=
  zero_of_eq _ (Host.reduce_andi_all _ _ hr hu j e i)

/-- Where the precondition holds, the queries and keys are real and the queries' padding is zero. -/
theorem padded [Cert.Pre_padded_qk.Facts] (q k : FVec Ideal S40960x1024 .bf16) (v : FVec Ideal S40960x512 .bf16) (h : fn (F := Ideal) q k v = fun _ => 1#1) :
    Latent.Padded q k := by
  have h0 := congrFun h (Shape.Idx.first Facts.h_S_)
  have h1 := IntOp.andi_eq_one.1 h0
  have h2 := IntOp.andi_eq_one.1 h1.1
  refine ⟨fun i e => ?_, fun i e => ?_, fun i a d => ?_⟩
  · have e1 : extractStridedSlice S8192x1024 ![0, 0] q Facts.slices_S40960x1024_S8192x1024_0_0 (ix2 i e) = q (ix2 ⟨i.val, by omega⟩ e) := by pointwise
    exact e1 ▸ all_real _ _ _ _ _ h2.1 (ix2 i e)
  · have e1 : extractStridedSlice S8192x1024 ![0, 0] k Facts.slices_S40960x1024_S8192x1024_0_0 (ix2 i e) = k (ix2 ⟨i.val, by omega⟩ e) := by pointwise
    exact e1 ▸ all_real _ _ _ _ _ h2.2 (ix2 i e)
  · have e1 : (extractStridedSlice S8192x4x64 ![0, 0, 192] (shapeCast S8192x4x256 (extf .f32 (extractStridedSlice S8192x1024 ![0, 0] q Facts.slices_S40960x1024_S8192x1024_0_0 : FVec Ideal S8192x1024 .bf16) Facts.bitsLt_bf16_f32 : FVec Ideal S8192x1024 .f32) Facts.shapeCasts_S8192x1024_S8192x4x256)
        Facts.slices_S8192x4x256_S8192x4x64_0_0_192 : FVec Ideal S8192x4x64 .f32) (ix3 i a d) = q (ix2 ⟨i.val, by omega⟩ ⟨256 * a.val + (192 + d.val), by omega⟩) := by
      have e2 : (⟨a.val * 256 + (192 + d.val), by omega⟩ : Fin 1024) = ⟨256 * a.val + (192 + d.val), by omega⟩ := Fin.ext (by
        show a.val * 256 + (192 + d.val) = 256 * a.val + (192 + d.val); omega)
      pointwise
      rw [e2]
    exact e1 ▸ all_zero _ _ _ _ _ h1.2 (ix3 i a d)

end Cert.Proof.LatentPre

end
-- ==== Proof.LatentClaim.lean ====
/-
  The claims about the latent attention: the frames its precondition adds, its named constant, and the kernel's equality with the
  reference.
-/
module

public import proofs.«01_k».proof.Proof.LatentArr
public import proofs.«01_k».proof.Proof.LatentRef
public import proofs.«01_k».proof.Proof.LatentPre
public import proofs.«01_k».proof.Proof.Gen.LatentIdeal.Frame
public import proofs.«01_k».proof.Proof.Gen.LatentIdeal.Value
public import proofs.«01_k».proof.Proof.Gen.LatentReferenceIdeal.Run
public import proofs.«01_k».proof.Defs

@[expose] public section

noncomputable section

namespace Cert.Proof.LatentClaim

open Idealize.ShloMosaic Idealize.ShloMosaic.TcCoe Idealize.SL.Sem

instance : Cert.Pre_padded_qk.Facts := LatentPre.facts

/-- The kernel runs and keeps its arguments, under the precondition too. -/
theorem frame_pre : Cert.quiescent_LatentIdeal_pre_padded_qk := fun m ρ _ => Cert.LatentIdeal.Gen.frame m ρ

/-- The reference runs, keeps its arguments, and declares no semaphore. -/
theorem frame_ref : Cert.quiescent_LatentReferenceIdeal := fun m ρ _ =>
  (θ_run Cert.LatentReferenceIdeal.defs _ _).mono (fun r h => ⟨fun c => (h c).2, sem_eq_zero_of_no_sems (by decide) r.2⟩)
    (Cert.LatentReferenceIdeal.Value.run (F := Ideal) m ρ)

/-- The same under the precondition. -/
theorem frame_ref_pre : Cert.quiescent_LatentReferenceIdeal_pre_padded_qk := fun m ρ _ => frame_ref m ρ trivial

/-- The named scale rounds to the word the kernel holds. -/
theorem preserves : Cert.preserves_Latent_LatentIdeal := IdealRules.named_const.statement _ _ _ _ _ rfl

/-- Where the precondition holds, the kernel's result array is the reference's. -/
theorem algebraic : Cert.algebraic_LatentIdeal_LatentReferenceIdeal_pre_padded_qk := by
  intro m ρ m' ρ' hpre hagree
  have hR := fun c => LatentPre.padded _ _ _ (hpre c)
  refine ⟨fun c => (Cert.LatentIdeal.Gen.dats m 0 c).arrAt 3 Cert.LatentIdeal.cfg0.N, Cert.LatentIdeal.Value.run_blocks (F := Ideal) m ρ, ?_⟩
  refine (θ_run Cert.LatentReferenceIdeal.defs _ _).mono (fun _ h c => ⟨(h c).1.trans ?_, (h c).2⟩) (Cert.LatentReferenceIdeal.Value.run (F := Ideal) m' ρ')
  have e0 := (hagree c).1
  have e1 := (hagree c).2.1
  have e2 := (hagree c).2.2
  refine (LatentRef.res_at m' c ?_).trans (Eq.trans ?_ (Latent.array m c (hR c)).symm)
  · rw [e0, e1]; exact hR c
  · rw [e0, e1, e2]
    rfl

end Cert.Proof.LatentClaim

end
-- ==== Proof.DiffLoop.lean ====
/-
  The loop of the differential attention's kernel: a recursion on six vectors, two running softmaxes side by side, each
  over the same keys, values and biases.
-/
module

public import proofs.«01_k».proof.Proof.Gen.DiffIdeal.Loops
public import proofs.«01_k».proof.Proof.Gen.DiffIdeal.Launch
public import proofs.«01_k».proof.Proof.Gen.DiffIdeal.Points
public import Idealize.ShloMosaic.Lib.Pipeline.ValueKit
public import Idealize.ShloMosaic.Lib.VecWindow

@[expose] public section

set_option maxRecDepth 16384

noncomputable section

namespace Cert.Proof.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.DiffIdeal Cert.DiffIdeal.Gen

variable {F : FTy → Type} [FloatOps F] [Named F]

local notation "𝕄" => MT nD τ sig Unit (Elt F) ℕ (UR sig nD τ) ℕ

/-- The vectors the loop keeps: for each of the two softmaxes the largest scores, the sums of weights and the weighted sums. -/
structure Sums (F : FTy → Type) where
  m₁ : Vec F S1x2048 .f32
  l₁ : Vec F S1x2048 .f32
  a₁ : Vec F S128x2048 .f32
  m₂ : Vec F S1x2048 .f32
  l₂ : Vec F S1x2048 .f32
  a₂ : Vec F S128x2048 .f32

/-- Trip `k`'s block of 1024 key or value rows. -/
abbrev rows (k : Fin k0_t1_loop.trips) (x : Vec F S8192x128 .bf16) : Vec F S1024x128 .bf16 :=
  View.ld x (Rect.unit (s := S8192x128) (k0_off1 k) S1024x128.size (k0_off1_inb k))

/-- The block of the table of biases that trip `k` adds to the `j`-th 128 query columns. -/
abbrev tab (i : grid0.Coords) (k : Fin k0_t1_loop.trips) (j : Fin 16) (x : Vec F S1x4224x128 .f32) : Vec F S1x1024x128 .f32 :=
  View.ld x (Rect.unit (s := S1x4224x128) (k0_off2 i k (BitVec.ofNat 32 (128 * j.val))) S1x1024x128.size (k0_off2_inb i k j))

/-- The sixteen blocks side by side. -/
def bias (i : grid0.Coords) (k : Fin k0_t1_loop.trips) (x₃ : Vec F S1x4224x128 .f32) : FVec F S1024x2048 .f32 :=
  k0_pay17 (k0_pay2 (tab i k 0 x₃)) (k0_pay3 (tab i k 1 x₃)) (k0_pay4 (tab i k 2 x₃)) (k0_pay5 (tab i k 3 x₃)) (k0_pay6 (tab i k 4 x₃)) (k0_pay7 (tab i k 5 x₃)) (k0_pay8 (tab i k 6 x₃)) (k0_pay9 (tab i k 7 x₃)) (k0_pay10 (tab i k 8 x₃)) (k0_pay11 (tab i k 9 x₃)) (k0_pay12 (tab i k 10 x₃)) (k0_pay13 (tab i k 11 x₃)) (k0_pay14 (tab i k 12 x₃)) (k0_pay15 (tab i k 13 x₃)) (k0_pay16 (tab i k 14 x₃)) (tab i k 15 x₃)

/-- What one trip makes of the six vectors. -/
def next (i : grid0.Coords) (k : Fin k0_t1_loop.trips) (q : FVec F S2048x128 .bf16) (e : IVec S2048x128 32)
    (x₁ x₂ : Vec F S8192x128 .bf16) (x₃ : Vec F S1x4224x128 .f32) (s : Sums F) : Sums F where
  m₁ := k0_pay33 (k0_pay19 (k0_pay32 q e) (rows k x₁) (k0_pay2 (tab i k 0 x₃)) (k0_pay3 (tab i k 1 x₃)) (k0_pay4 (tab i k 2 x₃)) (k0_pay5 (tab i k 3 x₃)) (k0_pay6 (tab i k 4 x₃)) (k0_pay7 (tab i k 5 x₃)) (k0_pay8 (tab i k 6 x₃)) (k0_pay9 (tab i k 7 x₃)) (k0_pay10 (tab i k 8 x₃)) (k0_pay11 (tab i k 9 x₃)) (k0_pay12 (tab i k 10 x₃)) (k0_pay13 (tab i k 11 x₃)) (k0_pay14 (tab i k 12 x₃)) (k0_pay15 (tab i k 13 x₃)) (k0_pay16 (tab i k 14 x₃)) (tab i k 15 x₃) s.m₁)
  l₁ := k0_pay22 (k0_pay32 q e) (rows k x₁) (k0_pay2 (tab i k 0 x₃)) (k0_pay3 (tab i k 1 x₃)) (k0_pay4 (tab i k 2 x₃)) (k0_pay5 (tab i k 3 x₃)) (k0_pay6 (tab i k 4 x₃)) (k0_pay7 (tab i k 5 x₃)) (k0_pay8 (tab i k 6 x₃)) (k0_pay9 (tab i k 7 x₃)) (k0_pay10 (tab i k 8 x₃)) (k0_pay11 (tab i k 9 x₃)) (k0_pay12 (tab i k 10 x₃)) (k0_pay13 (tab i k 11 x₃)) (k0_pay14 (tab i k 12 x₃)) (k0_pay15 (tab i k 13 x₃)) (k0_pay16 (tab i k 14 x₃)) (tab i k 15 x₃) s.m₁ s.l₁
  a₁ := k0_pay23 (k0_pay32 q e) (rows k x₁) (rows k x₂) (k0_pay2 (tab i k 0 x₃)) (k0_pay3 (tab i k 1 x₃)) (k0_pay4 (tab i k 2 x₃)) (k0_pay5 (tab i k 3 x₃)) (k0_pay6 (tab i k 4 x₃)) (k0_pay7 (tab i k 5 x₃)) (k0_pay8 (tab i k 6 x₃)) (k0_pay9 (tab i k 7 x₃)) (k0_pay10 (tab i k 8 x₃)) (k0_pay11 (tab i k 9 x₃)) (k0_pay12 (tab i k 10 x₃)) (k0_pay13 (tab i k 11 x₃)) (k0_pay14 (tab i k 12 x₃)) (k0_pay15 (tab i k 13 x₃)) (k0_pay16 (tab i k 14 x₃)) (tab i k 15 x₃) s.m₁ s.a₁
  m₂ := k0_pay40 q e (rows k x₁) (bias i k x₃) s.m₂
  l₂ := k0_pay38 q e (rows k x₁) (bias i k x₃) s.m₂ s.l₂
  a₂ := k0_pay39 q e (rows k x₁) (rows k x₂) (bias i k x₃) s.m₂ s.a₂

/-- The six vectors before trip `n`, from `s` on. -/
def state (i : grid0.Coords) (q : FVec F S2048x128 .bf16) (e : IVec S2048x128 32)
    (x₁ x₂ : Vec F S8192x128 .bf16) (x₃ : Vec F S1x4224x128 .f32) (s : Sums F) : ℕ → Sums F
  | 0 => s
  | n + 1 => if h : n < k0_t1_loop.trips then next i ⟨n, h⟩ q e x₁ x₂ x₃ (state i q e x₁ x₂ x₃ s n) else state i q e x₁ x₂ x₃ s n

/-- One more trip. -/
theorem state_succ (i : grid0.Coords) (q : FVec F S2048x128 .bf16) (e : IVec S2048x128 32)
    (x₁ x₂ : Vec F S8192x128 .bf16) (x₃ : Vec F S1x4224x128 .f32) (s : Sums F) (k : Fin k0_t1_loop.trips) :
    state i q e x₁ x₂ x₃ s (k.val + 1) = next i k q e x₁ x₂ x₃ (state i q e x₁ x₂ x₃ s k.val) := by
  rw [state]; exact dif_pos k.isLt

/-- The six vectors before the first trip. -/
def start : Sums F := ⟨k0_pay24, k0_pay25, k0_pay26, k0_pay27, k0_pay28, k0_pay29⟩

/-- The lanes' numbers. -/
abbrev lane : IVec S2048x128 32 := iota .tc S2048x128 32 [1] iota_S2048x128_d1_w32

/-- The block a grid point writes, of the loop's six final vectors. -/
def point (i : grid0.Coords) (x₀ : Vec F S1 .f32) (q : Vec F S2048x128 .bf16) (x₁ x₂ : Vec F S8192x128 .bf16) (x₃ : Vec F S1x4224x128 .f32)
    (g : Vec F S128x1 .f32) : Vec F S2048x128 .bf16 :=
  let s := state i (k0_pay30 q) lane x₁ x₂ x₃ start k0_t1_loop.trips
  k0_pay1 (k0_pay41 s.a₁ s.l₁ (x₀ (Shape.Idx.first (s := S1) (by decide))) s.a₂ s.l₂ g) k0_pay42

section

variable (𝒱 : Variants) (c : Dev nD) (bd : Option 𝒱.V) (E : Set ℕ) (i : grid0.Coords)
    (a3 : Memref sig .tc .smem S1 .f32) (h3 : a3.IsWhole)
    (a4 : Memref sig .tc .vmem S2048x128 .bf16) (h4 : a4.IsWhole)
    (a5 : Memref sig .tc .vmem S8192x128 .bf16) (h5 : a5.IsWhole)
    (a6 : Memref sig .tc .vmem S8192x128 .bf16) (h6 : a6.IsWhole)
    (a7 : Memref sig .tc .vmem S1x4224x128 .f32) (h7 : a7.IsWhole)
    (a8 : Memref sig .tc .vmem S128x1 .f32) (h8 : a8.IsWhole)
    (a9 : Memref sig .tc .vmem S2048x128 .bf16) (h9 : a9.IsWhole)
    (a10 : Memref sig .tc .vmem S1x2048 .f32) (h10 : a10.IsWhole)
    (a11 : Memref sig .tc .vmem S1x2048 .f32) (h11 : a11.IsWhole)
    (a12 : Memref sig .tc .vmem S128x2048 .f32) (h12 : a12.IsWhole)
    (a13 : Memref sig .tc .vmem S1x2048 .f32) (h13 : a13.IsWhole)
    (a14 : Memref sig .tc .vmem S1x2048 .f32) (h14 : a14.IsWhole)
    (a15 : Memref sig .tc .vmem S128x2048 .f32) (h15 : a15.IsWhole)
    (w : BitVec 32) (q : FVec F S2048x128 .bf16) (e : IVec S2048x128 32) (w' : BitVec 32)
    (x₁ x₂ : Vec F S8192x128 .bf16) (x₃ : Vec F S1x4224x128 .f32)

/-- What a trip holds: the keys, the values and the table as they were read, and six buffers that read back as `s`. -/
abbrev held (s : Sums F) : sProp 𝕄 :=
  iprop((a5.view.loc (c : Thread nD τ) ↦[a5.view.set]{fullShare} h5.unread x₁) ∗ (a6.view.loc (c : Thread nD τ) ↦[a6.view.set]{fullShare} h6.unread x₂) ∗ (a7.view.loc (c : Thread nD τ) ↦[a7.view.set]{fullShare} h7.unread x₃) ∗ (∃ f, (a10.view.loc (c : Thread nD τ) ↦[a10.view.set]{fullShare} f) ∗ ⌜a10.view.read (Elt F) f = (s).m₁⌝) ∗ (∃ f, (a11.view.loc (c : Thread nD τ) ↦[a11.view.set]{fullShare} f) ∗ ⌜a11.view.read (Elt F) f = (s).l₁⌝) ∗ (∃ f, (a12.view.loc (c : Thread nD τ) ↦[a12.view.set]{fullShare} f) ∗ ⌜a12.view.read (Elt F) f = (s).a₁⌝) ∗ (∃ f, (a13.view.loc (c : Thread nD τ) ↦[a13.view.set]{fullShare} f) ∗ ⌜a13.view.read (Elt F) f = (s).m₂⌝) ∗ (∃ f, (a14.view.loc (c : Thread nD τ) ↦[a14.view.set]{fullShare} f) ∗ ⌜a14.view.read (Elt F) f = (s).l₂⌝) ∗ (∃ f, (a15.view.loc (c : Thread nD τ) ↦[a15.view.set]{fullShare} f) ∗ ⌜a15.view.read (Elt F) f = (s).a₂⌝))

set_option maxHeartbeats 4000000 in
/-- One trip takes buffers that read back as `s` to buffers that read back as `next s`. -/
theorem trip (k : Fin k0_t1_loop.trips) (s : Sums F) :
    held c a5 h5 a6 h6 a7 h7 a10 a11 a12 a13 a14 a15 x₁ x₂ x₃ s
      ⊢ wp frame (wpE (defs₀ (F := F)) 𝒱 (c : Thread nD τ) bd) E (k0_t1_body (F := F) i a3 h3 a4 h4 a5 h5 a6 h6 a7 h7 a8 h8 a9 h9 a10 h10 a11 h11 a12 h12 a13 h13 a14 h14 a15 h15 w q e w' k PUnit.unit)
          (fun _ => held c a5 h5 a6 h6 a7 h7 a10 a11 a12 a13 a14 a15 x₁ x₂ x₃ (next i k q e x₁ x₂ x₃ s)) := by
  have hk : k.val < 8 := Nat.lt_of_lt_of_le k.isLt k0_t1_abs.2.1
  unfold k0_t1_body
  simp only [k0_part1_eq_skeleton, k0_part2_eq_skeleton, k0_part3_eq_skeleton, k0_part4_eq_skeleton, k0_part5_eq_skeleton]
  unfold k0_part1_skel k0_part2_skel k0_part3_skel k0_part4_skel k0_part5_skel
  iintro ⟨H5, H6, H7, ⟨%f10, H10, %e10⟩, ⟨%f11, H11, %e11⟩, ⟨%f12, H12, %e12⟩, ⟨%f13, H13, %e13⟩, ⟨%f14, H14, %e14⟩, ⟨%f15, H15, %e15⟩⟩
  sl_exec
  sl_step
  have r1 : ∀ v : Vec F S1x2048 .f32, View.ld v (Rect.unit ![0, 0] ![1, 2048] inb_S1x2048_S1x2048_0_0) = v := fun v =>
    View.ld_unit_lit (S := S1x2048) inb_S1x2048_S1x2048_0_0 v (by decide)
  have r128 : ∀ v : Vec F S128x2048 .f32, View.ld v (Rect.unit ![0, 0] ![128, 2048] inb_S128x2048_S128x2048_0_0) = v := fun v =>
    View.ld_unit_lit (S := S128x2048) inb_S128x2048_S128x2048_0_0 v (by decide)
  isplitl [H5]; · iexact H5
  isplitl [H6]; · iexact H6
  isplitl [H7]; · iexact H7
  isplitl [H10]
  · iexists _; isplitl [H10]; · iexact H10
    ipureintro
    refine (View.read_writes_full ..).trans ?_
    simp only [View.readAt_eq_ld, h5.read_unread, h6.read_unread, h7.read_unread, e10, r1, r128]
    rfl
  isplitl [H11]
  · iexists _; isplitl [H11]; · iexact H11
    ipureintro
    refine (View.read_writes_full ..).trans ?_
    simp only [View.readAt_eq_ld, h5.read_unread, h6.read_unread, h7.read_unread, e10, e11, r1, r128]
    rfl
  isplitl [H12]
  · iexists _; isplitl [H12]; · iexact H12
    ipureintro
    refine (View.read_writes_full ..).trans ?_
    simp only [View.readAt_eq_ld, h5.read_unread, h6.read_unread, h7.read_unread, e10, e12, r1, r128]
    rfl
  isplitl [H13]
  · iexists _; isplitl [H13]; · iexact H13
    ipureintro
    refine (View.read_writes_full ..).trans ?_
    simp only [View.readAt_eq_ld, h5.read_unread, h6.read_unread, h7.read_unread, e13, r1, r128]
    rfl
  isplitl [H14]
  · iexists _; isplitl [H14]; · iexact H14
    ipureintro
    refine (View.read_writes_full ..).trans ?_
    simp only [View.readAt_eq_ld, h5.read_unread, h6.read_unread, h7.read_unread, e13, e14, r1, r128]
    rfl
  iexists _; isplitl [H15]; · iexact H15
  ipureintro
  refine (View.read_writes_full ..).trans ?_
  simp only [View.readAt_eq_ld, h5.read_unread, h6.read_unread, h7.read_unread, e13, e15, r1, r128]
  rfl

end

set_option maxHeartbeats 4000000 in
/-- The body at one grid point: from any scratch, the output block is the last payload of the loop's final vectors. -/
theorem body (c : Dev nD) (i : grid0.Coords)
    (a3 : Memref sig .tc .smem S1 .f32) (h3 : a3.IsWhole)
    (a4 : Memref sig .tc .vmem S2048x128 .bf16) (h4 : a4.IsWhole)
    (a5 : Memref sig .tc .vmem S8192x128 .bf16) (h5 : a5.IsWhole)
    (a6 : Memref sig .tc .vmem S8192x128 .bf16) (h6 : a6.IsWhole)
    (a7 : Memref sig .tc .vmem S1x4224x128 .f32) (h7 : a7.IsWhole)
    (a8 : Memref sig .tc .vmem S128x1 .f32) (h8 : a8.IsWhole)
    (a9 : Memref sig .tc .vmem S2048x128 .bf16) (h9 : a9.IsWhole)
    (a10 : Memref sig .tc .vmem S1x2048 .f32) (h10 : a10.IsWhole)
    (a11 : Memref sig .tc .vmem S1x2048 .f32) (h11 : a11.IsWhole)
    (a12 : Memref sig .tc .vmem S128x2048 .f32) (h12 : a12.IsWhole)
    (a13 : Memref sig .tc .vmem S1x2048 .f32) (h13 : a13.IsWhole)
    (a14 : Memref sig .tc .vmem S1x2048 .f32) (h14 : a14.IsWhole)
    (a15 : Memref sig .tc .vmem S128x2048 .f32) (h15 : a15.IsWhole)
    (x₀ : Vec F S1 .f32) (q : Vec F S2048x128 .bf16) (x₁ x₂ : Vec F S8192x128 .bf16) (x₃ : Vec F S1x4224x128 .f32) (g : Vec F S128x1 .f32)
    (E : Set ℕ) (K : PUnit → sProp 𝕄) :
    iprop(owns (c : Thread nD τ) a3 fullShare x₀ ∗ owns (c : Thread nD τ) a4 fullShare q ∗ owns (c : Thread nD τ) a5 fullShare x₁ ∗ owns (c : Thread nD τ) a6 fullShare x₂ ∗ owns (c : Thread nD τ) a7 fullShare x₃ ∗ owns (c : Thread nD τ) a8 fullShare g
        ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d)
        ∗ (iprop(owns (c : Thread nD τ) a3 fullShare x₀ ∗ owns (c : Thread nD τ) a4 fullShare q ∗ owns (c : Thread nD τ) a5 fullShare x₁ ∗ owns (c : Thread nD τ) a6 fullShare x₂ ∗ owns (c : Thread nD τ) a7 fullShare x₃ ∗ owns (c : Thread nD τ) a8 fullShare g
            ∗ owns (c : Thread nD τ) a9 fullShare (point i x₀ q x₁ x₂ x₃ g)
            ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d)) -∗ K ⟨⟩))
      ⊢ wp frame (wpE (defs₀ (F := F)) Variants.none c none) E (cc0_diff_attention i a3 h3 a4 h4 a5 h5 a6 h6 a7 h7 a8 h8 a9 h9 a10 h10 a11 h11 a12 h12 a13 h13 a14 h14 a15 h15) K := by
  simp only [cc0_diff_attention_eq_skeleton]; unfold cc0_diff_attention_skel
  simp only [k0_part6_eq_skeleton, k0_part7_eq_skeleton]; unfold k0_part6_skel k0_part7_skel
  unfold owns
  iintro ⟨⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  obtain rfl := h3.eq_unread e3; obtain rfl := h4.eq_unread e4; obtain rfl := h5.eq_unread e5
  obtain rfl := h6.eq_unread e6; obtain rfl := h7.eq_unread e7; obtain rfl := h8.eq_unread e8
  sl_exec
  sl_rw [Prog.bind_assoc]
  sl_for (fun n _ => held c a5 h5 a6 h6 a7 h7 a10 a11 a12 a13 a14 a15 x₁ x₂ x₃ (state i (k0_pay30 (View.readAt (Elt F) a4.view
    (Rect.unit (s := S2048x128) ![0, 0] S2048x128.size inb_S2048x128_S2048x128_0_0).toLoadRect (h4.unread q))) lane x₁ x₂ x₃ start n)) $$ [H5 H6 H7 H10 H11 H12 H13 H14 H15]
  · intro k acc
    rw [state_succ]
    exact trip Variants.none c none E i a3 h3 a4 h4 a5 h5 a6 h6 a7 h7 a8 h8 a9 h9 a10 h10 a11 h11 a12 h12 a13 h13 a14 h14 a15 h15 _ _ _ _ x₁ x₂ x₃ k _
  · isplitl [H5]; · iexact H5
    isplitl [H6]; · iexact H6
    isplitl [H7]; · iexact H7
    isplitl [H10]; · iexists _; isplitl [H10]; · iexact H10
                     ipureintro; exact (View.read_writes_full ..).trans rfl
    isplitl [H11]; · iexists _; isplitl [H11]; · iexact H11
                     ipureintro; exact (View.read_writes_full ..).trans rfl
    isplitl [H12]; · iexists _; isplitl [H12]; · iexact H12
                     ipureintro; exact (View.read_writes_full ..).trans rfl
    isplitl [H13]; · iexists _; isplitl [H13]; · iexact H13
                     ipureintro; exact (View.read_writes_full ..).trans rfl
    isplitl [H14]; · iexists _; isplitl [H14]; · iexact H14
                     ipureintro; exact (View.read_writes_full ..).trans rfl
    iexists _; isplitl [H15]; · iexact H15
    ipureintro; exact (View.read_writes_full ..).trans rfl
  iintro %acc ⟨H5, H6, H7, ⟨%f10, H10, %e10⟩, ⟨%f11, H11, %e11⟩, ⟨%f12, H12, %e12⟩, ⟨%f13, H13, %e13⟩, ⟨%f14, H14, %e14⟩, ⟨%f15, H15, %e15⟩⟩
  sl_exec
  have r1 : ∀ v : Vec F S1x2048 .f32, View.ld v (Rect.unit ![0, 0] ![1, 2048] inb_S1x2048_S1x2048_0_0) = v := fun v =>
    View.ld_unit_lit (S := S1x2048) inb_S1x2048_S1x2048_0_0 v (by decide)
  have r128 : ∀ v : Vec F S128x2048 .f32, View.ld v (Rect.unit ![0, 0] ![128, 2048] inb_S128x2048_S128x2048_0_0) = v := fun v =>
    View.ld_unit_lit (S := S128x2048) inb_S128x2048_S128x2048_0_0 v (by decide)
  have rg : ∀ v : Vec F S128x1 .f32, View.ld v (Rect.unit ![0, 0] ![128, 1] inb_S128x1_S128x1_0_0) = v := fun v =>
    View.ld_unit_lit (S := S128x1) inb_S128x1_S128x1_0_0 v (by decide)
  have rq : ∀ v : Vec F S2048x128 .bf16, View.ld v (Rect.unit ![0, 0] ![2048, 128] inb_S2048x128_S2048x128_0_0) = v := fun v =>
    View.ld_unit_lit (S := S2048x128) inb_S2048x128_S2048x128_0_0 v (by decide)
  have eq : View.readAt (Elt F) a4.view (Rect.unit (s := S2048x128) ![0, 0] S2048x128.size inb_S2048x128_S2048x128_0_0).toLoadRect (h4.unread q) = q := by
    rw [View.readAt_eq_ld, h4.read_unread]; exact rq q
  have eg : View.readAt (Elt F) a8.view (Rect.unit (s := S128x1) ![0, 0] S128x1.size inb_S128x1_S128x1_0_0).toLoadRect (h8.unread g) = g := by
    rw [View.readAt_eq_ld, h8.read_unread]; exact rg g
  have el : body.sl.r c a3 h3 x₀ = x₀ (Shape.Idx.first (s := S1) (by decide)) := by
    unfold body.sl.r
    rw [View.readAt_eq_ld, h3.read_unread]
    exact congrFun (View.ld_unit_lit (S := S1) inb_S1_S1_0 x₀ (by decide)) _
  sl_step
  iapply Hk
  isplitl [H3]; · iexists _; isplitr; · ipureintro; exact e3
                  iexact H3
  isplitl [H4]; · iexists _; isplitr; · ipureintro; exact e4
                  iexact H4
  isplitl [H5]; · iexists _; isplitr; · ipureintro; exact e5
                  iexact H5
  isplitl [H6]; · iexists _; isplitr; · ipureintro; exact e6
                  iexact H6
  isplitl [H7]; · iexists _; isplitr; · ipureintro; exact e7
                  iexact H7
  isplitl [H8]; · iexists _; isplitr; · ipureintro; exact e8
                  iexact H8
  isplitl [H9]
  · iexists _; isplitr
    rotate_left
    · iexact H9
    ipureintro
    refine (View.read_writes_full ..).trans ?_
    rw [eq] at e11 e12 e14 e15
    dsimp only
    rw [el, eg]
    simp only [View.readAt_eq_ld, e11, e12, e14, e15, r1, r128]
    rfl
  isplitl [H10]; · iexists _; iexists f10; isplitr; · ipureintro; rfl
                   iexact H10
  isplitl [H11]; · iexists _; iexists f11; isplitr; · ipureintro; rfl
                   iexact H11
  isplitl [H12]; · iexists _; iexists f12; isplitr; · ipureintro; rfl
                   iexact H12
  isplitl [H13]; · iexists _; iexists f13; isplitr; · ipureintro; rfl
                   iexact H13
  isplitl [H14]; · iexists _; iexists f14; isplitr; · ipureintro; rfl
                   iexact H14
  iexists _; iexists f15; isplitr; · ipureintro; rfl
  iexact H15

end Cert.Proof.Diff

end
-- ==== Proof.DiffPay.lean ====
/-
  The pieces of one step of the differential attention's loop, read at an index at `Ideal`: the masked queries, the
  scores, and the three steps of a running softmax, stated of any scores so that both softmaxes use them.
-/
module

public import proofs.«01_k».proof.Proof.DiffLoop
public import proofs.«01_k».proof.Proof.AttnPay
public import proofs.«01_k».proof.Proof.Softmax
public import Idealize.ShloMosaic.Lib.Pointwise

@[expose] public section

set_option maxRecDepth 16384

noncomputable section

open Idealize.ShloMosaic Idealize.ShloMosaic.TcCoe Idealize.SL.Sem
open Idealize.ShloMosaic.Pointwise
open Cert.DiffIdeal Cert.DiffIdeal.Gen

namespace Cert.Proof.Diff

/-- The named constant on the queries is the real number it names. -/
theorem scale_value : (Named.named (F := Ideal) (φ := FTy.f32) κ "scale_a" 0x3E38AA3B#32)
    = (((Real.sqrt 64)⁻¹ * (Real.log 2)⁻¹ : ℝ) : EReal) :=
  IdealRules.named_const.ideal_named_scalar _ _ _ _ rfl

/-- The named constant on the biases is the real number it names. -/
theorem log2e_value : (Named.named (F := Ideal) (φ := FTy.f32) κ "log2e" 0x3FB8AA3B#32) = (((Real.log 2)⁻¹ : ℝ) : EReal) :=
  IdealRules.named_const.ideal_named_scalar _ _ _ _ rfl

/-- Scores of masked queries against a block of keys, with biases. -/
def scores (q : FVec Ideal S2048x128 .bf16) (kb : Vec Ideal S1024x128 .bf16) (b : FVec Ideal S1024x2048 .f32) : FVec Ideal S1024x2048 .f32 :=
  addf (matmul (φ₁ := .bf16) (φ₂ := .bf16) dot_S1024x128_S2048x128_S1024x2048_1_1_0_0_n_n none kb q (constant S1024x2048 .f32 0x00000000#32)) b

/-- The queries masked to their second half. -/
def second (q : FVec Ideal S2048x128 .bf16) (e : IVec S2048x128 32) : FVec Ideal S2048x128 .bf16 :=
  select (cmpi .sge e (broadcast S2048x128 64#32)) q (k0_pay31 (F := Ideal))

/-- The new largest scores. -/
def newTop (w : FVec Ideal S1024x2048 .f32) (m : Vec Ideal S1x2048 .f32) : FVec Ideal S1x2048 .f32 :=
  maximumf m (shapeCast S1x2048 (multiReduction .maximumf [0] S2048 w 0xFF800000#32 reduces_S1024x2048_S2048 (.inl rfl) rfl) shapeCasts_S2048_S1x2048)

/-- The factor of the old sums. -/
def factor (M m : Vec Ideal S1x2048 .f32) : FVec Ideal S1x2048 .f32 := exp2 (subf m M)

/-- The weights. -/
def weight (w : FVec Ideal S1024x2048 .f32) (M : Vec Ideal S1x2048 .f32) : FVec Ideal S1024x2048 .f32 :=
  exp2 (subf w (broadcastTo S1024x2048 M broadcasts_S1x2048_S1024x2048))

/-- The new sums of weights. -/
def newDen (f : FVec Ideal S1x2048 .f32) (p : FVec Ideal S1024x2048 .f32) (l : Vec Ideal S1x2048 .f32) : FVec Ideal S1x2048 .f32 :=
  shapeCast S1x2048 (addf (mulf f l) (shapeCast S1x2048 (multiReduction .add [0] S2048 p 0x00000000#32 reduces_S1024x2048_S2048 (.inl rfl) rfl) shapeCasts_S2048_S1x2048))
    shapeCasts_S1x2048_S1x2048

/-- The new weighted sums. -/
def newNum (f : FVec Ideal S1x2048 .f32) (p : FVec Ideal S1024x2048 .f32) (vb : Vec Ideal S1024x128 .bf16) (a : Vec Ideal S128x2048 .f32) : FVec Ideal S128x2048 .f32 :=
  shapeCast S128x2048 (addf (mulf (broadcastTo S128x2048 f broadcasts_S1x2048_S128x2048) a)
    (matmul (φ₁ := .bf16) (φ₂ := .bf16) dot_S1024x128_S1024x2048_S128x2048_0_0_1_1_n_n none vb (truncf .bf16 p bitsLt_bf16_f32) (constant S128x2048 .f32 0x00000000#32)))
    shapeCasts_S128x2048_S128x2048

section Next

variable (i : grid0.Coords) (k : Fin k0_t1_loop.trips) (q : FVec Ideal S2048x128 .bf16) (e : IVec S2048x128 32)
    (x₁ x₂ : Vec Ideal S8192x128 .bf16) (x₃ : Vec Ideal S1x4224x128 .f32) (s : Sums Ideal)

/-- A trip's scores of the first half. -/
abbrev w₁ := scores (k0_pay32 q e) (rows k x₁) (bias i k x₃)
/-- A trip's scores of the second half. -/
abbrev w₂ := scores (second q e) (rows k x₁) (bias i k x₃)

theorem next_m₁ : (next i k q e x₁ x₂ x₃ s).m₁ = shapeCast S1x2048 (newTop (w₁ i k q e x₁ x₃) s.m₁) shapeCasts_S1x2048_S1x2048 := rfl
theorem next_l₁ : (next i k q e x₁ x₂ x₃ s).l₁ = newDen (factor (newTop (w₁ i k q e x₁ x₃) s.m₁) s.m₁) (weight (w₁ i k q e x₁ x₃) (newTop (w₁ i k q e x₁ x₃) s.m₁)) s.l₁ := rfl
theorem next_a₁ : (next i k q e x₁ x₂ x₃ s).a₁ = newNum (factor (newTop (w₁ i k q e x₁ x₃) s.m₁) s.m₁) (weight (w₁ i k q e x₁ x₃) (newTop (w₁ i k q e x₁ x₃) s.m₁)) (rows k x₂) s.a₁ := rfl
theorem next_m₂ : (next i k q e x₁ x₂ x₃ s).m₂ = shapeCast S1x2048 (newTop (w₂ i k q e x₁ x₃) s.m₂) shapeCasts_S1x2048_S1x2048 := rfl
theorem next_l₂ : (next i k q e x₁ x₂ x₃ s).l₂ = newDen (factor (newTop (w₂ i k q e x₁ x₃) s.m₂) s.m₂) (weight (w₂ i k q e x₁ x₃) (newTop (w₂ i k q e x₁ x₃) s.m₂)) s.l₂ := rfl
theorem next_a₂ : (next i k q e x₁ x₂ x₃ s).a₂ = newNum (factor (newTop (w₂ i k q e x₁ x₃) s.m₂) s.m₂) (weight (w₂ i k q e x₁ x₃) (newTop (w₂ i k q e x₁ x₃) s.m₂)) (rows k x₂) s.a₂ := rfl

end Next

/-- The maximum down a column of scores. -/
theorem max_col (w : FVec Ideal S1024x2048 .f32) (h : S1024x2048.Reduces [0] S2048) (hφ : FKind.Formats .f32)
    (hacc : (0xFF800000#32 : BitVec 32) = FKind.maximumf.neutral .f32 hφ) (j : Fin 2048) :
    multiReduction .maximumf [0] S2048 w 0xFF800000#32 h hφ hacc (ix1 j)
      = (Finset.univ : Finset (Fin 1024)).fold max ⊥ (fun x => w (ix2 x j)) := by
  rw [← Attn.ofBits_neg_inf]
  exact (multiReduction_maximumf_eq_fold w _ h hφ hacc (ix1 j)).trans (h.fold_fiber_r2_a0 (ix1 j) max _ w)

/-- A vector of columns as one row. -/
theorem as_row (w : FVec Ideal S2048 .f32) (h : S2048.ShapeCasts S1x2048) (j : Fin 2048) :
    shapeCast S1x2048 w h (ix2 0 j) = w (ix1 j) := by
  pointwise

/-- A row in its own shape. -/
theorem same_row (w : FVec Ideal S1x2048 .f32) (h : S1x2048.ShapeCasts S1x2048) (j : Fin 2048) :
    shapeCast S1x2048 w h (ix2 0 j) = w (ix2 0 j) := by
  pointwise

/-- A score. -/
theorem scores_at (q : FVec Ideal S2048x128 .bf16) (kb : Vec Ideal S1024x128 .bf16) (b : FVec Ideal S1024x2048 .f32) (r : Fin 1024) (j : Fin 2048) :
    scores q kb b (ix2 r j) = (∑ d : Fin 128, kb (ix2 r d) * q (ix2 j d)) + b (ix2 r j) := by
  pointwise [scores]

/-- The new maximum. -/
theorem newTop_at (w : FVec Ideal S1024x2048 .f32) (m : Vec Ideal S1x2048 .f32) (j : Fin 2048) :
    newTop w m (ix2 0 j) = max (m (ix2 0 j)) ((Finset.univ : Finset (Fin 1024)).fold max ⊥ fun x => w (ix2 x j)) :=
  congrArg (max (m (ix2 0 j))) ((as_row _ _ j).trans (max_col w _ _ _ j))

/-- The factor. -/
theorem factor_at (M m : Vec Ideal S1x2048 .f32) (j : Fin 2048) : factor M m (ix2 0 j) = Ideal.exp2 (m (ix2 0 j) - M (ix2 0 j)) := by
  pointwise [factor]
  rfl

/-- A weight. -/
theorem weight_at (w : FVec Ideal S1024x2048 .f32) (M : Vec Ideal S1x2048 .f32) (r : Fin 1024) (j : Fin 2048) :
    weight w M (ix2 r j) = Ideal.exp2 (w (ix2 r j) - M (ix2 0 j)) := by
  pointwise [weight]
  rfl

/-- The new sum of weights. -/
theorem newDen_at (f : FVec Ideal S1x2048 .f32) (p : FVec Ideal S1024x2048 .f32) (l : Vec Ideal S1x2048 .f32) (j : Fin 2048) :
    newDen f p l (ix2 0 j) = f (ix2 0 j) * l (ix2 0 j) + ∑ x : Fin 1024, p (ix2 x j) := by
  pointwise [newDen]

/-- The new weighted sum of values. -/
theorem newNum_at (f : FVec Ideal S1x2048 .f32) (p : FVec Ideal S1024x2048 .f32) (vb : Vec Ideal S1024x128 .bf16) (a : Vec Ideal S128x2048 .f32) (d : Fin 128) (j : Fin 2048) :
    newNum f p vb a (ix2 d j) = f (ix2 0 j) * a (ix2 d j) + ∑ x : Fin 1024, vb (ix2 x d) * p (ix2 x j) := by
  pointwise [newNum]

/-- The starting maxima. -/
theorem start_m (j : Fin 2048) : (k0_pay24 (F := Ideal) : Vec Ideal S1x2048 .f32) (ix2 0 j) = ⊥ ∧ (k0_pay27 (F := Ideal) : Vec Ideal S1x2048 .f32) (ix2 0 j) = ⊥ := by
  constructor
  · pointwise [k0_pay24]
    exact Attn.ofBits_neg_inf
  · pointwise [k0_pay27]
    exact Attn.ofBits_neg_inf

/-- The starting sums of weights. -/
theorem start_l (j : Fin 2048) : (k0_pay25 (F := Ideal) : Vec Ideal S1x2048 .f32) (ix2 0 j) = 0 ∧ (k0_pay28 (F := Ideal) : Vec Ideal S1x2048 .f32) (ix2 0 j) = 0 := by
  constructor
  · pointwise [k0_pay25]
  · pointwise [k0_pay28]

/-- The starting weighted sums. -/
theorem start_a (d : Fin 128) (j : Fin 2048) : (k0_pay26 (F := Ideal) : Vec Ideal S128x2048 .f32) (ix2 d j) = 0 ∧ (k0_pay29 (F := Ideal) : Vec Ideal S128x2048 .f32) (ix2 d j) = 0 := by
  constructor
  · pointwise [k0_pay26]
  · pointwise [k0_pay29]

/-- A bit that is not one is zero. -/
theorem bit_zero {b : BitVec 1} (h : b ≠ 1#1) : b = 0#1 := by
  revert b; decide

/-- A lane number is below 64 in the first half only. -/
theorem lane_lt (d : Fin 128) : (IntOp.cmpi .slt (BitVec.ofNat 32 d.val) 64#32 = 1#1 ↔ d.val < 64) ∧ (IntOp.cmpi .sge (BitVec.ofNat 32 d.val) 64#32 = 1#1 ↔ 64 ≤ d.val) := by
  revert d; decide +kernel

/-- The scaled queries masked to their first half. -/
theorem first_at (q : Vec Ideal S2048x128 .bf16) (j : Fin 2048) (d : Fin 128) :
    (k0_pay32 (k0_pay30 q) lane : FVec Ideal S2048x128 .bf16) (ix2 j d)
      = if d.val < 64 then q (ix2 j d) * (((Real.sqrt 64)⁻¹ * (Real.log 2)⁻¹ : ℝ) : EReal) else 0 := by
  pointwise [k0_pay32, k0_pay30, k0_pay31, lane]
  rw [scale_value]
  by_cases h : d.val < 64
  · rw [if_pos h, (lane_lt d).1.mpr h]
    rfl
  · rw [if_neg h, bit_zero fun e => h ((lane_lt d).1.mp e)]
    rfl

/-- The scaled queries masked to their second half. -/
theorem second_at (q : Vec Ideal S2048x128 .bf16) (j : Fin 2048) (d : Fin 128) :
    (second (k0_pay30 q) lane : FVec Ideal S2048x128 .bf16) (ix2 j d)
      = if 64 ≤ d.val then q (ix2 j d) * (((Real.sqrt 64)⁻¹ * (Real.log 2)⁻¹ : ℝ) : EReal) else 0 := by
  pointwise [second, k0_pay30, k0_pay31, lane]
  rw [scale_value]
  by_cases h : 64 ≤ d.val
  · rw [if_pos h, (lane_lt d).2.mpr h]
    rfl
  · rw [if_neg h, bit_zero fun e => h ((lane_lt d).2.mp e)]
    rfl

/-- Row `r` of trip `k`'s block is row `1024 k + r`. -/
theorem rows_at (k : Fin k0_t1_loop.trips) (x : Vec Ideal S8192x128 .bf16) (r : Fin 1024) (d : Fin 128)
    (h : 1024 * k.val + r.val < 8192) : rows k x (ix2 r d) = x (ix2 ⟨1024 * k.val + r.val, h⟩ d) := by
  have e : k0_off1 k = ![1024 * k.val, 0] := by
    clear h
    revert k; decide +kernel
  refine congrArg x ?_
  funext a; apply Fin.ext
  fin_cases a
  · show k0_off1 k 0 + 1 * r.val = 1024 * k.val + r.val
    rw [e]; simp
  · show k0_off1 k 1 + 1 * d.val = d.val
    rw [e]; simp

/-- The row of the table at which trip `k`'s block for the `j`-th 128 query columns begins. -/
def tabRow (i : Fin 4) (k : Fin 8) (j : Fin 16) : ℕ :=
  (min 1152 (max (-2048) (1024 * (k.val : ℤ) - 2048 * (i.val : ℤ) - 128 * (j.val : ℤ))) + 2048).toNat

theorem off2_eq : ∀ (i : grid0.Coords) (k : Fin k0_t1_loop.trips) (j : Fin 16),
    k0_off2 i k (BitVec.ofNat 32 (128 * j.val)) = ![0, tabRow (i 2) ⟨k.val, k.isLt⟩ j, 0] := by
  decide +kernel

end Cert.Proof.Diff

end
-- ==== Proof.DiffState.lean ====
/-
  The differential attention's loop: each of its two running softmaxes takes the step of `Softmax.lean`, and the bias a
  trip adds is an entry of the table.
-/
module

public import proofs.«01_k».proof.Proof.DiffPay
public import Idealize.ShloMosaic.Lib.Pipeline.Value

@[expose] public section

set_option maxRecDepth 16384

noncomputable section

open Idealize.ShloMosaic Idealize.ShloMosaic.TcCoe Idealize.SL.Sem
open Idealize.ShloMosaic.Pointwise
open Cert.DiffIdeal Cert.DiffIdeal.Gen

namespace Cert.Proof.Diff

/-- The rows a trip reads lie inside the table. -/
theorem tabRow_le (i : Fin 4) (k : Fin 8) (j : Fin 16) : tabRow i k j ≤ 3200 := by
  unfold tabRow; omega

/-- A trip's block of the table, at an index. -/
theorem tab_at (i : grid0.Coords) (k : Fin k0_t1_loop.trips) (j : Fin 16) (x : Vec Ideal S1x4224x128 .f32) (r : Fin 1024) (l : Fin 128) :
    tab i k j x (ix3 0 r l) = x (ix3 0 ⟨tabRow (i 2) ⟨k.val, k.isLt⟩ j + r.val, by have := tabRow_le (i 2) ⟨k.val, k.isLt⟩ j; omega⟩ l) := by
  have e := off2_eq i k j
  refine congrArg x ?_
  funext a; apply Fin.ext
  fin_cases a
  · show k0_off2 i k (BitVec.ofNat 32 (128 * j.val)) 0 + 1 * 0 = 0
    rw [e]; simp
  · show k0_off2 i k (BitVec.ofNat 32 (128 * j.val)) 1 + 1 * r.val = tabRow (i 2) ⟨k.val, k.isLt⟩ j + r.val
    rw [e]; simp
  · show k0_off2 i k (BitVec.ofNat 32 (128 * j.val)) 2 + 1 * l.val = l.val
    rw [e]; simp

/-- A block as a matrix. -/
theorem block_at (x : Vec Ideal S1x1024x128 .f32) (h : S1x1024x128.ShapeCasts S1024x128) (r : Fin 1024) (l : Fin 128) :
    (shapeCast S1024x128 x h : FVec Ideal S1024x128 .f32) (ix2 r l) = x (ix3 0 r l) := by
  pointwise

/-- The bias a trip adds to key row `r` and query column `j`. -/
theorem bias_at (i : grid0.Coords) (k : Fin k0_t1_loop.trips) (x : Vec Ideal S1x4224x128 .f32) (r : Fin 1024) (j : Fin 2048) :
    bias i k x (ix2 r j)
      = x (ix3 0 ⟨tabRow (i 2) ⟨k.val, k.isLt⟩ ⟨j.val / 128, by omega⟩ + r.val, by have := tabRow_le (i 2) ⟨k.val, k.isLt⟩ ⟨j.val / 128, by omega⟩; omega⟩ ⟨j.val % 128, by omega⟩)
        * (((Real.log 2)⁻¹ : ℝ) : EReal) := by
  rw [← log2e_value]
  refine congrArg (· * Named.named (F := Ideal) (φ := FTy.f32) κ "log2e" 0x3FB8AA3B#32) ?_
  refine (concatenate_ofFn_apply (s₁ := S1024x128) 1 (fun n : Fin 16 => (shapeCast S1024x128 (tab i k n x) shapeCasts_S1x1024x128_S1024x128 : FVec Ideal S1024x128 .f32))
    concatenates_S1024x128_S1024x128_S1024x128_S1024x128_S1024x128_S1024x128_S1024x128_S1024x128_S1024x128_S1024x128_S1024x128_S1024x128_S1024x128_S1024x128_S1024x128_S1024x128_S1024x2048_d1
    rfl 128 rfl (ix2 r j) ⟨j.val / 128, by omega⟩ rfl (ix2 r ⟨j.val % 128, by omega⟩) rfl ?_).trans ?_
  · intro b hb
    match b with
    | ⟨0, _⟩ => rfl
    | ⟨1, _⟩ => exact absurd rfl hb
  · rw [block_at, tab_at]

section Step

variable (s : ℕ → ℝ) (v : ℕ → EReal) (n : ℕ) (j : Fin 2048) (w : FVec Ideal S1024x2048 .f32) (m l : Vec Ideal S1x2048 .f32)

/-- The new maximum is that of one block more. -/
theorem top_step (hw : ∀ x : Fin 1024, w (ix2 x j) = (s (1024 * n + x.val) : EReal)) (hm : m (ix2 0 j) = Softmax.top s (1024 * n)) :
    newTop w m (ix2 0 j) = Softmax.top s (1024 * n + 1024) := by
  rw [newTop_at, hm, Softmax.top_add]
  simp only [hw]
  exact congrArg _ (Attn.fold_max_eq_sup 1024 fun r => (s (1024 * n + r) : EReal))

/-- So is the new sum of weights. -/
theorem den_step (hw : ∀ x : Fin 1024, w (ix2 x j) = (s (1024 * n + x.val) : EReal)) (hm : m (ix2 0 j) = Softmax.top s (1024 * n))
    (hl : l (ix2 0 j) = Softmax.den s (1024 * n)) :
    newDen (factor (newTop w m) m) (weight w (newTop w m)) l (ix2 0 j) = Softmax.den s (1024 * n + 1024) := by
  rw [newDen_at, factor_at, top_step s n j w m hw hm, hm, hl, Softmax.den_add _ _ _ (by norm_num)]
  simp only [weight_at, hw, top_step s n j w m hw hm]
  rw [Fin.sum_univ_eq_sum_range (fun x => Ideal.exp2 ((s (1024 * n + x) : EReal) - Softmax.top s (1024 * n + 1024)))]

/-- So is the new weighted sum. -/
theorem num_step (a : Vec Ideal S128x2048 .f32) (vb : Vec Ideal S1024x128 .bf16) (d : Fin 128)
    (hw : ∀ x : Fin 1024, w (ix2 x j) = (s (1024 * n + x.val) : EReal)) (hm : m (ix2 0 j) = Softmax.top s (1024 * n))
    (hv : ∀ x : Fin 1024, vb (ix2 x d) = v (1024 * n + x.val)) (ha : a (ix2 d j) = Softmax.num s v (1024 * n)) :
    newNum (factor (newTop w m) m) (weight w (newTop w m)) vb a (ix2 d j) = Softmax.num s v (1024 * n + 1024) := by
  rw [newNum_at, factor_at, top_step s n j w m hw hm, hm, ha, Softmax.num_add _ _ _ _ (by norm_num)]
  simp only [weight_at, hw, hv, top_step s n j w m hw hm]
  rw [Fin.sum_univ_eq_sum_range (fun x => v (1024 * n + x) * Ideal.exp2 ((s (1024 * n + x) : EReal) - Softmax.top s (1024 * n + 1024)))]

end Step

/-- What six vectors hold of two rows of scores after `n` blocks. -/
structure Holds (s₁ s₂ : ℕ → ℝ) (v : Fin 128 → ℕ → EReal) (n : ℕ) (j : Fin 2048) (z : Sums Ideal) : Prop where
  m₁ : z.m₁ (ix2 0 j) = Softmax.top s₁ (1024 * n)
  l₁ : z.l₁ (ix2 0 j) = Softmax.den s₁ (1024 * n)
  a₁ : ∀ d : Fin 128, z.a₁ (ix2 d j) = Softmax.num s₁ (v d) (1024 * n)
  m₂ : z.m₂ (ix2 0 j) = Softmax.top s₂ (1024 * n)
  l₂ : z.l₂ (ix2 0 j) = Softmax.den s₂ (1024 * n)
  a₂ : ∀ d : Fin 128, z.a₂ (ix2 d j) = Softmax.num s₂ (v d) (1024 * n)

/-- The loop's vectors after `n` trips. -/
theorem state_at (i : grid0.Coords) (q : FVec Ideal S2048x128 .bf16) (e : IVec S2048x128 32)
    (x₁ x₂ : Vec Ideal S8192x128 .bf16) (x₃ : Vec Ideal S1x4224x128 .f32) (s₁ s₂ : Fin 2048 → ℕ → ℝ) (v : Fin 128 → ℕ → EReal)
    (h₁ : ∀ (k : Fin k0_t1_loop.trips) (r : Fin 1024) (j : Fin 2048), w₁ i k q e x₁ x₃ (ix2 r j) = (s₁ j (1024 * k.val + r.val) : EReal))
    (h₂ : ∀ (k : Fin k0_t1_loop.trips) (r : Fin 1024) (j : Fin 2048), w₂ i k q e x₁ x₃ (ix2 r j) = (s₂ j (1024 * k.val + r.val) : EReal))
    (hv : ∀ (d : Fin 128) (n : Fin 8192), x₂ (ix2 n d) = v d n.val) :
    ∀ n : ℕ, n ≤ 8 → ∀ j : Fin 2048, Holds (s₁ j) (s₂ j) v n j (state i q e x₁ x₂ x₃ start n)
  | 0, _, j => ⟨(start_m j).1.trans (Softmax.top_zero _).symm, (start_l j).1.trans (Softmax.den_zero _).symm,
      fun d => (start_a d j).1.trans (Softmax.num_zero _ _).symm, (start_m j).2.trans (Softmax.top_zero _).symm,
      (start_l j).2.trans (Softmax.den_zero _).symm, fun d => (start_a d j).2.trans (Softmax.num_zero _ _).symm⟩
  | n + 1, hn, j => by
    have ht : k0_t1_loop.trips = 8 := by decide
    have hk : n < k0_t1_loop.trips := by omega
    have ih := state_at i q e x₁ x₂ x₃ s₁ s₂ v h₁ h₂ hv n (by omega) j
    rw [state_succ i q e x₁ x₂ x₃ start ⟨n, hk⟩]
    have hb : ∀ (d : Fin 128) (x : Fin 1024), rows ⟨n, hk⟩ x₂ (ix2 x d) = v d (1024 * n + x.val) := fun d x => by
      rw [rows_at ⟨n, hk⟩ x₂ x d (by show 1024 * n + x.val < 8192; omega), hv]
    have e1 : 1024 * (n + 1) = 1024 * n + 1024 := by ring
    refine ⟨?_, ?_, fun d => ?_, ?_, ?_, fun d => ?_⟩
    · rw [next_m₁, same_row, e1]
      exact top_step (s₁ j) n j _ _ (fun x => h₁ ⟨n, hk⟩ x j) ih.m₁
    · rw [next_l₁, e1]
      exact den_step (s₁ j) n j _ _ _ (fun x => h₁ ⟨n, hk⟩ x j) ih.m₁ ih.l₁
    · rw [next_a₁, e1]
      exact num_step (s₁ j) (v d) n j _ _ _ _ d (fun x => h₁ ⟨n, hk⟩ x j) ih.m₁ (hb d) (ih.a₁ d)
    · rw [next_m₂, same_row, e1]
      exact top_step (s₂ j) n j _ _ (fun x => h₂ ⟨n, hk⟩ x j) ih.m₂
    · rw [next_l₂, e1]
      exact den_step (s₂ j) n j _ _ _ (fun x => h₂ ⟨n, hk⟩ x j) ih.m₂ ih.l₂
    · rw [next_a₂, e1]
      exact num_step (s₂ j) (v d) n j _ _ _ _ d (fun x => h₂ ⟨n, hk⟩ x j) ih.m₂ (hb d) (ih.a₂ d)

/-- The sum of squares down a column. -/
theorem sum_rows (w : FVec Ideal S128x2048 .f32) (h : S128x2048.Reduces [0] S2048) (hφ : FKind.Formats .f32)
    (hacc : (0x00000000#32 : BitVec 32) = FKind.add.neutral .f32 hφ) (j : Fin 2048) :
    multiReduction .add [0] S2048 w 0x00000000#32 h hφ hacc (ix1 j) = ∑ x : Fin 128, w (ix2 x j) := by
  pointwise

/-- One coordinate before the norm. -/
def mix (a₁ : Vec Ideal S128x2048 .f32) (l₁ : Vec Ideal S1x2048 .f32) (lam : EReal) (a₂ : Vec Ideal S128x2048 .f32) (l₂ : Vec Ideal S1x2048 .f32) (d : Fin 128) (j : Fin 2048) : EReal :=
  Ideal.div (a₁ (ix2 d j)) (l₁ (ix2 0 j)) - lam * Ideal.div (a₂ (ix2 d j)) (l₂ (ix2 0 j))

/-- A row divided by its root mean square, times a gain and the layer's output factor. -/
def normed (o : Fin 128 → EReal) (g : EReal) (d : Fin 128) : EReal :=
  o d * Ideal.rsqrt (Ideal.div (∑ x : Fin 128, o x * o x) (Ideal.ofBits .f32 0x43000000#32) + Ideal.ofBits .f32 0x358637BD#32) * g * Ideal.ofBits .f32 0x3F4CCCCD#32

/-- The stored entry. -/
theorem last_at (a₁ : Vec Ideal S128x2048 .f32) (l₁ : Vec Ideal S1x2048 .f32) (lam : EReal) (a₂ : Vec Ideal S128x2048 .f32) (l₂ : Vec Ideal S1x2048 .f32) (g : Vec Ideal S128x1 .f32)
    (j : Fin 2048) (d : Fin 128) :
    (k0_pay1 (k0_pay41 a₁ l₁ lam a₂ l₂ g) k0_pay42 : FVec Ideal S2048x128 .bf16) (ix2 j d) = normed (fun x => mix a₁ l₁ lam a₂ l₂ x j) (g (ix2 d 0)) d := by
  pointwise [k0_pay1, k0_pay41, k0_pay42]
  simp only [normed, mix]

end Cert.Proof.Diff

end
-- ==== Proof.DiffFrame.lean ====
/-
  The differential attention's launch: what each grid point finds and leaves, and the run of the whole program.
-/
module

public import proofs.«01_k».proof.Proof.DiffLoop
public import Idealize.ShloMosaic.Lib.Claim

@[expose] public section

set_option maxRecDepth 16384

noncomputable section

namespace Cert.Proof.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DiffIdeal Cert.DiffIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The host's operations before the launch, which make the table of biases. -/
abbrev prefixOps : List (List (HloOp τ sig (Elt F))) := [hostOps0, hostOps0_1, hostOps0_2, hostOps0_3, hostOps0_4]

/-- A core's buffers when the launch begins. -/
abbrev atEntry (c : Dev nD) (b : Ref sig .tc) : Buf (Elt F) ((c : Thread nD τ).loc b) :=
  StableHlo.after prefixOps.flatten (fun b => m (c, b)) b

/-- Every host operation only adds what it writes. -/
theorem prefix_fresh : (prefixOps : List (List (HloOp τ sig (Elt F)))).Forall fun ops => ops.Forall fun op => op.fresh = ∅ := by
  simp only [List.Forall]; repeat' constructor

set_option maxHeartbeats 800000 in
/-- The program up to the launch. -/
theorem to_launch (𝒱₀ : Variants) : Pipeline.HMain (Ix := Unit) (Name := ℕ) (U := UR sig nD τ) (Lvl := ℕ) cfgs 0 defs₀ 𝒱₀ m (main (F := F)) (atEntry m) :=
  Pipeline.hmain_prefixes cfgs 0 defs₀ 𝒱₀ m main prefixOps
    ⟨hostOps0_sub, hostOps0_1_sub, hostOps0_2_sub, hostOps0_3_sub, hostOps0_4_sub⟩ prefix_fresh main_chain

/-- A buffer that no host operation writes is as it was at the start. -/
theorem unwritten (c : Dev nD) (b : Ref sig .tc)
    (h : (prefixOps.flatten : List (HloOp τ sig (Elt F))).Forall fun op => Proc.devRef .tc b ∉ op.writes) :
    atEntry m c b = m ((c : Thread nD τ).loc b) :=
  StableHlo.after_of_forall_not_mem (b := Proc.devRef .tc b) _ _ (List.forall_iff_forall_mem.mp h)

/-! The launch finds the six arguments as they were. -/

theorem entry0 (c : Dev nD) : atEntry m c main_arg0 = m ((c : Thread nD τ).loc main_arg0) :=
  unwritten m c main_arg0 (by
    simp only [prefixOps, hostOps0, hostOps0_1, hostOps0_2, hostOps0_3, hostOps0_4, List.flatten_cons, List.flatten_nil, List.append_nil, List.cons_append,
      List.nil_append, List.Forall, StableHlo.TRef.unary, StableHlo.TRef.ternary, StableHlo.nullary_writes, StableHlo.unary_writes,
      StableHlo.binary_writes, StableHlo.ternary_writes, StableHlo.reshape_writes, Finset.mem_singleton]
    repeat' apply And.intro
    all_goals exact StableHlo.devRef_ne_of_ne (by decide))
theorem entry1 (c : Dev nD) : atEntry m c main_arg1 = m ((c : Thread nD τ).loc main_arg1) :=
  unwritten m c main_arg1 (by
    simp only [prefixOps, hostOps0, hostOps0_1, hostOps0_2, hostOps0_3, hostOps0_4, List.flatten_cons, List.flatten_nil, List.append_nil, List.cons_append,
      List.nil_append, List.Forall, StableHlo.TRef.unary, StableHlo.TRef.ternary, StableHlo.nullary_writes, StableHlo.unary_writes,
      StableHlo.binary_writes, StableHlo.ternary_writes, StableHlo.reshape_writes, Finset.mem_singleton]
    repeat' apply And.intro
    all_goals exact StableHlo.devRef_ne_of_ne (by decide))
theorem entry2 (c : Dev nD) : atEntry m c main_arg2 = m ((c : Thread nD τ).loc main_arg2) :=
  unwritten m c main_arg2 (by
    simp only [prefixOps, hostOps0, hostOps0_1, hostOps0_2, hostOps0_3, hostOps0_4, List.flatten_cons, List.flatten_nil, List.append_nil, List.cons_append,
      List.nil_append, List.Forall, StableHlo.TRef.unary, StableHlo.TRef.ternary, StableHlo.nullary_writes, StableHlo.unary_writes,
      StableHlo.binary_writes, StableHlo.ternary_writes, StableHlo.reshape_writes, Finset.mem_singleton]
    repeat' apply And.intro
    all_goals exact StableHlo.devRef_ne_of_ne (by decide))
theorem entry3 (c : Dev nD) : atEntry m c main_arg3 = m ((c : Thread nD τ).loc main_arg3) :=
  unwritten m c main_arg3 (by
    simp only [prefixOps, hostOps0, hostOps0_1, hostOps0_2, hostOps0_3, hostOps0_4, List.flatten_cons, List.flatten_nil, List.append_nil, List.cons_append,
      List.nil_append, List.Forall, StableHlo.TRef.unary, StableHlo.TRef.ternary, StableHlo.nullary_writes, StableHlo.unary_writes,
      StableHlo.binary_writes, StableHlo.ternary_writes, StableHlo.reshape_writes, Finset.mem_singleton]
    repeat' apply And.intro
    all_goals exact StableHlo.devRef_ne_of_ne (by decide))
theorem entry4 (c : Dev nD) : atEntry m c main_arg4 = m ((c : Thread nD τ).loc main_arg4) :=
  unwritten m c main_arg4 (by
    simp only [prefixOps, hostOps0, hostOps0_1, hostOps0_2, hostOps0_3, hostOps0_4, List.flatten_cons, List.flatten_nil, List.append_nil, List.cons_append,
      List.nil_append, List.Forall, StableHlo.TRef.unary, StableHlo.TRef.ternary, StableHlo.nullary_writes, StableHlo.unary_writes,
      StableHlo.binary_writes, StableHlo.ternary_writes, StableHlo.reshape_writes, Finset.mem_singleton]
    repeat' apply And.intro
    all_goals exact StableHlo.devRef_ne_of_ne (by decide))
theorem entry5 (c : Dev nD) : atEntry m c main_arg5 = m ((c : Thread nD τ).loc main_arg5) :=
  unwritten m c main_arg5 (by
    simp only [prefixOps, hostOps0, hostOps0_1, hostOps0_2, hostOps0_3, hostOps0_4, List.flatten_cons, List.flatten_nil, List.append_nil, List.cons_append,
      List.nil_append, List.Forall, StableHlo.TRef.unary, StableHlo.TRef.ternary, StableHlo.nullary_writes, StableHlo.unary_writes,
      StableHlo.binary_writes, StableHlo.ternary_writes, StableHlo.reshape_writes, Finset.mem_singleton]
    repeat' apply And.intro
    all_goals exact StableHlo.devRef_ne_of_ne (by decide))

/-- The block of window `w` at point `t`. -/
def blk (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-! The staging buffers at a point and the scratch buffers. -/

abbrev ms0 (t : Fin cfg0.N) : Memref sig .tc .smem S1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S8192x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S8192x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x4224x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2048x128 .bf16 := win0_6.stage (cfg0.slots t 6)
abbrev hs6 (t : Fin cfg0.N) : (ms6 t).IsWhole := hstage0_6 ((cfg0.slots t 6).cast nbuf0_6)
abbrev sc0 : Memref sig .tc .vmem S1x2048 .f32 := Memref.whole cc0_scratch0
abbrev sc1 : Memref sig .tc .vmem S1x2048 .f32 := Memref.whole cc0_scratch1
abbrev sc2 : Memref sig .tc .vmem S128x2048 .f32 := Memref.whole cc0_scratch2
abbrev sc3 : Memref sig .tc .vmem S1x2048 .f32 := Memref.whole cc0_scratch3
abbrev sc4 : Memref sig .tc .vmem S1x2048 .f32 := Memref.whole cc0_scratch4
abbrev sc5 : Memref sig .tc .vmem S128x2048 .f32 := Memref.whole cc0_scratch5

/-- What the launch keeps beside the windows: the six scratch buffers and the generator's register. -/
theorem invariant_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-- What point `t` writes. -/
def made (c : Dev nD) (t : Fin cfg0.N) : Vec F S2048x128 .bf16 := point (grid0.coords t) (blk m c 0 t) (blk m c 1 t) (blk m c 2 t) (blk m c 3 t) (blk m c 4 t) (blk m c 5 t)

/-- The data of the launch on core `c`. -/
def dats (_ : Fin 1) (c : Dev nD) : Dat τ (Elt F) Unit ℕ (UR sig nD τ) ℕ cfg0 c where
  A w := atEntry m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => blk m c 5 t
    | ⟨6, _⟩ => made m c t
  Φ _ := Pipeline.ΦA spec0 c
  q _ := fullShare
  owed _ := 0

/-- The launch's arrays are what the host's operations left. -/
theorem A_eq (c : Dev nD) (w : Fin cfg0.W) : (dats m 0 c).A w = atEntry m c (Pipeline.arrRef spec0 w) := by dsimp only [dats]

theorem after0 (c : Dev nD) (t : Fin cfg0.N) : (dats m 0 c).after 0 t = blk m c 0 t := by dsimp only [dats]
theorem after1 (c : Dev nD) (t : Fin cfg0.N) : (dats m 0 c).after 1 t = blk m c 1 t := by dsimp only [dats]
theorem after2 (c : Dev nD) (t : Fin cfg0.N) : (dats m 0 c).after 2 t = blk m c 2 t := by dsimp only [dats]
theorem after3 (c : Dev nD) (t : Fin cfg0.N) : (dats m 0 c).after 3 t = blk m c 3 t := by dsimp only [dats]
theorem after4 (c : Dev nD) (t : Fin cfg0.N) : (dats m 0 c).after 4 t = blk m c 4 t := by dsimp only [dats]
theorem after5 (c : Dev nD) (t : Fin cfg0.N) : (dats m 0 c).after 5 t = blk m c 5 t := by dsimp only [dats]
theorem after6 (c : Dev nD) (t : Fin cfg0.N) : (dats m 0 c).after 6 t = made m c t := by dsimp only [dats]

/-- Window 0's staging buffer holds its block at every point. -/
theorem before0 (c : Dev nD) (t : Fin cfg0.N) (d) : (dats m 0 c).before 0 t d = blk m c 0 t :=
  ((dats m 0 c).before_in_eq_fetched 0 rfl (fun _ => rfl) (fun _ _ _ => rfl)
    (fun t => by rw [after0]; unfold Dat.blockOf blk; rw [A_eq]) t d).trans (by unfold Dat.fetched Dat.blockOf blk; rw [A_eq]; rfl)
/-- Window 1's staging buffer holds its block at every point. -/
theorem before1 (c : Dev nD) (t : Fin cfg0.N) (d) : (dats m 0 c).before 1 t d = blk m c 1 t :=
  ((dats m 0 c).before_in_eq_fetched 1 rfl (fun _ => rfl) (fun _ _ _ => rfl)
    (fun t => by rw [after1]; unfold Dat.blockOf blk; rw [A_eq]) t d).trans (by unfold Dat.fetched Dat.blockOf blk; rw [A_eq]; rfl)
/-- Window 2's staging buffer holds its block at every point. -/
theorem before2 (c : Dev nD) (t : Fin cfg0.N) (d) : (dats m 0 c).before 2 t d = blk m c 2 t :=
  ((dats m 0 c).before_in_eq_fetched 2 rfl (fun _ => rfl) (fun _ _ _ => rfl)
    (fun t => by rw [after2]; unfold Dat.blockOf blk; rw [A_eq]) t d).trans (by unfold Dat.fetched Dat.blockOf blk; rw [A_eq]; rfl)
/-- Window 3's staging buffer holds its block at every point. -/
theorem before3 (c : Dev nD) (t : Fin cfg0.N) (d) : (dats m 0 c).before 3 t d = blk m c 3 t :=
  ((dats m 0 c).before_in_eq_fetched 3 rfl (fun _ => rfl) (fun _ _ _ => rfl)
    (fun t => by rw [after3]; unfold Dat.blockOf blk; rw [A_eq]) t d).trans (by unfold Dat.fetched Dat.blockOf blk; rw [A_eq]; rfl)
/-- Window 4's staging buffer holds its block at every point. -/
theorem before4 (c : Dev nD) (t : Fin cfg0.N) (d) : (dats m 0 c).before 4 t d = blk m c 4 t :=
  ((dats m 0 c).before_in_eq_fetched 4 rfl (fun _ => rfl) (fun _ _ _ => rfl)
    (fun t => by rw [after4]; unfold Dat.blockOf blk; rw [A_eq]) t d).trans (by unfold Dat.fetched Dat.blockOf blk; rw [A_eq]; rfl)
/-- Window 5's staging buffer holds its block at every point. -/
theorem before5 (c : Dev nD) (t : Fin cfg0.N) (d) : (dats m 0 c).before 5 t d = blk m c 5 t :=
  ((dats m 0 c).before_in_eq_fetched 5 rfl (fun _ => rfl) (fun _ _ _ => rfl)
    (fun t => by rw [after5]; unfold Dat.blockOf blk; rw [A_eq]) t d).trans (by unfold Dat.fetched Dat.blockOf blk; rw [A_eq]; rfl)

/-- What the body is handed at point `t`, -/
def handed (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it hands back. -/
def returned (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

/-- The body at any point takes the one to the other. -/
theorem body_at (c : Dev nD) (t : Fin cfg0.N) :
    handed m c t ⊢ wp frame (wpE (defs₀ (F := F)) Variants.none c none) Set.univ (bodyAt0 t) (fun _ => returned m c t) := by
  unfold handed returned bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  rw [show (dats m 0 c).Φ t.castSucc = Pipeline.ΦA spec0 c from rfl, invariant_eq]
  unfold made
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩⟩
  iapply (body c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) (blk m c 0 t) (blk m c 1 t) (blk m c 2 t) (blk m c 3 t) (blk m c 4 t) (blk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, S0, S1, S2, S3, S4, S5⟩
  isplitl [S0 S1 S2 S3 S4 S5 Hg]
  · isplitl [S0 S1 S2 S3 S4 S5]
    · skip
      isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The table of bodies at point `t` is the body. -/
theorem row_eq (t : Fin cfg0.N) : defs₀ (F := F) .tc cfg0.body (cfg0.bodyArgs t (cfg0.slots t)) = bodyAt0 t := by
  unfold defs₀; rw [Defs.onTc_tc]

/-- The body does at every point what the launch asks of it. -/
theorem obligation (c : Dev nD) : BodyObligation (dats (F := F) m 0 c) (defs₀ (F := F)) Variants.none () Set.univ := fun t => by
  rw [bigSep_W0, bigSep_W0, row_eq]
  exact triple_restated (body_at m c t) rfl .rfl fun _ => .rfl

set_option backward.isDefEq.respectTransparency.types false in
/-- The whole run, with every counter at zero at its end. -/
theorem run_quiet : θ_run defs (onTc (τ := τ) (main (F := F))) (s₀ m ρ)
    (fun r => (Pipeline.FramePost cfgs (dats m) 0 (atEntry m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := atEntry m) (hmain := to_launch m Variants.none) (hA := A_eq m) (hΦ := fun _ _ => rfl)

/-- At the end the six arguments are as they were. -/
theorem kept (r) (h : (Pipeline.FramePost cfgs (dats (F := F) m) 0 (atEntry m)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 1).trans (((dats m 0 c).arrAt_in 1 rfl _).trans ((A_eq m c 1).trans (entry0 m c))),
      ((h c).1 2).trans (((dats m 0 c).arrAt_in 2 rfl _).trans ((A_eq m c 2).trans (entry1 m c))),
      ((h c).1 3).trans (((dats m 0 c).arrAt_in 3 rfl _).trans ((A_eq m c 3).trans (entry2 m c))),
      ((h c).2 main_arg3 (Pipeline.mem_restRefs_of main_arg3 (by decide) (by decide))).trans (entry3 m c),
      ((h c).1 0).trans (((dats m 0 c).arrAt_in 0 rfl _).trans ((A_eq m c 0).trans (entry4 m c))),
      ((h c).2 main_arg5 (Pipeline.mem_restRefs_of main_arg5 (by decide) (by decide))).trans (entry5 m c)⟩

/-- The program runs, leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨kept m r h.1, h.2⟩) (run_quiet m ρ)

/-- The same run, with the output's array after the last point named. -/
theorem run_blocks : θ_run defs (onTc (τ := τ) (main (F := F))) ⟨m, fun _ => 0, ρ⟩ (fun r => ∀ c : Dev nD,
      r.2.mem ((c.tc : Thread nD τ).loc main_v43) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.1 c).1 6, kept m r h.1 c⟩) (run_quiet m ρ)

end Cert.Proof.Diff

end
-- ==== Proof.DiffBucket.lean ====
/-
  The bucket of a relative position: which row of the table of biases a key's distance to a query picks.  The buckets past a
  distance of 1024 are all the same one on each side.
-/
module

public import Idealize.ShloMosaic.PureOps
public import Idealize.ShloMosaic.PureOps.Ideal.Laws
public import Idealize.ShloMosaic.Lib.Pointwise
public import Idealize.ShloMosaic.Lib.StableHlo
public import Mathlib.Analysis.SpecialFunctions.Log.Basic

@[expose] public section

set_option maxRecDepth 16384

noncomputable section

open Idealize.ShloMosaic
open Idealize.ShloMosaic.Pointwise

namespace Cert.Proof.Bucket

abbrev S_ : Shape := ⟨0, ![]⟩

/-- The bucket of every relative position of an array. -/
def buckets {s : Shape} (h : S_.BroadcastsInDim s (![] : Fin 0 → Fin s.rank)) (r : IVec s 32) : IVec s 32 :=
  addi (id (select (cmpi .sgt r (broadcastInDim s ![] h (constantI S_ 32 0#32))) (broadcastInDim s ![] h (constantI S_ 32 16#32)) (broadcastInDim s ![] h (constantI S_ 32 0#32))))
    (select (cmpi .slt (absi r) (broadcastInDim s ![] h (constantI S_ 32 8#32))) (absi r)
      (minsi (addi (broadcastInDim s ![] h (constantI S_ 32 8#32))
        (fptosi 32 (mulf (Host.divf (Host.log (Host.divf (sitofp .f32 (maxsi (absi r) (broadcastInDim s ![] h (constantI S_ 32 1#32))))
          (broadcastInDim s ![] h (constant S_ .f32 0x41000000#32)))) (broadcastInDim s ![] h (constant S_ .f32 0x409B43D5#32)))
          (broadcastInDim s ![] h (constant S_ .f32 0x41000000#32)) : FVec Ideal s .f32)))
        (broadcastInDim s ![] h (constantI S_ 32 15#32))))

/-- The buckets, those below zero moved up by the table's 32 rows: the row the table is read at. -/
def starts {s : Shape} (h : S_.BroadcastsInDim s (![] : Fin 0 → Fin s.rank)) (r : IVec s 32) : IVec s 32 :=
  select (cmpi .slt (buckets h r) (broadcastInDim s ![] h (constantI S_ 32 0#32))) (addi (buckets h r) (broadcastInDim s ![] h (constantI S_ 32 32#32))) (buckets h r)

/-- The same of one relative position. -/
def bucket (r : BitVec 32) : BitVec 32 :=
  Scalar.select (IntOp.cmpi .sgt r 0#32) 16#32 0#32
    + Scalar.select (IntOp.cmpi .slt (IntOp.absi r) 8#32) (IntOp.absi r)
      (IntOp.minsi (8#32 + Ideal.fptosi 32 (Ideal.div (Ideal.log (Ideal.div ((((IntOp.maxsi (IntOp.absi r) 1#32).toInt : ℝ)) : EReal) (Ideal.ofBits .f32 0x41000000#32))) (Ideal.ofBits .f32 0x409B43D5#32)
        * Ideal.ofBits .f32 0x41000000#32)) 15#32)

/-- The row the table is read at. -/
def start (r : BitVec 32) : BitVec 32 := Scalar.select (IntOp.cmpi .slt (bucket r) 0#32) (bucket r + 32#32) (bucket r)

/-- The array's rows are the positions' rows. -/
theorem starts_at {s : Shape} (h : S_.BroadcastsInDim s (![] : Fin 0 → Fin s.rank)) (r : IVec s 32) (j : s.Idx) : starts h r j = start (r j) := rfl

/-- The three words of the computation. -/
theorem ofBits_8 : Ideal.ofBits .f32 0x41000000#32 = ((8 : ℝ) : EReal) := by
  simp [Ideal.ofBits, Ideal.ieee, -EReal.coe_mul]; norm_num
theorem ofBits_c : Ideal.ofBits .f32 0x409B43D5#32 = ((10175445 / 2097152 : ℝ) : EReal) := by
  simp [Ideal.ofBits, Ideal.ieee, -EReal.coe_mul]; norm_num

/-- A lower bound of the logarithm of two, from 2 = 5/4 · 6/5 · 7/6 · 8/7. -/
theorem log_two_lower : (61 / 100 : ℝ) ≤ Real.log 2 := by
  have e : Real.log 2 = Real.log (5 / 4) + Real.log (6 / 5) + Real.log (7 / 6) + Real.log (8 / 7) := by
    rw [← Real.log_mul (by norm_num) (by norm_num), ← Real.log_mul (by norm_num) (by norm_num), ← Real.log_mul (by norm_num) (by norm_num)]
    norm_num
  have h1 := Real.one_sub_inv_le_log_of_pos (show (0 : ℝ) < 5 / 4 by norm_num)
  have h2 := Real.one_sub_inv_le_log_of_pos (show (0 : ℝ) < 6 / 5 by norm_num)
  have h3 := Real.one_sub_inv_le_log_of_pos (show (0 : ℝ) < 7 / 6 by norm_num)
  have h4 := Real.one_sub_inv_le_log_of_pos (show (0 : ℝ) < 8 / 7 by norm_num)
  norm_num at h1 h2 h3 h4 e ⊢
  linarith

/-- From a distance of 1024 to one of 8191 the logarithm's whole part is at least 7. -/
theorem far_log (n : ℕ) (h : 1024 ≤ n) (h' : n < 8192) :
    IntOp.minsi (8#32 + Ideal.fptosi 32 (Ideal.div (Ideal.log (Ideal.div ((((n : ℤ) : ℝ)) : EReal) (Ideal.ofBits .f32 0x41000000#32))) (Ideal.ofBits .f32 0x409B43D5#32)
        * Ideal.ofBits .f32 0x41000000#32)) 15#32 = 15#32 := by
  have hn : (1024 : ℝ) ≤ ((n : ℤ) : ℝ) := by exact_mod_cast h
  have hn' : ((n : ℤ) : ℝ) ≤ 8192 := by exact_mod_cast h'.le
  have hpos : (0 : ℝ) < ((n : ℤ) : ℝ) * (8 : ℝ)⁻¹ := by positivity
  have l7 : Real.log (((n : ℤ) : ℝ) * (8 : ℝ)⁻¹) ≥ 7 * Real.log 2 := by
    rw [show 7 * Real.log 2 = Real.log (2 ^ 7) by rw [Real.log_pow]; norm_num]
    exact Real.log_le_log (by norm_num) (by rw [← div_eq_mul_inv, le_div_iff₀ (by norm_num)]; linarith)
  have l10 : Real.log (((n : ℤ) : ℝ) * (8 : ℝ)⁻¹) ≤ 10 * Real.log 2 := by
    rw [show 10 * Real.log 2 = Real.log (2 ^ 10) by rw [Real.log_pow]; norm_num]
    exact Real.log_le_log hpos (by rw [← div_eq_mul_inv, div_le_iff₀ (by norm_num)]; linarith)
  have a := log_two_lower
  have b : Real.log 2 ≤ 1 := by
    have := Real.log_le_sub_one_of_pos (show (0 : ℝ) < 2 by norm_num)
    linarith
  have e8 : Ideal.div ((((n : ℤ) : ℝ)) : EReal) ((8 : ℝ) : EReal) = ((((n : ℤ) : ℝ) * (8 : ℝ)⁻¹ : ℝ) : EReal) := by
    rw [Ideal.div_coe (by norm_num), ← EReal.coe_mul, one_div]
  rw [ofBits_8, ofBits_c, e8, Ideal.log_coe, if_neg (not_le.mpr hpos), Ideal.div_coe (by norm_num), ← EReal.coe_mul, ← EReal.coe_mul]
  generalize Real.log (((n : ℤ) : ℝ) * (8 : ℝ)⁻¹) = X at l7 l10
  obtain ⟨L, hL⟩ : ∃ L : ℝ, L = X * (1 / (10175445 / 2097152 : ℝ)) * 8 := ⟨_, rfl⟩
  rw [← hL]
  have h7 : (7 : ℝ) ≤ L := by
    rw [hL]; linarith
  have h12 : L < 17 := by
    rw [hL]; linarith
  have f7 : 7 ≤ ⌊L⌋ := Int.le_floor.mpr (by exact_mod_cast h7)
  have f12 : ⌊L⌋ < 17 := Int.floor_lt.mpr (by exact_mod_cast h12)
  have e : Ideal.fptosi 32 (L : EReal) = BitVec.ofInt 32 ⌊L⌋ := by
    show BitVec.ofInt 32 (max _ (min _ (if 0 ≤ L then ⌊L⌋ else ⌈L⌉))) = _
    rw [if_pos (by linarith)]
    congr 1
    rw [min_eq_right (by norm_num; omega), max_eq_right (by norm_num; omega)]
  rw [e]
  generalize ⌊L⌋ = z at f7 f12
  interval_cases z <;> decide

/-- The integer operations at a large positive position. -/
theorem far_pos : ∀ n : Fin 8192, 1024 ≤ n.val → IntOp.absi (BitVec.ofInt 32 (n.val : ℤ)) = BitVec.ofInt 32 (n.val : ℤ)
    ∧ IntOp.cmpi .sgt (BitVec.ofInt 32 (n.val : ℤ)) 0#32 = 1#1 ∧ IntOp.cmpi .slt (BitVec.ofInt 32 (n.val : ℤ)) 8#32 = 0#1
    ∧ IntOp.maxsi (BitVec.ofInt 32 (n.val : ℤ)) 1#32 = BitVec.ofInt 32 (n.val : ℤ) ∧ (BitVec.ofInt 32 (n.val : ℤ)).toInt = n.val := by
  decide +kernel

/-- The integer operations at a large negative position. -/
theorem far_neg : ∀ n : Fin 8192, 1024 ≤ n.val → IntOp.absi (BitVec.ofInt 32 (-(n.val : ℤ))) = BitVec.ofInt 32 (n.val : ℤ)
    ∧ IntOp.cmpi .sgt (BitVec.ofInt 32 (-(n.val : ℤ))) 0#32 = 0#1 := by
  decide +kernel

/-- Every position from 1024 to 8191 reads row 31. -/
theorem start_pos (n : ℕ) (h : 1024 ≤ n) (h' : n < 8192) : start (BitVec.ofInt 32 (n : ℤ)) = 31#32 := by
  obtain ⟨e1, e2, e3, e4, e5⟩ := far_pos ⟨n, h'⟩ h
  dsimp only at e1 e2 e3 e4 e5
  have hb : bucket (BitVec.ofInt 32 (n : ℤ)) = 31#32 := by
    rw [bucket, e1, e2, e3, e4, e5, far_log n h h']
    rfl
  rw [start, hb]
  decide

/-- Every position from -8191 to -1024 reads row 15. -/
theorem start_neg (n : ℕ) (h : 1024 ≤ n) (h' : n < 8192) : start (BitVec.ofInt 32 (-(n : ℤ))) = 15#32 := by
  obtain ⟨e1, e2, e3, e4, e5⟩ := far_pos ⟨n, h'⟩ h
  obtain ⟨i1, i2⟩ := far_neg ⟨n, h'⟩ h
  dsimp only at e1 e2 e3 e4 e5 i1 i2
  have hb : bucket (BitVec.ofInt 32 (-(n : ℤ))) = 15#32 := by
    rw [bucket, i1, i2, e3, e4, e5, far_log n h h']
    rfl
  rw [start, hb]
  decide

/-- The row the table is read at, of an integer. -/
abbrev row (z : ℤ) : BitVec 32 := start (BitVec.ofInt 32 z)

/-- Positions clipped to the table's range read the row of the positions themselves: block `D` a multiple of 128, key row `r` and query
    column `c` of the block. -/
theorem row_clip (D : ℤ) (hD : 128 ∣ D) (lo : -8064 ≤ D) (hi : D ≤ 7168) (r c : ℕ) (hr : r < 1024) (hc : c < 128) :
    row (min 1152 (max (-2048) D) + r - c) = row (D + r - c) := by
  obtain ⟨u, rfl⟩ := hD
  rcases lt_or_ge 1152 (128 * u) with h | h
  · have e1 := start_pos ((1152 + r - c : ℤ).toNat) (by omega) (by omega)
    have e2 := start_pos ((128 * u + r - c : ℤ).toNat) (by omega) (by omega)
    rw [Int.toNat_of_nonneg (by omega)] at e1 e2
    rw [min_eq_left (by omega)]
    exact e1.trans e2.symm
  · rcases lt_or_ge (128 * u) (-2048) with h2 | h2
    · have e1 := start_neg ((-(-2048 + r - c) : ℤ).toNat) (by omega) (by omega)
      have e2 := start_neg ((-(128 * u + r - c) : ℤ).toNat) (by omega) (by omega)
      rw [Int.toNat_of_nonneg (by omega), neg_neg] at e1 e2
      rw [max_eq_left (by omega), min_eq_right (by omega)]
      exact e1.trans e2.symm
    · rw [max_eq_right (by omega), min_eq_right (by omega)]

/-- The reference's word of a position. -/
theorem word_diff (a b : ℕ) : BitVec.ofNat 32 a - BitVec.ofNat 32 b = BitVec.ofInt 32 ((a : ℤ) - b) := by
  rw [← BitVec.ofInt_natCast, ← BitVec.ofInt_natCast, sub_eq_add_neg, BitVec.ofInt_add, BitVec.ofInt_neg, BitVec.sub_eq_add_neg]

/-- The table's word of a position. -/
theorem word_table (m : ℕ) : 4294965121#32 + BitVec.ofNat 32 m = BitVec.ofInt 32 ((m : ℤ) - 2175) := by
  show _ = BitVec.ofInt 32 ((m : ℤ) - ((2175 : ℕ) : ℤ))
  rw [← word_diff, show (4294965121#32 : BitVec 32) = -(BitVec.ofNat 32 2175) by decide, BitVec.sub_eq_add_neg, BitVec.add_comm]

end Cert.Proof.Bucket

end
-- ==== Proof.DiffTable.lean ====
/-
  The table of biases the host makes for the differential attention: entry `(h, R, c)` is head `h`'s bias at the relative
  position `R - 2048 - c`.
-/
module

public import proofs.«01_k».proof.Proof.DiffFrame
public import proofs.«01_k».proof.Proof.DiffBucket
public import Idealize.ShloMosaic.Lib.Pointwise
public import Idealize.ShloMosaic.Lib.StableHlo.Run

@[expose] public section

set_option maxRecDepth 65536

noncomputable section

open Idealize.ShloMosaic Idealize.ShloMosaic.TcCoe Idealize.SL.Sem
open Idealize.ShloMosaic.Pointwise
open Cert.DiffIdeal Cert.DiffIdeal.Gen

namespace Cert.Proof.Diff

/-- The biases of all 4352 relative positions, laid out as the table. -/
def layout (g : FVec Ideal S4352x4 .f32) : FVec Ideal S4x4224x128 .f32 :=
  transpose S4x4224x128 [0, 2, 1] (extractStridedSlice S4x128x4224 ![0, 0, 127] (shapeCast S4x128x4351
    (extractStridedSlice S4x556928 ![0, 0] (shapeCast S4x557056 (broadcastInDim S1x4x128x4352 ![0, 1, 2, 3] bcast_S1x4x1x4352_S1x4x128x4352_0_1_2_3
      (shapeCast S1x4x1x4352 (transpose S4x4352 [1, 0] g transposes_S4352x4_S4x4352_1_0) shapeCasts_S4x4352_S1x4x1x4352)) shapeCasts_S1x4x128x4352_S4x557056)
      slices_S4x557056_S4x556928_0_0) shapeCasts_S4x556928_S4x128x4351) slices_S4x128x4351_S4x128x4224_0_0_127) transposes_S4x128x4224_S4x4224x128_0_2_1

/-- The positions' biases. -/
def positions (b : FVec Ideal S32x4 .f32) : FVec Ideal S4352x4 .f32 :=
  Host.gather gather_S32x4_S4352x1_S4352x4_1_0_n_n_0_1_14 b (broadcastInDim S4352x1 ![0] bcast_S4352_S4352x1_0
    (Bucket.starts bcast_S_S4352 (addi (broadcastInDim S4352 ![] bcast_S_S4352 (constantI S_ 32 4294965121#32)) (iotaInDim S4352 32 0))))

variable (m : (ℓ : Loc nD τ sig) → Buf (Elt Ideal) ℓ) (c : Dev nD)

set_option maxHeartbeats 4000000 in
/-- The table when the launch begins. -/
theorem table_eq : atEntry m c main_v41 = layout (positions (m ((c : Thread nD τ).loc main_arg3))) := by
  unfold atEntry prefixOps
  simp only [hostOps0, hostOps0_1, hostOps0_2, hostOps0_3, hostOps0_4, List.flatten_cons, List.flatten_nil, List.append_nil, List.cons_append, List.nil_append]
  simp only [StableHlo.TRef.unary, StableHlo.TRef.ternary]
  after_results_simp
  rfl

set_option maxHeartbeats 4000000 in
/-- The norm's gains when the launch begins. -/
theorem gain_eq : atEntry m c main_v42 = shapeCast S128x1 (m ((c : Thread nD τ).loc main_arg5) : FVec Ideal S128 .f32) shapeCasts_S128_S128x1 := by
  unfold atEntry prefixOps
  simp only [hostOps0, hostOps0_1, hostOps0_2, hostOps0_3, hostOps0_4, List.flatten_cons, List.flatten_nil, List.append_nil, List.cons_append, List.nil_append]
  simp only [StableHlo.TRef.unary, StableHlo.TRef.ternary]
  after_results_simp
  rfl

/-- The layout at an index: the flattened rows of 4352 positions read 4351 apart shift by one position a row. -/
theorem layout_at (g : FVec Ideal S4352x4 .f32) (h : Fin 4) (R : Fin 4224) (l : Fin 128) :
    layout g (ix3 h R l) = g (ix2 ⟨127 + R.val - l.val, by omega⟩ h) := by
  have e : (⟨(l.val * 4351 + (127 + R.val)) % 4352, by omega⟩ : Fin 4352) = ⟨127 + R.val - l.val, by omega⟩ := Fin.ext (by
    show (l.val * 4351 + (127 + R.val)) % 4352 = 127 + R.val - l.val
    omega)
  pointwise [layout]
  rw [e]

/-- A head's bias at a word that names a row. -/
def entry (b : FVec Ideal S32x4 .f32) (w : BitVec 32) (h : Fin 4) : EReal := b (ix2 ⟨min w.toInt.toNat 31, by omega⟩ h)

/-- A position's bias. -/
theorem gather_at (b : FVec Ideal S32x4 .f32) (x : IVec S4352x1 32) (n : Fin 4352) (h : Fin 4) :
    Host.gather gather_S32x4_S4352x1_S4352x4_1_0_n_n_0_1_14 b x (ix2 n h) = entry b (x (ix2 n 0)) h := by
  refine congrArg b (funext fun a => Fin.ext ?_)
  have ha : a = 0 ∨ a = 1 := by
    match a with
    | ⟨0, _⟩ => exact Or.inl rfl
    | ⟨1, _⟩ => exact Or.inr rfl
  show GatherDims.start gather_S32x4_S4352x1_S4352x4_1_0_n_n_0_1_14 (ix2 n h) x a
    + GatherDims.batchCoord gather_S32x4_S4352x1_S4352x4_1_0_n_n_0_1_14 (ix2 n h) a
    + GatherDims.offCoord gather_S32x4_S4352x1_S4352x4_1_0_n_n_0_1_14 (ix2 n h) a = _
  rw [GatherDims.batchCoord_eq_zero _ _ _ List.not_mem_nil, Nat.add_zero]
  rcases ha with rfl | rfl
  · rw [GatherDims.offCoord_eq_zero _ _ _ (fun e => ((GatherDims.mem_sKept _ _).mp e).1 (List.mem_singleton.mpr rfl)), Nat.add_zero]
    unfold GatherDims.start
    rw [dif_pos (show (0 : Fin 2) ∈ gather_S32x4_S4352x1_S4352x4_1_0_n_n_0_1_14.startIndexMap from List.mem_singleton.mpr rfl)]
    have e : gather_S32x4_S4352x1_S4352x4_1_0_n_n_0_1_14.siIdx (ix2 n h) ⟨List.idxOf (0 : Fin 2) gather_S32x4_S4352x1_S4352x4_1_0_n_n_0_1_14.startIndexMap,
        List.idxOf_lt_length_iff.2 (List.mem_singleton.mpr rfl)⟩ = ix2 n 0 := by
      funext b; refine Fin.ext ?_
      match b with
      | ⟨0, _⟩ => rfl
      | ⟨1, _⟩ => rfl
    rw [e]
    rfl
  · unfold GatherDims.start
    rw [dif_neg (show (1 : Fin 2) ∉ gather_S32x4_S4352x1_S4352x4_1_0_n_n_0_1_14.startIndexMap from by decide), Nat.zero_add]
    rfl

/-- A head's bias at a relative position. -/
def near (b : FVec Ideal S32x4 .f32) (h : Fin 4) (z : ℤ) : EReal := entry b (Bucket.row z) h

/-- A list of words as a column. -/
theorem column_at (x : IVec S4352 32) (n : Fin 4352) : broadcastInDim S4352x1 ![0] bcast_S4352_S4352x1_0 x (ix2 n 0) = x (ix1 n) := by
  pointwise

/-- The positions the host lists. -/
theorem listed_at (n : Fin 4352) :
    (addi (broadcastInDim S4352 ![] bcast_S_S4352 (constantI S_ 32 4294965121#32)) (iotaInDim S4352 32 0) : IVec S4352 32) (ix1 n)
      = BitVec.ofInt 32 ((n.val : ℤ) - 2175) := by
  rw [← Bucket.word_table]
  pointwise
  rfl

/-- The biases of the positions the host lists. -/
theorem positions_at (b : FVec Ideal S32x4 .f32) (n : Fin 4352) (h : Fin 4) : positions b (ix2 n h) = near b h ((n.val : ℤ) - 2175) := by
  unfold positions near Bucket.row
  rw [gather_at, column_at, Bucket.starts_at, listed_at]

/-- An entry of the table. -/
theorem table_at (b : FVec Ideal S32x4 .f32) (h : Fin 4) (R : Fin 4224) (l : Fin 128) :
    layout (positions b) (ix3 h R l) = near b h ((R.val : ℤ) - 2048 - l.val) := by
  rw [layout_at, positions_at]
  refine congrArg (near b h) ?_
  push_cast [show l.val ≤ 127 + R.val by omega]
  ring

end Cert.Proof.Diff

end
-- ==== Proof.DiffArr.lean ====
/-
  The array the differential attention's kernel leaves: for each query row and head, the first softmax's average of the
  values less a multiple of the second's, divided by its root mean square over the head's 128 coordinates.
-/
module

public import proofs.«01_k».proof.Proof.DiffState
public import proofs.«01_k».proof.Proof.DiffTable
public import Idealize.ShloMosaic.Lib.Pipeline.ValueKit

@[expose] public section

set_option maxRecDepth 16384

noncomputable section

open Idealize.ShloMosaic Idealize.ShloMosaic.TcCoe Idealize.SL.Sem
open Idealize.ShloMosaic.Pointwise
open Idealize.ShloMosaic.Pipeline (Dat)
open Cert.DiffIdeal Cert.DiffIdeal.Gen

namespace Cert.Proof.Diff

/-- The queries, keys and values, and the biases. -/
abbrev A := S40960x512.Idx → EReal
abbrev B := S32x4.Idx → EReal

/-- The base-2 scores of query row `i` and half `x` of head `h` against key row `n`. -/
def score (q k : A) (b : B) (x : Fin 2) (i : Fin 8192) (h : Fin 4) (n : ℕ) : ℝ :=
  if hn : n < 8192 then
    (∑ d : Fin 64, (k (ix2 ⟨n, by omega⟩ ⟨128 * h.val + (64 * x.val + d.val), by omega⟩)).toReal
      * ((q (ix2 ⟨i.val, by omega⟩ ⟨128 * h.val + (64 * x.val + d.val), by omega⟩)).toReal * ((Real.sqrt 64)⁻¹ * (Real.log 2)⁻¹)))
      + (near b h ((n : ℤ) - i.val)).toReal * (Real.log 2)⁻¹
  else 0

/-- Coordinate `d` of the value rows head `h` reads. -/
def val (v : A) (h : Fin 4) (d : Fin 128) (n : ℕ) : EReal :=
  if hn : n < 8192 then v (ix2 ⟨n, by omega⟩ ⟨128 * h.val + d.val, by omega⟩) else 0

/-- The difference of the two averages at a query row, head and coordinate. -/
def gap (q k v : A) (b : B) (lam : EReal) (i : Fin 8192) (h : Fin 4) (d : Fin 128) : EReal :=
  Ideal.div (Softmax.num (score q k b 0 i h) (val v h d) 8192) (Softmax.den (score q k b 0 i h) 8192)
    - lam * Ideal.div (Softmax.num (score q k b 1 i h) (val v h d) 8192) (Softmax.den (score q k b 1 i h) 8192)

/-- The layer's differential attention at a query row, head and coordinate. -/
def att (q k v : A) (b : B) (lam : EReal) (g : S128.Idx → EReal) (i : Fin 8192) (h : Fin 4) (d : Fin 128) : EReal :=
  normed (gap q k v b lam i h) (g (ix1 d)) d

/-- Every entry of the queries and keys that are read, and every bias, is a real number. -/
structure Reals (q k : A) (b : B) : Prop where
  real_q : ∀ (i : Fin 8192) (e : Fin 512), q (ix2 ⟨i.val, by omega⟩ e) = ((q (ix2 ⟨i.val, by omega⟩ e)).toReal : EReal)
  real_k : ∀ (i : Fin 8192) (e : Fin 512), k (ix2 ⟨i.val, by omega⟩ e) = ((k (ix2 ⟨i.val, by omega⟩ e)).toReal : EReal)
  real_b : ∀ i : S32x4.Idx, b i = ((b i).toReal : EReal)

/-- A product of two real entries and the named scale is real. -/
theorem coe_term (x y : EReal) (hx : x = (x.toReal : EReal)) (hy : y = (y.toReal : EReal)) (c : ℝ) :
    x * (y * (c : EReal)) = ((x.toReal * (y.toReal * c) : ℝ) : EReal) := by
  rw [EReal.coe_mul, EReal.coe_mul, ← hx, ← hy]

/-- A sum over 128 lanes of products whose second factor vanishes in the second half. -/
theorem half_first (f g : Fin 128 → EReal) (hg : ∀ d : Fin 64, g ⟨64 + d.val, by omega⟩ = 0) :
    ∑ d : Fin 128, f d * g d = ∑ d : Fin 64, f ⟨d.val, by omega⟩ * g ⟨d.val, by omega⟩ := by
  refine (Fin.sum_univ_add (a := 64) (b := 64) fun d => f d * g d).trans ?_
  have hz : ∑ d : Fin 64, f ⟨64 + d.val, by omega⟩ * g ⟨64 + d.val, by omega⟩ = 0 :=
    Finset.sum_eq_zero fun d _ => by rw [hg d, mul_zero]
  exact (congrArg _ hz).trans (add_zero _)

/-- The same when it vanishes in the first half. -/
theorem half_second (f g : Fin 128 → EReal) (hg : ∀ d : Fin 64, g ⟨d.val, by omega⟩ = 0) :
    ∑ d : Fin 128, f d * g d = ∑ d : Fin 64, f ⟨64 + d.val, by omega⟩ * g ⟨64 + d.val, by omega⟩ := by
  refine (Fin.sum_univ_add (a := 64) (b := 64) fun d => f d * g d).trans ?_
  have hz : ∑ d : Fin 64, f ⟨d.val, by omega⟩ * g ⟨d.val, by omega⟩ = 0 :=
    Finset.sum_eq_zero fun d _ => by rw [hg d, mul_zero]
  exact (congrArg (· + _) hz).trans (zero_add _)

/-- A score written with extended reals is the real score. -/
theorem score_coe (q k : A) (b : B) (hR : Reals q k b) (x : Fin 2) (i n : Fin 8192) (h : Fin 4) :
    (∑ d : Fin 64, k (ix2 ⟨n.val, by omega⟩ ⟨128 * h.val + (64 * x.val + d.val), by omega⟩)
        * (q (ix2 ⟨i.val, by omega⟩ ⟨128 * h.val + (64 * x.val + d.val), by omega⟩) * (((Real.sqrt 64)⁻¹ * (Real.log 2)⁻¹ : ℝ) : EReal)))
      + near b h ((n.val : ℤ) - i.val) * (((Real.log 2)⁻¹ : ℝ) : EReal) = (score q k b x i h n.val : EReal) := by
  rw [score, dif_pos n.isLt, EReal.coe_add, Softmax.coe_sum]
  have hb : near b h ((n.val : ℤ) - i.val) = ((near b h ((n.val : ℤ) - i.val)).toReal : EReal) := hR.real_b _
  refine congrArg₂ (· + ·) (Finset.sum_congr rfl fun d _ => ?_) ?_
  · exact coe_term _ _ (hR.real_k n _) (hR.real_q i _) _
  · rw [EReal.coe_mul, ← hb]

/-- The entry of the table a trip reads is the bias at the distance between its key row and query row: past the table's
    ends the distances all share a bias. -/
theorem near_clip (b : B) (h : Fin 4) (i : Fin 4) (k : Fin 8) (r : Fin 1024) (j : Fin 2048) :
    near b h (((tabRow i k ⟨j.val / 128, by omega⟩ + r.val : ℕ) : ℤ) - 2048 - ((j.val % 128 : ℕ) : ℤ))
      = near b h (((1024 * k.val + r.val : ℕ) : ℤ) - ((2048 * i.val + j.val : ℕ) : ℤ)) := by
  have e := Bucket.row_clip (1024 * (k.val : ℤ) - 2048 * (i.val : ℤ) - 128 * ((j.val / 128 : ℕ) : ℤ)) (by omega) (by omega) (by omega)
    r.val (j.val % 128) r.isLt (by omega)
  unfold near
  have e1 : (((tabRow i k ⟨j.val / 128, by omega⟩ + r.val : ℕ) : ℤ) - 2048 - ((j.val % 128 : ℕ) : ℤ))
      = min 1152 (max (-2048) (1024 * (k.val : ℤ) - 2048 * (i.val : ℤ) - 128 * ((j.val / 128 : ℕ) : ℤ))) + (r.val : ℤ) - ((j.val % 128 : ℕ) : ℤ) := by
    show (((min 1152 (max (-2048) (1024 * (k.val : ℤ) - 2048 * (i.val : ℤ) - 128 * ((j.val / 128 : ℕ) : ℤ))) + 2048).toNat + r.val : ℕ) : ℤ) - 2048 - ((j.val % 128 : ℕ) : ℤ) = _
    omega
  have e2 : (((1024 * k.val + r.val : ℕ) : ℤ) - ((2048 * i.val + j.val : ℕ) : ℤ))
      = (1024 * (k.val : ℤ) - 2048 * (i.val : ℤ) - 128 * ((j.val / 128 : ℕ) : ℤ)) + (r.val : ℤ) - ((j.val % 128 : ℕ) : ℤ) := by omega
  rw [e1, e2, e]

variable (m : (ℓ : Loc nD τ sig) → Buf (Elt Ideal) ℓ) (c : Dev nD)

theorem lt16 (t : Fin cfg0.N) : t.val < 16 := t.isLt

theorem query (t : Fin cfg0.N) : (grid0.coords t 2).val = t.val % 4 :=
  (by decide +kernel : ∀ t : Fin grid0.N, (grid0.coords t 2).val = t.val % 4) t

theorem index0 : ∀ t : Fin cfg0.N, win0_0.index t = ![0] := (by decide +kernel : ∀ t : Fin grid0.N, win0_0.index t = ![0])
theorem index1 : ∀ t : Fin cfg0.N, win0_1.index t = ![t.val % 4, t.val / 4] :=
  (by decide +kernel : ∀ t : Fin grid0.N, win0_1.index t = ![t.val % 4, t.val / 4])
theorem index2 : ∀ t : Fin cfg0.N, win0_2.index t = ![0, t.val / 4] :=
  (by decide +kernel : ∀ t : Fin grid0.N, win0_2.index t = ![0, t.val / 4])
theorem index3 : ∀ t : Fin cfg0.N, win0_3.index t = ![0, t.val / 4] :=
  (by decide +kernel : ∀ t : Fin grid0.N, win0_3.index t = ![0, t.val / 4])
theorem index4 : ∀ t : Fin cfg0.N, win0_4.index t = ![t.val / 4, 0, 0] :=
  (by decide +kernel : ∀ t : Fin grid0.N, win0_4.index t = ![t.val / 4, 0, 0])
theorem index5 : ∀ t : Fin cfg0.N, win0_5.index t = ![0, 0] := (by decide +kernel : ∀ t : Fin grid0.N, win0_5.index t = ![0, 0])
theorem index6 : ∀ t : Fin cfg0.N, win0_6.index t = ![t.val % 4, t.val / 4] :=
  (by decide +kernel : ∀ t : Fin grid0.N, win0_6.index t = ![t.val % 4, t.val / 4])

/-! A point's blocks of any arrays, at an index. -/

theorem read0 (a : S1.Idx → EReal) (t : Fin cfg0.N) (y : S1.Idx) :
    (((cfg0.win 0).blk t).view.read (Elt Ideal) a : S1.Idx → EReal) y = a (ix1 0) := by
  obtain rfl : y = ix1 0 := funext fun i => by
    fin_cases i
    exact Fin.ext (by have : (y 0).val < 1 := (y 0).isLt; show (y 0).val = 0; omega)
  blk_ext [index0 t]

theorem read1 (a : A) (t : Fin cfg0.N) (j : Fin 2048) (d : Fin 128) :
    (((cfg0.win 1).blk t).view.read (Elt Ideal) a : S2048x128.Idx → EReal) (ix2 j d)
      = a (ix2 ⟨2048 * (t.val % 4) + j.val, by omega⟩ ⟨128 * (t.val / 4) + d.val, by have := lt16 t; omega⟩) := by
  blk_ext [index1 t]

theorem read2 (a : A) (t : Fin cfg0.N) (j : Fin 8192) (d : Fin 128) :
    (((cfg0.win 2).blk t).view.read (Elt Ideal) a : S8192x128.Idx → EReal) (ix2 j d)
      = a (ix2 ⟨j.val, by omega⟩ ⟨128 * (t.val / 4) + d.val, by have := lt16 t; omega⟩) := by
  blk_ext [index2 t]

theorem read3 (a : A) (t : Fin cfg0.N) (j : Fin 8192) (d : Fin 128) :
    (((cfg0.win 3).blk t).view.read (Elt Ideal) a : S8192x128.Idx → EReal) (ix2 j d)
      = a (ix2 ⟨j.val, by omega⟩ ⟨128 * (t.val / 4) + d.val, by have := lt16 t; omega⟩) := by
  blk_ext [index3 t]

theorem read4 (a : S4x4224x128.Idx → EReal) (t : Fin cfg0.N) (r : Fin 4224) (l : Fin 128) :
    (((cfg0.win 4).blk t).view.read (Elt Ideal) a : S1x4224x128.Idx → EReal) (ix3 0 r l)
      = a (ix3 ⟨t.val / 4, by have := lt16 t; omega⟩ r l) := by
  blk_ext [index4 t]

theorem read5 (a : S128x1.Idx → EReal) (t : Fin cfg0.N) (d : Fin 128) :
    (((cfg0.win 5).blk t).view.read (Elt Ideal) a : S128x1.Idx → EReal) (ix2 d 0) = a (ix2 d 0) := by
  blk_ext [index5 t]

/-- The multiplier of the second softmax. -/
theorem blk0_at (t : Fin cfg0.N) (y : S1.Idx) : (blk m c 0 t : S1.Idx → EReal) y = (m ((c : Thread nD τ).loc main_arg4) : S1.Idx → EReal) (ix1 0) :=
  (read0 _ t y).trans (congrFun (entry4 m c) _)

/-- The query rows of a point. -/
theorem blk1_at (t : Fin cfg0.N) (j : Fin 2048) (d : Fin 128) : (blk m c 1 t : S2048x128.Idx → EReal) (ix2 j d)
    = (m ((c : Thread nD τ).loc main_arg0) : A) (ix2 ⟨2048 * (t.val % 4) + j.val, by omega⟩ ⟨128 * (t.val / 4) + d.val, by have := lt16 t; omega⟩) :=
  (read1 _ t j d).trans (congrFun (entry0 m c) _)

/-- The key rows of a point. -/
theorem blk2_at (t : Fin cfg0.N) (j : Fin 8192) (d : Fin 128) : (blk m c 2 t : S8192x128.Idx → EReal) (ix2 j d)
    = (m ((c : Thread nD τ).loc main_arg1) : A) (ix2 ⟨j.val, by omega⟩ ⟨128 * (t.val / 4) + d.val, by have := lt16 t; omega⟩) :=
  (read2 _ t j d).trans (congrFun (entry1 m c) _)

/-- The value rows of a point. -/
theorem blk3_at (t : Fin cfg0.N) (j : Fin 8192) (d : Fin 128) : (blk m c 3 t : S8192x128.Idx → EReal) (ix2 j d)
    = (m ((c : Thread nD τ).loc main_arg2) : A) (ix2 ⟨j.val, by omega⟩ ⟨128 * (t.val / 4) + d.val, by have := lt16 t; omega⟩) :=
  (read3 _ t j d).trans (congrFun (entry2 m c) _)

/-- The table of a point's head. -/
theorem blk4_at (t : Fin cfg0.N) (r : Fin 4224) (l : Fin 128) : (blk m c 4 t : S1x4224x128.Idx → EReal) (ix3 0 r l)
    = near (m ((c : Thread nD τ).loc main_arg3)) ⟨t.val / 4, by have := lt16 t; omega⟩ ((r.val : ℤ) - 2048 - l.val) :=
  (read4 _ t r l).trans ((congrFun (table_eq m c) _).trans (table_at _ _ r l))

/-- A vector as a column. -/
theorem gain_at (x : FVec Ideal S128 .f32) (d : Fin 128) : (shapeCast S128x1 x shapeCasts_S128_S128x1 : FVec Ideal S128x1 .f32) (ix2 d 0) = x (ix1 d) := by
  pointwise

/-- The gains. -/
theorem blk5_at (t : Fin cfg0.N) (d : Fin 128) : (blk m c 5 t : S128x1.Idx → EReal) (ix2 d 0) = (m ((c : Thread nD τ).loc main_arg5) : S128.Idx → EReal) (ix1 d) :=
  (read5 _ t d).trans ((congrFun (gain_eq m c) _).trans (gain_at _ d))

/-- The bias of a trip at a point. -/
theorem bias_blk (t : Fin cfg0.N) (k : Fin k0_t1_loop.trips) (r : Fin 1024) (j : Fin 2048) :
    bias (grid0.coords t) k (blk m c 4 t) (ix2 r j)
      = near (m ((c : Thread nD τ).loc main_arg3)) ⟨t.val / 4, by have := lt16 t; omega⟩ (((1024 * k.val + r.val : ℕ) : ℤ) - ((2048 * (t.val % 4) + j.val : ℕ) : ℤ))
        * (((Real.log 2)⁻¹ : ℝ) : EReal) := by
  refine (bias_at (grid0.coords t) k (blk m c 4 t) r j).trans (congrArg (· * (((Real.log 2)⁻¹ : ℝ) : EReal)) ?_)
  refine (blk4_at m c t _ _).trans ?_
  refine (near_clip _ _ (grid0.coords t 2) ⟨k.val, k.isLt⟩ r j).trans ?_
  rw [query]

variable (hR : Reals (m ((c : Thread nD τ).loc main_arg0)) (m ((c : Thread nD τ).loc main_arg1)) (m ((c : Thread nD τ).loc main_arg3)))
include hR

/-- A trip's scores of the first half. -/
theorem first_scores (t : Fin cfg0.N) (k : Fin k0_t1_loop.trips) (r : Fin 1024) (j : Fin 2048) :
    w₁ (grid0.coords t) k (k0_pay30 (blk m c 1 t)) lane (blk m c 2 t) (blk m c 4 t) (ix2 r j)
      = (score (m ((c : Thread nD τ).loc main_arg0)) (m ((c : Thread nD τ).loc main_arg1)) (m ((c : Thread nD τ).loc main_arg3)) 0
          ⟨2048 * (t.val % 4) + j.val, by omega⟩ ⟨t.val / 4, by have := lt16 t; omega⟩ (1024 * k.val + r.val) : EReal) := by
  have hk : k.val < 8 := k.isLt
  refine (scores_at _ _ _ r j).trans ?_
  rw [half_first _ _ fun d => by rw [first_at, if_neg (by show ¬ 64 + d.val < 64; omega)], bias_blk]
  refine Eq.trans ?_ (score_coe _ _ _ hR 0 ⟨2048 * (t.val % 4) + j.val, by omega⟩ ⟨1024 * k.val + r.val, by omega⟩ ⟨t.val / 4, by have := lt16 t; omega⟩)
  refine congrArg (· + _) (Finset.sum_congr rfl fun d _ => ?_)
  rw [first_at, if_pos d.isLt, rows_at k (blk m c 2 t) r ⟨d.val, by omega⟩ (by omega), blk2_at, blk1_at]
  have e : ∀ h, (⟨128 * (t.val / 4) + d.val, h⟩ : Fin 512) = ⟨128 * (t.val / 4) + (64 * (0 : Fin 2).val + d.val), by have := lt16 t; show _ + (64 * 0 + _) < _; omega⟩ := fun h =>
    Fin.ext (by show 128 * (t.val / 4) + d.val = 128 * (t.val / 4) + (64 * 0 + d.val); omega)
  simp only [e]

/-- A trip's scores of the second half. -/
theorem second_scores (t : Fin cfg0.N) (k : Fin k0_t1_loop.trips) (r : Fin 1024) (j : Fin 2048) :
    w₂ (grid0.coords t) k (k0_pay30 (blk m c 1 t)) lane (blk m c 2 t) (blk m c 4 t) (ix2 r j)
      = (score (m ((c : Thread nD τ).loc main_arg0)) (m ((c : Thread nD τ).loc main_arg1)) (m ((c : Thread nD τ).loc main_arg3)) 1
          ⟨2048 * (t.val % 4) + j.val, by omega⟩ ⟨t.val / 4, by have := lt16 t; omega⟩ (1024 * k.val + r.val) : EReal) := by
  have hk : k.val < 8 := k.isLt
  refine (scores_at _ _ _ r j).trans ?_
  rw [half_second _ _ fun d => by rw [second_at, if_neg (by show ¬ 64 ≤ d.val; omega)], bias_blk]
  refine Eq.trans ?_ (score_coe _ _ _ hR 1 ⟨2048 * (t.val % 4) + j.val, by omega⟩ ⟨1024 * k.val + r.val, by omega⟩ ⟨t.val / 4, by have := lt16 t; omega⟩)
  refine congrArg (· + _) (Finset.sum_congr rfl fun d _ => ?_)
  rw [second_at, if_pos (by show 64 ≤ 64 + d.val; omega), rows_at k (blk m c 2 t) r ⟨64 + d.val, by omega⟩ (by omega), blk2_at, blk1_at]
  have e : ∀ h, (⟨128 * (t.val / 4) + (64 + d.val), h⟩ : Fin 512) = ⟨128 * (t.val / 4) + (64 * (1 : Fin 2).val + d.val), by have := lt16 t; show _ + (64 * 1 + _) < _; omega⟩ := fun h =>
    Fin.ext (by show 128 * (t.val / 4) + (64 + d.val) = 128 * (t.val / 4) + (64 * 1 + d.val); omega)
  simp only [e]

/-- What a point writes, at an index of its block. -/
theorem point_at (t : Fin cfg0.N) (j : Fin 2048) (d : Fin 128) :
    (made m c t : Vec Ideal S2048x128 .bf16) (ix2 j d)
      = att (m ((c : Thread nD τ).loc main_arg0)) (m ((c : Thread nD τ).loc main_arg1)) (m ((c : Thread nD τ).loc main_arg2)) (m ((c : Thread nD τ).loc main_arg3))
          ((m ((c : Thread nD τ).loc main_arg4) : S1.Idx → EReal) (ix1 0)) (m ((c : Thread nD τ).loc main_arg5))
          ⟨2048 * (t.val % 4) + j.val, by omega⟩ ⟨t.val / 4, by have := lt16 t; omega⟩ d := by
  have h16 := lt16 t
  have ht : k0_t1_loop.trips = 8 := by decide
  have hs := state_at (grid0.coords t) (k0_pay30 (blk m c 1 t)) lane (blk m c 2 t) (blk m c 3 t) (blk m c 4 t)
    (fun j => score (m ((c : Thread nD τ).loc main_arg0)) (m ((c : Thread nD τ).loc main_arg1)) (m ((c : Thread nD τ).loc main_arg3)) 0 ⟨2048 * (t.val % 4) + j.val, by omega⟩ ⟨t.val / 4, by omega⟩)
    (fun j => score (m ((c : Thread nD τ).loc main_arg0)) (m ((c : Thread nD τ).loc main_arg1)) (m ((c : Thread nD τ).loc main_arg3)) 1 ⟨2048 * (t.val % 4) + j.val, by omega⟩ ⟨t.val / 4, by omega⟩)
    (val (m ((c : Thread nD τ).loc main_arg2)) ⟨t.val / 4, by omega⟩)
    (first_scores m c hR t) (second_scores m c hR t)
    (fun d i => by rw [blk3_at, val, dif_pos i.isLt]) 8 le_rfl j
  unfold made point
  rw [ht]
  refine (last_at _ _ _ _ _ _ j d).trans ?_
  rw [blk5_at, att]
  refine congrArg (normed · _ d) (funext fun x => ?_)
  unfold mix gap
  rw [hs.a₁ x, hs.l₁, hs.a₂ x, hs.l₂, blk0_at]

/-- The whole array after the run. -/
theorem array :
    ((dats m 0 c).arrAt 6 cfg0.N : S8192x512.Idx → EReal)
      = fun i => att (m ((c : Thread nD τ).loc main_arg0)) (m ((c : Thread nD τ).loc main_arg1)) (m ((c : Thread nD τ).loc main_arg2)) (m ((c : Thread nD τ).loc main_arg3))
          ((m ((c : Thread nD τ).loc main_arg4) : S1.Idx → EReal) (ix1 0)) (m ((c : Thread nD τ).loc main_arg5))
          (i 0) ⟨(i 1).val / 128, by have : (i 1).val < 512 := (i 1).isLt; omega⟩ ⟨(i 1).val % 128, by omega⟩ := by
  refine (dats m 0 c).arrAt_eq_of_covers 6 _ (by decide +kernel) fun t hf y => ?_
  blk_simp
  rw [after6]
  have h16 := lt16 t
  have h0 : (y 0).val < 2048 := (y 0).isLt
  have h1 : (y 1).val < 128 := (y 1).isLt
  have hy : y = (ix2 (⟨(y 0).val, h0⟩ : Fin 2048) (⟨(y 1).val, h1⟩ : Fin 128) : S2048x128.Idx) := by
    funext a; fin_cases a <;> rfl
  refine (congrArg _ hy).trans ((point_at m c hR t _ _).trans ?_)
  have e0 := congrFun (index6 t) 0
  have e1 := congrFun (index6 t) 1
  simp only [Matrix.cons_val_zero, Matrix.cons_val_one] at e0 e1
  congr 1
  · apply Fin.ext
    show 2048 * (t.val % 4) + (y 0).val = _
    blk_simp
    rw [e0]; omega
  · apply Fin.ext
    show t.val / 4 = (win0_6.index t 1 * 128 + (y 1).val) / 128
    rw [e1]; omega
  · apply Fin.ext
    show (y 1).val = (win0_6.index t 1 * 128 + (y 1).val) % 128
    rw [e1]; omega

end Cert.Proof.Diff

end
-- ==== Proof.DiffRef.lean ====
/-
  The differential attention's reference, read at an index at `Ideal`: for each half of a head the scores with their
  biases, the softmax along the keys and the average of the values; the difference; the norm.  Where the precondition
  holds it is the kernel's value.
-/
module

public import proofs.«01_k».proof.Proof.Softmax
public import proofs.«01_k».proof.Proof.DiffArr
public import proofs.«01_k».proof.Proof.Gen.DiffReferenceIdeal.Run
public import Idealize.ShloMosaic.Lib.Pointwise

@[expose] public section

set_option maxRecDepth 16384

noncomputable section

open Idealize.ShloMosaic Idealize.ShloMosaic.TcCoe Idealize.SL.Sem
open Idealize.ShloMosaic.Pointwise
open Cert.DiffReferenceIdeal Cert.DiffReferenceIdeal.Gen Cert.DiffReferenceIdeal.Value

namespace Cert.Proof.DiffRef

/-- The rows that are read, a head's two halves apart. -/
def parts (q : FVec Ideal S40960x512 .bf16) : FVec Ideal S8192x4x2x64 .f32 :=
  shapeCast S8192x4x2x64 (extf .f32 (extractStridedSlice S8192x512 ![0, 0] q slices_S40960x512_S8192x512_0_0 : FVec Ideal S8192x512 .bf16) bitsLt_bf16_f32 : FVec Ideal S8192x512 .f32) shapeCasts_S8192x512_S8192x4x2x64

/-- The first halves. -/
def half0 (q : FVec Ideal S40960x512 .bf16) : FVec Ideal S8192x4x64 .f32 :=
  shapeCast S8192x4x64 (extractStridedSlice S8192x4x1x64 ![0, 0, 0, 0] (parts q) slices_S8192x4x2x64_S8192x4x1x64_0_0_0_0) shapeCasts_S8192x4x1x64_S8192x4x64

/-- The second halves. -/
def half1 (q : FVec Ideal S40960x512 .bf16) : FVec Ideal S8192x4x64 .f32 :=
  shapeCast S8192x4x64 (extractStridedSlice S8192x4x1x64 ![0, 0, 1, 0] (parts q) slices_S8192x4x2x64_S8192x4x1x64_0_0_1_0) shapeCasts_S8192x4x1x64_S8192x4x64

/-- Key position less query position. -/
def distance : IVec S8192x8192 32 :=
  subi (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0)))

/-- The biases of all pairs, by pair. -/
def pairs (b : FVec Ideal S32x4 .f32) (x : IVec S8192x8192 32) : FVec Ideal S8192x8192x4 .f32 :=
  Host.gather gather_S32x4_S8192x8192x1_S8192x8192x4_2_0_n_n_0_2_14 b (broadcastInDim S8192x8192x1 ![0, 1] bcast_S8192x8192_S8192x8192x1_0_1 x)

/-- The biases, by head. -/
def biases (b : FVec Ideal S32x4 .f32) : FVec Ideal S4x8192x8192 .f32 :=
  transpose S4x8192x8192 [2, 0, 1] (pairs b (Bucket.starts bcast_S_S8192x8192 distance)) transposes_S8192x8192x4_S4x8192x8192_2_0_1

/-- The scaled scores with their biases. -/
def scores (q k : FVec Ideal S8192x4x64 .f32) (b : FVec Ideal S4x8192x8192 .f32) : FVec Ideal S4x8192x8192 .f32 :=
  addf (Host.divf (Host.dotGeneral dot_S8192x4x64_S8192x4x64_S4x8192x8192_2_2_0_0_1_1 none q k)
    (broadcastInDim S4x8192x8192 ![] bcast_S_S4x8192x8192 (Host.sqrt (constant S_ .f32 0x42800000#32)))) b

/-- The weights before they are divided by their sum. -/
def weights (s : FVec Ideal S4x8192x8192 .f32) (M : FVec Ideal S4x8192 .f32) : FVec Ideal S4x8192x8192 .f32 :=
  Host.exp (subf s (broadcastInDim S4x8192x8192 ![0, 1, 2] bcast_S4x8192x1_S4x8192x8192_0_1_2
    (broadcastInDim S4x8192x1 ![0, 1] bcast_S4x8192_S4x8192x1_0_1 M)))

/-- The largest score of every row. -/
def tops (s : FVec Ideal S4x8192x8192 .f32) : FVec Ideal S4x8192 .f32 :=
  maximumf (broadcastInDim S4x8192 ![] bcast_S_S4x8192 (constant S_ .f32 0xFF800000#32))
    (Host.reduce FloatOps.maximumf s (constant S_ .f32 0xFF800000#32) reducesTo_S4x8192x8192_S4x8192_d2 h_S_)

/-- The weights divided by their sum. -/
def probs (w : FVec Ideal S4x8192x8192 .f32) : FVec Ideal S4x8192x8192 .f32 :=
  Host.divf w (broadcastInDim S4x8192x8192 ![0, 1, 2] bcast_S4x8192x1_S4x8192x8192_0_1_2
    (broadcastInDim S4x8192x1 ![0, 1] bcast_S4x8192_S4x8192x1_0_1
      (Host.reduceAdd w (constant S_ .f32 0x00000000#32) reducesTo_S4x8192x8192_S4x8192_d2 h_S_)))

/-- The average of the values. -/
def average (p : FVec Ideal S4x8192x8192 .f32) (v : FVec Ideal S40960x512 .bf16) : FVec Ideal S8192x4x128 .f32 :=
  transpose S8192x4x128 [2, 0, 1] (Host.dotGeneral dot_S8192x4x128_S4x8192x8192_S4x128x8192_0_2_2_1_1_0 none
    (shapeCast S8192x4x128 (extf .f32 (extractStridedSlice S8192x512 ![0, 0] v slices_S40960x512_S8192x512_0_0 : FVec Ideal S8192x512 .bf16) bitsLt_bf16_f32 : FVec Ideal S8192x512 .f32) shapeCasts_S8192x512_S8192x4x128) p)
    transposes_S4x128x8192_S8192x4x128_2_0_1

/-- The softmax average under given scores. -/
def attend (s : FVec Ideal S4x8192x8192 .f32) (v : FVec Ideal S40960x512 .bf16) : FVec Ideal S8192x4x128 .f32 :=
  average (probs (weights s (tops s))) v

/-- The first average less a multiple of the second. -/
def gaps (x : FVec Ideal S8192x4x128 .f32) (lam : FVec Ideal S1 .f32) (y : FVec Ideal S8192x4x128 .f32) : FVec Ideal S8192x4x128 .f32 :=
  subf x (mulf (broadcastInDim S8192x4x128 ![0, 1, 2] bcast_S1x1x1_S8192x4x128_0_1_2 (broadcastInDim S1x1x1 ![2] bcast_S1_S1x1x1_2 lam)) y)

/-- The norm, the gains and the output factor. -/
def finish (o : FVec Ideal S8192x4x128 .f32) (g : FVec Ideal S128 .f32) : FVec Ideal S8192x512 .bf16 :=
  truncf .bf16 (shapeCast S8192x512 (mulf (mulf (mulf o (broadcastInDim S8192x4x128 ![0, 1, 2] bcast_S8192x4x1_S8192x4x128_0_1_2
    (Host.rsqrt (addf (Host.divf (broadcastInDim S8192x4x1 ![0, 1] bcast_S8192x4_S8192x4x1_0_1 (Host.reduceAdd (mulf o o) (constant S_ .f32 0x00000000#32) reducesTo_S8192x4x128_S8192x4_d2 h_S_))
      (broadcastInDim S8192x4x1 ![] bcast_S_S8192x4x1 (constant S_ .f32 0x43000000#32))) (broadcastInDim S8192x4x1 ![] bcast_S_S8192x4x1 (constant S_ .f32 0x358637BD#32))))))
    (broadcastInDim S8192x4x128 ![0, 1, 2] bcast_S1x1x128_S8192x4x128_0_1_2 (broadcastInDim S1x1x128 ![2] bcast_S128_S1x1x128_2 g)))
    (broadcastInDim S8192x4x128 ![] bcast_S_S8192x4x128 (constant S_ .f32 0x3F4CCCCD#32)) : FVec Ideal S8192x4x128 .f32) shapeCasts_S8192x4x128_S8192x512 : FVec Ideal S8192x512 .f32) bitsLt_bf16_f32

/-- The whole reference. -/
def whole (q k v : FVec Ideal S40960x512 .bf16) (b : FVec Ideal S32x4 .f32) (lam : FVec Ideal S1 .f32) (g : FVec Ideal S128 .f32) : FVec Ideal S8192x512 .bf16 :=
  finish (gaps (attend (scores (half0 q) (half0 k) (biases b)) v) lam (attend (scores (half1 q) (half1 k) (biases b)) v)) g

/-- The differences the reference computes are these stages composed. -/
theorem gaps_eq (V : Valuation τ sig (Elt Ideal)) :
    res_main_v94 V = gaps (attend (scores (half0 (V (Proc.devRef .tc main_arg0))) (half0 (V (Proc.devRef .tc main_arg1))) (biases (V (Proc.devRef .tc main_arg3)))) (V (Proc.devRef .tc main_arg2)))
      (V (Proc.devRef .tc main_arg4)) (attend (scores (half1 (V (Proc.devRef .tc main_arg0))) (half1 (V (Proc.devRef .tc main_arg1))) (biases (V (Proc.devRef .tc main_arg3)))) (V (Proc.devRef .tc main_arg2))) := rfl

/-- The pattern of 64. -/
theorem ofBits_64 : Ideal.ofBits FTy.f32 0x42800000#32 = ((64 : ℝ) : EReal) := by
  simp [Ideal.ofBits, Ideal.ieee, -EReal.coe_mul]; norm_num

/-- A pair's distance. -/
theorem distance_at (i n : Fin 8192) : distance (ix2 i n) = BitVec.ofInt 32 ((n.val : ℤ) - i.val) := by
  rw [← Bucket.word_diff]
  pointwise [distance]
  rfl

/-- A pair's bias, by pair. -/
theorem pairs_at (b : FVec Ideal S32x4 .f32) (x : IVec S8192x8192 32) (i n : Fin 8192) (h : Fin 4) :
    pairs b x (ix3 i n h) = Diff.entry b (x (ix2 i n)) h := by
  have hx : broadcastInDim S8192x8192x1 ![0, 1] bcast_S8192x8192_S8192x8192x1_0_1 x (ix3 i n 0) = x (ix2 i n) := by pointwise
  rw [← hx]
  unfold pairs
  generalize broadcastInDim S8192x8192x1 ![0, 1] bcast_S8192x8192_S8192x8192x1_0_1 x = y
  refine congrArg b (funext fun a => Fin.ext ?_)
  have ha : a = 0 ∨ a = 1 := by
    match a with
    | ⟨0, _⟩ => exact Or.inl rfl
    | ⟨1, _⟩ => exact Or.inr rfl
  show GatherDims.start gather_S32x4_S8192x8192x1_S8192x8192x4_2_0_n_n_0_2_14 (ix3 i n h) y a
    + GatherDims.batchCoord gather_S32x4_S8192x8192x1_S8192x8192x4_2_0_n_n_0_2_14 (ix3 i n h) a
    + GatherDims.offCoord gather_S32x4_S8192x8192x1_S8192x8192x4_2_0_n_n_0_2_14 (ix3 i n h) a = _
  rw [GatherDims.batchCoord_eq_zero _ _ _ List.not_mem_nil, Nat.add_zero]
  rcases ha with rfl | rfl
  · rw [GatherDims.offCoord_eq_zero _ _ _ (fun e => ((GatherDims.mem_sKept _ _).mp e).1 (List.mem_singleton.mpr rfl)), Nat.add_zero]
    unfold GatherDims.start
    rw [dif_pos (show (0 : Fin 2) ∈ gather_S32x4_S8192x8192x1_S8192x8192x4_2_0_n_n_0_2_14.startIndexMap from List.mem_singleton.mpr rfl)]
    have e : gather_S32x4_S8192x8192x1_S8192x8192x4_2_0_n_n_0_2_14.siIdx (ix3 i n h) ⟨List.idxOf (0 : Fin 2) gather_S32x4_S8192x8192x1_S8192x8192x4_2_0_n_n_0_2_14.startIndexMap,
        List.idxOf_lt_length_iff.2 (List.mem_singleton.mpr rfl)⟩ = ix3 i n 0 := by
      funext z; refine Fin.ext ?_
      match z with
      | ⟨0, _⟩ => rfl
      | ⟨1, _⟩ => rfl
      | ⟨2, _⟩ => rfl
    rw [e]
    rfl
  · unfold GatherDims.start
    rw [dif_neg (show (1 : Fin 2) ∉ gather_S32x4_S8192x8192x1_S8192x8192x4_2_0_n_n_0_2_14.startIndexMap from by decide), Nat.zero_add]
    rfl

/-- Pairs laid out by head. -/
theorem turned_at (p : FVec Ideal S8192x8192x4 .f32) (a : Fin 4) (i n : Fin 8192) :
    (transpose S4x8192x8192 [2, 0, 1] p transposes_S8192x8192x4_S4x8192x8192_2_0_1 : FVec Ideal S4x8192x8192 .f32) (ix3 a i n) = p (ix3 i n a) := by
  pointwise

/-- A pair's bias: that of its distance. -/
theorem biases_at (b : FVec Ideal S32x4 .f32) (a : Fin 4) (i n : Fin 8192) : biases b (ix3 a i n) = Diff.near b a ((n.val : ℤ) - i.val) := by
  unfold biases
  rw [turned_at, pairs_at, Bucket.starts_at, distance_at]
  rfl

/-- An entry of a first half. -/
theorem half0_at (q : FVec Ideal S40960x512 .bf16) (i : Fin 8192) (a : Fin 4) (d : Fin 64) :
    half0 q (ix3 i a d) = q (ix2 ⟨i.val, by omega⟩ ⟨128 * a.val + (64 * (0 : Fin 2).val + d.val), by show _ + (64 * 0 + _) < _; omega⟩) := by
  pointwise [half0, parts]
  exact congrArg (fun z : Fin 512 => q (ix2 _ z)) (Fin.ext (by show a.val * 128 + d.val = 128 * a.val + d.val; omega))

/-- An entry of a second half. -/
theorem half1_at (q : FVec Ideal S40960x512 .bf16) (i : Fin 8192) (a : Fin 4) (d : Fin 64) :
    half1 q (ix3 i a d) = q (ix2 ⟨i.val, by omega⟩ ⟨128 * a.val + (64 * (1 : Fin 2).val + d.val), by show _ + (64 * 1 + _) < _; omega⟩) := by
  pointwise [half1, parts]
  exact congrArg (fun z : Fin 512 => q (ix2 _ z)) (Fin.ext (by show a.val * 128 + 64 + d.val = 128 * a.val + (64 * 1 + d.val); omega))

/-- A score of the reference: the query row times the key row, over the root of 64, and the bias. -/
theorem scores_at (q k : FVec Ideal S8192x4x64 .f32) (b : FVec Ideal S4x8192x8192 .f32) (a : Fin 4) (i n : Fin 8192) :
    scores q k b (ix3 a i n)
      = Ideal.div (∑ x : Fin 64, q (ix3 i a x) * k (ix3 n a x)) (Ideal.sqrt ((64 : ℝ) : EReal)) + b (ix3 a i n) := by
  pointwise [scores]
  rw [← ofBits_64]

/-- A weight: the exponential of the score less the row's number. -/
theorem weights_at (s : FVec Ideal S4x8192x8192 .f32) (M : FVec Ideal S4x8192 .f32) (a : Fin 4) (i n : Fin 8192) :
    weights s M (ix3 a i n) = Ideal.exp (s (ix3 a i n) - M (ix2 a i)) := by
  pointwise [weights]

/-- The maximum along the keys is a fold of the maximum. -/
theorem max_row (s : FVec Ideal S4x8192x8192 .f32) (z : FVec Ideal S_ .f32) (h : S4x8192x8192.ReducesTo [2] S4x8192) (hS : 0 < S_.numel)
    (a : Fin 4) (i : Fin 8192) :
    Host.reduce (FloatOps.maximumf (F := Ideal) (φ := .f32)) s z h hS (ix2 a i)
      = (Finset.univ : Finset (Fin 8192)).fold max (z (Shape.Idx.first hS)) fun x => s (ix3 a i x) := by
  rw [Host.reduce_eq_fold, h.fold_fiber_r3_a2]
  rfl

/-- The larger of minus infinity and a maximum along the keys. -/
theorem max_both (z w : FVec Ideal S4x8192 .f32) (j : S4x8192.Idx) (f : EReal)
    (hz : z j = ⊥) (hw : w j = f) : (maximumf z w : FVec Ideal S4x8192 .f32) j = f := by
  show max (z j) (w j) = f
  rw [hz, hw]
  exact max_eq_right bot_le

/-- The largest score of a row. -/
theorem tops_at (s : FVec Ideal S4x8192x8192 .f32) (a : Fin 4) (i : Fin 8192) :
    tops s (ix2 a i) = (Finset.univ : Finset (Fin 8192)).fold max ⊥ fun x => s (ix3 a i x) := by
  unfold tops
  refine max_both _ _ _ _ ?_ ?_
  · pointwise
    exact Attn.ofBits_neg_inf
  · have hz : (constant S_ .f32 0xFF800000#32 : FVec Ideal S_ .f32) (Shape.Idx.first h_S_) = ⊥ := Attn.ofBits_neg_inf
    rw [max_row, hz]

/-- A weight over its row's sum. -/
theorem probs_at (w : FVec Ideal S4x8192x8192 .f32) (a : Fin 4) (i n : Fin 8192) :
    probs w (ix3 a i n) = Ideal.div (w (ix3 a i n)) (∑ x : Fin 8192, w (ix3 a i x)) := by
  pointwise [probs]

/-- An average of value rows. -/
theorem average_at (p : FVec Ideal S4x8192x8192 .f32) (v : FVec Ideal S40960x512 .bf16) (i : Fin 8192) (a : Fin 4) (d : Fin 128) :
    average p v (ix3 i a d) = ∑ x : Fin 8192, v (ix2 ⟨x.val, by omega⟩ ⟨a.val * 128 + d.val, by omega⟩) * p (ix3 a i x) := by
  pointwise [average]

/-- A difference. -/
theorem gaps_at (x : FVec Ideal S8192x4x128 .f32) (lam : FVec Ideal S1 .f32) (y : FVec Ideal S8192x4x128 .f32) (i : Fin 8192) (a : Fin 4) (d : Fin 128) :
    gaps x lam y (ix3 i a d) = x (ix3 i a d) - lam (ix1 0) * y (ix3 i a d) := by
  pointwise [gaps]

/-- An entry of the result. -/
theorem finish_at (o : FVec Ideal S8192x4x128 .f32) (g : FVec Ideal S128 .f32) (i : Fin 8192) (a : Fin 4) (d : Fin 128) :
    finish o g (ix2 i ⟨a.val * 128 + d.val, by omega⟩) = Diff.normed (fun x => o (ix3 i a x)) (g (ix1 d)) d := by
  unfold Diff.normed
  pointwise [finish]

/-- The softmax average under scores that are real numbers is the quotient of the kernel's two sums. -/
theorem attend_at (w : FVec Ideal S4x8192x8192 .f32) (v : FVec Ideal S40960x512 .bf16) (s : ℕ → ℝ) (a : Fin 4) (i : Fin 8192) (d : Fin 128)
    (hS : ∀ x : Fin 8192, w (ix3 a i x) = ((s x.val * Real.log 2 : ℝ) : EReal)) :
    attend w v (ix3 i a d) = Ideal.div (Softmax.num s (Diff.val v a d) 8192) (Softmax.den s 8192) := by
  obtain ⟨M, hM⟩ : ∃ M : ℝ, tops w (ix2 a i) = (M : EReal) := by
    rw [tops_at]
    simp only [hS]
    rw [Attn.fold_max_eq_sup 8192 fun x => ((s x * Real.log 2 : ℝ) : EReal)]
    exact Softmax.top_real (fun x => s x * Real.log 2) 8192 (by norm_num)
  unfold attend
  rw [average_at, Softmax.num_div_den _ (fun x => s x * Real.log 2) _ 8192 (by norm_num) (fun _ _ => rfl) M,
    Finset.sum_range, Finset.sum_range]
  refine Finset.sum_congr rfl fun x _ => ?_
  rw [probs_at]
  simp only [weights_at, hS, hM]
  have ev : Diff.val v a d x.val = v (ix2 ⟨x.val, by omega⟩ ⟨a.val * 128 + d.val, by omega⟩) := by
    rw [Diff.val, dif_pos x.isLt]
    have e4 : (⟨128 * a.val + d.val, by omega⟩ : Fin 512) = ⟨a.val * 128 + d.val, by omega⟩ := Fin.ext (by
      show 128 * a.val + d.val = a.val * 128 + d.val; omega)
    rw [e4]
  rw [ev]

/-- Where the precondition holds a score is the kernel's, to the base `e`. -/
theorem score_at (q k : FVec Ideal S40960x512 .bf16) (b : FVec Ideal S32x4 .f32) (hR : Diff.Reals q k b) (y : Fin 2) (f g : FVec Ideal S8192x4x64 .f32) (a : Fin 4) (i n : Fin 8192)
    (hf : ∀ d : Fin 64, f (ix3 i a d) = q (ix2 ⟨i.val, by omega⟩ ⟨128 * a.val + (64 * y.val + d.val), by omega⟩))
    (hg : ∀ d : Fin 64, g (ix3 n a d) = k (ix2 ⟨n.val, by omega⟩ ⟨128 * a.val + (64 * y.val + d.val), by omega⟩)) :
    scores f g (biases b) (ix3 a i n) = ((Diff.score q k b y i a n.val * Real.log 2 : ℝ) : EReal) := by
  have h64 : (0 : ℝ) < Real.sqrt 64 := Real.sqrt_pos.mpr (by norm_num)
  have hl2 : Real.log 2 ≠ 0 := (Real.log_pos (by norm_num)).ne'
  rw [scores_at, Ideal.sqrt_coe, if_neg (by norm_num), Ideal.div_coe h64.ne', biases_at, Diff.score, dif_pos n.isLt]
  have e3 : (∑ d : Fin 64, f (ix3 i a d) * g (ix3 n a d))
      = ((∑ d : Fin 64, (k (ix2 ⟨n.val, by omega⟩ ⟨128 * a.val + (64 * y.val + d.val), by omega⟩)).toReal
          * (q (ix2 ⟨i.val, by omega⟩ ⟨128 * a.val + (64 * y.val + d.val), by omega⟩)).toReal : ℝ) : EReal) := by
    rw [Softmax.coe_sum]
    refine Finset.sum_congr rfl fun d _ => ?_
    rw [hf, hg, hR.real_q i, hR.real_k n, ← EReal.coe_mul, mul_comm]
    rfl
  have hb : Diff.near b a ((n.val : ℤ) - i.val) = ((Diff.near b a ((n.val : ℤ) - i.val)).toReal : EReal) := hR.real_b _
  rw [e3, hb, ← EReal.coe_mul, ← EReal.coe_add]
  congr 1
  rw [add_mul, Finset.sum_mul, Finset.sum_mul]
  refine congrArg₂ (· + ·) (Finset.sum_congr rfl fun d _ => ?_) ?_
  · field_simp
  · rw [EReal.toReal_coe]
    field_simp

/-- Where the precondition holds the reference's value is the kernel's. -/
theorem whole_at (q k v : FVec Ideal S40960x512 .bf16) (b : FVec Ideal S32x4 .f32) (lam : FVec Ideal S1 .f32) (g : FVec Ideal S128 .f32) (hR : Diff.Reals q k b)
    (i : Fin 8192) (a : Fin 4) (d : Fin 128) :
    whole q k v b lam g (ix2 i ⟨a.val * 128 + d.val, by omega⟩) = Diff.att q k v b (lam (ix1 0)) g i a d := by
  unfold whole
  rw [finish_at, Diff.att]
  refine congrArg (Diff.normed · _ d) (funext fun x => ?_)
  rw [gaps_at, attend_at _ v (Diff.score q k b 0 i a) a i x fun n => score_at q k b hR 0 _ _ a i n (half0_at q i a) (half0_at k n a),
    attend_at _ v (Diff.score q k b 1 i a) a i x fun n => score_at q k b hR 1 _ _ a i n (half1_at q i a) (half1_at k n a)]
  rfl

/-- The reference's array, where the precondition holds. -/
theorem whole_eq (q k v : FVec Ideal S40960x512 .bf16) (b : FVec Ideal S32x4 .f32) (lam : FVec Ideal S1 .f32) (g : FVec Ideal S128 .f32) (hR : Diff.Reals q k b) :
    (whole q k v b lam g : S8192x512.Idx → EReal)
      = fun i => Diff.att q k v b (lam (ix1 0)) g (i 0) ⟨(i 1).val / 128, by have : (i 1).val < 512 := (i 1).isLt; omega⟩ ⟨(i 1).val % 128, by omega⟩ := by
  funext i
  have h1 : (i 1).val < 512 := (i 1).isLt
  have hi : i = ix2 (i 0) ⟨(i 1).val / 128 * 128 + (i 1).val % 128, by omega⟩ := by
    funext x; fin_cases x
    · rfl
    · exact Fin.ext (by show (i 1).val = (i 1).val / 128 * 128 + (i 1).val % 128; omega)
  exact (congrArg _ hi).trans (whole_at q k v b lam g hR (i 0) ⟨(i 1).val / 128, by omega⟩ ⟨(i 1).val % 128, by omega⟩)

end Cert.Proof.DiffRef

end
-- ==== Proof.DiffPre.lean ====
/- What the differential attention's precondition says: the queries and keys that are read, and the biases, are real. -/
module

public import proofs.«01_k».proof.Proof.DiffArr
public import proofs.«01_k».proof.Proof.LatentPre
public import proofs.«01_k».proof.Pre_finite_qkb
public import Idealize.ShloMosaic.Lib.ReduceAll
public import Idealize.ShloMosaic.Lib.Pointwise

@[expose] public section

noncomputable section

namespace Cert.Proof.DiffPre

open Idealize.ShloMosaic Idealize.ShloMosaic.Pointwise Cert.Pre_finite_qkb

/-- The shape facts the precondition's operations take. -/
theorem facts : Cert.Pre_finite_qkb.Facts where
  slices_S40960x512_S8192x512_0_0 := by decide
  bitsLt_bf16_f32 := by decide
  bcast_S_S8192x512 := by decide
  reducesTo_S8192x512_S_d0_1 := by decide
  h_S_ := by decide
  bcast_S_S32x4 := by decide
  reducesTo_S32x4_S_d0_1 := by decide

/-- Where the precondition holds, the queries, the keys and the biases are real. -/
theorem reals [Cert.Pre_finite_qkb.Facts] (q k v : FVec Ideal S40960x512 .bf16) (b : FVec Ideal S32x4 .f32) (lam : FVec Ideal S1 .f32) (g : FVec Ideal S128 .f32)
    (h : fn (F := Ideal) q k v b lam g = fun _ => 1#1) : Diff.Reals q k b := by
  have h0 := congrFun h (Shape.Idx.first Facts.h_S_)
  have h1 := IntOp.andi_eq_one.1 h0
  have h2 := IntOp.andi_eq_one.1 h1.1
  refine ⟨fun i e => ?_, fun i e => ?_, fun i => ?_⟩
  · have e1 : extractStridedSlice S8192x512 ![0, 0] q Facts.slices_S40960x512_S8192x512_0_0 (ix2 i e) = q (ix2 ⟨i.val, by omega⟩ e) := by pointwise
    exact e1 ▸ LatentPre.all_real _ _ _ _ _ h2.1 (ix2 i e)
  · have e1 : extractStridedSlice S8192x512 ![0, 0] k Facts.slices_S40960x512_S8192x512_0_0 (ix2 i e) = k (ix2 ⟨i.val, by omega⟩ e) := by pointwise
    exact e1 ▸ LatentPre.all_real _ _ _ _ _ h2.2 (ix2 i e)
  · exact LatentPre.all_real _ _ _ _ _ h1.2 i

end Cert.Proof.DiffPre

end
-- ==== Proof.DiffClaim.lean ====
/-
  The claims about the differential attention: the frames its precondition adds, its named constants, and the kernel's
  equality with the reference.
-/
module

public import proofs.«01_k».proof.Proof.DiffArr
public import proofs.«01_k».proof.Proof.DiffRef
public import proofs.«01_k».proof.Proof.DiffPre
public import proofs.«01_k».proof.Proof.Gen.DiffReferenceIdeal.Run
public import proofs.«01_k».proof.Defs

@[expose] public section

noncomputable section

namespace Cert.Proof.DiffClaim

open Idealize.ShloMosaic Idealize.ShloMosaic.TcCoe Idealize.SL.Sem

instance : Cert.Pre_finite_qkb.Facts := DiffPre.facts

/-- The kernel runs and keeps its arguments, under the precondition too. -/
theorem frame_pre : Cert.quiescent_DiffIdeal_pre_finite_qkb := fun m ρ _ => Cert.Proof.Diff.frame m ρ

/-- The reference runs, keeps its arguments, and declares no semaphore. -/
theorem frame_ref : Cert.quiescent_DiffReferenceIdeal := fun m ρ _ =>
  (θ_run Cert.DiffReferenceIdeal.defs _ _).mono (fun r h => ⟨fun c => (h c).2, sem_eq_zero_of_no_sems (by decide) r.2⟩)
    (Cert.DiffReferenceIdeal.Value.run (F := Ideal) m ρ)

/-- The same under the precondition. -/
theorem frame_ref_pre : Cert.quiescent_DiffReferenceIdeal_pre_finite_qkb := fun m ρ _ => frame_ref m ρ trivial

/-- The named scale and the named logarithm round to the words the kernel holds. -/
theorem preserves : Cert.preserves_Diff_DiffIdeal :=
  ⟨IdealRules.named_const.statement _ _ _ _ _ rfl, IdealRules.named_const.statement _ _ _ _ _ rfl⟩

/-- What the reference's run leaves is the composition of its stages. -/
theorem run_whole (m : (ℓ : Loc Cert.DiffReferenceIdeal.nD Cert.DiffReferenceIdeal.τ Cert.DiffReferenceIdeal.sig) → Buf (Elt Ideal) ℓ) (ρ : Dev Cert.DiffReferenceIdeal.nD → PrngReg) :
    θ_run Cert.DiffReferenceIdeal.defs (onTc (τ := Cert.DiffReferenceIdeal.τ) (Cert.DiffReferenceIdeal.main (F := Ideal))) ⟨m, fun _ => 0, ρ⟩ (fun r => ∀ c : Dev Cert.DiffReferenceIdeal.nD,
      r.2.mem ((c.tc : Thread Cert.DiffReferenceIdeal.nD Cert.DiffReferenceIdeal.τ).loc Cert.DiffReferenceIdeal.main_v111)
        = DiffRef.whole (m ((c.tc : Thread Cert.DiffReferenceIdeal.nD Cert.DiffReferenceIdeal.τ).loc Cert.DiffReferenceIdeal.main_arg0)) (m ((c.tc : Thread Cert.DiffReferenceIdeal.nD Cert.DiffReferenceIdeal.τ).loc Cert.DiffReferenceIdeal.main_arg1))
            (m ((c.tc : Thread Cert.DiffReferenceIdeal.nD Cert.DiffReferenceIdeal.τ).loc Cert.DiffReferenceIdeal.main_arg2)) (m ((c.tc : Thread Cert.DiffReferenceIdeal.nD Cert.DiffReferenceIdeal.τ).loc Cert.DiffReferenceIdeal.main_arg3))
            (m ((c.tc : Thread Cert.DiffReferenceIdeal.nD Cert.DiffReferenceIdeal.τ).loc Cert.DiffReferenceIdeal.main_arg4)) (m ((c.tc : Thread Cert.DiffReferenceIdeal.nD Cert.DiffReferenceIdeal.τ).loc Cert.DiffReferenceIdeal.main_arg5))
      ∧ r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2)
      ∧ r.2.mem ((c.tc : Thread Cert.DiffReferenceIdeal.nD Cert.DiffReferenceIdeal.τ).loc Cert.DiffReferenceIdeal.main_arg3) = m ((c.tc : Thread Cert.DiffReferenceIdeal.nD Cert.DiffReferenceIdeal.τ).loc Cert.DiffReferenceIdeal.main_arg3)
      ∧ r.2.mem ((c.tc : Thread Cert.DiffReferenceIdeal.nD Cert.DiffReferenceIdeal.τ).loc Cert.DiffReferenceIdeal.main_arg4) = m ((c.tc : Thread Cert.DiffReferenceIdeal.nD Cert.DiffReferenceIdeal.τ).loc Cert.DiffReferenceIdeal.main_arg4)
      ∧ r.2.mem ((c.tc : Thread Cert.DiffReferenceIdeal.nD Cert.DiffReferenceIdeal.τ).loc Cert.DiffReferenceIdeal.main_arg5) = m ((c.tc : Thread Cert.DiffReferenceIdeal.nD Cert.DiffReferenceIdeal.τ).loc Cert.DiffReferenceIdeal.main_arg5)) :=
  (θ_run Cert.DiffReferenceIdeal.defs _ _).mono (fun _ h c => ⟨(h c).1.trans (by rw [DiffRef.gaps_eq]; rfl), (h c).2⟩)
    (Cert.DiffReferenceIdeal.Value.run (F := Ideal) m ρ)

/-- Where the precondition holds, the kernel's result array is the reference's. -/
theorem algebraic : Cert.algebraic_DiffIdeal_DiffReferenceIdeal_pre_finite_qkb := by
  intro m ρ m' ρ' hpre hagree
  have hR := fun c => DiffPre.reals _ _ _ _ _ _ (hpre c)
  refine ⟨fun c => (Cert.Proof.Diff.dats m 0 c).arrAt 6 Cert.DiffIdeal.cfg0.N, Cert.Proof.Diff.run_blocks (F := Ideal) m ρ, ?_⟩
  refine (θ_run Cert.DiffReferenceIdeal.defs _ _).mono (fun _ h c => ⟨(h c).1.trans ?_, (h c).2⟩) (run_whole m' ρ')
  obtain ⟨e0, e1, e2, e3, e4, e5⟩ := hagree c
  refine (DiffRef.whole_eq _ _ _ _ _ _ ?_).trans (Eq.trans ?_ (Diff.array m c (hR c)).symm)
  · rw [e0, e1, e3]; exact hR c
  · rw [e0, e1, e2, e3, e4, e5]
    rfl

end Cert.Proof.DiffClaim

end
-- ==== Proof.Norm.lean ====
/-
  The norm ahead of the first layer at `Ideal`: a block of the kernel holds rows of the input over the roots of their mean
  squares, the rows taken from one of two pieces, and the reference's array holds the same.
-/
module

public import proofs.«01_k».proof.Proof.Out
public import proofs.«01_k».proof.Proof.Gen.NormIdeal.Value
public import proofs.«01_k».proof.Proof.Gen.NormReferenceIdeal.Run
public import proofs.«01_k».proof.Proof.Gen.Norm.Frame
public import proofs.«01_k».proof.Proof.Gen.NormIdeal.Frame
public import proofs.«01_k».proof.Defs
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pointwise

namespace Cert.Proof.Norm

/-- An entry of a normed row of the two pieces. -/
def val (p : FVec Ideal Cert.NormIdeal.S8192x2048 .f32) (s : FVec Ideal Cert.NormIdeal.S32768x2048 .f32) (g : FVec Ideal Cert.NormIdeal.S2048 .f32) (i : Fin 40960) (j : Fin 2048) : EReal :=
  Out.normed (Out.row p s i) (g (ix1 j)) j

section

open Cert.NormIdeal Cert.NormIdeal.Gen

/-- A block of the result at an index, the rows picked from the two pieces. -/
theorem out_at (i : grid0.Coords) (x0 x1 : Vec Ideal S512x2048 .f32) (x2 : Vec Ideal S1x2048 .f32) (r : Fin 512) (j : Fin 2048) :
    (out0_3 i x0 x1 x2 : S512x2048.Idx → EReal) (ix2 r j)
      = Out.normed (fun d => Scalar.select (Scalar.cmpi .slt (BitVec.ofNat 32 (i 0).val) 16#32) (x0 (ix2 r d)) (x1 (ix2 r d))) (x2 (ix2 0 j)) j := by
  unfold out0_3
  rw [View.canon_unit_zero Out.zero₂, View.ld_unit_zero (S := S1x2048) Out.zero₂]
  simp only [View.ld_unit_zero (S := S512x2048) Out.zero₂]
  pointwise [k0_pay1, Out.normed]

end

section

open Cert.NormReferenceIdeal Cert.NormReferenceIdeal.Gen

/-- The two pieces, one after the other. -/
def both (p : FVec Ideal S8192x2048 .f32) (s : FVec Ideal S32768x2048 .f32) : FVec Ideal S40960x2048 .f32 :=
  concatenate S40960x2048 0 [⟨S8192x2048, p⟩, ⟨S32768x2048, s⟩] concatenates_S8192x2048_S32768x2048_S40960x2048_d0

/-- A row of the two pieces. -/
theorem both_at (p : FVec Ideal S8192x2048 .f32) (s : FVec Ideal S32768x2048 .f32) (i : Fin 40960) (j : Fin 2048) : both p s (ix2 i j) = Out.row p s i j := by
  pointwise [both, Out.row]

/-- The reference's array at an index. -/
theorem ref_at (p : FVec Ideal S8192x2048 .f32) (s : FVec Ideal S32768x2048 .f32) (g : FVec Ideal S2048 .f32) (i : Fin 40960) (j : Fin 2048) :
    (Out.norm (both p s) g : S40960x2048.Idx → EReal) (ix2 i j) = val p s g i j := by
  rw [Out.norm_at]
  exact congrArg (Out.normed · (g (ix1 j)) j) (funext fun d => both_at p s i d)

end

section

open Cert.NormIdeal Cert.NormIdeal.Gen

variable (m : (ℓ : Loc nD τ sig) → Buf (Elt Ideal) ℓ) (c : Dev nD)

theorem index0 : ∀ t : Fin cfg0.N, win0_0.index t = ![min t.val 15, 0] :=
  (by decide +kernel : ∀ t : Fin grid0.N, win0_0.index t = ![min t.val 15, 0])
theorem index1 : ∀ t : Fin cfg0.N, win0_1.index t = ![t.val - 16, 0] :=
  (by decide +kernel : ∀ t : Fin grid0.N, win0_1.index t = ![t.val - 16, 0])
theorem index2 : ∀ t : Fin cfg0.N, win0_2.index t = ![0, 0] :=
  (by decide +kernel : ∀ t : Fin grid0.N, win0_2.index t = ![0, 0])
theorem index3 : ∀ t : Fin cfg0.N, win0_3.index t = ![t.val, 0] :=
  (by decide +kernel : ∀ t : Fin grid0.N, win0_3.index t = ![t.val, 0])

theorem lt80 (t : Fin cfg0.N) : t.val < 80 := t.isLt

/-- Whether a point's rows lie in the first piece, as the body computes it. -/
theorem first_at : ∀ t : Fin cfg0.N, Scalar.cmpi .slt (BitVec.ofNat 32 ((grid0.coords t) 0).val) 16#32 = if t.val < 16 then 1#1 else 0#1 :=
  (by decide +kernel : ∀ t : Fin grid0.N, Scalar.cmpi .slt (BitVec.ofNat 32 ((grid0.coords t) 0).val) 16#32 = if t.val < 16 then 1#1 else 0#1)

/-- The rows of a point, from the first piece. -/
theorem iblk0_at (t : Fin cfg0.N) (r : Fin 512) (d : Fin 2048) :
    (iblk m c 0 t : S512x2048.Idx → EReal) (ix2 r d)
      = (m ((c : Thread nD τ).loc main_arg0) : S8192x2048.Idx → EReal) (ix2 ⟨512 * min t.val 15 + r.val, by have := lt80 t; omega⟩ d) := by
  blk_ext [iblk, V, index0 t]

/-- The rows of a point, from the second piece. -/
theorem iblk1_at (t : Fin cfg0.N) (r : Fin 512) (d : Fin 2048) :
    (iblk m c 1 t : S512x2048.Idx → EReal) (ix2 r d)
      = (m ((c : Thread nD τ).loc main_arg1) : S32768x2048.Idx → EReal) (ix2 ⟨512 * (t.val - 16) + r.val, by have := lt80 t; omega⟩ d) := by
  blk_ext [iblk, V, index1 t]

/-- The gains at a point. -/
theorem iblk2_at (t : Fin cfg0.N) (d : Fin 2048) :
    (iblk m c 2 t : S1x2048.Idx → EReal) (ix2 0 d) = (m ((c : Thread nD τ).loc main_arg2) : S2048.Idx → EReal) (ix1 d) := by
  have e : (V m c main_v0 : S1x2048.Idx → EReal) = shapeCast S1x2048 (m ((c : Thread nD τ).loc main_arg2) : FVec Ideal S2048 .f32) shapeCasts_S2048_S1x2048 := by
    unfold_abbrev_sides
    after_results
    rfl
  have e' : (iblk m c 2 t : S1x2048.Idx → EReal) (ix2 0 d) = (V m c main_v0 : S1x2048.Idx → EReal) (ix2 0 d) := by
    blk_ext [iblk, index2 t]
  rw [e', e]
  pointwise

/-- The whole array after the run. -/
theorem array : ((dats m 0 c).arrAt 3 cfg0.N : S40960x2048.Idx → EReal)
    = fun i => val (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  blk_simp
  rw [after0_3]
  have h0 : (y 0).val < 512 := (y 0).isLt
  have h1 : (y 1).val < 2048 := (y 1).isLt
  have ht := lt80 t
  have hy : y = (ix2 (⟨(y 0).val, h0⟩ : Fin 512) (⟨(y 1).val, h1⟩ : Fin 2048) : S512x2048.Idx) := by
    funext a; fin_cases a <;> rfl
  have e0 := congrFun (index3 t) 0
  have e1 := congrFun (index3 t) 1
  simp only [Matrix.cons_val_zero, Matrix.cons_val_one] at e0 e1
  refine (congrArg _ hy).trans ((out_at _ _ _ _ _ _).trans ?_)
  rw [first_at t, iblk2_at]
  have hp := funext fun d => Out.pick_at t (m ((c : Thread nD τ).loc main_arg0)) (m ((c : Thread nD τ).loc main_arg1)) ⟨(y 0).val, h0⟩ d
  simp only [iblk0_at, iblk1_at]
  refine (congrArg (Out.normed · _ _) hp).trans (congrArg₂ (val _ _ _) (Fin.ext ?_) (Fin.ext ?_))
  · show 512 * t.val + (y 0).val = _
    blk_simp
    rw [e0]; omega
  · show (y 1).val = _
    blk_simp
    rw [e1]; omega

end

/-- The reference runs, keeps its arguments, and ends with no counter raised. -/
theorem frame_ref : Cert.quiescent_NormReferenceIdeal := fun m ρ _ =>
  (θ_run Cert.NormReferenceIdeal.defs _ _).mono (fun r h => ⟨fun c => (h c).2, sem_eq_zero_of_no_sems (by decide) r.2⟩)
    (Cert.NormReferenceIdeal.Value.run (F := Ideal) m ρ)

/-- The kernel's array is the reference's. -/
theorem algebraic : Cert.algebraic_NormIdeal_NormReferenceIdeal := by
  intro m ρ m' ρ' _ hagree
  refine ⟨fun c => (Cert.NormIdeal.Gen.dats m 0 c).arrAt 3 Cert.NormIdeal.cfg0.N, Cert.NormIdeal.Value.run_blocks (F := Ideal) m ρ, ?_⟩
  refine (θ_run Cert.NormReferenceIdeal.defs _ _).mono (fun _ h c => ⟨(h c).1.trans ?_, (h c).2⟩) (Cert.NormReferenceIdeal.Value.run (F := Ideal) m' ρ')
  refine Eq.trans ?_ (array m c).symm
  obtain ⟨e0, e1, e2⟩ := hagree c
  rw [e0, e1, e2]
  funext i
  have hi : i = ix2 (i 0) (i 1) := by funext a; fin_cases a <;> rfl
  exact (congrArg _ hi).trans (ref_at _ _ _ _ _)

end Cert.Proof.Norm

end
-- ==== Proof.Key.lean ====
/-
  The product for mixer B's rotary key at `Ideal`: a block of the kernel holds rows of the input against all 128 columns of
  the weight, and the reference's array is the same product.
-/
module

public import proofs.«01_k».proof.Proof.Gen.KeyIdeal.Value
public import proofs.«01_k».proof.Proof.Gen.KeyReferenceIdeal.Run
public import proofs.«01_k».proof.Proof.Gen.Key.Frame
public import proofs.«01_k».proof.Proof.Gen.KeyIdeal.Frame
public import proofs.«01_k».proof.Defs
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pointwise

namespace Cert.Proof.Key

/-- Row `i` of `h` against column `j` of `w`. -/
def val (h : FVec Ideal Cert.KeyIdeal.S40960x2048 .bf16) (w : FVec Ideal Cert.KeyIdeal.S2048x128 .bf16) (i : Fin 40960) (j : Fin 128) : EReal :=
  ∑ d : Fin 2048, h (ix2 i d) * w (ix2 d j)

section

open Cert.KeyIdeal Cert.KeyIdeal.Gen

theorem zero₂ : (![0, 0] : Fin 2 → Nat) = fun _ => 0 := funext fun a => by fin_cases a <;> rfl

/-- A point's block at an index. -/
theorem out_at (x0 : Vec Ideal S1024x2048 .bf16) (x1 : Vec Ideal S2048x128 .bf16) (r : Fin 1024) (j : Fin 128) :
    (out0_2 x0 x1 : S1024x128.Idx → EReal) (ix2 r j) = ∑ d : Fin 2048, x0 (ix2 r d) * x1 (ix2 d j) := by
  unfold out0_2
  rw [View.canon_unit_zero zero₂, View.ld_unit_zero (S := S1024x2048) zero₂, View.ld_unit_zero (S := S2048x128) zero₂]
  pointwise [k0_pay1]

end

section

open Cert.KeyReferenceIdeal Cert.KeyReferenceIdeal.Gen

/-- The reference's array at an index. -/
theorem ref_at (h : FVec Ideal S40960x2048 .bf16) (w : FVec Ideal S2048x128 .bf16) (i : Fin 40960) (j : Fin 128) :
    (Host.dotGeneral dot_S40960x2048_S2048x128_S40960x128_1_0_0_1_n_n none (extf .f32 h bitsLt_bf16_f32 : FVec Ideal S40960x2048 .f32) (extf .f32 w bitsLt_bf16_f32 : FVec Ideal S2048x128 .f32) : FVec Ideal S40960x128 .f32) (ix2 i j) = val h w i j := by
  pointwise [val]

end

section

open Cert.KeyIdeal Cert.KeyIdeal.Gen

variable (m : (ℓ : Loc nD τ sig) → Buf (Elt Ideal) ℓ) (c : Dev nD)

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![t.val, 0] :=
  (by decide +kernel : ∀ t : Fin grid0.N, win0_2.index t = ![t.val, 0])

theorem lt40 (t : Fin cfg0.N) : t.val < 40 := t.isLt

/-- The rows of a point. -/
theorem iblk0_at (t : Fin cfg0.N) (r : Fin 1024) (d : Fin 2048) :
    (iblk m c 0 t : S1024x2048.Idx → EReal) (ix2 r d)
      = (m ((c : Thread nD τ).loc main_arg0) : S40960x2048.Idx → EReal) (ix2 ⟨1024 * t.val + r.val, by have := lt40 t; omega⟩ d) := by
  blk_ext [iblk, V, index0 t]

/-- The weight at a point. -/
theorem iblk1_at (t : Fin cfg0.N) (d : Fin 2048) (j : Fin 128) :
    (iblk m c 1 t : S2048x128.Idx → EReal) (ix2 d j) = (m ((c : Thread nD τ).loc main_arg1) : S2048x128.Idx → EReal) (ix2 d j) := by
  blk_ext [iblk, V, index1 t]

/-- The whole array after the run. -/
theorem array : ((dats m 0 c).arrAt 2 cfg0.N : S40960x128.Idx → EReal)
    = fun i => val (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  have h0 : (y 0).val < 1024 := (y 0).isLt
  have h1 : (y 1).val < 128 := (y 1).isLt
  have ht := lt40 t
  have hy : y = (ix2 (⟨(y 0).val, h0⟩ : Fin 1024) (⟨(y 1).val, h1⟩ : Fin 128) : S1024x128.Idx) := by
    funext a; fin_cases a <;> rfl
  have e0 := congrFun (index2 t) 0
  have e1 := congrFun (index2 t) 1
  simp only [Matrix.cons_val_zero, Matrix.cons_val_one] at e0 e1
  refine (congrArg _ hy).trans ((out_at _ _ _ _).trans ?_)
  simp only [iblk0_at, iblk1_at]
  refine congrArg₂ (val _ _) (Fin.ext ?_) (Fin.ext ?_)
  · show 1024 * t.val + (y 0).val = _
    blk_simp
    rw [e0]; omega
  · show (y 1).val = _
    blk_simp
    rw [e1]; omega

end

/-- The reference runs, keeps its arguments, and declares no semaphore. -/
theorem frame_ref : Cert.quiescent_KeyReferenceIdeal := fun m ρ _ =>
  (θ_run Cert.KeyReferenceIdeal.defs _ _).mono (fun r h => ⟨fun c => (h c).2, sem_eq_zero_of_no_sems (by decide) r.2⟩)
    (Cert.KeyReferenceIdeal.Value.run (F := Ideal) m ρ)

/-- The kernel's array is the reference's. -/
theorem algebraic : Cert.algebraic_KeyIdeal_KeyReferenceIdeal := by
  intro m ρ m' ρ' _ hagree
  refine ⟨fun c => (Cert.KeyIdeal.Gen.dats m 0 c).arrAt 2 Cert.KeyIdeal.cfg0.N, Cert.KeyIdeal.Value.run_blocks (F := Ideal) m ρ, ?_⟩
  refine (θ_run Cert.KeyReferenceIdeal.defs _ _).mono (fun _ h c => ⟨(h c).1.trans ?_, (h c).2⟩) (Cert.KeyReferenceIdeal.Value.run (F := Ideal) m' ρ')
  refine Eq.trans ?_ (array m c).symm
  have e0 := (hagree c).1
  have e1 := (hagree c).2
  rw [e0, e1]
  funext i
  have hi : i = ix2 (i 0) (i 1) := by funext a; fin_cases a <;> rfl
  exact (congrArg _ hi).trans (ref_at _ _ _ _)

end Cert.Proof.Key

end
-- ==== Proof.LaterOut.lean ====
/-
  The output projection of a layer after the first at `Ideal`, where the layer's input is one array: every block the kernel
  writes holds that input plus rows of the merged mixers against columns of the weight, and that row's norm; so do the
  reference's arrays.
-/
module

public import proofs.«01_k».proof.Proof.Out
public import proofs.«01_k».proof.Proof.Gen.LaterOutIdeal.Value
public import proofs.«01_k».proof.Proof.Gen.LaterOutReferenceIdeal.Run
public import proofs.«01_k».proof.Proof.Gen.LaterOut.Frame
public import proofs.«01_k».proof.Proof.Gen.LaterOutIdeal.Frame
public import proofs.«01_k».proof.Defs
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pointwise

namespace Cert.Proof.LaterOut

/-- Row `i` of the layer's input plus row `i` of `u` against the columns of `w`. -/
def val (u : FVec Ideal Cert.LaterOutIdeal.S40960x2048 .bf16) (w : FVec Ideal Cert.LaterOutIdeal.S2048x2048 .bf16)
    (x : FVec Ideal Cert.LaterOutIdeal.S40960x2048 .f32) (i : Fin 40960) (j : Fin 2048) : EReal :=
  x (ix2 i j) + ∑ d : Fin 2048, u (ix2 i d) * w (ix2 d j)

/-- The norm of that row. -/
def nval (u : FVec Ideal Cert.LaterOutIdeal.S40960x2048 .bf16) (w : FVec Ideal Cert.LaterOutIdeal.S2048x2048 .bf16)
    (x : FVec Ideal Cert.LaterOutIdeal.S40960x2048 .f32) (g : FVec Ideal Cert.LaterOutIdeal.S2048 .f32) (i : Fin 40960) (j : Fin 2048) : EReal :=
  Out.normed (val u w x i) (g (ix1 j)) j

section

open Cert.LaterOutIdeal Cert.LaterOutIdeal.Gen

/-- A row inside a block. -/
def part (x0 : Vec Ideal S512x2048 .bf16) (x1 : Vec Ideal S2048x2048 .bf16) (x2 : Vec Ideal S512x2048 .f32) (r : Fin 512) (j : Fin 2048) : EReal :=
  x2 (ix2 r j) + ∑ d : Fin 2048, x0 (ix2 r d) * x1 (ix2 d j)

/-- The sums the body forms, at an index. -/
theorem pay1_at (x0 : Vec Ideal S512x2048 .bf16) (x1 : Vec Ideal S2048x2048 .bf16) (x2 : Vec Ideal S512x2048 .f32) (r : Fin 512) (j : Fin 2048) :
    (k0_pay1 x0 x1 x2 : S512x2048.Idx → EReal) (ix2 r j) = part x0 x1 x2 r j := by
  pointwise [k0_pay1, part]

/-- A block of the first result at an index. -/
theorem out4_at (x0 : Vec Ideal S512x2048 .bf16) (x1 : Vec Ideal S2048x2048 .bf16) (x2 : Vec Ideal S512x2048 .f32) (x3 : Vec Ideal S1x2048 .f32) (r : Fin 512) (j : Fin 2048) :
    (out0_4 x0 x1 x2 x3 : S512x2048.Idx → EReal) (ix2 r j) = part x0 x1 x2 r j := by
  unfold out0_4
  rw [View.canon_unit_zero Out.zero₂, View.ld_unit_zero (S := S2048x2048) Out.zero₂]
  simp only [View.ld_unit_zero (S := S512x2048) Out.zero₂]
  exact pay1_at _ _ _ _ _

/-- A block of the second result at an index. -/
theorem out5_at (x0 : Vec Ideal S512x2048 .bf16) (x1 : Vec Ideal S2048x2048 .bf16) (x2 : Vec Ideal S512x2048 .f32) (x3 : Vec Ideal S1x2048 .f32) (r : Fin 512) (j : Fin 2048) :
    (out0_5 x0 x1 x2 x3 : S512x2048.Idx → EReal) (ix2 r j) = Out.normed (part x0 x1 x2 r) (x3 (ix2 0 j)) j := by
  unfold out0_5
  rw [View.canon_unit_zero Out.zero₂, View.ld_unit_zero (S := S2048x2048) Out.zero₂, View.ld_unit_zero (S := S1x2048) Out.zero₂]
  simp only [View.ld_unit_zero (S := S512x2048) Out.zero₂]
  pointwise [k0_pay2, pay1_at, Out.normed]

end

section

open Cert.LaterOutReferenceIdeal Cert.LaterOutReferenceIdeal.Gen

/-- The reference's sum. -/
def sum (u : FVec Ideal S40960x2048 .bf16) (w : FVec Ideal S2048x2048 .bf16) (x : FVec Ideal S40960x2048 .f32) : FVec Ideal S40960x2048 .f32 :=
  addf x (Host.dotGeneral dot_S40960x2048_S2048x2048_S40960x2048_1_0_0_1_n_n none (extf .f32 u bitsLt_bf16_f32) (extf .f32 w bitsLt_bf16_f32))

/-- An entry of the reference's sum. -/
theorem sum_at (u : FVec Ideal S40960x2048 .bf16) (w : FVec Ideal S2048x2048 .bf16) (x : FVec Ideal S40960x2048 .f32) (i : Fin 40960) (j : Fin 2048) :
    (sum u w x : S40960x2048.Idx → EReal) (ix2 i j) = val u w x i j := by
  pointwise [sum, val]

/-- An entry of that sum's norm. -/
theorem norm_sum_at (u : FVec Ideal S40960x2048 .bf16) (w : FVec Ideal S2048x2048 .bf16) (x : FVec Ideal S40960x2048 .f32) (g : FVec Ideal S2048 .f32) (i : Fin 40960) (j : Fin 2048) :
    (Out.norm (sum u w x) g : S40960x2048.Idx → EReal) (ix2 i j) = nval u w x g i j := by
  rw [Out.norm_at]
  exact congrArg (Out.normed · (g (ix1 j)) j) (funext fun d => sum_at u w x i d)

end

section

open Cert.LaterOutIdeal Cert.LaterOutIdeal.Gen

variable (m : (ℓ : Loc nD τ sig) → Buf (Elt Ideal) ℓ) (c : Dev nD)

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![t.val, 0] :=
  (by decide +kernel : ∀ t : Fin grid0.N, win0_2.index t = ![t.val, 0])
theorem index3 : ∀ t : Fin cfg0.N, win0_3.index t = ![0, 0] :=
  (by decide +kernel : ∀ t : Fin grid0.N, win0_3.index t = ![0, 0])
theorem index4 : ∀ t : Fin cfg0.N, win0_4.index t = ![t.val, 0] :=
  (by decide +kernel : ∀ t : Fin grid0.N, win0_4.index t = ![t.val, 0])
theorem index5 : ∀ t : Fin cfg0.N, win0_5.index t = ![t.val, 0] :=
  (by decide +kernel : ∀ t : Fin grid0.N, win0_5.index t = ![t.val, 0])

theorem lt80 (t : Fin cfg0.N) : t.val < 80 := t.isLt

/-- The merged rows of a point. -/
theorem iblk0_at (t : Fin cfg0.N) (r : Fin 512) (d : Fin 2048) :
    (iblk m c 0 t : S512x2048.Idx → EReal) (ix2 r d)
      = (m ((c : Thread nD τ).loc main_arg0) : S40960x2048.Idx → EReal) (ix2 ⟨512 * t.val + r.val, by have := lt80 t; omega⟩ d) := by
  blk_ext [iblk, V, index0 t]

/-- The weight at a point. -/
theorem iblk1_at (t : Fin cfg0.N) (d r : Fin 2048) :
    (iblk m c 1 t : S2048x2048.Idx → EReal) (ix2 d r) = (m ((c : Thread nD τ).loc main_arg1) : S2048x2048.Idx → EReal) (ix2 d r) := by
  blk_ext [iblk, V, index1 t]

/-- The layer's input at a point. -/
theorem iblk2_at (t : Fin cfg0.N) (r : Fin 512) (d : Fin 2048) :
    (iblk m c 2 t : S512x2048.Idx → EReal) (ix2 r d)
      = (m ((c : Thread nD τ).loc main_arg2) : S40960x2048.Idx → EReal) (ix2 ⟨512 * t.val + r.val, by have := lt80 t; omega⟩ d) := by
  blk_ext [iblk, V, index2 t]

/-- The norm's gain at a point. -/
theorem iblk3_at (t : Fin cfg0.N) (d : Fin 2048) :
    (iblk m c 3 t : S1x2048.Idx → EReal) (ix2 0 d) = (m ((c : Thread nD τ).loc main_arg3) : S2048.Idx → EReal) (ix1 d) := by
  have e : (V m c main_v0 : S1x2048.Idx → EReal) = shapeCast S1x2048 (m ((c : Thread nD τ).loc main_arg3) : FVec Ideal S2048 .f32) shapeCasts_S2048_S1x2048 := by
    unfold_abbrev_sides
    after_results
    rfl
  have e' : (iblk m c 3 t : S1x2048.Idx → EReal) (ix2 0 d) = (V m c main_v0 : S1x2048.Idx → EReal) (ix2 0 d) := by
    blk_ext [iblk, index3 t]
  rw [e', e]
  pointwise

/-- A row inside a point's block is that row of the whole. -/
theorem part_at (t : Fin cfg0.N) (r : Fin 512) (j : Fin 2048) :
    part (iblk m c 0 t) (iblk m c 1 t) (iblk m c 2 t) r j
      = val (m ((c : Thread nD τ).loc main_arg0)) (m ((c : Thread nD τ).loc main_arg1)) (m ((c : Thread nD τ).loc main_arg2)) ⟨512 * t.val + r.val, by have := lt80 t; omega⟩ j :=
  congrArg₂ (fun x y : EReal => x + y) (iblk2_at m c t r j) (Finset.sum_congr rfl fun d _ => by rw [iblk0_at, iblk1_at])

/-- The first array after the run. -/
theorem array4 : ((dats m 0 c).arrAt 4 cfg0.N : S40960x2048.Idx → EReal)
    = fun i => val (m ((c : Thread nD τ).loc main_arg0)) (m ((c : Thread nD τ).loc main_arg1)) (m ((c : Thread nD τ).loc main_arg2)) (i 0) (i 1) := by
  refine (dats m 0 c).arrAt_eq_of_covers 4 _ (by decide +kernel) fun t hf y => ?_
  blk_simp
  rw [after0_4]
  have h0 : (y 0).val < 512 := (y 0).isLt
  have h1 : (y 1).val < 2048 := (y 1).isLt
  have ht := lt80 t
  have hy : y = (ix2 (⟨(y 0).val, h0⟩ : Fin 512) (⟨(y 1).val, h1⟩ : Fin 2048) : S512x2048.Idx) := by
    funext a; fin_cases a <;> rfl
  have e0 := congrFun (index4 t) 0
  have e1 := congrFun (index4 t) 1
  simp only [Matrix.cons_val_zero, Matrix.cons_val_one] at e0 e1
  refine (congrArg _ hy).trans ((out4_at _ _ _ _ _ _).trans ((part_at m c t _ _).trans ?_))
  refine congrArg₂ (val _ _ _) (Fin.ext ?_) (Fin.ext ?_)
  · show 512 * t.val + (y 0).val = _
    blk_simp
    rw [e0]; omega
  · show (y 1).val = _
    blk_simp
    rw [e1]; omega

/-- The second array after the run. -/
theorem array5 : ((dats m 0 c).arrAt 5 cfg0.N : S40960x2048.Idx → EReal)
    = fun i => nval (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 5 _ (by decide +kernel) fun t hf y => ?_
  blk_simp
  rw [after0_5]
  have h0 : (y 0).val < 512 := (y 0).isLt
  have h1 : (y 1).val < 2048 := (y 1).isLt
  have ht := lt80 t
  have hy : y = (ix2 (⟨(y 0).val, h0⟩ : Fin 512) (⟨(y 1).val, h1⟩ : Fin 2048) : S512x2048.Idx) := by
    funext a; fin_cases a <;> rfl
  have e0 := congrFun (index5 t) 0
  have e1 := congrFun (index5 t) 1
  simp only [Matrix.cons_val_zero, Matrix.cons_val_one] at e0 e1
  have hp := funext fun d => part_at m c t ⟨(y 0).val, h0⟩ d
  refine (congrArg _ hy).trans ((out5_at _ _ _ _ _ _).trans ?_)
  rw [hp, iblk3_at]
  refine congrArg₂ (nval _ _ _ _) (Fin.ext ?_) (Fin.ext ?_)
  · show 512 * t.val + (y 0).val = _
    blk_simp
    rw [e0]; omega
  · show (y 1).val = _
    blk_simp
    rw [e1]; omega

end

/-- The reference runs, keeps its arguments, and ends with no counter raised. -/
theorem frame_ref : Cert.quiescent_LaterOutReferenceIdeal := fun m ρ _ =>
  (θ_run Cert.LaterOutReferenceIdeal.defs _ _).mono (fun r h => ⟨fun c => (h c).2.2, sem_eq_zero_of_no_sems (by decide) r.2⟩)
    (Cert.LaterOutReferenceIdeal.Value.run (F := Ideal) m ρ)

/-- The kernel's arrays are the reference's. -/
theorem algebraic : Cert.algebraic_LaterOutIdeal_LaterOutReferenceIdeal := by
  intro m ρ m' ρ' _ hagree
  refine ⟨fun c => (Cert.LaterOutIdeal.Gen.dats m 0 c).arrAt 4 Cert.LaterOutIdeal.cfg0.N, fun c => (Cert.LaterOutIdeal.Gen.dats m 0 c).arrAt 5 Cert.LaterOutIdeal.cfg0.N,
    Cert.LaterOutIdeal.Value.run_blocks (F := Ideal) m ρ, ?_⟩
  refine (θ_run Cert.LaterOutReferenceIdeal.defs _ _).mono (fun _ h c => ⟨(h c).1.trans ?_, (h c).2.1.trans ?_, (h c).2.2⟩)
    (Cert.LaterOutReferenceIdeal.Value.run (F := Ideal) m' ρ')
  · refine Eq.trans ?_ (array4 m c).symm
    obtain ⟨e0, e1, e2, -⟩ := hagree c
    rw [e0, e1, e2]
    funext i
    have hi : i = ix2 (i 0) (i 1) := by funext a; fin_cases a <;> rfl
    exact (congrArg _ hi).trans (sum_at _ _ _ _ _)
  · refine Eq.trans ?_ (array5 m c).symm
    obtain ⟨e0, e1, e2, e3⟩ := hagree c
    rw [e0, e1, e2, e3]
    funext i
    have hi : i = ix2 (i 0) (i 1) := by funext a; fin_cases a <;> rfl
    exact (congrArg _ hi).trans (norm_sum_at _ _ _ _ _ _)

end Cert.Proof.LaterOut

end
-- ==== Proof.Last.lean ====
module

public import proofs.«01_k».proof.Proof.Ple
public import proofs.«01_k».proof.Proof.Gen.LastIdeal.Value
public import proofs.«01_k».proof.Proof.Gen.LastReferenceIdeal.Run
public import proofs.«01_k».proof.Proof.Gen.Last.Frame
public import proofs.«01_k».proof.Proof.Gen.LastIdeal.Frame
public import proofs.«01_k».proof.Defs
public import Idealize.ShloMosaic.Lib.Pointwise
public import Idealize.ShloMosaic.Lib.Pipeline.ValueKit

/-! The last layer's embedding merge on the prompt at `Ideal`: every block the kernel writes holds rows of the layer's input plus
  the embedding's projection weighed by its gate, and so does the reference's array: the prompt's result. -/

@[expose] public section

set_option maxRecDepth 16384

noncomputable section

open Idealize.ShloMosaic Idealize.ShloMosaic.TcCoe Idealize.SL.Sem
open Idealize.ShloMosaic.Pointwise

namespace Cert.Proof.Last

/-- An entry of a row `f` of the layer's input plus the projection of the embedding's row `e`, weighed by its gate. -/
def merged (g : Fin 2048 → EReal) (wg : FVec Ideal Cert.LastIdeal.S1x2048x2048 .bf16) (wp : FVec Ideal Cert.LastIdeal.S1x256x2048 .bf16)
    (e : Fin 256 → EReal) (f : Fin 2048 → EReal) (j : Fin 2048) : EReal :=
  f j + Ideal.logistic (∑ d : Fin 2048, Ple.normed f (g d) d * wg (ix3 0 d j)) * ∑ x : Fin 256, e x * wp (ix3 0 x j)

/-- An entry of the result, of whole arrays. -/
def val (g : FVec Ideal Cert.LastIdeal.S2048 .f32) (wg : FVec Ideal Cert.LastIdeal.S1x2048x2048 .bf16) (wp : FVec Ideal Cert.LastIdeal.S1x256x2048 .bf16)
    (p : FVec Ideal Cert.LastIdeal.S8192x256 .f32) (x : FVec Ideal Cert.LastIdeal.S40960x2048 .f32) (i : Fin 8192) (j : Fin 2048) : EReal :=
  merged (fun d => g (ix1 d)) wg wp (fun e => p (ix2 i e)) (fun d => x (ix2 ⟨0 + i.val, by omega⟩ d)) j

section

open Cert.LastIdeal Cert.LastIdeal.Gen

/-- A block of the result at an index. -/
theorem out_at (x0 : Vec Ideal S1x2048 .f32) (x1 : Vec Ideal S1x2048x2048 .bf16) (x2 : Vec Ideal S1x256x2048 .bf16) (x3 : Vec Ideal S256x256 .f32) (x4 : Vec Ideal S256x2048 .f32)
    (r : Fin 256) (j : Fin 2048) :
    (out0_5 x0 x1 x2 x3 x4 : S256x2048.Idx → EReal) (ix2 r j)
      = merged (fun d => x0 (ix2 0 d)) x1 x2 (fun e => x3 (ix2 r e)) (fun d => x4 (ix2 r d)) j := by
  unfold out0_5
  rw [View.canon_unit_zero Ple.zero₂, View.ld_unit_zero (S := S1x2048) Ple.zero₂, View.ld_unit_zero (S := S1x2048x2048) Ple.zero₃,
    View.ld_unit_zero (S := S1x256x2048) Ple.zero₃, View.ld_unit_zero (S := S256x256) Ple.zero₂]
  simp only [View.ld_unit_zero (S := S256x2048) Ple.zero₂]
  pointwise [k0_pay1, merged, Ple.normed]

end

section

open Cert.LastReferenceIdeal Cert.LastReferenceIdeal.Gen

/-- The rows the reference takes. -/
def rows (x : FVec Ideal S40960x2048 .f32) : FVec Ideal S8192x2048 .f32 := extractStridedSlice S8192x2048 ![0, 0] x slices_S40960x2048_S8192x2048_0_0

/-- The reference's norm of an array's rows. -/
def norm (x : FVec Ideal S8192x2048 .f32) (g : FVec Ideal S2048 .f32) : FVec Ideal S8192x2048 .bf16 :=
  truncf .bf16 (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))) bitsLt_bf16_f32

/-- An entry of that norm. -/
theorem norm_at (x : FVec Ideal S8192x2048 .f32) (g : FVec Ideal S2048 .f32) (i : Fin 8192) (j : Fin 2048) :
    (norm x g : S8192x2048.Idx → EReal) (ix2 i j) = Ple.normed (fun d => x (ix2 i d)) (g (ix1 j)) j := by
  pointwise [norm, Ple.normed]

/-- The reference's sum, of given rows. -/
def sum (g : FVec Ideal S2048 .f32) (wg : FVec Ideal S1x2048x2048 .bf16) (wp : FVec Ideal S1x256x2048 .bf16) (p : FVec Ideal S8192x256 .f32) (x : FVec Ideal S8192x2048 .f32) : FVec Ideal S8192x2048 .f32 :=
  addf x (mulf (Host.divf (broadcastInDim S8192x2048 ![] bcast_S_S8192x2048 (constant S_ .f32 0x3F800000#32)) (addf (broadcastInDim S8192x2048 ![] bcast_S_S8192x2048 (constant S_ .f32 0x3F800000#32))
      (Host.exp (Host.negf (Host.dotGeneral dot_S8192x2048_S2048x2048_S8192x2048_1_0_0_1_n_n none (extf .f32 (norm x g) bitsLt_bf16_f32) (extf .f32 (shapeCast _ wg shapeCasts_S1x2048x2048_S2048x2048) bitsLt_bf16_f32))))))
    (Host.dotGeneral dot_S8192x256_S256x2048_S8192x2048_1_0_0_1_n_n none (extf .f32 (truncf .bf16 p bitsLt_bf16_f32) bitsLt_bf16_f32) (extf .f32 (shapeCast _ wp shapeCasts_S1x256x2048_S256x2048) bitsLt_bf16_f32)))

/-- An entry of that sum. -/
theorem sum_at (g : FVec Ideal S2048 .f32) (wg : FVec Ideal S1x2048x2048 .bf16) (wp : FVec Ideal S1x256x2048 .bf16) (p : FVec Ideal S8192x256 .f32) (x : FVec Ideal S8192x2048 .f32) (i : Fin 8192) (j : Fin 2048) :
    (sum g wg wp p x : S8192x2048.Idx → EReal) (ix2 i j) = merged (fun d => g (ix1 d)) wg wp (fun e => p (ix2 i e)) (fun d => x (ix2 i d)) j := by
  pointwise [sum, norm_at, merged, Ideal.logistic]

/-- The array the reference computes, at an index. -/
theorem ref_at (g : FVec Ideal S2048 .f32) (wg : FVec Ideal S1x2048x2048 .bf16) (wp : FVec Ideal S1x256x2048 .bf16) (p : FVec Ideal S8192x256 .f32) (x : FVec Ideal S40960x2048 .f32) (i : Fin 8192) (j : Fin 2048) :
    (sum g wg wp p (rows x) : S8192x2048.Idx → EReal) (ix2 i j) = val g wg wp p x i j := by
  have e : ∀ d : Fin 2048, rows x (ix2 i d) = x (ix2 ⟨0 + i.val, by omega⟩ d) := fun d => by
    pointwise [rows]
  rw [sum_at]
  exact congrArg (merged _ wg wp _ · j) (funext e)

end

section

open Cert.LastIdeal Cert.LastIdeal.Gen

variable (m : (ℓ : Loc nD τ sig) → Buf (Elt Ideal) ℓ) (c : Dev nD)

theorem index0 : ∀ t : Fin cfg0.N, win0_0.index t = ![0, 0] :=
  (by decide +kernel : ∀ t : Fin grid0.N, win0_0.index t = ![0, 0])
theorem index1 : ∀ t : Fin cfg0.N, win0_1.index t = ![0, 0, 0] :=
  (by decide +kernel : ∀ t : Fin grid0.N, win0_1.index t = ![0, 0, 0])
theorem index2 : ∀ t : Fin cfg0.N, win0_2.index t = ![0, 0, 0] :=
  (by decide +kernel : ∀ t : Fin grid0.N, win0_2.index t = ![0, 0, 0])
theorem index3 : ∀ t : Fin cfg0.N, win0_3.index t = ![t.val, 0] :=
  (by decide +kernel : ∀ t : Fin grid0.N, win0_3.index t = ![t.val, 0])
theorem index4 : ∀ t : Fin cfg0.N, win0_4.index t = ![0 + t.val, 0] :=
  (by decide +kernel : ∀ t : Fin grid0.N, win0_4.index t = ![0 + t.val, 0])
theorem index5 : ∀ t : Fin cfg0.N, win0_5.index t = ![t.val, 0] :=
  (by decide +kernel : ∀ t : Fin grid0.N, win0_5.index t = ![t.val, 0])

theorem points (t : Fin cfg0.N) : t.val < 32 := t.isLt

/-- The gate's norm's gain at a point. -/
theorem iblk0_at (t : Fin cfg0.N) (d : Fin 2048) :
    (iblk m c 0 t : S1x2048.Idx → EReal) (ix2 0 d) = (m ((c : Thread nD τ).loc main_arg0) : S2048.Idx → EReal) (ix1 d) := by
  have e : (V m c main_v0 : S1x2048.Idx → EReal) = shapeCast S1x2048 (m ((c : Thread nD τ).loc main_arg0) : FVec Ideal S2048 .f32) shapeCasts_S2048_S1x2048 := by
    unfold_abbrev_sides
    after_results
    rfl
  have e' : (iblk m c 0 t : S1x2048.Idx → EReal) (ix2 0 d) = (V m c main_v0 : S1x2048.Idx → EReal) (ix2 0 d) := by
    blk_ext [iblk, index0 t]
  rw [e', e]
  pointwise

/-- The gate's weight at a point. -/
theorem iblk1_eq (t : Fin cfg0.N) : (iblk m c 1 t : S1x2048x2048.Idx → EReal) = (m ((c : Thread nD τ).loc main_arg1) : S1x2048x2048.Idx → EReal) := by
  rw [← V_main_arg1 m c]
  funext i
  blk_ext [iblk, index1 t]

/-- The projection's weight at a point. -/
theorem iblk2_eq (t : Fin cfg0.N) : (iblk m c 2 t : S1x256x2048.Idx → EReal) = (m ((c : Thread nD τ).loc main_arg2) : S1x256x2048.Idx → EReal) := by
  rw [← V_main_arg2 m c]
  funext i
  blk_ext [iblk, index2 t]

/-- The embedding's rows of a point. -/
theorem iblk3_at (t : Fin cfg0.N) (r d : Fin 256) :
    (iblk m c 3 t : S256x256.Idx → EReal) (ix2 r d)
      = (m ((c : Thread nD τ).loc main_arg3) : S8192x256.Idx → EReal) (ix2 ⟨256 * t.val + r.val, by have := points t; omega⟩ d) := by
  rw [← V_main_arg3 m c]
  blk_ext [iblk, index3 t]

/-- The layer's input at a point. -/
theorem iblk4_at (t : Fin cfg0.N) (r : Fin 256) (d : Fin 2048) :
    (iblk m c 4 t : S256x2048.Idx → EReal) (ix2 r d)
      = (m ((c : Thread nD τ).loc main_arg4) : S40960x2048.Idx → EReal) (ix2 ⟨0 + (256 * t.val + r.val), by have := points t; omega⟩ d) := by
  rw [← V_main_arg4 m c]
  blk_ext [iblk, index4 t]

/-- The whole array after the run. -/
theorem array : ((dats m 0 c).arrAt 5 cfg0.N : S8192x2048.Idx → EReal)
    = fun i => val (m ((c : Thread nD τ).loc main_arg0)) (m ((c : Thread nD τ).loc main_arg1)) (m ((c : Thread nD τ).loc main_arg2))
        (m ((c : Thread nD τ).loc main_arg3)) (m ((c : Thread nD τ).loc main_arg4)) (i 0) (i 1) := by
  refine (dats m 0 c).arrAt_eq_of_covers 5 _ (by decide +kernel) fun t hf y => ?_
  blk_simp
  rw [after0_5]
  have h0 : (y 0).val < 256 := (y 0).isLt
  have h1 : (y 1).val < 2048 := (y 1).isLt
  have ht := points t
  have hy : y = (ix2 (⟨(y 0).val, h0⟩ : Fin 256) (⟨(y 1).val, h1⟩ : Fin 2048) : S256x2048.Idx) := by
    funext a; fin_cases a <;> rfl
  have e0 := congrFun (index5 t) 0
  have e1 := congrFun (index5 t) 1
  simp only [Matrix.cons_val_zero, Matrix.cons_val_one] at e0 e1
  refine (congrArg _ hy).trans ((out_at _ _ _ _ _ _ _).trans ?_)
  rw [funext (iblk0_at m c t), iblk1_eq, iblk2_eq, funext (iblk3_at m c t ⟨(y 0).val, h0⟩), funext (iblk4_at m c t ⟨(y 0).val, h0⟩)]
  refine (show _ = val (m ((c : Thread nD τ).loc main_arg0)) (m ((c : Thread nD τ).loc main_arg1)) (m ((c : Thread nD τ).loc main_arg2)) (m ((c : Thread nD τ).loc main_arg3))
    (m ((c : Thread nD τ).loc main_arg4)) ⟨256 * t.val + (y 0).val, by omega⟩ ⟨(y 1).val, h1⟩ from rfl).trans (congrArg₂ (val _ _ _ _ _) (Fin.ext ?_) (Fin.ext ?_))
  · show 256 * t.val + (y 0).val = _
    blk_simp
    rw [e0]; omega
  · show (y 1).val = _
    blk_simp
    rw [e1]; omega

end

/-- The reference runs, keeps its arguments, and ends with no counter raised. -/
theorem frame_ref : Cert.quiescent_LastReferenceIdeal := fun m ρ _ =>
  (θ_run Cert.LastReferenceIdeal.defs _ _).mono (fun r h => ⟨fun c => (h c).2, sem_eq_zero_of_no_sems (by decide) r.2⟩)
    (Cert.LastReferenceIdeal.Value.run (F := Ideal) m ρ)

/-- The kernel's array is the reference's. -/
theorem algebraic : Cert.algebraic_LastIdeal_LastReferenceIdeal := by
  intro m ρ m' ρ' _ hagree
  refine ⟨fun c => (Cert.LastIdeal.Gen.dats m 0 c).arrAt 5 Cert.LastIdeal.cfg0.N, Cert.LastIdeal.Value.run_blocks (F := Ideal) m ρ, ?_⟩
  refine (θ_run Cert.LastReferenceIdeal.defs _ _).mono (fun _ h c => ⟨(h c).1.trans ?_, (h c).2⟩) (Cert.LastReferenceIdeal.Value.run (F := Ideal) m' ρ')
  refine Eq.trans ?_ (array m c).symm
  obtain ⟨e0, e1, e2, e3, e4⟩ := hagree c
  rw [e0, e1, e2, e3, e4]
  funext i
  have hi : i = ix2 (i 0) (i 1) := by funext a; fin_cases a <;> rfl
  exact (congrArg _ hi).trans (ref_at _ _ _ _ _ _ _)

end Cert.Proof.Last

end
-- ==== Proof.LastSample.lean ====
module

public import proofs.«01_k».proof.Proof.Ple
public import proofs.«01_k».proof.Proof.Last
public import proofs.«01_k».proof.Proof.Gen.LastSampleIdeal.Value
public import proofs.«01_k».proof.Proof.Gen.LastSampleReferenceIdeal.Run
public import proofs.«01_k».proof.Proof.Gen.LastSample.Frame
public import proofs.«01_k».proof.Proof.Gen.LastSampleIdeal.Frame
public import proofs.«01_k».proof.Defs
public import Idealize.ShloMosaic.Lib.Pointwise
public import Idealize.ShloMosaic.Lib.Pipeline.ValueKit

/-! The last layer's embedding merge on the samples at `Ideal`: as on the prompt, with the rows of the samples, which follow
  the prompt's 8192. -/

@[expose] public section

set_option maxRecDepth 16384

noncomputable section

open Idealize.ShloMosaic Idealize.ShloMosaic.TcCoe Idealize.SL.Sem
open Idealize.ShloMosaic.Pointwise

namespace Cert.Proof.LastSample

/-- An entry of the result, of whole arrays. -/
def val (g : FVec Ideal Cert.LastSampleIdeal.S2048 .f32) (wg : FVec Ideal Cert.LastSampleIdeal.S1x2048x2048 .bf16) (wp : FVec Ideal Cert.LastSampleIdeal.S1x256x2048 .bf16)
    (p : FVec Ideal Cert.LastSampleIdeal.S32768x256 .f32) (x : FVec Ideal Cert.LastSampleIdeal.S40960x2048 .f32) (i : Fin 32768) (j : Fin 2048) : EReal :=
  Last.merged (fun d => g (ix1 d)) wg wp (fun e => p (ix2 i e)) (fun d => x (ix2 ⟨8192 + i.val, by omega⟩ d)) j

section

open Cert.LastSampleIdeal Cert.LastSampleIdeal.Gen

/-- A block of the result at an index. -/
theorem out_at (x0 : Vec Ideal S1x2048 .f32) (x1 : Vec Ideal S1x2048x2048 .bf16) (x2 : Vec Ideal S1x256x2048 .bf16) (x3 : Vec Ideal S256x256 .f32) (x4 : Vec Ideal S256x2048 .f32)
    (r : Fin 256) (j : Fin 2048) :
    (out0_5 x0 x1 x2 x3 x4 : S256x2048.Idx → EReal) (ix2 r j)
      = Last.merged (fun d => x0 (ix2 0 d)) x1 x2 (fun e => x3 (ix2 r e)) (fun d => x4 (ix2 r d)) j := by
  unfold out0_5
  rw [View.canon_unit_zero Ple.zero₂, View.ld_unit_zero (S := S1x2048) Ple.zero₂, View.ld_unit_zero (S := S1x2048x2048) Ple.zero₃,
    View.ld_unit_zero (S := S1x256x2048) Ple.zero₃, View.ld_unit_zero (S := S256x256) Ple.zero₂]
  simp only [View.ld_unit_zero (S := S256x2048) Ple.zero₂]
  pointwise [k0_pay1, Last.merged, Ple.normed]

end

section

open Cert.LastSampleReferenceIdeal Cert.LastSampleReferenceIdeal.Gen

/-- The rows the reference takes. -/
def rows (x : FVec Ideal S40960x2048 .f32) : FVec Ideal S32768x2048 .f32 := extractStridedSlice S32768x2048 ![8192, 0] x slices_S40960x2048_S32768x2048_8192_0

/-- The reference's norm of an array's rows. -/
def norm (x : FVec Ideal S32768x2048 .f32) (g : FVec Ideal S2048 .f32) : FVec Ideal S32768x2048 .bf16 :=
  truncf .bf16 (mulf (mulf x (broadcastInDim S32768x2048 ![0, 1] bcast_S32768x1_S32768x2048_0_1 (Host.rsqrt (addf (Host.divf (broadcastInDim S32768x1 ![0] bcast_S32768_S32768x1_0 (Host.reduceAdd (mulf x x) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 g))) bitsLt_bf16_f32

/-- An entry of that norm. -/
theorem norm_at (x : FVec Ideal S32768x2048 .f32) (g : FVec Ideal S2048 .f32) (i : Fin 32768) (j : Fin 2048) :
    (norm x g : S32768x2048.Idx → EReal) (ix2 i j) = Ple.normed (fun d => x (ix2 i d)) (g (ix1 j)) j := by
  pointwise [norm, Ple.normed]

/-- The reference's sum, of given rows. -/
def sum (g : FVec Ideal S2048 .f32) (wg : FVec Ideal S1x2048x2048 .bf16) (wp : FVec Ideal S1x256x2048 .bf16) (p : FVec Ideal S32768x256 .f32) (x : FVec Ideal S32768x2048 .f32) : FVec Ideal S32768x2048 .f32 :=
  addf x (mulf (Host.divf (broadcastInDim S32768x2048 ![] bcast_S_S32768x2048 (constant S_ .f32 0x3F800000#32)) (addf (broadcastInDim S32768x2048 ![] bcast_S_S32768x2048 (constant S_ .f32 0x3F800000#32))
      (Host.exp (Host.negf (Host.dotGeneral dot_S32768x2048_S2048x2048_S32768x2048_1_0_0_1_n_n none (extf .f32 (norm x g) bitsLt_bf16_f32) (extf .f32 (shapeCast _ wg shapeCasts_S1x2048x2048_S2048x2048) bitsLt_bf16_f32))))))
    (Host.dotGeneral dot_S32768x256_S256x2048_S32768x2048_1_0_0_1_n_n none (extf .f32 (truncf .bf16 p bitsLt_bf16_f32) bitsLt_bf16_f32) (extf .f32 (shapeCast _ wp shapeCasts_S1x256x2048_S256x2048) bitsLt_bf16_f32)))

/-- An entry of that sum. -/
theorem sum_at (g : FVec Ideal S2048 .f32) (wg : FVec Ideal S1x2048x2048 .bf16) (wp : FVec Ideal S1x256x2048 .bf16) (p : FVec Ideal S32768x256 .f32) (x : FVec Ideal S32768x2048 .f32) (i : Fin 32768) (j : Fin 2048) :
    (sum g wg wp p x : S32768x2048.Idx → EReal) (ix2 i j) = Last.merged (fun d => g (ix1 d)) wg wp (fun e => p (ix2 i e)) (fun d => x (ix2 i d)) j := by
  pointwise [sum, norm_at, Last.merged, Ideal.logistic]

/-- The array the reference computes, at an index. -/
theorem ref_at (g : FVec Ideal S2048 .f32) (wg : FVec Ideal S1x2048x2048 .bf16) (wp : FVec Ideal S1x256x2048 .bf16) (p : FVec Ideal S32768x256 .f32) (x : FVec Ideal S40960x2048 .f32) (i : Fin 32768) (j : Fin 2048) :
    (sum g wg wp p (rows x) : S32768x2048.Idx → EReal) (ix2 i j) = val g wg wp p x i j := by
  have e : ∀ d : Fin 2048, rows x (ix2 i d) = x (ix2 ⟨8192 + i.val, by omega⟩ d) := fun d => by
    pointwise [rows]
  rw [sum_at]
  exact congrArg (Last.merged _ wg wp _ · j) (funext e)

end

section

open Cert.LastSampleIdeal Cert.LastSampleIdeal.Gen

variable (m : (ℓ : Loc nD τ sig) → Buf (Elt Ideal) ℓ) (c : Dev nD)

theorem index0 : ∀ t : Fin cfg0.N, win0_0.index t = ![0, 0] :=
  (by decide +kernel : ∀ t : Fin grid0.N, win0_0.index t = ![0, 0])
theorem index1 : ∀ t : Fin cfg0.N, win0_1.index t = ![0, 0, 0] :=
  (by decide +kernel : ∀ t : Fin grid0.N, win0_1.index t = ![0, 0, 0])
theorem index2 : ∀ t : Fin cfg0.N, win0_2.index t = ![0, 0, 0] :=
  (by decide +kernel : ∀ t : Fin grid0.N, win0_2.index t = ![0, 0, 0])
theorem index3 : ∀ t : Fin cfg0.N, win0_3.index t = ![t.val, 0] :=
  (by decide +kernel : ∀ t : Fin grid0.N, win0_3.index t = ![t.val, 0])
theorem index4 : ∀ t : Fin cfg0.N, win0_4.index t = ![32 + t.val, 0] :=
  (by decide +kernel : ∀ t : Fin grid0.N, win0_4.index t = ![32 + t.val, 0])
theorem index5 : ∀ t : Fin cfg0.N, win0_5.index t = ![t.val, 0] :=
  (by decide +kernel : ∀ t : Fin grid0.N, win0_5.index t = ![t.val, 0])

theorem points (t : Fin cfg0.N) : t.val < 128 := t.isLt

/-- The gate's norm's gain at a point. -/
theorem iblk0_at (t : Fin cfg0.N) (d : Fin 2048) :
    (iblk m c 0 t : S1x2048.Idx → EReal) (ix2 0 d) = (m ((c : Thread nD τ).loc main_arg0) : S2048.Idx → EReal) (ix1 d) := by
  have e : (V m c main_v0 : S1x2048.Idx → EReal) = shapeCast S1x2048 (m ((c : Thread nD τ).loc main_arg0) : FVec Ideal S2048 .f32) shapeCasts_S2048_S1x2048 := by
    unfold_abbrev_sides
    after_results
    rfl
  have e' : (iblk m c 0 t : S1x2048.Idx → EReal) (ix2 0 d) = (V m c main_v0 : S1x2048.Idx → EReal) (ix2 0 d) := by
    blk_ext [iblk, index0 t]
  rw [e', e]
  pointwise

/-- The gate's weight at a point. -/
theorem iblk1_eq (t : Fin cfg0.N) : (iblk m c 1 t : S1x2048x2048.Idx → EReal) = (m ((c : Thread nD τ).loc main_arg1) : S1x2048x2048.Idx → EReal) := by
  rw [← V_main_arg1 m c]
  funext i
  blk_ext [iblk, index1 t]

/-- The projection's weight at a point. -/
theorem iblk2_eq (t : Fin cfg0.N) : (iblk m c 2 t : S1x256x2048.Idx → EReal) = (m ((c : Thread nD τ).loc main_arg2) : S1x256x2048.Idx → EReal) := by
  rw [← V_main_arg2 m c]
  funext i
  blk_ext [iblk, index2 t]

/-- The embedding's rows of a point. -/
theorem iblk3_at (t : Fin cfg0.N) (r d : Fin 256) :
    (iblk m c 3 t : S256x256.Idx → EReal) (ix2 r d)
      = (m ((c : Thread nD τ).loc main_arg3) : S32768x256.Idx → EReal) (ix2 ⟨256 * t.val + r.val, by have := points t; omega⟩ d) := by
  rw [← V_main_arg3 m c]
  blk_ext [iblk, index3 t]

/-- The layer's input at a point. -/
theorem iblk4_at (t : Fin cfg0.N) (r : Fin 256) (d : Fin 2048) :
    (iblk m c 4 t : S256x2048.Idx → EReal) (ix2 r d)
      = (m ((c : Thread nD τ).loc main_arg4) : S40960x2048.Idx → EReal) (ix2 ⟨8192 + (256 * t.val + r.val), by have := points t; omega⟩ d) := by
  rw [← V_main_arg4 m c]
  blk_ext [iblk, index4 t]

/-- The whole array after the run. -/
theorem array : ((dats m 0 c).arrAt 5 cfg0.N : S32768x2048.Idx → EReal)
    = fun i => val (m ((c : Thread nD τ).loc main_arg0)) (m ((c : Thread nD τ).loc main_arg1)) (m ((c : Thread nD τ).loc main_arg2))
        (m ((c : Thread nD τ).loc main_arg3)) (m ((c : Thread nD τ).loc main_arg4)) (i 0) (i 1) := by
  refine (dats m 0 c).arrAt_eq_of_covers 5 _ (by decide +kernel) fun t hf y => ?_
  blk_simp
  rw [after0_5]
  have h0 : (y 0).val < 256 := (y 0).isLt
  have h1 : (y 1).val < 2048 := (y 1).isLt
  have ht := points t
  have hy : y = (ix2 (⟨(y 0).val, h0⟩ : Fin 256) (⟨(y 1).val, h1⟩ : Fin 2048) : S256x2048.Idx) := by
    funext a; fin_cases a <;> rfl
  have e0 := congrFun (index5 t) 0
  have e1 := congrFun (index5 t) 1
  simp only [Matrix.cons_val_zero, Matrix.cons_val_one] at e0 e1
  refine (congrArg _ hy).trans ((out_at _ _ _ _ _ _ _).trans ?_)
  rw [funext (iblk0_at m c t), iblk1_eq, iblk2_eq, funext (iblk3_at m c t ⟨(y 0).val, h0⟩), funext (iblk4_at m c t ⟨(y 0).val, h0⟩)]
  refine (show _ = val (m ((c : Thread nD τ).loc main_arg0)) (m ((c : Thread nD τ).loc main_arg1)) (m ((c : Thread nD τ).loc main_arg2)) (m ((c : Thread nD τ).loc main_arg3))
    (m ((c : Thread nD τ).loc main_arg4)) ⟨256 * t.val + (y 0).val, by omega⟩ ⟨(y 1).val, h1⟩ from rfl).trans (congrArg₂ (val _ _ _ _ _) (Fin.ext ?_) (Fin.ext ?_))
  · show 256 * t.val + (y 0).val = _
    blk_simp
    rw [e0]; omega
  · show (y 1).val = _
    blk_simp
    rw [e1]; omega

end

/-- The reference runs, keeps its arguments, and ends with no counter raised. -/
theorem frame_ref : Cert.quiescent_LastSampleReferenceIdeal := fun m ρ _ =>
  (θ_run Cert.LastSampleReferenceIdeal.defs _ _).mono (fun r h => ⟨fun c => (h c).2, sem_eq_zero_of_no_sems (by decide) r.2⟩)
    (Cert.LastSampleReferenceIdeal.Value.run (F := Ideal) m ρ)

/-- The kernel's array is the reference's. -/
theorem algebraic : Cert.algebraic_LastSampleIdeal_LastSampleReferenceIdeal := by
  intro m ρ m' ρ' _ hagree
  refine ⟨fun c => (Cert.LastSampleIdeal.Gen.dats m 0 c).arrAt 5 Cert.LastSampleIdeal.cfg0.N, Cert.LastSampleIdeal.Value.run_blocks (F := Ideal) m ρ, ?_⟩
  refine (θ_run Cert.LastSampleReferenceIdeal.defs _ _).mono (fun _ h c => ⟨(h c).1.trans ?_, (h c).2⟩) (Cert.LastSampleReferenceIdeal.Value.run (F := Ideal) m' ρ')
  refine Eq.trans ?_ (array m c).symm
  obtain ⟨e0, e1, e2, e3, e4⟩ := hagree c
  rw [e0, e1, e2, e3, e4]
  funext i
  have hi : i = ix2 (i 0) (i 1) := by funext a; fin_cases a <;> rfl
  exact (congrArg _ hi).trans (ref_at _ _ _ _ _ _ _)

end Cert.Proof.LastSample

end
-- ==== Proof.AttnRef.lean ====
/-
  The reference attention, read at an index at `Ideal`: stage by stage the scores, their softmax along the keys, and the
  average of the values; on real queries and keys it is the kernel's quotient.
-/
module

public import proofs.«01_k».proof.Proof.Softmax
public import proofs.«01_k».proof.Proof.AttnArr
public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem
open Idealize.ShloMosaic.Pointwise
open Cert.ReferenceIdeal Cert.ReferenceIdeal.Gen Cert.ReferenceIdeal.Value

namespace Cert.Proof.AttnRef

/-- The scaled scores. -/
def scores (q : FVec Ideal S40960x512 .bf16) (k : FVec Ideal S40960x256 .bf16) : FVec Ideal S2x2x8192x8192 .f32 :=
  Host.divf (transpose S2x2x8192x8192 [0, 3, 2, 1] (Host.dotGeneral dot_S8192x2x128_S8192x2x2x128_S2x8192x8192x2_2_3_0_02_1_1 none
    (shapeCast S8192x2x128 (extf .f32 (extractStridedSlice S8192x256 ![0, 0] k slices_S40960x256_S8192x256_0_0 : FVec Ideal S8192x256 .bf16) bitsLt_bf16_f32 : FVec Ideal S8192x256 .f32) shapeCasts_S8192x256_S8192x2x128)
    (shapeCast S8192x2x2x128 (extf .f32 (extractStridedSlice S8192x512 ![0, 0] q slices_S40960x512_S8192x512_0_0 : FVec Ideal S8192x512 .bf16) bitsLt_bf16_f32 : FVec Ideal S8192x512 .f32) shapeCasts_S8192x512_S8192x2x2x128))
    transposes_S2x8192x8192x2_S2x2x8192x8192_0_3_2_1)
    (broadcastInDim S2x2x8192x8192 ![] bcast_S_S2x2x8192x8192 (Host.sqrt (constant S_ .f32 0x43000000#32)))

/-- The weights before they are divided by their sum. -/
def weights (s : FVec Ideal S2x2x8192x8192 .f32) (M : FVec Ideal S2x2x8192 .f32) : FVec Ideal S2x2x8192x8192 .f32 :=
  Host.exp (subf s (broadcastInDim S2x2x8192x8192 ![0, 1, 2, 3] bcast_S2x2x8192x1_S2x2x8192x8192_0_1_2_3
    (broadcastInDim S2x2x8192x1 ![0, 1, 2] bcast_S2x2x8192_S2x2x8192x1_0_1_2 M)))

/-- The largest score of every row. -/
def tops (s : FVec Ideal S2x2x8192x8192 .f32) : FVec Ideal S2x2x8192 .f32 :=
  maximumf (broadcastInDim S2x2x8192 ![] bcast_S_S2x2x8192 (constant S_ .f32 0xFF800000#32))
    (Host.reduce FloatOps.maximumf s (constant S_ .f32 0xFF800000#32) reducesTo_S2x2x8192x8192_S2x2x8192_d3 h_S_)

/-- The weights divided by their sum. -/
def probs (w : FVec Ideal S2x2x8192x8192 .f32) : FVec Ideal S2x2x8192x8192 .f32 :=
  Host.divf w (broadcastInDim S2x2x8192x8192 ![0, 1, 2, 3] bcast_S2x2x8192x1_S2x2x8192x8192_0_1_2_3
    (broadcastInDim S2x2x8192x1 ![0, 1, 2] bcast_S2x2x8192_S2x2x8192x1_0_1_2
      (Host.reduceAdd w (constant S_ .f32 0x00000000#32) reducesTo_S2x2x8192x8192_S2x2x8192_d3 h_S_)))

/-- The average of the values. -/
def average (p : FVec Ideal S2x2x8192x8192 .f32) (v : FVec Ideal S40960x256 .bf16) : FVec Ideal S8192x512 .bf16 :=
  truncf .bf16 (shapeCast S8192x512 (transpose S8192x2x2x128 [3, 0, 2, 1] (Host.dotGeneral dot_S8192x2x128_S2x2x8192x8192_S2x128x2x8192_0_3_2_12_1_0 none
    (shapeCast S8192x2x128 (extf .f32 (extractStridedSlice S8192x256 ![0, 0] v slices_S40960x256_S8192x256_0_0 : FVec Ideal S8192x256 .bf16) bitsLt_bf16_f32 : FVec Ideal S8192x256 .f32) shapeCasts_S8192x256_S8192x2x128) p)
    transposes_S2x128x2x8192_S8192x2x2x128_3_0_2_1) shapeCasts_S8192x2x2x128_S8192x512) bitsLt_bf16_f32

/-- The result is these stages composed. -/
theorem res_eq (m : (ℓ : Loc nD τ sig) → Buf (Elt Ideal) ℓ) (c : Dev nD) :
    res_main_v28 m c = average (probs (weights (scores (m ((c.tc : Thread nD τ).loc main_arg0)) (m ((c.tc : Thread nD τ).loc main_arg1)))
      (tops (scores (m ((c.tc : Thread nD τ).loc main_arg0)) (m ((c.tc : Thread nD τ).loc main_arg1)))))) (m ((c.tc : Thread nD τ).loc main_arg2)) := rfl

/-- The pattern of 128. -/
theorem ofBits_128 : Ideal.ofBits FTy.f32 0x43000000#32 = ((128 : ℝ) : EReal) := by
  simp [Ideal.ofBits, Ideal.ieee, -EReal.coe_mul]; norm_num

/-- A score of the reference: the key row times the query row, over the root of 128. -/
theorem scores_at (q : FVec Ideal S40960x512 .bf16) (k : FVec Ideal S40960x256 .bf16) (a b : Fin 2) (i n : Fin 8192) :
    scores q k (ix4 a b i n)
      = Ideal.div (∑ x : Fin 128, k (ix2 ⟨n.val, by omega⟩ ⟨a.val * 128 + x.val, by omega⟩) * q (ix2 ⟨i.val, by omega⟩ ⟨a.val * 256 + b.val * 128 + x.val, by omega⟩))
          (Ideal.sqrt ((128 : ℝ) : EReal)) := by
  pointwise [scores]
  rw [← ofBits_128]

/-- A weight: the exponential of the score less the row's number. -/
theorem weights_at (s : FVec Ideal S2x2x8192x8192 .f32) (M : FVec Ideal S2x2x8192 .f32) (a b : Fin 2) (i n : Fin 8192) :
    weights s M (ix4 a b i n) = Ideal.exp (s (ix4 a b i n) - M (ix3 a b i)) := by
  pointwise [weights]

/-- The maximum along the keys is a fold of the maximum. -/
theorem max_row (s : FVec Ideal S2x2x8192x8192 .f32) (z : FVec Ideal S_ .f32) (h : S2x2x8192x8192.ReducesTo [3] S2x2x8192) (hS : 0 < S_.numel)
    (a b : Fin 2) (i : Fin 8192) :
    Host.reduce (FloatOps.maximumf (F := Ideal) (φ := .f32)) s z h hS (ix3 a b i)
      = (Finset.univ : Finset (Fin 8192)).fold max (z (Shape.Idx.first hS)) fun x => s (ix4 a b i x) := by
  rw [Host.reduce_eq_fold, h.fold_fiber_r4_a3]
  rfl

/-- The larger of minus infinity and a maximum along the keys. -/
theorem max_both (z : FVec Ideal S2x2x8192 .f32) (w : FVec Ideal S2x2x8192 .f32) (j : S2x2x8192.Idx) (f : EReal)
    (hz : z j = ⊥) (hw : w j = f) : (maximumf z w : FVec Ideal S2x2x8192 .f32) j = f := by
  show max (z j) (w j) = f
  rw [hz, hw]
  exact max_eq_right bot_le

/-- The largest score of a row. -/
theorem tops_at (s : FVec Ideal S2x2x8192x8192 .f32) (a b : Fin 2) (i : Fin 8192) :
    tops s (ix3 a b i) = (Finset.univ : Finset (Fin 8192)).fold max ⊥ fun x => s (ix4 a b i x) := by
  unfold tops
  refine max_both _ _ _ _ ?_ ?_
  · pointwise
    exact Attn.ofBits_neg_inf
  · have hz : (constant S_ .f32 0xFF800000#32 : FVec Ideal S_ .f32) (Shape.Idx.first h_S_) = ⊥ := Attn.ofBits_neg_inf
    rw [max_row, hz]

/-- A weight over its row's sum. -/
theorem probs_at (w : FVec Ideal S2x2x8192x8192 .f32) (a b : Fin 2) (i n : Fin 8192) :
    probs w (ix4 a b i n) = Ideal.div (w (ix4 a b i n)) (∑ x : Fin 8192, w (ix4 a b i x)) := by
  pointwise [probs]

/-- An average of value rows. -/
theorem average_at (p : FVec Ideal S2x2x8192x8192 .f32) (v : FVec Ideal S40960x256 .bf16) (a b : Fin 2) (i : Fin 8192) (d : Fin 128) :
    average p v (ix2 i ⟨(a.val * 2 + b.val) * 128 + d.val, by omega⟩)
      = ∑ x : Fin 8192, v (ix2 ⟨x.val, by omega⟩ ⟨a.val * 128 + d.val, by omega⟩) * p (ix4 a b i x) := by
  pointwise [average]

/-- On real queries and keys the reference's value is the kernel's. -/
theorem ref_at (q : FVec Ideal S40960x512 .bf16) (k v : FVec Ideal S40960x256 .bf16) (hR : Attn.Real₂ q k) (a b : Fin 2) (i : Fin 8192)
    (d : Fin 128) :
    average (probs (weights (scores q k) (tops (scores q k)))) v (ix2 i ⟨(a.val * 2 + b.val) * 128 + d.val, by omega⟩)
      = Attn.att q k v i ⟨a.val * 2 + b.val, by omega⟩ d := by
  set h : Fin 4 := ⟨a.val * 2 + b.val, by omega⟩ with hh
  have ha : h.val / 2 = a.val := by simp only [hh]; omega
  have h128 : (0 : ℝ) < Real.sqrt 128 := Real.sqrt_pos.mpr (by norm_num)
  have hl2 : Real.log 2 ≠ 0 := (Real.log_pos (by norm_num)).ne'
  -- a score is real
  have hS : ∀ x : Fin 8192, scores q k (ix4 a b i x) = ((Attn.score q k i h x.val * Real.log 2 : ℝ) : EReal) := fun x => by
    have e1 : ∀ y : Fin 128, (⟨a.val * 128 + y.val, by omega⟩ : Fin 256) = ⟨128 * (h.val / 2) + y.val, by omega⟩ := fun y =>
      Fin.ext (by show a.val * 128 + y.val = 128 * (h.val / 2) + y.val; omega)
    have e2 : ∀ y : Fin 128, (⟨a.val * 256 + b.val * 128 + y.val, by omega⟩ : Fin 512) = ⟨128 * h.val + y.val, by omega⟩ := fun y =>
      Fin.ext (by show a.val * 256 + b.val * 128 + y.val = 128 * (a.val * 2 + b.val) + y.val; omega)
    rw [scores_at, Ideal.sqrt_coe, if_neg (by norm_num), Ideal.div_coe h128.ne', Attn.score, dif_pos x.isLt]
    have e3 : (∑ y : Fin 128, k (ix2 ⟨x.val, by omega⟩ ⟨a.val * 128 + y.val, by omega⟩) * q (ix2 ⟨i.val, by omega⟩ ⟨a.val * 256 + b.val * 128 + y.val, by omega⟩))
        = ((∑ y : Fin 128, (k (ix2 ⟨x.val, by omega⟩ ⟨128 * (h.val / 2) + y.val, by omega⟩)).toReal
            * (q (ix2 ⟨i.val, by omega⟩ ⟨128 * h.val + y.val, by omega⟩)).toReal : ℝ) : EReal) := by
      rw [Softmax.coe_sum]
      refine Finset.sum_congr rfl fun y _ => ?_
      rw [e1 y, e2 y, hR.q i, hR.k x, ← EReal.coe_mul]
      rfl
    rw [e3, ← EReal.coe_mul]
    congr 1
    rw [Finset.sum_mul, Finset.sum_mul]
    refine Finset.sum_congr rfl fun y _ => ?_
    field_simp
  -- so is the largest one
  obtain ⟨M, hM⟩ : ∃ M : ℝ, tops (scores q k) (ix3 a b i) = (M : EReal) := by
    rw [tops_at]
    simp only [hS]
    rw [Attn.fold_max_eq_sup 8192 fun x => ((Attn.score q k i h x * Real.log 2 : ℝ) : EReal)]
    exact Softmax.top_real (fun x => Attn.score q k i h x * Real.log 2) 8192 (by norm_num)
  rw [average_at, Attn.att, Softmax.num_div_den _ (fun x => Attn.score q k i h x * Real.log 2) _ 8192 (by norm_num) (fun _ _ => rfl) M,
    Finset.sum_range, Finset.sum_range]
  refine Finset.sum_congr rfl fun x _ => ?_
  rw [probs_at]
  simp only [weights_at, hS, hM]
  have ev : Attn.val v h d x.val = v (ix2 ⟨x.val, by omega⟩ ⟨a.val * 128 + d.val, by omega⟩) := by
    rw [Attn.val, dif_pos x.isLt]
    have e4 : (⟨128 * (h.val / 2) + d.val, by omega⟩ : Fin 256) = ⟨a.val * 128 + d.val, by omega⟩ := Fin.ext (by
      show 128 * (h.val / 2) + d.val = a.val * 128 + d.val; omega)
    rw [e4]
  rw [ev]

/-- The reference's array, on real queries and keys. -/
theorem res_at (m : (ℓ : Loc nD τ sig) → Buf (Elt Ideal) ℓ) (c : Dev nD)
    (hR : Attn.Real₂ (m ((c.tc : Thread nD τ).loc main_arg0)) (m ((c.tc : Thread nD τ).loc main_arg1))) :
    (res_main_v28 m c : S8192x512.Idx → EReal)
      = fun i => Attn.att (m ((c.tc : Thread nD τ).loc main_arg0)) (m ((c.tc : Thread nD τ).loc main_arg1)) (m ((c.tc : Thread nD τ).loc main_arg2))
          (i 0) ⟨(i 1).val / 128, by have : (i 1).val < 512 := (i 1).isLt; omega⟩ ⟨(i 1).val % 128, by omega⟩ := by
  funext i
  have h1 : (i 1).val < 512 := (i 1).isLt
  have e := ref_at _ _ (m ((c.tc : Thread nD τ).loc main_arg2)) hR ⟨(i 1).val / 128 / 2, by omega⟩ ⟨(i 1).val / 128 % 2, by omega⟩ (i 0) ⟨(i 1).val % 128, by omega⟩
  rw [res_eq]
  have hi : i = ix2 (i 0) ⟨((i 1).val / 128 / 2 * 2 + (i 1).val / 128 % 2) * 128 + (i 1).val % 128, by omega⟩ := by
    funext x; fin_cases x
    · rfl
    · exact Fin.ext (by show (i 1).val = ((i 1).val / 128 / 2 * 2 + (i 1).val / 128 % 2) * 128 + (i 1).val % 128; omega)
  refine (congrArg _ hi).trans (e.trans ?_)
  congr 1
  exact Fin.ext (by show (i 1).val / 128 / 2 * 2 + (i 1).val / 128 % 2 = (i 1).val / 128; omega)

end Cert.Proof.AttnRef

end
-- ==== Proof.AttnClaim.lean ====
/-
  The claims about the attention: the frames its precondition adds, its named constant, and the kernel's equality with the
  reference.
-/
module

public import proofs.«01_k».proof.Proof.AttnArr
public import proofs.«01_k».proof.Proof.AttnRef
public import proofs.«01_k».proof.Proof.AttnPre
public import proofs.«01_k».proof.Proof.Gen.KernelIdeal.Frame
public import proofs.«01_k».proof.Proof.Gen.KernelIdeal.Value
public import proofs.«01_k».proof.Proof.Gen.ReferenceIdeal.Run
public import proofs.«01_k».proof.Defs

@[expose] public section

noncomputable section

namespace Cert.Proof.AttnClaim

open Idealize.ShloMosaic Idealize.ShloMosaic.TcCoe Idealize.SL.Sem

instance : Cert.Pre_finite_qk.Facts := AttnPre.facts

/-- The kernel runs and keeps its arguments, under the precondition too. -/
theorem frame_pre : Cert.quiescent_KernelIdeal_pre_finite_qk := fun m ρ _ => Cert.KernelIdeal.Gen.frame m ρ

/-- The reference runs, keeps its arguments, and declares no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem frame_ref_pre : Cert.quiescent_ReferenceIdeal_pre_finite_qk := fun m ρ _ => frame_ref m ρ trivial

/-- The named scale rounds to the word the kernel holds. -/
theorem preserves : Cert.preserves_Kernel_KernelIdeal := IdealRules.named_const.statement _ _ _ _ _ rfl

/-- On real queries and keys the attention kernel's result array is the reference's. -/
theorem algebraic : Cert.algebraic_KernelIdeal_ReferenceIdeal_pre_finite_qk := by
  intro m ρ m' ρ' hpre hagree
  have hR := fun c => AttnPre.real _ _ _ (hpre c)
  refine ⟨fun c => (Cert.KernelIdeal.Gen.dats m 0 c).arrAt 3 Cert.KernelIdeal.cfg0.N, Cert.KernelIdeal.Value.run_blocks (F := Ideal) m ρ, ?_⟩
  refine (θ_run Cert.ReferenceIdeal.defs _ _).mono (fun _ h c => ⟨(h c).1.trans ?_, (h c).2⟩) (Cert.ReferenceIdeal.Value.run (F := Ideal) m' ρ')
  have e0 := (hagree c).1
  have e1 := (hagree c).2.1
  have e2 := (hagree c).2.2
  refine (AttnRef.res_at m' c ?_).trans (Eq.trans ?_ (Attn.array m c (hR c)).symm)
  · rw [e0, e1]; exact hR c
  · rw [e0, e1, e2]
    rfl

end Cert.Proof.AttnClaim

end
-- ==== Proof.lean ====
/-
  The assembly of `Cert.Claim`: every program's frame, the named constant, and the equality of every kernel with its
  reference.
-/
module

public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Merge
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjReferenceIdeal
public import proofs.«01_k».proof.Proof.Gen.InProjReferenceIdeal.Run
public import proofs.«01_k».proof.Proof.InProj
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import proofs.«01_k».proof.Proof.Up
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Down
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Out
public import proofs.«01_k».proof.Proof.Gen.Ple
public import proofs.«01_k».proof.Proof.Gen.Ple.Frame
public import proofs.«01_k».proof.Proof.Gen.PleIdeal
public import proofs.«01_k».proof.Proof.Gen.PleIdeal.Frame
public import proofs.«01_k».proof.Proof.Gen.PleIdeal.Value
public import proofs.«01_k».proof.Proof.Gen.PleReferenceIdeal
public import proofs.«01_k».proof.Proof.Gen.PleReferenceIdeal.Run
public import proofs.«01_k».proof.Proof.Ple
public import proofs.«01_k».proof.Proof.Gen.Latent
public import proofs.«01_k».proof.Proof.Gen.Latent.Frame
public import proofs.«01_k».proof.Proof.Gen.LatentIdeal
public import proofs.«01_k».proof.Proof.Gen.LatentIdeal.Frame
public import proofs.«01_k».proof.Proof.Gen.LatentIdeal.Value
public import proofs.«01_k».proof.Proof.Gen.LatentReferenceIdeal
public import proofs.«01_k».proof.Proof.Gen.LatentReferenceIdeal.Run
public import proofs.«01_k».proof.Proof.LatentClaim
public import proofs.«01_k».proof.Proof.Gen.Diff
public import proofs.«01_k».proof.Proof.Gen.DiffIdeal
public import proofs.«01_k».proof.Proof.Gen.DiffReferenceIdeal
public import proofs.«01_k».proof.Proof.Gen.DiffReferenceIdeal.Run
public import proofs.«01_k».proof.Proof.DiffClaim
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Norm
public import proofs.«01_k».proof.Proof.Gen.Key
public import proofs.«01_k».proof.Proof.Gen.Key.Frame
public import proofs.«01_k».proof.Proof.Gen.KeyIdeal
public import proofs.«01_k».proof.Proof.Gen.KeyIdeal.Frame
public import proofs.«01_k».proof.Proof.Gen.KeyIdeal.Value
public import proofs.«01_k».proof.Proof.Gen.KeyReferenceIdeal
public import proofs.«01_k».proof.Proof.Gen.KeyReferenceIdeal.Run
public import proofs.«01_k».proof.Proof.Key
public import proofs.«01_k».proof.Proof.Gen.LaterOut
public import proofs.«01_k».proof.Proof.Gen.LaterOut.Frame
public import proofs.«01_k».proof.Proof.Gen.LaterOutIdeal
public import proofs.«01_k».proof.Proof.Gen.LaterOutIdeal.Frame
public import proofs.«01_k».proof.Proof.Gen.LaterOutIdeal.Value
public import proofs.«01_k».proof.Proof.Gen.LaterOutReferenceIdeal
public import proofs.«01_k».proof.Proof.Gen.LaterOutReferenceIdeal.Run
public import proofs.«01_k».proof.Proof.LaterOut
public import proofs.«01_k».proof.Proof.Gen.Last
public import proofs.«01_k».proof.Proof.Gen.Last.Frame
public import proofs.«01_k».proof.Proof.Gen.LastIdeal
public import proofs.«01_k».proof.Proof.Gen.LastIdeal.Frame
public import proofs.«01_k».proof.Proof.Gen.LastIdeal.Value
public import proofs.«01_k».proof.Proof.Gen.LastReferenceIdeal
public import proofs.«01_k».proof.Proof.Gen.LastReferenceIdeal.Run
public import proofs.«01_k».proof.Proof.Last
public import proofs.«01_k».proof.Proof.Gen.LastSample
public import proofs.«01_k».proof.Proof.Gen.LastSample.Frame
public import proofs.«01_k».proof.Proof.Gen.LastSampleIdeal
public import proofs.«01_k».proof.Proof.Gen.LastSampleIdeal.Frame
public import proofs.«01_k».proof.Proof.Gen.LastSampleIdeal.Value
public import proofs.«01_k».proof.Proof.Gen.LastSampleReferenceIdeal
public import proofs.«01_k».proof.Proof.Gen.LastSampleReferenceIdeal.Run
public import proofs.«01_k».proof.Proof.LastSample
public import proofs.«01_k».proof.Proof.DiffBitsFrame
public import proofs.«01_k».proof.Proof.DiffFrame
public import proofs.«01_k».proof.Proof.AttnClaim

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts,
  Cert.Merge.Gen.facts, Cert.MergeIdeal.Gen.facts, Cert.MergeReferenceIdeal.Gen.facts, Cert.InProj.Gen.facts, Cert.InProjIdeal.Gen.facts, Cert.InProjReferenceIdeal.Gen.facts, Cert.Up.Gen.facts, Cert.UpIdeal.Gen.facts, Cert.UpReferenceIdeal.Gen.facts, Cert.Down.Gen.facts, Cert.DownIdeal.Gen.facts, Cert.DownReferenceIdeal.Gen.facts, Cert.Out.Gen.facts, Cert.OutIdeal.Gen.facts, Cert.OutReferenceIdeal.Gen.facts, Cert.Ple.Gen.facts, Cert.PleIdeal.Gen.facts, Cert.PleReferenceIdeal.Gen.facts, Cert.Latent.Gen.facts, Cert.LatentIdeal.Gen.facts, Cert.LatentReferenceIdeal.Gen.facts, Cert.Diff.Gen.facts, Cert.DiffIdeal.Gen.facts, Cert.DiffReferenceIdeal.Gen.facts, Cert.Norm.Gen.facts, Cert.NormIdeal.Gen.facts, Cert.NormReferenceIdeal.Gen.facts, Cert.Key.Gen.facts, Cert.KeyIdeal.Gen.facts, Cert.KeyReferenceIdeal.Gen.facts, Cert.LaterOut.Gen.facts, Cert.LaterOutIdeal.Gen.facts, Cert.LaterOutReferenceIdeal.Gen.facts, Cert.Last.Gen.facts, Cert.LastIdeal.Gen.facts, Cert.LastReferenceIdeal.Gen.facts, Cert.LastSample.Gen.facts, Cert.LastSampleIdeal.Gen.facts, Cert.LastSampleReferenceIdeal.Gen.facts, AttnPre.facts, LatentPre.facts, DiffPre.facts,
  fun m ρ _ => Cert.Kernel.Gen.frame m ρ, fun m ρ _ => Cert.KernelIdeal.Gen.frame m ρ, AttnClaim.frame_pre, AttnClaim.frame_ref, AttnClaim.frame_ref_pre,
  fun m ρ _ => Cert.Merge.Gen.frame m ρ, fun m ρ _ => Cert.MergeIdeal.Gen.frame m ρ, Merge.frame_ref,
  fun m ρ _ => Cert.InProj.Gen.frame m ρ, fun m ρ _ => Cert.InProjIdeal.Gen.frame m ρ, InProj.frame_ref,
  fun m ρ _ => Cert.Up.Gen.frame m ρ, fun m ρ _ => Cert.UpIdeal.Gen.frame m ρ, Up.frame_ref,
  fun m ρ _ => Cert.Down.Gen.frame m ρ, fun m ρ _ => Cert.DownIdeal.Gen.frame m ρ, Down.frame_ref,
  fun m ρ _ => Cert.Out.Gen.frame m ρ, fun m ρ _ => Cert.OutIdeal.Gen.frame m ρ, Out.frame_ref,
  fun m ρ _ => Cert.Ple.Gen.frame m ρ, fun m ρ _ => Cert.PleIdeal.Gen.frame m ρ, Ple.frame_ref,
  fun m ρ _ => Cert.Latent.Gen.frame m ρ, fun m ρ _ => Cert.LatentIdeal.Gen.frame m ρ, LatentClaim.frame_pre, LatentClaim.frame_ref, LatentClaim.frame_ref_pre,
  fun m ρ _ => DiffBits.frame m ρ, fun m ρ _ => Diff.frame m ρ, DiffClaim.frame_pre, DiffClaim.frame_ref, DiffClaim.frame_ref_pre,
  fun m ρ _ => Cert.Norm.Gen.frame m ρ, fun m ρ _ => Cert.NormIdeal.Gen.frame m ρ, Norm.frame_ref,
  fun m ρ _ => Cert.Key.Gen.frame m ρ, fun m ρ _ => Cert.KeyIdeal.Gen.frame m ρ, Key.frame_ref,
  fun m ρ _ => Cert.LaterOut.Gen.frame m ρ, fun m ρ _ => Cert.LaterOutIdeal.Gen.frame m ρ, LaterOut.frame_ref,
  fun m ρ _ => Cert.Last.Gen.frame m ρ, fun m ρ _ => Cert.LastIdeal.Gen.frame m ρ, Last.frame_ref,
  fun m ρ _ => Cert.LastSample.Gen.frame m ρ, fun m ρ _ => Cert.LastSampleIdeal.Gen.frame m ρ, LastSample.frame_ref,
  AttnClaim.preserves, AttnClaim.algebraic,
  trivial, Merge.algebraic,
  trivial, InProj.algebraic,
  trivial, Up.algebraic,
  trivial, Down.algebraic,
  trivial, Out.algebraic,
  trivial, Ple.algebraic,
  LatentClaim.preserves, LatentClaim.algebraic,
  DiffClaim.preserves, DiffClaim.algebraic,
  trivial, Norm.algebraic,
  trivial, Key.algebraic,
  trivial, LaterOut.algebraic,
  trivial, Last.algebraic,
  trivial, LastSample.algebraic⟩

end Cert.Proof

end
